-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite_scores [hPre_finite_scores : Cert.Pre_finite_scores.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite_scores.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2))) = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite_scores [hPre_finite_scores : Cert.Pre_finite_scores.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite_scores.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2))) = (fun _ => 1#1)

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Kernel16Ideal_finite_scores [hPre_finite_scores : Cert.Pre_finite_scores.Facts] (m : (ℓ : Loc Cert.Kernel16Ideal.nD Cert.Kernel16Ideal.τ Cert.Kernel16Ideal.sig) → Buf (Elt Ideal) ℓ) : Prop :=
  ∀ c : Dev Cert.Kernel16Ideal.nD,
    (Cert.Pre_finite_scores.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2))) = (fun _ => 1#1)

def Pre_Reference16Ideal (m : (ℓ : Loc Cert.Reference16Ideal.nD Cert.Reference16Ideal.τ Cert.Reference16Ideal.sig) → Buf (Elt Ideal) ℓ) : Prop :=
  True

def Pre_Reference16Ideal_finite_scores [hPre_finite_scores : Cert.Pre_finite_scores.Facts] (m : (ℓ : Loc Cert.Reference16Ideal.nD Cert.Reference16Ideal.τ Cert.Reference16Ideal.sig) → Buf (Elt Ideal) ℓ) : Prop :=
  ∀ c : Dev Cert.Reference16Ideal.nD,
    (Cert.Pre_finite_scores.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2))) = (fun _ => 1#1)

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Kernel15Ideal_pre_finite_scores [hKernel15Ideal : Cert.Kernel15Ideal.Facts] [hPre_finite_scores : Cert.Pre_finite_scores.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite_scores m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Reference15Ideal_pre_finite_scores [hReference15Ideal : Cert.Reference15Ideal.Facts] [hPre_finite_scores : Cert.Pre_finite_scores.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite_scores m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Kernel16Ideal_pre_finite_scores [hKernel16Ideal : Cert.Kernel16Ideal.Facts] [hPre_finite_scores : Cert.Pre_finite_scores.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal_finite_scores m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Reference16Ideal_pre_finite_scores [hReference16Ideal : Cert.Reference16Ideal.Facts] [hPre_finite_scores : Cert.Pre_finite_scores.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal_finite_scores m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def preserves_Kernel_KernelIdeal : Prop :=
  IdealRules.named_const.Statement Cert.KernelIdeal.κ "c2" .f32 0x3E38AA3B#32 ((8⁻¹ * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v39_0)) (v1 : (c : Dev Cert.KernelIdeal.nD) → Buf (Elt Ideal) ((c.tc : Thread Cert.KernelIdeal.nD Cert.KernelIdeal.τ).loc Cert.KernelIdeal.main_v39_1)) (v2 : (c : Dev Cert.KernelIdeal.nD) → Buf (Elt Ideal) ((c.tc : Thread Cert.KernelIdeal.nD Cert.KernelIdeal.τ).loc Cert.KernelIdeal.main_v39_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39_0) = v0 c
          ∧ r.2.mem ((c.tc : Thread Cert.KernelIdeal.nD Cert.KernelIdeal.τ).loc Cert.KernelIdeal.main_v39_1) = v1 c
          ∧ r.2.mem ((c.tc : Thread Cert.KernelIdeal.nD Cert.KernelIdeal.τ).loc Cert.KernelIdeal.main_v39_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.named_const.Statement Cert.Kernel2Ideal.κ "c2" .f32 0x3E16C740#32 (((3424635 * 33554432⁻¹) * (Real.log 2)⁻¹ : ℝ) : EReal)
  ∧ IdealRules.named_const.Statement Cert.Kernel2Ideal.κ "log2e" .f32 0x3FB8AA3B#32 (((Real.log 2)⁻¹ : ℝ) : EReal)

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v39_0)) (v1 : (c : Dev Cert.Kernel2Ideal.nD) → Buf (Elt Ideal) ((c.tc : Thread Cert.Kernel2Ideal.nD Cert.Kernel2Ideal.τ).loc Cert.Kernel2Ideal.main_v39_1)) (v2 : (c : Dev Cert.Kernel2Ideal.nD) → Buf (Elt Ideal) ((c.tc : Thread Cert.Kernel2Ideal.nD Cert.Kernel2Ideal.τ).loc Cert.Kernel2Ideal.main_v39_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v39_0) = v0 c
          ∧ r.2.mem ((c.tc : Thread Cert.Kernel2Ideal.nD Cert.Kernel2Ideal.τ).loc Cert.Kernel2Ideal.main_v39_1) = v1 c
          ∧ r.2.mem ((c.tc : Thread Cert.Kernel2Ideal.nD Cert.Kernel2Ideal.τ).loc Cert.Kernel2Ideal.main_v39_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v65) = v0 c
          ∧ r.2.mem ((c.tc : Thread Cert.Reference2Ideal.nD Cert.Reference2Ideal.τ).loc Cert.Reference2Ideal.main_v64) = v1 c
          ∧ r.2.mem ((c.tc : Thread Cert.Reference2Ideal.nD Cert.Reference2Ideal.τ).loc Cert.Reference2Ideal.main_v45) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  IdealRules.named_const.Statement Cert.Kernel15Ideal.κ "c2" .f32 0x3E38AA3B#32 ((8⁻¹ * (Real.log 2)⁻¹ : ℝ) : EReal)

def algebraic_Kernel15Ideal_Reference15Ideal_pre_finite_scores [hKernel15Ideal : Cert.Kernel15Ideal.Facts] [hReference15Ideal : Cert.Reference15Ideal.Facts] [hPre_finite_scores : Cert.Pre_finite_scores.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite_scores m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v28) = v0 c
          ∧ r.2.mem ((c.tc : Thread Cert.Reference15Ideal.nD Cert.Reference15Ideal.τ).loc Cert.Reference15Ideal.main_v44) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  IdealRules.named_const.Statement Cert.Kernel16Ideal.κ "c2" .f32 0x3E16C740#32 (((3424635 * 33554432⁻¹) * (Real.log 2)⁻¹ : ℝ) : EReal)

def algebraic_Kernel16Ideal_Reference16Ideal_pre_finite_scores [hKernel16Ideal : Cert.Kernel16Ideal.Facts] [hReference16Ideal : Cert.Reference16Ideal.Facts] [hPre_finite_scores : Cert.Pre_finite_scores.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal_finite_scores m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v28) = v0 c
          ∧ r.2.mem ((c.tc : Thread Cert.Reference16Ideal.nD Cert.Reference16Ideal.τ).loc Cert.Reference16Ideal.main_v44) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_v30) = v1 c
          ∧ r.2.mem ((c.tc : Thread Cert.Reference17Ideal.nD Cert.Reference17Ideal.τ).loc Cert.Reference17Ideal.main_v11) = v2 c
          ∧ r.2.mem ((c.tc : Thread Cert.Reference17Ideal.nD Cert.Reference17Ideal.τ).loc Cert.Reference17Ideal.main_v17) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v6) = v0 c
          ∧ r.2.mem ((c.tc : Thread Cert.Reference18Ideal.nD Cert.Reference18Ideal.τ).loc Cert.Reference18Ideal.main_v30) = v1 c
          ∧ r.2.mem ((c.tc : Thread Cert.Reference18Ideal.nD Cert.Reference18Ideal.τ).loc Cert.Reference18Ideal.main_v11) = v2 c
          ∧ r.2.mem ((c.tc : Thread Cert.Reference18Ideal.nD Cert.Reference18Ideal.τ).loc Cert.Reference18Ideal.main_v17) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v6) = v0 c
          ∧ r.2.mem ((c.tc : Thread Cert.Reference19Ideal.nD Cert.Reference19Ideal.τ).loc Cert.Reference19Ideal.main_v30) = v1 c
          ∧ r.2.mem ((c.tc : Thread Cert.Reference19Ideal.nD Cert.Reference19Ideal.τ).loc Cert.Reference19Ideal.main_v11) = v2 c
          ∧ r.2.mem ((c.tc : Thread Cert.Reference19Ideal.nD Cert.Reference19Ideal.τ).loc Cert.Reference19Ideal.main_v17) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v6) = v0 c
          ∧ r.2.mem ((c.tc : Thread Cert.Reference20Ideal.nD Cert.Reference20Ideal.τ).loc Cert.Reference20Ideal.main_v30) = v1 c
          ∧ r.2.mem ((c.tc : Thread Cert.Reference20Ideal.nD Cert.Reference20Ideal.τ).loc Cert.Reference20Ideal.main_v11) = v2 c
          ∧ r.2.mem ((c.tc : Thread Cert.Reference20Ideal.nD Cert.Reference20Ideal.τ).loc Cert.Reference20Ideal.main_v17) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v6) = v0 c
          ∧ r.2.mem ((c.tc : Thread Cert.Reference21Ideal.nD Cert.Reference21Ideal.τ).loc Cert.Reference21Ideal.main_v30) = v1 c
          ∧ r.2.mem ((c.tc : Thread Cert.Reference21Ideal.nD Cert.Reference21Ideal.τ).loc Cert.Reference21Ideal.main_v11) = v2 c
          ∧ r.2.mem ((c.tc : Thread Cert.Reference21Ideal.nD Cert.Reference21Ideal.τ).loc Cert.Reference21Ideal.main_v17) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v6) = v0 c
          ∧ r.2.mem ((c.tc : Thread Cert.Reference22Ideal.nD Cert.Reference22Ideal.τ).loc Cert.Reference22Ideal.main_v30) = v1 c
          ∧ r.2.mem ((c.tc : Thread Cert.Reference22Ideal.nD Cert.Reference22Ideal.τ).loc Cert.Reference22Ideal.main_v11) = v2 c
          ∧ r.2.mem ((c.tc : Thread Cert.Reference22Ideal.nD Cert.Reference22Ideal.τ).loc Cert.Reference22Ideal.main_v17) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v1) = v0 c
          ∧ r.2.mem ((c.tc : Thread Cert.Reference23Ideal.nD Cert.Reference23Ideal.τ).loc Cert.Reference23Ideal.main_v25) = v1 c
          ∧ r.2.mem ((c.tc : Thread Cert.Reference23Ideal.nD Cert.Reference23Ideal.τ).loc Cert.Reference23Ideal.main_v6) = v2 c
          ∧ r.2.mem ((c.tc : Thread Cert.Reference23Ideal.nD Cert.Reference23Ideal.τ).loc Cert.Reference23Ideal.main_v12) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v0) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v34) = v0 c
          ∧ r.2.mem ((c.tc : Thread Cert.Reference25Ideal.nD Cert.Reference25Ideal.τ).loc Cert.Reference25Ideal.main_v17) = v1 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v15) = v0 c
          ∧ r.2.mem ((c.tc : Thread Cert.Reference26Ideal.nD Cert.Reference26Ideal.τ).loc Cert.Reference26Ideal.main_v14) = v1 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hPre_finite : Cert.Pre_finite.Facts) (hPre_finite_scores : Cert.Pre_finite_scores.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Kernel15Ideal_pre_finite_scores (hKernel15Ideal := hKernel15Ideal) (hPre_finite_scores := hPre_finite_scores)
    ∧ quiescent_Reference15Ideal (hReference15Ideal := hReference15Ideal)
    ∧ quiescent_Reference15Ideal_pre_finite_scores (hReference15Ideal := hReference15Ideal) (hPre_finite_scores := hPre_finite_scores)
    ∧ quiescent_Kernel16 (hKernel16 := hKernel16)
    ∧ quiescent_Kernel16Ideal (hKernel16Ideal := hKernel16Ideal)
    ∧ quiescent_Kernel16Ideal_pre_finite_scores (hKernel16Ideal := hKernel16Ideal) (hPre_finite_scores := hPre_finite_scores)
    ∧ quiescent_Reference16Ideal (hReference16Ideal := hReference16Ideal)
    ∧ quiescent_Reference16Ideal_pre_finite_scores (hReference16Ideal := hReference16Ideal) (hPre_finite_scores := hPre_finite_scores)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal_pre_finite_scores (hKernel15Ideal := hKernel15Ideal) (hReference15Ideal := hReference15Ideal) (hPre_finite_scores := hPre_finite_scores)
    ∧ preserves_Kernel16_Kernel16Ideal
    ∧ algebraic_Kernel16Ideal_Reference16Ideal_pre_finite_scores (hKernel16Ideal := hKernel16Ideal) (hReference16Ideal := hReference16Ideal) (hPre_finite_scores := hPre_finite_scores)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
-- ==== Pre_finite.lean ====
abbrev S8192x512 : Shape := ⟨2, ![8192, 512]⟩
abbrev S_ : Shape := ⟨0, ![]⟩

class Facts : Prop where
  bitsLt_bf16_f32 : FTy.bits .bf16 < FTy.bits .f32
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn_part1 {F : FTy → Type} [FloatOps F] (main_v16 : IVec S_ 1) (main_v17 : FVec F S8192x512 .f32) : IVec S_ 1 :=
  let main_cst_4 : FVec F S_ .f32 := constant S_ .f32 0x7F800000#32
  let main_v18 : FVec F S8192x512 .f32 := broadcastInDim S8192x512 ![] bcast_S_S8192x512 main_cst_4
  let main_v19 : IVec S8192x512 1 := cmpf .olt main_v17 main_v18
  let main_c_5 : IVec S_ 1 := constantI S_ 1 1#1
  let main_v20 : IVec S_ 1 := (fun x v => Host.reduce IntOp.andi x v reducesTo_S8192x512_S_d0_1 h_S_) main_v19 main_c_5
  let main_v21 : IVec S_ 1 := andi main_v16 main_v20
  main_v21

def fn {F : FTy → Type} [FloatOps F] (main_arg0 : FVec F S8192x512 .bf16) (main_arg1 : FVec F S8192x512 .bf16) (main_arg2 : FVec F S8192x512 .bf16) (main_arg3 : FVec F S8192x512 .f32) : IVec S_ 1 :=
  let main_v0 : FVec F S8192x512 .f32 := (extf .f32 · bitsLt_bf16_f32) main_arg0
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_c : IVec S_ 1 := constantI S_ 1 1#1
  let main_v4 : IVec S_ 1 := (fun x v => Host.reduce IntOp.andi x v reducesTo_S8192x512_S_d0_1 h_S_) main_v3 main_c
  let main_v5 : FVec F S8192x512 .f32 := (extf .f32 · bitsLt_bf16_f32) main_arg1
  let main_v6 : FVec F S8192x512 .f32 := Host.absf main_v5
  let main_cst_0 : FVec F S_ .f32 := constant S_ .f32 0x7F800000#32
  let main_v7 : FVec F S8192x512 .f32 := broadcastInDim S8192x512 ![] bcast_S_S8192x512 main_cst_0
  let main_v8 : IVec S8192x512 1 := cmpf .olt main_v6 main_v7
  let main_c_1 : IVec S_ 1 := constantI S_ 1 1#1
  let main_v9 : IVec S_ 1 := (fun x v => Host.reduce IntOp.andi x v reducesTo_S8192x512_S_d0_1 h_S_) main_v8 main_c_1
  let main_v10 : IVec S_ 1 := andi main_v4 main_v9
  let main_v11 : FVec F S8192x512 .f32 := (extf .f32 · bitsLt_bf16_f32) main_arg2
  let main_v12 : FVec F S8192x512 .f32 := Host.absf main_v11
  let main_cst_2 : FVec F S_ .f32 := constant S_ .f32 0x7F800000#32
  let main_v13 : FVec F S8192x512 .f32 := broadcastInDim S8192x512 ![] bcast_S_S8192x512 main_cst_2
  let main_v14 : IVec S8192x512 1 := cmpf .olt main_v12 main_v13
  let main_c_3 : IVec S_ 1 := constantI S_ 1 1#1
  let main_v15 : IVec S_ 1 := (fun x v => Host.reduce IntOp.andi x v reducesTo_S8192x512_S_d0_1 h_S_) main_v14 main_c_3
  let main_v16 : IVec S_ 1 := andi main_v10 main_v15
  let main_v17 : FVec F S8192x512 .f32 := Host.absf main_arg3
  fn_part1 (F := F) main_v16 main_v17
-- ==== Pre_finite_scores.lean ====
abbrev S8192x512 : Shape := ⟨2, ![8192, 512]⟩
abbrev S_ : Shape := ⟨0, ![]⟩

class Facts : Prop where
  bitsLt_bf16_f32 : FTy.bits .bf16 < FTy.bits .f32
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .bf16) (main_arg1 : FVec F S8192x512 .bf16) (main_arg2 : FVec F S8192x512 .bf16) : IVec S_ 1 :=
  let main_v0 : FVec F S8192x512 .f32 := (extf .f32 · bitsLt_bf16_f32) main_arg0
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_c : IVec S_ 1 := constantI S_ 1 1#1
  let main_v4 : IVec S_ 1 := (fun x v => Host.reduce IntOp.andi x v reducesTo_S8192x512_S_d0_1 h_S_) main_v3 main_c
  let main_v5 : FVec F S8192x512 .f32 := (extf .f32 · bitsLt_bf16_f32) main_arg1
  let main_v6 : FVec F S8192x512 .f32 := Host.absf main_v5
  let main_cst_0 : FVec F S_ .f32 := constant S_ .f32 0x7F800000#32
  let main_v7 : FVec F S8192x512 .f32 := broadcastInDim S8192x512 ![] bcast_S_S8192x512 main_cst_0
  let main_v8 : IVec S8192x512 1 := cmpf .olt main_v6 main_v7
  let main_c_1 : IVec S_ 1 := constantI S_ 1 1#1
  let main_v9 : IVec S_ 1 := (fun x v => Host.reduce IntOp.andi x v reducesTo_S8192x512_S_d0_1 h_S_) main_v8 main_c_1
  let main_v10 : IVec S_ 1 := andi main_v4 main_v9
  main_v10
-- ==== Kernel.lean ====
abbrev S8192x512 : Shape := ⟨2, ![8192, 512]⟩
abbrev S8192x4x128 : Shape := ⟨3, ![8192, 4, 128]⟩
abbrev S4x8192x8192 : Shape := ⟨3, ![4, 8192, 8192]⟩
abbrev S_ : Shape := ⟨0, ![]⟩
abbrev S4x8192 : Shape := ⟨2, ![4, 8192]⟩
abbrev S4x8192x1 : Shape := ⟨3, ![4, 8192, 1]⟩
abbrev S4x128x8192 : Shape := ⟨3, ![4, 128, 8192]⟩
abbrev S1024x128 : Shape := ⟨2, ![1024, 128]⟩
abbrev S2048x128 : Shape := ⟨2, ![2048, 128]⟩
abbrev S1x2048x1 : Shape := ⟨3, ![1, 2048, 1]⟩
abbrev S8192x128 : Shape := ⟨2, ![8192, 128]⟩
abbrev S2048 : Shape := ⟨1, ![2048]⟩
abbrev S2048x1 : Shape := ⟨2, ![2048, 1]⟩
abbrev S2048x1024 : Shape := ⟨2, ![2048, 1024]⟩

abbrev nBuf : Space → Nat
  | .hbm => 53
  | .vmem => 18
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x512, .f32⟩
  | .hbm, ⟨4, _⟩ => ⟨S8192x512, .f32⟩
  | .hbm, ⟨5, _⟩ => ⟨S8192x4x128, .f32⟩
  | .hbm, ⟨6, _⟩ => ⟨S8192x512, .f32⟩
  | .hbm, ⟨7, _⟩ => ⟨S8192x4x128, .f32⟩
  | .hbm, ⟨8, _⟩ => ⟨S4x8192x8192, .f32⟩
  | .hbm, ⟨9, _⟩ => ⟨S_, .f32⟩
  | .hbm, ⟨10, _⟩ => ⟨S4x8192x8192, .f32⟩
  | .hbm, ⟨11, _⟩ => ⟨S4x8192x8192, .f32⟩
  | .hbm, ⟨12, _⟩ => ⟨S_, .f32⟩
  | .hbm, ⟨13, _⟩ => ⟨S4x8192, .f32⟩
  | .hbm, ⟨14, _⟩ => ⟨S_, .f32⟩
  | .hbm, ⟨15, _⟩ => ⟨S4x8192, .f32⟩
  | .hbm, ⟨16, _⟩ => ⟨S4x8192, .f32⟩
  | .hbm, ⟨17, _⟩ => ⟨S4x8192x1, .f32⟩
  | .hbm, ⟨18, _⟩ => ⟨S4x8192x8192, .f32⟩
  | .hbm, ⟨19, _⟩ => ⟨S4x8192x8192, .f32⟩
  | .hbm, ⟨20, _⟩ => ⟨S4x8192x8192, .f32⟩
  | .hbm, ⟨21, _⟩ => ⟨S_, .f32⟩
  | .hbm, ⟨22, _⟩ => ⟨S4x8192, .f32⟩
  | .hbm, ⟨23, _⟩ => ⟨S4x8192x1, .f32⟩
  | .hbm, ⟨24, _⟩ => ⟨S4x8192x8192, .f32⟩
  | .hbm, ⟨25, _⟩ => ⟨S4x8192x8192, .f32⟩
  | .hbm, ⟨26, _⟩ => ⟨S8192x512, .f32⟩
  | .hbm, ⟨27, _⟩ => ⟨S8192x4x128, .f32⟩
  | .hbm, ⟨28, _⟩ => ⟨S4x128x8192, .f32⟩
  | .hbm, ⟨29, _⟩ => ⟨S8192x4x128, .f32⟩
  | .hbm, ⟨30, _⟩ => ⟨S8192x512, .f32⟩
  | .hbm, ⟨31, _⟩ => ⟨S8192x512, .f32⟩
  | .hbm, ⟨32, _⟩ => ⟨S8192x4x128, .f32⟩
  | .hbm, ⟨33, _⟩ => ⟨S8192x512, .f32⟩
  | .hbm, ⟨34, _⟩ => ⟨S8192x4x128, .f32⟩
  | .hbm, ⟨35, _⟩ => ⟨S4x8192x8192, .f32⟩
  | .hbm, ⟨36, _⟩ => ⟨S_, .f32⟩
  | .hbm, ⟨37, _⟩ => ⟨S4x8192x8192, .f32⟩
  | .hbm, ⟨38, _⟩ => ⟨S4x8192x8192, .f32⟩
  | .hbm, ⟨39, _⟩ => ⟨S_, .f32⟩
  | .hbm, ⟨40, _⟩ => ⟨S4x8192, .f32⟩
  | .hbm, ⟨41, _⟩ => ⟨S4x8192x1, .f32⟩
  | .hbm, ⟨42, _⟩ => ⟨S4x8192x8192, .f32⟩
  | .hbm, ⟨43, _⟩ => ⟨S4x8192x8192, .f32⟩
  | .hbm, ⟨44, _⟩ => ⟨S4x8192x8192, .f32⟩
  | .hbm, ⟨45, _⟩ => ⟨S_, .f32⟩
  | .hbm, ⟨46, _⟩ => ⟨S4x8192, .f32⟩
  | .hbm, ⟨47, _⟩ => ⟨S4x8192x1, .f32⟩
  | .hbm, ⟨48, _⟩ => ⟨S4x8192x1, .f32⟩
  | .hbm, ⟨49, _⟩ => ⟨S4x8192x1, .f32⟩
  | .hbm, ⟨50, _⟩ => ⟨S8192x512, .f32⟩
  | .hbm, ⟨51, _⟩ => ⟨S8192x512, .f32⟩
  | .hbm, ⟨52, _⟩ => ⟨S8192x512, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S1x2048x1, .f32⟩
  | .local _ .vmem, ⟨11, _⟩ => ⟨S1x2048x1, .f32⟩
  | .local _ .vmem, ⟨12, _⟩ => ⟨S8192x128, .f32⟩
  | .local _ .vmem, ⟨13, _⟩ => ⟨S8192x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39_0 : Ref sig .tc := ⟨.hbm, 50, rfl⟩
abbrev main_v39_1 : Ref sig .tc := ⟨.hbm, 51, rfl⟩
abbrev main_v39_2 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 8, 4], ![false, false, false]⟩

def k0_mult1 (i : grid0.Coords) : BitVec 32 :=
  let arg2 : BitVec 32 := BitVec.ofNat 32 (i 2).val
  let c2048_i32 : BitVec 32 := 2048#32
  let v2 : BitVec 32 := Scalar.muli arg2 c2048_i32
  v2
def k0_cond1 (i : grid0.Coords) : BitVec 1 :=
  let arg1 : BitVec 32 := BitVec.ofNat 32 (i 1).val
  let c0_i32 : BitVec 32 := 0#32
  let v39 : BitVec 1 := Scalar.cmpi .eq arg1 c0_i32
  let v40 : BitVec 32 := Scalar.extui v39
  let c0_i32_22 : BitVec 32 := 0#32
  let v41 : BitVec 1 := Scalar.cmpi .ne v40 c0_i32_22
  v41

def k0_off1 (i : grid0.Coords) : Fin 2 → Nat :=
  let arg2 : BitVec 32 := BitVec.ofNat 32 (i 2).val
  let c2048_i32 : BitVec 32 := 2048#32
  let v2 : BitVec 32 := Scalar.muli arg2 c2048_i32
  let v3 : BitVec 32 := v2
  let v51 : Index := Scalar.indexCast v3
  let c0_29 : Index := 0#32
  ![v51.toNat, 0]
def k0_cond2 (i : grid0.Coords) : BitVec 1 :=
  let arg1 : BitVec 32 := BitVec.ofNat 32 (i 1).val
  let c0_i32_23 : BitVec 32 := 0#32
  let v42 : BitVec 1 := Scalar.cmpi .sgt arg1 c0_i32_23
  let v43 : BitVec 32 := Scalar.extui v42
  let c0_i32_24 : BitVec 32 := 0#32
  let v44 : BitVec 1 := Scalar.cmpi .ne v43 c0_i32_24
  v44

def k0_off2 (i : grid0.Coords) : Fin 2 → Nat :=
  let arg2 : BitVec 32 := BitVec.ofNat 32 (i 2).val
  let c2048_i32 : BitVec 32 := 2048#32
  let v2 : BitVec 32 := Scalar.muli arg2 c2048_i32
  let v3 : BitVec 32 := v2
  let v51 : Index := Scalar.indexCast v3
  let c0_29 : Index := 0#32
  ![v51.toNat, 0]
def k0_cond3 (i : grid0.Coords) : BitVec 1 :=
  let arg2 : BitVec 32 := BitVec.ofNat 32 (i 2).val
  let c0_i32_25 : BitVec 32 := 0#32
  let v45 : BitVec 1 := Scalar.cmpi .eq arg2 c0_i32_25
  let v46 : BitVec 32 := Scalar.extui v45
  let c0_i32_26 : BitVec 32 := 0#32
  let v47 : BitVec 1 := Scalar.cmpi .ne v46 c0_i32_26
  v47

def k0_cond4 (i : grid0.Coords) : BitVec 1 :=
  let arg2 : BitVec 32 := BitVec.ofNat 32 (i 2).val
  let c0_i32_27 : BitVec 32 := 0#32
  let v48 : BitVec 1 := Scalar.cmpi .sgt arg2 c0_i32_27
  let v49 : BitVec 32 := Scalar.extui v48
  let c0_i32_28 : BitVec 32 := 0#32
  let v50 : BitVec 1 := Scalar.cmpi .ne v49 c0_i32_28
  v50

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S8192x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== KernelIdeal.lean ====
variable {F : FTy → Type} [FloatOps F] [Named F]
def κ : String → Option EReal := fun
  | "c2" => some ((8⁻¹ * (Real.log 2)⁻¹ : ℝ) : EReal)
  | "log2e" => some (((Real.log 2)⁻¹ : ℝ) : EReal)
  | _ => none
-- ==== ReferenceIdeal.lean ====
abbrev S8192x512 : Shape := ⟨2, ![8192, 512]⟩
abbrev S8192x4x128 : Shape := ⟨3, ![8192, 4, 128]⟩
abbrev S4x8192x8192 : Shape := ⟨3, ![4, 8192, 8192]⟩
abbrev S_ : Shape := ⟨0, ![]⟩
abbrev S4x8192 : Shape := ⟨2, ![4, 8192]⟩
abbrev S4x8192x1 : Shape := ⟨3, ![4, 8192, 1]⟩
abbrev S4x128x8192 : Shape := ⟨3, ![4, 128, 8192]⟩
abbrev S4x8192x128 : Shape := ⟨3, ![4, 8192, 128]⟩

abbrev nBuf : Space → Nat
  | .hbm => 84
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x4x128, .f32⟩
  | .hbm, ⟨8, _⟩ => ⟨S8192x4x128, .f32⟩
  | .hbm, ⟨9, _⟩ => ⟨S4x8192x8192, .f32⟩
  | .hbm, ⟨10, _⟩ => ⟨S_, .f32⟩
  | .hbm, ⟨11, _⟩ => ⟨S4x8192x8192, .f32⟩
  | .hbm, ⟨12, _⟩ => ⟨S4x8192x8192, .f32⟩
  | .hbm, ⟨13, _⟩ => ⟨S_, .f32⟩
  | .hbm, ⟨14, _⟩ => ⟨S4x8192, .f32⟩
  | .hbm, ⟨15, _⟩ => ⟨S4x8192x1, .f32⟩
  | .hbm, ⟨16, _⟩ => ⟨S4x8192x8192, .f32⟩
  | .hbm, ⟨17, _⟩ => ⟨S4x8192x8192, .i1⟩
  | .hbm, ⟨18, _⟩ => ⟨S4x8192x8192, .f32⟩
  | .hbm, ⟨19, _⟩ => ⟨S_, .f32⟩
  | .hbm, ⟨20, _⟩ => ⟨S4x8192, .f32⟩
  | .hbm, ⟨21, _⟩ => ⟨S_, .f32⟩
  | .hbm, ⟨22, _⟩ => ⟨S4x8192, .f32⟩
  | .hbm, ⟨23, _⟩ => ⟨S4x8192, .f32⟩
  | .hbm, ⟨24, _⟩ => ⟨S_, .f32⟩
  | .hbm, ⟨25, _⟩ => ⟨S4x8192, .f32⟩
  | .hbm, ⟨26, _⟩ => ⟨S4x8192, .i1⟩
  | .hbm, ⟨27, _⟩ => ⟨S_, .f32⟩
  | .hbm, ⟨28, _⟩ => ⟨S4x8192, .f32⟩
  | .hbm, ⟨29, _⟩ => ⟨S4x8192, .i1⟩
  | .hbm, ⟨30, _⟩ => ⟨S_, .f32⟩
  | .hbm, ⟨31, _⟩ => ⟨S4x8192, .f32⟩
  | .hbm, ⟨32, _⟩ => ⟨S_, .f32⟩
  | .hbm, ⟨33, _⟩ => ⟨S4x8192, .f32⟩
  | .hbm, ⟨34, _⟩ => ⟨S_, .f32⟩
  | .hbm, ⟨35, _⟩ => ⟨S4x8192, .f32⟩
  | .hbm, ⟨36, _⟩ => ⟨S4x8192, .f32⟩
  | .hbm, ⟨37, _⟩ => ⟨S4x8192, .f32⟩
  | .hbm, ⟨38, _⟩ => ⟨S4x8192x1, .f32⟩
  | .hbm, ⟨39, _⟩ => ⟨S4x8192x8192, .f32⟩
  | .hbm, ⟨40, _⟩ => ⟨S4x8192x8192, .f32⟩
  | .hbm, ⟨41, _⟩ => ⟨S4x8192x8192, .f32⟩
  | .hbm, ⟨42, _⟩ => ⟨S_, .f32⟩
  | .hbm, ⟨43, _⟩ => ⟨S4x8192, .f32⟩
  | .hbm, ⟨44, _⟩ => ⟨S4x8192x1, .f32⟩
  | .hbm, ⟨45, _⟩ => ⟨S4x8192x8192, .f32⟩
  | .hbm, ⟨46, _⟩ => ⟨S4x8192x8192, .f32⟩
  | .hbm, ⟨47, _⟩ => ⟨S4x8192x1, .f32⟩
  | .hbm, ⟨48, _⟩ => ⟨S_, .f32⟩
  | .hbm, ⟨49, _⟩ => ⟨S4x8192x1, .f32⟩
  | .hbm, ⟨50, _⟩ => ⟨S4x8192x1, .f32⟩
  | .hbm, ⟨51, _⟩ => ⟨S8192x4x128, .f32⟩
  | .hbm, ⟨52, _⟩ => ⟨S4x128x8192, .f32⟩
  | .hbm, ⟨53, _⟩ => ⟨S8192x4x128, .f32⟩
  | .hbm, ⟨54, _⟩ => ⟨S8192x512, .f32⟩
  | .hbm, ⟨55, _⟩ => ⟨S8192x4x128, .f32⟩
  | .hbm, ⟨56, _⟩ => ⟨S4x128x8192, .f32⟩
  | .hbm, ⟨57, _⟩ => ⟨S4x8192x8192, .f32⟩
  | .hbm, ⟨58, _⟩ => ⟨S4x128x8192, .f32⟩
  | .hbm, ⟨59, _⟩ => ⟨S8192x4x128, .f32⟩
  | .hbm, ⟨60, _⟩ => ⟨S8192x512, .f32⟩
  | .hbm, ⟨61, _⟩ => ⟨S4x8192x8192, .f32⟩
  | .hbm, ⟨62, _⟩ => ⟨S4x8192x8192, .f32⟩
  | .hbm, ⟨63, _⟩ => ⟨S4x8192x8192, .f32⟩
  | .hbm, ⟨64, _⟩ => ⟨S_, .f32⟩
  | .hbm, ⟨65, _⟩ => ⟨S4x8192, .f32⟩
  | .hbm, ⟨66, _⟩ => ⟨S4x8192x1, .f32⟩
  | .hbm, ⟨67, _⟩ => ⟨S4x8192x1, .f32⟩
  | .hbm, ⟨68, _⟩ => ⟨S4x8192x8192, .f32⟩
  | .hbm, ⟨69, _⟩ => ⟨S4x8192x8192, .f32⟩
  | .hbm, ⟨70, _⟩ => ⟨S_, .f32⟩
  | .hbm, ⟨71, _⟩ => ⟨S4x8192, .f32⟩
  | .hbm, ⟨72, _⟩ => ⟨S4x8192x8192, .f32⟩
  | .hbm, ⟨73, _⟩ => ⟨S4x8192x8192, .f32⟩
  | .hbm, ⟨74, _⟩ => ⟨S4x8192x8192, .f32⟩
  | .hbm, ⟨75, _⟩ => ⟨S_, .f32⟩
  | .hbm, ⟨76, _⟩ => ⟨S4x8192x8192, .f32⟩
  | .hbm, ⟨77, _⟩ => ⟨S4x8192x8192, .f32⟩
  | .hbm, ⟨78, _⟩ => ⟨S4x8192x128, .f32⟩
  | .hbm, ⟨79, _⟩ => ⟨S8192x4x128, .f32⟩
  | .hbm, ⟨80, _⟩ => ⟨S4x8192x128, .f32⟩
  | .hbm, ⟨81, _⟩ => ⟨S8192x4x128, .f32⟩
  | .hbm, ⟨82, _⟩ => ⟨S8192x512, .f32⟩
  | .hbm, ⟨83, _⟩ => ⟨S8192x512, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_9 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_12 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩

abbrev nD : Nat := 1
abbrev τ : Topo := Topo.v7x

variable {F : FTy → Type} [FloatOps F]
-- ==== Kernel2.lean ====
abbrev S8192x512 : Shape := ⟨2, ![8192, 512]⟩
abbrev S8192x4x128 : Shape := ⟨3, ![8192, 4, 128]⟩
abbrev S4x8192x8192 : Shape := ⟨3, ![4, 8192, 8192]⟩
abbrev S_ : Shape := ⟨0, ![]⟩
abbrev S4x8192 : Shape := ⟨2, ![4, 8192]⟩
abbrev S4x8192x1 : Shape := ⟨3, ![4, 8192, 1]⟩
abbrev S4x128x8192 : Shape := ⟨3, ![4, 128, 8192]⟩
abbrev S1024x128 : Shape := ⟨2, ![1024, 128]⟩
abbrev S2048x128 : Shape := ⟨2, ![2048, 128]⟩
abbrev S1x2048x1 : Shape := ⟨3, ![1, 2048, 1]⟩
abbrev S8192x128 : Shape := ⟨2, ![8192, 128]⟩
abbrev S2048 : Shape := ⟨1, ![2048]⟩
abbrev S2048x1 : Shape := ⟨2, ![2048, 1]⟩
abbrev S2048x1024 : Shape := ⟨2, ![2048, 1024]⟩

abbrev nBuf : Space → Nat
  | .hbm => 53
  | .vmem => 18
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x512, .f32⟩
  | .hbm, ⟨4, _⟩ => ⟨S8192x512, .f32⟩
  | .hbm, ⟨5, _⟩ => ⟨S8192x4x128, .f32⟩
  | .hbm, ⟨6, _⟩ => ⟨S8192x512, .f32⟩
  | .hbm, ⟨7, _⟩ => ⟨S8192x4x128, .f32⟩
  | .hbm, ⟨8, _⟩ => ⟨S4x8192x8192, .f32⟩
  | .hbm, ⟨9, _⟩ => ⟨S_, .f32⟩
  | .hbm, ⟨10, _⟩ => ⟨S4x8192x8192, .f32⟩
  | .hbm, ⟨11, _⟩ => ⟨S4x8192x8192, .f32⟩
  | .hbm, ⟨12, _⟩ => ⟨S_, .f32⟩
  | .hbm, ⟨13, _⟩ => ⟨S4x8192, .f32⟩
  | .hbm, ⟨14, _⟩ => ⟨S_, .f32⟩
  | .hbm, ⟨15, _⟩ => ⟨S4x8192, .f32⟩
  | .hbm, ⟨16, _⟩ => ⟨S4x8192, .f32⟩
  | .hbm, ⟨17, _⟩ => ⟨S4x8192x1, .f32⟩
  | .hbm, ⟨18, _⟩ => ⟨S4x8192x8192, .f32⟩
  | .hbm, ⟨19, _⟩ => ⟨S4x8192x8192, .f32⟩
  | .hbm, ⟨20, _⟩ => ⟨S4x8192x8192, .f32⟩
  | .hbm, ⟨21, _⟩ => ⟨S_, .f32⟩
  | .hbm, ⟨22, _⟩ => ⟨S4x8192, .f32⟩
  | .hbm, ⟨23, _⟩ => ⟨S4x8192x1, .f32⟩
  | .hbm, ⟨24, _⟩ => ⟨S4x8192x8192, .f32⟩
  | .hbm, ⟨25, _⟩ => ⟨S4x8192x8192, .f32⟩
  | .hbm, ⟨26, _⟩ => ⟨S8192x512, .f32⟩
  | .hbm, ⟨27, _⟩ => ⟨S8192x4x128, .f32⟩
  | .hbm, ⟨28, _⟩ => ⟨S4x128x8192, .f32⟩
  | .hbm, ⟨29, _⟩ => ⟨S8192x4x128, .f32⟩
  | .hbm, ⟨30, _⟩ => ⟨S8192x512, .f32⟩
  | .hbm, ⟨31, _⟩ => ⟨S8192x512, .f32⟩
  | .hbm, ⟨32, _⟩ => ⟨S8192x4x128, .f32⟩
  | .hbm, ⟨33, _⟩ => ⟨S8192x512, .f32⟩
  | .hbm, ⟨34, _⟩ => ⟨S8192x4x128, .f32⟩
  | .hbm, ⟨35, _⟩ => ⟨S4x8192x8192, .f32⟩
  | .hbm, ⟨36, _⟩ => ⟨S_, .f32⟩
  | .hbm, ⟨37, _⟩ => ⟨S4x8192x8192, .f32⟩
  | .hbm, ⟨38, _⟩ => ⟨S4x8192x8192, .f32⟩
  | .hbm, ⟨39, _⟩ => ⟨S_, .f32⟩
  | .hbm, ⟨40, _⟩ => ⟨S4x8192, .f32⟩
  | .hbm, ⟨41, _⟩ => ⟨S4x8192x1, .f32⟩
  | .hbm, ⟨42, _⟩ => ⟨S4x8192x8192, .f32⟩
  | .hbm, ⟨43, _⟩ => ⟨S4x8192x8192, .f32⟩
  | .hbm, ⟨44, _⟩ => ⟨S4x8192x8192, .f32⟩
  | .hbm, ⟨45, _⟩ => ⟨S_, .f32⟩
  | .hbm, ⟨46, _⟩ => ⟨S4x8192, .f32⟩
  | .hbm, ⟨47, _⟩ => ⟨S4x8192x1, .f32⟩
  | .hbm, ⟨48, _⟩ => ⟨S4x8192x1, .f32⟩
  | .hbm, ⟨49, _⟩ => ⟨S4x8192x1, .f32⟩
  | .hbm, ⟨50, _⟩ => ⟨S8192x512, .f32⟩
  | .hbm, ⟨51, _⟩ => ⟨S8192x512, .f32⟩
  | .hbm, ⟨52, _⟩ => ⟨S8192x512, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S1x2048x1, .f32⟩
  | .local _ .vmem, ⟨11, _⟩ => ⟨S1x2048x1, .f32⟩
  | .local _ .vmem, ⟨12, _⟩ => ⟨S8192x128, .f32⟩
  | .local _ .vmem, ⟨13, _⟩ => ⟨S8192x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39_0 : Ref sig .tc := ⟨.hbm, 50, rfl⟩
abbrev main_v39_1 : Ref sig .tc := ⟨.hbm, 51, rfl⟩
abbrev main_v39_2 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 8, 4], ![false, false, false]⟩

def k0_mult1 (i : grid0.Coords) : BitVec 32 :=
  let arg2 : BitVec 32 := BitVec.ofNat 32 (i 2).val
  let c2048_i32 : BitVec 32 := 2048#32
  let v2 : BitVec 32 := Scalar.muli arg2 c2048_i32
  v2
def k0_cond1 (i : grid0.Coords) : BitVec 1 :=
  let arg1 : BitVec 32 := BitVec.ofNat 32 (i 1).val
  let c0_i32 : BitVec 32 := 0#32
  let v39 : BitVec 1 := Scalar.cmpi .eq arg1 c0_i32
  let v40 : BitVec 32 := Scalar.extui v39
  let c0_i32_22 : BitVec 32 := 0#32
  let v41 : BitVec 1 := Scalar.cmpi .ne v40 c0_i32_22
  v41

def k0_off1 (i : grid0.Coords) : Fin 2 → Nat :=
  let arg2 : BitVec 32 := BitVec.ofNat 32 (i 2).val
  let c2048_i32 : BitVec 32 := 2048#32
  let v2 : BitVec 32 := Scalar.muli arg2 c2048_i32
  let v3 : BitVec 32 := v2
  let v51 : Index := Scalar.indexCast v3
  let c0_29 : Index := 0#32
  ![v51.toNat, 0]
def k0_cond2 (i : grid0.Coords) : BitVec 1 :=
  let arg1 : BitVec 32 := BitVec.ofNat 32 (i 1).val
  let c0_i32_23 : BitVec 32 := 0#32
  let v42 : BitVec 1 := Scalar.cmpi .sgt arg1 c0_i32_23
  let v43 : BitVec 32 := Scalar.extui v42
  let c0_i32_24 : BitVec 32 := 0#32
  let v44 : BitVec 1 := Scalar.cmpi .ne v43 c0_i32_24
  v44

def k0_off2 (i : grid0.Coords) : Fin 2 → Nat :=
  let arg2 : BitVec 32 := BitVec.ofNat 32 (i 2).val
  let c2048_i32 : BitVec 32 := 2048#32
  let v2 : BitVec 32 := Scalar.muli arg2 c2048_i32
  let v3 : BitVec 32 := v2
  let v51 : Index := Scalar.indexCast v3
  let c0_29 : Index := 0#32
  ![v51.toNat, 0]
def k0_cond3 (i : grid0.Coords) : BitVec 1 :=
  let arg2 : BitVec 32 := BitVec.ofNat 32 (i 2).val
  let c0_i32_25 : BitVec 32 := 0#32
  let v45 : BitVec 1 := Scalar.cmpi .eq arg2 c0_i32_25
  let v46 : BitVec 32 := Scalar.extui v45
  let c0_i32_26 : BitVec 32 := 0#32
  let v47 : BitVec 1 := Scalar.cmpi .ne v46 c0_i32_26
  v47

def k0_cond4 (i : grid0.Coords) : BitVec 1 :=
  let arg2 : BitVec 32 := BitVec.ofNat 32 (i 2).val
  let c0_i32_27 : BitVec 32 := 0#32
  let v48 : BitVec 1 := Scalar.cmpi .sgt arg2 c0_i32_27
  let v49 : BitVec 32 := Scalar.extui v48
  let c0_i32_28 : BitVec 32 := 0#32
  let v50 : BitVec 1 := Scalar.cmpi .ne v49 c0_i32_28
  v50

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S8192x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== Kernel2Ideal.lean ====
variable {F : FTy → Type} [FloatOps F] [Named F]
def κ : String → Option EReal := fun
  | "c2" => some (((3424635 * 33554432⁻¹) * (Real.log 2)⁻¹ : ℝ) : EReal)
  | "log2e" => some (((Real.log 2)⁻¹ : ℝ) : EReal)
  | _ => none
-- ==== Reference2Ideal.lean ====
abbrev S8192x512 : Shape := ⟨2, ![8192, 512]⟩
abbrev S8192x4x128 : Shape := ⟨3, ![8192, 4, 128]⟩
abbrev S4x8192x8192 : Shape := ⟨3, ![4, 8192, 8192]⟩
abbrev S_ : Shape := ⟨0, ![]⟩
abbrev S4x8192 : Shape := ⟨2, ![4, 8192]⟩
abbrev S4x8192x1 : Shape := ⟨3, ![4, 8192, 1]⟩
abbrev S4x128x8192 : Shape := ⟨3, ![4, 128, 8192]⟩
abbrev S4x8192x128 : Shape := ⟨3, ![4, 8192, 128]⟩

abbrev nBuf : Space → Nat
  | .hbm => 84
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x4x128, .f32⟩
  | .hbm, ⟨8, _⟩ => ⟨S8192x4x128, .f32⟩
  | .hbm, ⟨9, _⟩ => ⟨S4x8192x8192, .f32⟩
  | .hbm, ⟨10, _⟩ => ⟨S_, .f32⟩
  | .hbm, ⟨11, _⟩ => ⟨S4x8192x8192, .f32⟩
  | .hbm, ⟨12, _⟩ => ⟨S4x8192x8192, .f32⟩
  | .hbm, ⟨13, _⟩ => ⟨S_, .f32⟩
  | .hbm, ⟨14, _⟩ => ⟨S4x8192, .f32⟩
  | .hbm, ⟨15, _⟩ => ⟨S4x8192x1, .f32⟩
  | .hbm, ⟨16, _⟩ => ⟨S4x8192x8192, .f32⟩
  | .hbm, ⟨17, _⟩ => ⟨S4x8192x8192, .i1⟩
  | .hbm, ⟨18, _⟩ => ⟨S4x8192x8192, .f32⟩
  | .hbm, ⟨19, _⟩ => ⟨S_, .f32⟩
  | .hbm, ⟨20, _⟩ => ⟨S4x8192, .f32⟩
  | .hbm, ⟨21, _⟩ => ⟨S_, .f32⟩
  | .hbm, ⟨22, _⟩ => ⟨S4x8192, .f32⟩
  | .hbm, ⟨23, _⟩ => ⟨S4x8192, .f32⟩
  | .hbm, ⟨24, _⟩ => ⟨S_, .f32⟩
  | .hbm, ⟨25, _⟩ => ⟨S4x8192, .f32⟩
  | .hbm, ⟨26, _⟩ => ⟨S4x8192, .i1⟩
  | .hbm, ⟨27, _⟩ => ⟨S_, .f32⟩
  | .hbm, ⟨28, _⟩ => ⟨S4x8192, .f32⟩
  | .hbm, ⟨29, _⟩ => ⟨S4x8192, .i1⟩
  | .hbm, ⟨30, _⟩ => ⟨S_, .f32⟩
  | .hbm, ⟨31, _⟩ => ⟨S4x8192, .f32⟩
  | .hbm, ⟨32, _⟩ => ⟨S_, .f32⟩
  | .hbm, ⟨33, _⟩ => ⟨S4x8192, .f32⟩
  | .hbm, ⟨34, _⟩ => ⟨S_, .f32⟩
  | .hbm, ⟨35, _⟩ => ⟨S4x8192, .f32⟩
  | .hbm, ⟨36, _⟩ => ⟨S4x8192, .f32⟩
  | .hbm, ⟨37, _⟩ => ⟨S4x8192, .f32⟩
  | .hbm, ⟨38, _⟩ => ⟨S4x8192x1, .f32⟩
  | .hbm, ⟨39, _⟩ => ⟨S4x8192x8192, .f32⟩
  | .hbm, ⟨40, _⟩ => ⟨S4x8192x8192, .f32⟩
  | .hbm, ⟨41, _⟩ => ⟨S4x8192x8192, .f32⟩
  | .hbm, ⟨42, _⟩ => ⟨S_, .f32⟩
  | .hbm, ⟨43, _⟩ => ⟨S4x8192, .f32⟩
  | .hbm, ⟨44, _⟩ => ⟨S4x8192x1, .f32⟩
  | .hbm, ⟨45, _⟩ => ⟨S4x8192x8192, .f32⟩
  | .hbm, ⟨46, _⟩ => ⟨S4x8192x8192, .f32⟩
  | .hbm, ⟨47, _⟩ => ⟨S4x8192x1, .f32⟩
  | .hbm, ⟨48, _⟩ => ⟨S_, .f32⟩
  | .hbm, ⟨49, _⟩ => ⟨S4x8192x1, .f32⟩
  | .hbm, ⟨50, _⟩ => ⟨S4x8192x1, .f32⟩
  | .hbm, ⟨51, _⟩ => ⟨S8192x4x128, .f32⟩
  | .hbm, ⟨52, _⟩ => ⟨S4x128x8192, .f32⟩
  | .hbm, ⟨53, _⟩ => ⟨S8192x4x128, .f32⟩
  | .hbm, ⟨54, _⟩ => ⟨S8192x512, .f32⟩
  | .hbm, ⟨55, _⟩ => ⟨S8192x4x128, .f32⟩
  | .hbm, ⟨56, _⟩ => ⟨S4x128x8192, .f32⟩
  | .hbm, ⟨57, _⟩ => ⟨S4x8192x8192, .f32⟩
  | .hbm, ⟨58, _⟩ => ⟨S4x128x8192, .f32⟩
  | .hbm, ⟨59, _⟩ => ⟨S8192x4x128, .f32⟩
  | .hbm, ⟨60, _⟩ => ⟨S8192x512, .f32⟩
  | .hbm, ⟨61, _⟩ => ⟨S4x8192x8192, .f32⟩
  | .hbm, ⟨62, _⟩ => ⟨S4x8192x8192, .f32⟩
  | .hbm, ⟨63, _⟩ => ⟨S4x8192x8192, .f32⟩
  | .hbm, ⟨64, _⟩ => ⟨S_, .f32⟩
  | .hbm, ⟨65, _⟩ => ⟨S4x8192, .f32⟩
  | .hbm, ⟨66, _⟩ => ⟨S4x8192x1, .f32⟩
  | .hbm, ⟨67, _⟩ => ⟨S4x8192x1, .f32⟩
  | .hbm, ⟨68, _⟩ => ⟨S4x8192x8192, .f32⟩
  | .hbm, ⟨69, _⟩ => ⟨S4x8192x8192, .f32⟩
  | .hbm, ⟨70, _⟩ => ⟨S_, .f32⟩
  | .hbm, ⟨71, _⟩ => ⟨S4x8192, .f32⟩
  | .hbm, ⟨72, _⟩ => ⟨S4x8192x8192, .f32⟩
  | .hbm, ⟨73, _⟩ => ⟨S4x8192x8192, .f32⟩
  | .hbm, ⟨74, _⟩ => ⟨S4x8192x8192, .f32⟩
  | .hbm, ⟨75, _⟩ => ⟨S_, .f32⟩
  | .hbm, ⟨76, _⟩ => ⟨S4x8192x8192, .f32⟩
  | .hbm, ⟨77, _⟩ => ⟨S4x8192x8192, .f32⟩
  | .hbm, ⟨78, _⟩ => ⟨S4x8192x128, .f32⟩
  | .hbm, ⟨79, _⟩ => ⟨S8192x4x128, .f32⟩
  | .hbm, ⟨80, _⟩ => ⟨S4x8192x128, .f32⟩
  | .hbm, ⟨81, _⟩ => ⟨S8192x4x128, .f32⟩
  | .hbm, ⟨82, _⟩ => ⟨S8192x512, .f32⟩
  | .hbm, ⟨83, _⟩ => ⟨S8192x512, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_9 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_12 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩

abbrev nD : Nat := 1
abbrev τ : Topo := Topo.v7x

variable {F : FTy → Type} [FloatOps F]
-- ==== Kernel3.lean ====
abbrev S8192x5632 : Shape := ⟨2, ![8192, 5632]⟩
abbrev S1024x5632 : Shape := ⟨2, ![1024, 5632]⟩
abbrev S8192x1024 : Shape := ⟨2, ![8192, 1024]⟩
abbrev S512x5632 : Shape := ⟨2, ![512, 5632]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .f32⟩
  | .local _ .vmem, ⟨0, _⟩ => ⟨S512x5632, .bf16⟩
  | .local _ .vmem, ⟨1, _⟩ => ⟨S512x5632, .bf16⟩
  | .local _ .vmem, ⟨2, _⟩ => ⟨S1024x5632, .bf16⟩
  | .local _ .vmem, ⟨3, _⟩ => ⟨S512x1024, .f32⟩
  | .local _ .vmem, ⟨4, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x5632 : Shape := ⟨2, ![8192, 5632]⟩
abbrev S1024x5632 : Shape := ⟨2, ![1024, 5632]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S_, .f32⟩
  | .hbm, ⟨3, _⟩ => ⟨S8192x1024, .f32⟩
  | .hbm, ⟨4, _⟩ => ⟨S1024x5632, .f32⟩
  | .hbm, ⟨5, _⟩ => ⟨S8192x5632, .f32⟩
  | .hbm, ⟨6, _⟩ => ⟨S8192x5632, .f32⟩
  | .hbm, ⟨7, _⟩ => ⟨S8192x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S8192x1024 : Shape := ⟨2, ![8192, 1024]⟩
abbrev S8192x5632 : Shape := ⟨2, ![8192, 5632]⟩
abbrev S1024x5632 : Shape := ⟨2, ![1024, 5632]⟩
abbrev S2048x512 : Shape := ⟨2, ![2048, 512]⟩
abbrev S2048x1408 : Shape := ⟨2, ![2048, 1408]⟩
abbrev S512x1408 : Shape := ⟨2, ![512, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x5632, .f32⟩
  | .local _ .vmem, ⟨0, _⟩ => ⟨S2048x512, .bf16⟩
  | .local _ .vmem, ⟨1, _⟩ => ⟨S2048x512, .bf16⟩
  | .local _ .vmem, ⟨2, _⟩ => ⟨S2048x1408, .bf16⟩
  | .local _ .vmem, ⟨3, _⟩ => ⟨S2048x1408, .bf16⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S_, .f32⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x5632, .f32⟩
  | .hbm, ⟨7, _⟩ => ⟨S5632x1024, .f32⟩
  | .hbm, ⟨8, _⟩ => ⟨S1024x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S8192x1024 : Shape := ⟨2, ![8192, 1024]⟩
abbrev S2816x1024 : Shape := ⟨2, ![2816, 1024]⟩
abbrev S8192x2816 : Shape := ⟨2, ![8192, 2816]⟩
abbrev S512x1024 : Shape := ⟨2, ![512, 1024]⟩
abbrev S512x2816 : Shape := ⟨2, ![512, 2816]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .f32⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x2816, .f32⟩
  | .local _ .vmem, ⟨4, _⟩ => ⟨S512x2816, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S_, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S8192x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S8192x3072 : Shape := ⟨2, ![8192, 3072]⟩
abbrev S1024x3072 : Shape := ⟨2, ![1024, 3072]⟩
abbrev S8192x1024 : Shape := ⟨2, ![8192, 1024]⟩
abbrev S512x3072 : Shape := ⟨2, ![512, 3072]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x1024, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x3072 : Shape := ⟨2, ![8192, 3072]⟩
abbrev S1024x3072 : Shape := ⟨2, ![1024, 3072]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S_, .f32⟩
  | .hbm, ⟨3, _⟩ => ⟨S8192x1024, .f32⟩
  | .hbm, ⟨4, _⟩ => ⟨S1024x3072, .f32⟩
  | .hbm, ⟨5, _⟩ => ⟨S8192x3072, .f32⟩
  | .hbm, ⟨6, _⟩ => ⟨S8192x3072, .f32⟩
  | .hbm, ⟨7, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S8192x1024 : Shape := ⟨2, ![8192, 1024]⟩
abbrev S8192x3072 : Shape := ⟨2, ![8192, 3072]⟩
abbrev S1024x3072 : Shape := ⟨2, ![1024, 3072]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S_, .f32⟩
  | .hbm, ⟨3, _⟩ => ⟨S1024x3072, .f32⟩
  | .hbm, ⟨4, _⟩ => ⟨S8192x1024, .f32⟩
  | .hbm, ⟨5, _⟩ => ⟨S8192x3072, .f32⟩
  | .hbm, ⟨6, _⟩ => ⟨S8192x3072, .f32⟩
  | .hbm, ⟨7, _⟩ => ⟨S3072x1024, .f32⟩
  | .hbm, ⟨8, _⟩ => ⟨S1024x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S8192x1024 : Shape := ⟨2, ![8192, 1024]⟩
abbrev S1024x1024 : Shape := ⟨2, ![1024, 1024]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S8192x1024 : Shape := ⟨2, ![8192, 1024]⟩
abbrev S1024x3072 : Shape := ⟨2, ![1024, 3072]⟩
abbrev S8192x3072 : Shape := ⟨2, ![8192, 3072]⟩
abbrev S512x1024 : Shape := ⟨2, ![512, 1024]⟩
abbrev S1024x1536 : Shape := ⟨2, ![1024, 1536]⟩
abbrev S512x1536 : Shape := ⟨2, ![512, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .f32⟩
  | .local _ .vmem, ⟨0, _⟩ => ⟨S512x1024, .bf16⟩
  | .local _ .vmem, ⟨1, _⟩ => ⟨S512x1024, .bf16⟩
  | .local _ .vmem, ⟨2, _⟩ => ⟨S1024x1536, .bf16⟩
  | .local _ .vmem, ⟨3, _⟩ => ⟨S1024x1536, .bf16⟩
  | .local _ .vmem, ⟨4, _⟩ => ⟨S512x1536, .f32⟩
  | .local _ .vmem, ⟨5, _⟩ => ⟨S512x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x1024, .f32⟩
  | .hbm, ⟨3, _⟩ => ⟨S1024x3072, .f32⟩
  | .hbm, ⟨4, _⟩ => ⟨S8192x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel12.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel13.lean ====
abbrev S8192x1024 : Shape := ⟨2, ![8192, 1024]⟩
abbrev S1024x5632 : Shape := ⟨2, ![1024, 5632]⟩
abbrev S8192x5632 : Shape := ⟨2, ![8192, 5632]⟩
abbrev S512x1024 : Shape := ⟨2, ![512, 1024]⟩
abbrev S1024x2816 : Shape := ⟨2, ![1024, 2816]⟩
abbrev S512x2816 : Shape := ⟨2, ![512, 2816]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x5632, .f32⟩
  | .local _ .vmem, ⟨0, _⟩ => ⟨S512x1024, .bf16⟩
  | .local _ .vmem, ⟨1, _⟩ => ⟨S512x1024, .bf16⟩
  | .local _ .vmem, ⟨2, _⟩ => ⟨S1024x2816, .bf16⟩
  | .local _ .vmem, ⟨3, _⟩ => ⟨S1024x2816, .bf16⟩
  | .local _ .vmem, ⟨4, _⟩ => ⟨S512x2816, .f32⟩
  | .local _ .vmem, ⟨5, _⟩ => ⟨S512x2816, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel14.lean ====
abbrev S8192x2816 : Shape := ⟨2, ![8192, 2816]⟩
abbrev S2816x1024 : Shape := ⟨2, ![2816, 1024]⟩
abbrev S8192x1024 : Shape := ⟨2, ![8192, 1024]⟩
abbrev S512x2816 : Shape := ⟨2, ![512, 2816]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x2816, .f32⟩
  | .hbm, ⟨3, _⟩ => ⟨S2816x1024, .f32⟩
  | .hbm, ⟨4, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S8192x512 : Shape := ⟨2, ![8192, 512]⟩
abbrev S4x8192x1 : Shape := ⟨3, ![4, 8192, 1]⟩
abbrev S512x128 : Shape := ⟨2, ![512, 128]⟩
abbrev S8192x128 : Shape := ⟨2, ![8192, 128]⟩
abbrev S1x512x1 : Shape := ⟨3, ![1, 512, 1]⟩
abbrev S512x1 : Shape := ⟨2, ![512, 1]⟩
abbrev S512x8192 : Shape := ⟨2, ![512, 8192]⟩
abbrev S512 : Shape := ⟨1, ![512]⟩

abbrev nBuf : Space → Nat
  | .hbm => 5
  | .vmem => 10
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x512, .f32⟩
  | .hbm, ⟨4, _⟩ => ⟨S4x8192x1, .f32⟩
  | .local _ .vmem, ⟨0, _⟩ => ⟨S512x128, .bf16⟩
  | .local _ .vmem, ⟨1, _⟩ => ⟨S512x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S512x128, .f32⟩
  | .local _ .vmem, ⟨7, _⟩ => ⟨S512x128, .f32⟩
  | .local _ .vmem, ⟨8, _⟩ => ⟨S1x512x1, .f32⟩
  | .local _ .vmem, ⟨9, _⟩ => ⟨S1x512x1, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def k0_mult1 : BitVec 32 :=
  let c0_i32 : BitVec 32 := 0#32
  let c8192_i32 : BitVec 32 := 8192#32
  let v6 : BitVec 32 := Scalar.muli c0_i32 c8192_i32
  v6
def k0_off1 : Fin 2 → Nat :=
  let c0_i32 : BitVec 32 := 0#32
  let c8192_i32 : BitVec 32 := 8192#32
  let v6 : BitVec 32 := Scalar.muli c0_i32 c8192_i32
  let v7 : BitVec 32 := v6
  let v8 : Index := Scalar.indexCast v7
  let c0_2 : Index := 0#32
  ![v8.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![c0_i32_5.toNat, v16.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![c0_i32_5.toNat, v16.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel15Ideal.lean ====
variable {F : FTy → Type} [FloatOps F] [Named F]
def κ : String → Option EReal := fun
  | "c2" => some ((8⁻¹ * (Real.log 2)⁻¹ : ℝ) : EReal)
  | _ => none
-- ==== Reference15Ideal.lean ====
abbrev S8192x512 : Shape := ⟨2, ![8192, 512]⟩
abbrev S128 : Shape := ⟨1, ![128]⟩
abbrev S_ : Shape := ⟨0, ![]⟩
abbrev S8192x4x128 : Shape := ⟨3, ![8192, 4, 128]⟩
abbrev S4x8192x8192 : Shape := ⟨3, ![4, 8192, 8192]⟩
abbrev S4x8192 : Shape := ⟨2, ![4, 8192]⟩
abbrev S4x8192x1 : Shape := ⟨3, ![4, 8192, 1]⟩
abbrev S4x128x8192 : Shape := ⟨3, ![4, 128, 8192]⟩

abbrev nBuf : Space → Nat
  | .hbm => 60
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S128, .i32⟩
  | .hbm, ⟨4, _⟩ => ⟨S_, .i32⟩
  | .hbm, ⟨5, _⟩ => ⟨S128, .i32⟩
  | .hbm, ⟨6, _⟩ => ⟨S128, .i1⟩
  | .hbm, ⟨7, _⟩ => ⟨S8192x512, .f32⟩
  | .hbm, ⟨8, _⟩ => ⟨S8192x4x128, .f32⟩
  | .hbm, ⟨9, _⟩ => ⟨S_, .i32⟩
  | .hbm, ⟨10, _⟩ => ⟨S_, .f32⟩
  | .hbm, ⟨11, _⟩ => ⟨S8192x4x128, .i1⟩
  | .hbm, ⟨12, _⟩ => ⟨S8192x4x128, .f32⟩
  | .hbm, ⟨13, _⟩ => ⟨S8192x4x128, .f32⟩
  | .hbm, ⟨14, _⟩ => ⟨S8192x512, .f32⟩
  | .hbm, ⟨15, _⟩ => ⟨S8192x512, .f32⟩
  | .hbm, ⟨16, _⟩ => ⟨S8192x4x128, .f32⟩
  | .hbm, ⟨17, _⟩ => ⟨S8192x512, .f32⟩
  | .hbm, ⟨18, _⟩ => ⟨S8192x4x128, .f32⟩
  | .hbm, ⟨19, _⟩ => ⟨S4x8192x8192, .f32⟩
  | .hbm, ⟨20, _⟩ => ⟨S_, .f32⟩
  | .hbm, ⟨21, _⟩ => ⟨S4x8192x8192, .f32⟩
  | .hbm, ⟨22, _⟩ => ⟨S4x8192x8192, .f32⟩
  | .hbm, ⟨23, _⟩ => ⟨S_, .f32⟩
  | .hbm, ⟨24, _⟩ => ⟨S4x8192, .f32⟩
  | .hbm, ⟨25, _⟩ => ⟨S_, .f32⟩
  | .hbm, ⟨26, _⟩ => ⟨S4x8192, .f32⟩
  | .hbm, ⟨27, _⟩ => ⟨S4x8192, .f32⟩
  | .hbm, ⟨28, _⟩ => ⟨S4x8192x1, .f32⟩
  | .hbm, ⟨29, _⟩ => ⟨S4x8192x8192, .f32⟩
  | .hbm, ⟨30, _⟩ => ⟨S4x8192x8192, .f32⟩
  | .hbm, ⟨31, _⟩ => ⟨S4x8192x8192, .f32⟩
  | .hbm, ⟨32, _⟩ => ⟨S_, .f32⟩
  | .hbm, ⟨33, _⟩ => ⟨S4x8192, .f32⟩
  | .hbm, ⟨34, _⟩ => ⟨S4x8192x1, .f32⟩
  | .hbm, ⟨35, _⟩ => ⟨S4x8192x8192, .f32⟩
  | .hbm, ⟨36, _⟩ => ⟨S4x8192x8192, .f32⟩
  | .hbm, ⟨37, _⟩ => ⟨S8192x4x128, .f32⟩
  | .hbm, ⟨38, _⟩ => ⟨S4x128x8192, .f32⟩
  | .hbm, ⟨39, _⟩ => ⟨S8192x4x128, .f32⟩
  | .hbm, ⟨40, _⟩ => ⟨S8192x512, .f32⟩
  | .hbm, ⟨41, _⟩ => ⟨S8192x512, .f32⟩
  | .hbm, ⟨42, _⟩ => ⟨S8192x4x128, .f32⟩
  | .hbm, ⟨43, _⟩ => ⟨S8192x512, .f32⟩
  | .hbm, ⟨44, _⟩ => ⟨S8192x4x128, .f32⟩
  | .hbm, ⟨45, _⟩ => ⟨S4x8192x8192, .f32⟩
  | .hbm, ⟨46, _⟩ => ⟨S_, .f32⟩
  | .hbm, ⟨47, _⟩ => ⟨S4x8192x8192, .f32⟩
  | .hbm, ⟨48, _⟩ => ⟨S4x8192x8192, .f32⟩
  | .hbm, ⟨49, _⟩ => ⟨S_, .f32⟩
  | .hbm, ⟨50, _⟩ => ⟨S4x8192, .f32⟩
  | .hbm, ⟨51, _⟩ => ⟨S4x8192x1, .f32⟩
  | .hbm, ⟨52, _⟩ => ⟨S4x8192x8192, .f32⟩
  | .hbm, ⟨53, _⟩ => ⟨S4x8192x8192, .f32⟩
  | .hbm, ⟨54, _⟩ => ⟨S4x8192x8192, .f32⟩
  | .hbm, ⟨55, _⟩ => ⟨S_, .f32⟩
  | .hbm, ⟨56, _⟩ => ⟨S4x8192, .f32⟩
  | .hbm, ⟨57, _⟩ => ⟨S4x8192x1, .f32⟩
  | .hbm, ⟨58, _⟩ => ⟨S4x8192x1, .f32⟩
  | .hbm, ⟨59, _⟩ => ⟨S4x8192x1, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Kernel16.lean ====
abbrev S8192x512 : Shape := ⟨2, ![8192, 512]⟩
abbrev S4x8192x1 : Shape := ⟨3, ![4, 8192, 1]⟩
abbrev S512x128 : Shape := ⟨2, ![512, 128]⟩
abbrev S8192x128 : Shape := ⟨2, ![8192, 128]⟩
abbrev S1x512x1 : Shape := ⟨3, ![1, 512, 1]⟩
abbrev S512x1 : Shape := ⟨2, ![512, 1]⟩
abbrev S512x8192 : Shape := ⟨2, ![512, 8192]⟩
abbrev S512 : Shape := ⟨1, ![512]⟩

abbrev nBuf : Space → Nat
  | .hbm => 5
  | .vmem => 10
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x512, .f32⟩
  | .hbm, ⟨4, _⟩ => ⟨S4x8192x1, .f32⟩
  | .local _ .vmem, ⟨0, _⟩ => ⟨S512x128, .bf16⟩
  | .local _ .vmem, ⟨1, _⟩ => ⟨S512x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S512x128, .f32⟩
  | .local _ .vmem, ⟨7, _⟩ => ⟨S512x128, .f32⟩
  | .local _ .vmem, ⟨8, _⟩ => ⟨S1x512x1, .f32⟩
  | .local _ .vmem, ⟨9, _⟩ => ⟨S1x512x1, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def k0_mult1 : BitVec 32 :=
  let c0_i32 : BitVec 32 := 0#32
  let c8192_i32 : BitVec 32 := 8192#32
  let v6 : BitVec 32 := Scalar.muli c0_i32 c8192_i32
  v6
def k0_off1 : Fin 2 → Nat :=
  let c0_i32 : BitVec 32 := 0#32
  let c8192_i32 : BitVec 32 := 8192#32
  let v6 : BitVec 32 := Scalar.muli c0_i32 c8192_i32
  let v7 : BitVec 32 := v6
  let v8 : Index := Scalar.indexCast v7
  let c0_2 : Index := 0#32
  ![v8.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![c0_i32_5.toNat, v16.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![c0_i32_5.toNat, v16.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel16Ideal.lean ====
variable {F : FTy → Type} [FloatOps F] [Named F]
def κ : String → Option EReal := fun
  | "c2" => some (((3424635 * 33554432⁻¹) * (Real.log 2)⁻¹ : ℝ) : EReal)
  | _ => none
-- ==== Reference16Ideal.lean ====
abbrev S8192x512 : Shape := ⟨2, ![8192, 512]⟩
abbrev S128 : Shape := ⟨1, ![128]⟩
abbrev S_ : Shape := ⟨0, ![]⟩
abbrev S8192x4x128 : Shape := ⟨3, ![8192, 4, 128]⟩
abbrev S4x8192x8192 : Shape := ⟨3, ![4, 8192, 8192]⟩
abbrev S4x8192 : Shape := ⟨2, ![4, 8192]⟩
abbrev S4x8192x1 : Shape := ⟨3, ![4, 8192, 1]⟩
abbrev S4x128x8192 : Shape := ⟨3, ![4, 128, 8192]⟩

abbrev nBuf : Space → Nat
  | .hbm => 60
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S128, .i32⟩
  | .hbm, ⟨4, _⟩ => ⟨S_, .i32⟩
  | .hbm, ⟨5, _⟩ => ⟨S128, .i32⟩
  | .hbm, ⟨6, _⟩ => ⟨S128, .i1⟩
  | .hbm, ⟨7, _⟩ => ⟨S8192x512, .f32⟩
  | .hbm, ⟨8, _⟩ => ⟨S8192x4x128, .f32⟩
  | .hbm, ⟨9, _⟩ => ⟨S_, .i32⟩
  | .hbm, ⟨10, _⟩ => ⟨S_, .f32⟩
  | .hbm, ⟨11, _⟩ => ⟨S8192x4x128, .i1⟩
  | .hbm, ⟨12, _⟩ => ⟨S8192x4x128, .f32⟩
  | .hbm, ⟨13, _⟩ => ⟨S8192x4x128, .f32⟩
  | .hbm, ⟨14, _⟩ => ⟨S8192x512, .f32⟩
  | .hbm, ⟨15, _⟩ => ⟨S8192x512, .f32⟩
  | .hbm, ⟨16, _⟩ => ⟨S8192x4x128, .f32⟩
  | .hbm, ⟨17, _⟩ => ⟨S8192x512, .f32⟩
  | .hbm, ⟨18, _⟩ => ⟨S8192x4x128, .f32⟩
  | .hbm, ⟨19, _⟩ => ⟨S4x8192x8192, .f32⟩
  | .hbm, ⟨20, _⟩ => ⟨S_, .f32⟩
  | .hbm, ⟨21, _⟩ => ⟨S4x8192x8192, .f32⟩
  | .hbm, ⟨22, _⟩ => ⟨S4x8192x8192, .f32⟩
  | .hbm, ⟨23, _⟩ => ⟨S_, .f32⟩
  | .hbm, ⟨24, _⟩ => ⟨S4x8192, .f32⟩
  | .hbm, ⟨25, _⟩ => ⟨S_, .f32⟩
  | .hbm, ⟨26, _⟩ => ⟨S4x8192, .f32⟩
  | .hbm, ⟨27, _⟩ => ⟨S4x8192, .f32⟩
  | .hbm, ⟨28, _⟩ => ⟨S4x8192x1, .f32⟩
  | .hbm, ⟨29, _⟩ => ⟨S4x8192x8192, .f32⟩
  | .hbm, ⟨30, _⟩ => ⟨S4x8192x8192, .f32⟩
  | .hbm, ⟨31, _⟩ => ⟨S4x8192x8192, .f32⟩
  | .hbm, ⟨32, _⟩ => ⟨S_, .f32⟩
  | .hbm, ⟨33, _⟩ => ⟨S4x8192, .f32⟩
  | .hbm, ⟨34, _⟩ => ⟨S4x8192x1, .f32⟩
  | .hbm, ⟨35, _⟩ => ⟨S4x8192x8192, .f32⟩
  | .hbm, ⟨36, _⟩ => ⟨S4x8192x8192, .f32⟩
  | .hbm, ⟨37, _⟩ => ⟨S8192x4x128, .f32⟩
  | .hbm, ⟨38, _⟩ => ⟨S4x128x8192, .f32⟩
  | .hbm, ⟨39, _⟩ => ⟨S8192x4x128, .f32⟩
  | .hbm, ⟨40, _⟩ => ⟨S8192x512, .f32⟩
  | .hbm, ⟨41, _⟩ => ⟨S8192x512, .f32⟩
  | .hbm, ⟨42, _⟩ => ⟨S8192x4x128, .f32⟩
  | .hbm, ⟨43, _⟩ => ⟨S8192x512, .f32⟩
  | .hbm, ⟨44, _⟩ => ⟨S8192x4x128, .f32⟩
  | .hbm, ⟨45, _⟩ => ⟨S4x8192x8192, .f32⟩
  | .hbm, ⟨46, _⟩ => ⟨S_, .f32⟩
  | .hbm, ⟨47, _⟩ => ⟨S4x8192x8192, .f32⟩
  | .hbm, ⟨48, _⟩ => ⟨S4x8192x8192, .f32⟩
  | .hbm, ⟨49, _⟩ => ⟨S_, .f32⟩
  | .hbm, ⟨50, _⟩ => ⟨S4x8192, .f32⟩
  | .hbm, ⟨51, _⟩ => ⟨S4x8192x1, .f32⟩
  | .hbm, ⟨52, _⟩ => ⟨S4x8192x8192, .f32⟩
  | .hbm, ⟨53, _⟩ => ⟨S4x8192x8192, .f32⟩
  | .hbm, ⟨54, _⟩ => ⟨S4x8192x8192, .f32⟩
  | .hbm, ⟨55, _⟩ => ⟨S_, .f32⟩
  | .hbm, ⟨56, _⟩ => ⟨S4x8192, .f32⟩
  | .hbm, ⟨57, _⟩ => ⟨S4x8192x1, .f32⟩
  | .hbm, ⟨58, _⟩ => ⟨S4x8192x1, .f32⟩
  | .hbm, ⟨59, _⟩ => ⟨S4x8192x1, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Kernel17.lean ====
abbrev S8x1024x335 : Shape := ⟨3, ![8, 1024, 335]⟩
abbrev S2x1024x335 : Shape := ⟨3, ![2, 1024, 335]⟩
abbrev S8x256x335 : Shape := ⟨3, ![8, 256, 335]⟩
abbrev S1x256x335 : Shape := ⟨3, ![1, 256, 335]⟩
abbrev S256x335 : Shape := ⟨2, ![256, 335]⟩

abbrev nBuf : Space → Nat
  | .hbm => 9
  | .vmem => 18
  | .smem => 0
  | _ => 0

abbrev bufTy : (tb : Table) → Fin (tcTables nBuf tb) → BufTy
  | .hbm, ⟨0, _⟩ => ⟨S8x1024x335, .bf16⟩
  | .hbm, ⟨1, _⟩ => ⟨S8x1024x335, .bf16⟩
  | .hbm, ⟨2, _⟩ => ⟨S2x1024x335, .f32⟩
  | .hbm, ⟨3, _⟩ => ⟨S2x1024x335, .f32⟩
  | .hbm, ⟨4, _⟩ => ⟨S2x1024x335, .f32⟩
  | .hbm, ⟨5, _⟩ => ⟨S2x1024x335, .f32⟩
  | .hbm, ⟨6, _⟩ => ⟨S2x1024x335, .f32⟩
  | .hbm, ⟨7, _⟩ => ⟨S2x1024x335, .f32⟩
  | .hbm, ⟨8, _⟩ => ⟨S2x1024x335, .f32⟩
  | .local _ .vmem, ⟨0, _⟩ => ⟨S8x256x335, .bf16⟩
  | .local _ .vmem, ⟨1, _⟩ => ⟨S8x256x335, .bf16⟩
  | .local _ .vmem, ⟨2, _⟩ => ⟨S8x256x335, .bf16⟩
  | .local _ .vmem, ⟨3, _⟩ => ⟨S8x256x335, .bf16⟩
  | .local _ .vmem, ⟨4, _⟩ => ⟨S1x256x335, .f32⟩
  | .local _ .vmem, ⟨5, _⟩ => ⟨S1x256x335, .f32⟩
  | .local _ .vmem, ⟨6, _⟩ => ⟨S1x256x335, .f32⟩
  | .local _ .vmem, ⟨7, _⟩ => ⟨S1x256x335, .f32⟩
  | .local _ .vmem, ⟨8, _⟩ => ⟨S1x256x335, .f32⟩
  | .local _ .vmem, ⟨9, _⟩ => ⟨S1x256x335, .f32⟩
  | .local _ .vmem, ⟨10, _⟩ => ⟨S1x256x335, .f32⟩
  | .local _ .vmem, ⟨11, _⟩ => ⟨S1x256x335, .f32⟩
  | .local _ .vmem, ⟨12, _⟩ => ⟨S1x256x335, .f32⟩
  | .local _ .vmem, ⟨13, _⟩ => ⟨S1x256x335, .f32⟩
  | .local _ .vmem, ⟨14, _⟩ => ⟨S1x256x335, .f32⟩
  | .local _ .vmem, ⟨15, _⟩ => ⟨S1x256x335, .f32⟩
  | .local _ .vmem, ⟨16, _⟩ => ⟨S1x256x335, .f32⟩
  | .local _ .vmem, ⟨17, _⟩ => ⟨S1x256x335, .f32⟩
  | _, _ => ⟨S8x1024x335, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x335 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x335 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x335 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x335 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x335 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x335 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x335 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x335 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x335 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference17Ideal.lean ====
abbrev S8x1024x335 : Shape := ⟨3, ![8, 1024, 335]⟩
abbrev S2x1024x335 : Shape := ⟨3, ![2, 1024, 335]⟩
abbrev S_ : Shape := ⟨0, ![]⟩
abbrev S1024x335 : Shape := ⟨2, ![1024, 335]⟩
abbrev S1x1024x335 : Shape := ⟨3, ![1, 1024, 335]⟩

abbrev nBuf : Space → Nat
  | .hbm => 47
  | .vmem => 0
  | .smem => 0
  | _ => 0

abbrev bufTy : (tb : Table) → Fin (tcTables nBuf tb) → BufTy
  | .hbm, ⟨0, _⟩ => ⟨S8x1024x335, .bf16⟩
  | .hbm, ⟨1, _⟩ => ⟨S8x1024x335, .bf16⟩
  | .hbm, ⟨2, _⟩ => ⟨S2x1024x335, .f32⟩
  | .hbm, ⟨3, _⟩ => ⟨S2x1024x335, .f32⟩
  | .hbm, ⟨4, _⟩ => ⟨S2x1024x335, .f32⟩
  | .hbm, ⟨5, _⟩ => ⟨S8x1024x335, .f32⟩
  | .hbm, ⟨6, _⟩ => ⟨S_, .f32⟩
  | .hbm, ⟨7, _⟩ => ⟨S1024x335, .f32⟩
  | .hbm, ⟨8, _⟩ => ⟨S8x1024x335, .f32⟩
  | .hbm, ⟨9, _⟩ => ⟨S_, .f32⟩
  | .hbm, ⟨10, _⟩ => ⟨S1024x335, .f32⟩
  | .hbm, ⟨11, _⟩ => ⟨S1x1024x335, .f32⟩
  | .hbm, ⟨12, _⟩ => ⟨S1x1024x335, .f32⟩
  | .hbm, ⟨13, _⟩ => ⟨S2x1024x335, .f32⟩
  | .hbm, ⟨14, _⟩ => ⟨S_, .f32⟩
  | .hbm, ⟨15, _⟩ => ⟨S2x1024x335, .f32⟩
  | .hbm, ⟨16, _⟩ => ⟨S2x1024x335, .f32⟩
  | .hbm, ⟨17, _⟩ => ⟨S_, .f32⟩
  | .hbm, ⟨18, _⟩ => ⟨S2x1024x335, .f32⟩
  | .hbm, ⟨19, _⟩ => ⟨S2x1024x335, .f32⟩
  | .hbm, ⟨20, _⟩ => ⟨S2x1024x335, .f32⟩
  | .hbm, ⟨21, _⟩ => ⟨S_, .f32⟩
  | .hbm, ⟨22, _⟩ => ⟨S2x1024x335, .f32⟩
  | .hbm, ⟨23, _⟩ => ⟨S2x1024x335, .f32⟩
  | .hbm, ⟨24, _⟩ => ⟨S2x1024x335, .f32⟩
  | .hbm, ⟨25, _⟩ => ⟨S_, .f32⟩
  | .hbm, ⟨26, _⟩ => ⟨S2x1024x335, .f32⟩
  | .hbm, ⟨27, _⟩ => ⟨S2x1024x335, .f32⟩
  | .hbm, ⟨28, _⟩ => ⟨S2x1024x335, .f32⟩
  | .hbm, ⟨29, _⟩ => ⟨S_, .f32⟩
  | .hbm, ⟨30, _⟩ => ⟨S2x1024x335, .f32⟩
  | .hbm, ⟨31, _⟩ => ⟨S2x1024x335, .f32⟩
  | .hbm, ⟨32, _⟩ => ⟨S_, .f32⟩
  | .hbm, ⟨33, _⟩ => ⟨S2x1024x335, .f32⟩
  | .hbm, ⟨34, _⟩ => ⟨S2x1024x335, .f32⟩
  | .hbm, ⟨35, _⟩ => ⟨S2x1024x335, .f32⟩
  | .hbm, ⟨36, _⟩ => ⟨S_, .f32⟩
  | .hbm, ⟨37, _⟩ => ⟨S2x1024x335, .f32⟩
  | .hbm, ⟨38, _⟩ => ⟨S2x1024x335, .f32⟩
  | .hbm, ⟨39, _⟩ => ⟨S2x1024x335, .f32⟩
  | .hbm, ⟨40, _⟩ => ⟨S_, .f32⟩
  | .hbm, ⟨41, _⟩ => ⟨S2x1024x335, .f32⟩
  | .hbm, ⟨42, _⟩ => ⟨S2x1024x335, .f32⟩
  | .hbm, ⟨43, _⟩ => ⟨S2x1024x335, .f32⟩
  | .hbm, ⟨44, _⟩ => ⟨S_, .f32⟩
  | .hbm, ⟨45, _⟩ => ⟨S2x1024x335, .f32⟩
  | .hbm, ⟨46, _⟩ => ⟨S2x1024x335, .f32⟩
  | _, _ => ⟨S8x1024x335, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel18.lean ====
abbrev S8x192x48 : Shape := ⟨3, ![8, 192, 48]⟩
abbrev S2x192x48 : Shape := ⟨3, ![2, 192, 48]⟩
abbrev S1x192x48 : Shape := ⟨3, ![1, 192, 48]⟩
abbrev S192x48 : Shape := ⟨2, ![192, 48]⟩

abbrev nBuf : Space → Nat
  | .hbm => 9
  | .vmem => 18
  | .smem => 0
  | _ => 0

abbrev bufTy : (tb : Table) → Fin (tcTables nBuf tb) → BufTy
  | .hbm, ⟨0, _⟩ => ⟨S8x192x48, .bf16⟩
  | .hbm, ⟨1, _⟩ => ⟨S8x192x48, .bf16⟩
  | .hbm, ⟨2, _⟩ => ⟨S2x192x48, .f32⟩
  | .hbm, ⟨3, _⟩ => ⟨S2x192x48, .f32⟩
  | .hbm, ⟨4, _⟩ => ⟨S2x192x48, .f32⟩
  | .hbm, ⟨5, _⟩ => ⟨S2x192x48, .f32⟩
  | .hbm, ⟨6, _⟩ => ⟨S2x192x48, .f32⟩
  | .hbm, ⟨7, _⟩ => ⟨S2x192x48, .f32⟩
  | .hbm, ⟨8, _⟩ => ⟨S2x192x48, .f32⟩
  | .local _ .vmem, ⟨0, _⟩ => ⟨S8x192x48, .bf16⟩
  | .local _ .vmem, ⟨1, _⟩ => ⟨S8x192x48, .bf16⟩
  | .local _ .vmem, ⟨2, _⟩ => ⟨S8x192x48, .bf16⟩
  | .local _ .vmem, ⟨3, _⟩ => ⟨S8x192x48, .bf16⟩
  | .local _ .vmem, ⟨4, _⟩ => ⟨S1x192x48, .f32⟩
  | .local _ .vmem, ⟨5, _⟩ => ⟨S1x192x48, .f32⟩
  | .local _ .vmem, ⟨6, _⟩ => ⟨S1x192x48, .f32⟩
  | .local _ .vmem, ⟨7, _⟩ => ⟨S1x192x48, .f32⟩
  | .local _ .vmem, ⟨8, _⟩ => ⟨S1x192x48, .f32⟩
  | .local _ .vmem, ⟨9, _⟩ => ⟨S1x192x48, .f32⟩
  | .local _ .vmem, ⟨10, _⟩ => ⟨S1x192x48, .f32⟩
  | .local _ .vmem, ⟨11, _⟩ => ⟨S1x192x48, .f32⟩
  | .local _ .vmem, ⟨12, _⟩ => ⟨S1x192x48, .f32⟩
  | .local _ .vmem, ⟨13, _⟩ => ⟨S1x192x48, .f32⟩
  | .local _ .vmem, ⟨14, _⟩ => ⟨S1x192x48, .f32⟩
  | .local _ .vmem, ⟨15, _⟩ => ⟨S1x192x48, .f32⟩
  | .local _ .vmem, ⟨16, _⟩ => ⟨S1x192x48, .f32⟩
  | .local _ .vmem, ⟨17, _⟩ => ⟨S1x192x48, .f32⟩
  | _, _ => ⟨S8x192x48, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x192x48 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x192x48 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x192x48 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x192x48 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x192x48 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x192x48 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x192x48 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x192x48 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x192x48 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference18Ideal.lean ====
abbrev S8x192x48 : Shape := ⟨3, ![8, 192, 48]⟩
abbrev S2x192x48 : Shape := ⟨3, ![2, 192, 48]⟩
abbrev S_ : Shape := ⟨0, ![]⟩
abbrev S192x48 : Shape := ⟨2, ![192, 48]⟩
abbrev S1x192x48 : Shape := ⟨3, ![1, 192, 48]⟩

abbrev nBuf : Space → Nat
  | .hbm => 47
  | .vmem => 0
  | .smem => 0
  | _ => 0

abbrev bufTy : (tb : Table) → Fin (tcTables nBuf tb) → BufTy
  | .hbm, ⟨0, _⟩ => ⟨S8x192x48, .bf16⟩
  | .hbm, ⟨1, _⟩ => ⟨S8x192x48, .bf16⟩
  | .hbm, ⟨2, _⟩ => ⟨S2x192x48, .f32⟩
  | .hbm, ⟨3, _⟩ => ⟨S2x192x48, .f32⟩
  | .hbm, ⟨4, _⟩ => ⟨S2x192x48, .f32⟩
  | .hbm, ⟨5, _⟩ => ⟨S8x192x48, .f32⟩
  | .hbm, ⟨6, _⟩ => ⟨S_, .f32⟩
  | .hbm, ⟨7, _⟩ => ⟨S192x48, .f32⟩
  | .hbm, ⟨8, _⟩ => ⟨S8x192x48, .f32⟩
  | .hbm, ⟨9, _⟩ => ⟨S_, .f32⟩
  | .hbm, ⟨10, _⟩ => ⟨S192x48, .f32⟩
  | .hbm, ⟨11, _⟩ => ⟨S1x192x48, .f32⟩
  | .hbm, ⟨12, _⟩ => ⟨S1x192x48, .f32⟩
  | .hbm, ⟨13, _⟩ => ⟨S2x192x48, .f32⟩
  | .hbm, ⟨14, _⟩ => ⟨S_, .f32⟩
  | .hbm, ⟨15, _⟩ => ⟨S2x192x48, .f32⟩
  | .hbm, ⟨16, _⟩ => ⟨S2x192x48, .f32⟩
  | .hbm, ⟨17, _⟩ => ⟨S_, .f32⟩
  | .hbm, ⟨18, _⟩ => ⟨S2x192x48, .f32⟩
  | .hbm, ⟨19, _⟩ => ⟨S2x192x48, .f32⟩
  | .hbm, ⟨20, _⟩ => ⟨S2x192x48, .f32⟩
  | .hbm, ⟨21, _⟩ => ⟨S_, .f32⟩
  | .hbm, ⟨22, _⟩ => ⟨S2x192x48, .f32⟩
  | .hbm, ⟨23, _⟩ => ⟨S2x192x48, .f32⟩
  | .hbm, ⟨24, _⟩ => ⟨S2x192x48, .f32⟩
  | .hbm, ⟨25, _⟩ => ⟨S_, .f32⟩
  | .hbm, ⟨26, _⟩ => ⟨S2x192x48, .f32⟩
  | .hbm, ⟨27, _⟩ => ⟨S2x192x48, .f32⟩
  | .hbm, ⟨28, _⟩ => ⟨S2x192x48, .f32⟩
  | .hbm, ⟨29, _⟩ => ⟨S_, .f32⟩
  | .hbm, ⟨30, _⟩ => ⟨S2x192x48, .f32⟩
  | .hbm, ⟨31, _⟩ => ⟨S2x192x48, .f32⟩
  | .hbm, ⟨32, _⟩ => ⟨S_, .f32⟩
  | .hbm, ⟨33, _⟩ => ⟨S2x192x48, .f32⟩
  | .hbm, ⟨34, _⟩ => ⟨S2x192x48, .f32⟩
  | .hbm, ⟨35, _⟩ => ⟨S2x192x48, .f32⟩
  | .hbm, ⟨36, _⟩ => ⟨S_, .f32⟩
  | .hbm, ⟨37, _⟩ => ⟨S2x192x48, .f32⟩
  | .hbm, ⟨38, _⟩ => ⟨S2x192x48, .f32⟩
  | .hbm, ⟨39, _⟩ => ⟨S2x192x48, .f32⟩
  | .hbm, ⟨40, _⟩ => ⟨S_, .f32⟩
  | .hbm, ⟨41, _⟩ => ⟨S2x192x48, .f32⟩
  | .hbm, ⟨42, _⟩ => ⟨S2x192x48, .f32⟩
  | .hbm, ⟨43, _⟩ => ⟨S2x192x48, .f32⟩
  | .hbm, ⟨44, _⟩ => ⟨S_, .f32⟩
  | .hbm, ⟨45, _⟩ => ⟨S2x192x48, .f32⟩
  | .hbm, ⟨46, _⟩ => ⟨S2x192x48, .f32⟩
  | _, _ => ⟨S8x192x48, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel19.lean ====
abbrev S8x128x64 : Shape := ⟨3, ![8, 128, 64]⟩
abbrev S2x128x64 : Shape := ⟨3, ![2, 128, 64]⟩
abbrev S1x128x64 : Shape := ⟨3, ![1, 128, 64]⟩
abbrev S128x64 : Shape := ⟨2, ![128, 64]⟩

abbrev nBuf : Space → Nat
  | .hbm => 9
  | .vmem => 18
  | .smem => 0
  | _ => 0

abbrev bufTy : (tb : Table) → Fin (tcTables nBuf tb) → BufTy
  | .hbm, ⟨0, _⟩ => ⟨S8x128x64, .bf16⟩
  | .hbm, ⟨1, _⟩ => ⟨S8x128x64, .bf16⟩
  | .hbm, ⟨2, _⟩ => ⟨S2x128x64, .f32⟩
  | .hbm, ⟨3, _⟩ => ⟨S2x128x64, .f32⟩
  | .hbm, ⟨4, _⟩ => ⟨S2x128x64, .f32⟩
  | .hbm, ⟨5, _⟩ => ⟨S2x128x64, .f32⟩
  | .hbm, ⟨6, _⟩ => ⟨S2x128x64, .f32⟩
  | .hbm, ⟨7, _⟩ => ⟨S2x128x64, .f32⟩
  | .hbm, ⟨8, _⟩ => ⟨S2x128x64, .f32⟩
  | .local _ .vmem, ⟨0, _⟩ => ⟨S8x128x64, .bf16⟩
  | .local _ .vmem, ⟨1, _⟩ => ⟨S8x128x64, .bf16⟩
  | .local _ .vmem, ⟨2, _⟩ => ⟨S8x128x64, .bf16⟩
  | .local _ .vmem, ⟨3, _⟩ => ⟨S8x128x64, .bf16⟩
  | .local _ .vmem, ⟨4, _⟩ => ⟨S1x128x64, .f32⟩
  | .local _ .vmem, ⟨5, _⟩ => ⟨S1x128x64, .f32⟩
  | .local _ .vmem, ⟨6, _⟩ => ⟨S1x128x64, .f32⟩
  | .local _ .vmem, ⟨7, _⟩ => ⟨S1x128x64, .f32⟩
  | .local _ .vmem, ⟨8, _⟩ => ⟨S1x128x64, .f32⟩
  | .local _ .vmem, ⟨9, _⟩ => ⟨S1x128x64, .f32⟩
  | .local _ .vmem, ⟨10, _⟩ => ⟨S1x128x64, .f32⟩
  | .local _ .vmem, ⟨11, _⟩ => ⟨S1x128x64, .f32⟩
  | .local _ .vmem, ⟨12, _⟩ => ⟨S1x128x64, .f32⟩
  | .local _ .vmem, ⟨13, _⟩ => ⟨S1x128x64, .f32⟩
  | .local _ .vmem, ⟨14, _⟩ => ⟨S1x128x64, .f32⟩
  | .local _ .vmem, ⟨15, _⟩ => ⟨S1x128x64, .f32⟩
  | .local _ .vmem, ⟨16, _⟩ => ⟨S1x128x64, .f32⟩
  | .local _ .vmem, ⟨17, _⟩ => ⟨S1x128x64, .f32⟩
  | _, _ => ⟨S8x128x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference19Ideal.lean ====
abbrev S8x128x64 : Shape := ⟨3, ![8, 128, 64]⟩
abbrev S2x128x64 : Shape := ⟨3, ![2, 128, 64]⟩
abbrev S_ : Shape := ⟨0, ![]⟩
abbrev S128x64 : Shape := ⟨2, ![128, 64]⟩
abbrev S1x128x64 : Shape := ⟨3, ![1, 128, 64]⟩

abbrev nBuf : Space → Nat
  | .hbm => 47
  | .vmem => 0
  | .smem => 0
  | _ => 0

abbrev bufTy : (tb : Table) → Fin (tcTables nBuf tb) → BufTy
  | .hbm, ⟨0, _⟩ => ⟨S8x128x64, .bf16⟩
  | .hbm, ⟨1, _⟩ => ⟨S8x128x64, .bf16⟩
  | .hbm, ⟨2, _⟩ => ⟨S2x128x64, .f32⟩
  | .hbm, ⟨3, _⟩ => ⟨S2x128x64, .f32⟩
  | .hbm, ⟨4, _⟩ => ⟨S2x128x64, .f32⟩
  | .hbm, ⟨5, _⟩ => ⟨S8x128x64, .f32⟩
  | .hbm, ⟨6, _⟩ => ⟨S_, .f32⟩
  | .hbm, ⟨7, _⟩ => ⟨S128x64, .f32⟩
  | .hbm, ⟨8, _⟩ => ⟨S8x128x64, .f32⟩
  | .hbm, ⟨9, _⟩ => ⟨S_, .f32⟩
  | .hbm, ⟨10, _⟩ => ⟨S128x64, .f32⟩
  | .hbm, ⟨11, _⟩ => ⟨S1x128x64, .f32⟩
  | .hbm, ⟨12, _⟩ => ⟨S1x128x64, .f32⟩
  | .hbm, ⟨13, _⟩ => ⟨S2x128x64, .f32⟩
  | .hbm, ⟨14, _⟩ => ⟨S_, .f32⟩
  | .hbm, ⟨15, _⟩ => ⟨S2x128x64, .f32⟩
  | .hbm, ⟨16, _⟩ => ⟨S2x128x64, .f32⟩
  | .hbm, ⟨17, _⟩ => ⟨S_, .f32⟩
  | .hbm, ⟨18, _⟩ => ⟨S2x128x64, .f32⟩
  | .hbm, ⟨19, _⟩ => ⟨S2x128x64, .f32⟩
  | .hbm, ⟨20, _⟩ => ⟨S2x128x64, .f32⟩
  | .hbm, ⟨21, _⟩ => ⟨S_, .f32⟩
  | .hbm, ⟨22, _⟩ => ⟨S2x128x64, .f32⟩
  | .hbm, ⟨23, _⟩ => ⟨S2x128x64, .f32⟩
  | .hbm, ⟨24, _⟩ => ⟨S2x128x64, .f32⟩
  | .hbm, ⟨25, _⟩ => ⟨S_, .f32⟩
  | .hbm, ⟨26, _⟩ => ⟨S2x128x64, .f32⟩
  | .hbm, ⟨27, _⟩ => ⟨S2x128x64, .f32⟩
  | .hbm, ⟨28, _⟩ => ⟨S2x128x64, .f32⟩
  | .hbm, ⟨29, _⟩ => ⟨S_, .f32⟩
  | .hbm, ⟨30, _⟩ => ⟨S2x128x64, .f32⟩
  | .hbm, ⟨31, _⟩ => ⟨S2x128x64, .f32⟩
  | .hbm, ⟨32, _⟩ => ⟨S_, .f32⟩
  | .hbm, ⟨33, _⟩ => ⟨S2x128x64, .f32⟩
  | .hbm, ⟨34, _⟩ => ⟨S2x128x64, .f32⟩
  | .hbm, ⟨35, _⟩ => ⟨S2x128x64, .f32⟩
  | .hbm, ⟨36, _⟩ => ⟨S_, .f32⟩
  | .hbm, ⟨37, _⟩ => ⟨S2x128x64, .f32⟩
  | .hbm, ⟨38, _⟩ => ⟨S2x128x64, .f32⟩
  | .hbm, ⟨39, _⟩ => ⟨S2x128x64, .f32⟩
  | .hbm, ⟨40, _⟩ => ⟨S_, .f32⟩
  | .hbm, ⟨41, _⟩ => ⟨S2x128x64, .f32⟩
  | .hbm, ⟨42, _⟩ => ⟨S2x128x64, .f32⟩
  | .hbm, ⟨43, _⟩ => ⟨S2x128x64, .f32⟩
  | .hbm, ⟨44, _⟩ => ⟨S_, .f32⟩
  | .hbm, ⟨45, _⟩ => ⟨S2x128x64, .f32⟩
  | .hbm, ⟨46, _⟩ => ⟨S2x128x64, .f32⟩
  | _, _ => ⟨S8x128x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel20.lean ====
abbrev S8x128x1024 : Shape := ⟨3, ![8, 128, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference20Ideal.lean ====
abbrev S8x128x1024 : Shape := ⟨3, ![8, 128, 1024]⟩
abbrev S2x128x1024 : Shape := ⟨3, ![2, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S8x128x1024, .f32⟩
  | .hbm, ⟨6, _⟩ => ⟨S_, .f32⟩
  | .hbm, ⟨7, _⟩ => ⟨S128x1024, .f32⟩
  | .hbm, ⟨8, _⟩ => ⟨S8x128x1024, .f32⟩
  | .hbm, ⟨9, _⟩ => ⟨S_, .f32⟩
  | .hbm, ⟨10, _⟩ => ⟨S128x1024, .f32⟩
  | .hbm, ⟨11, _⟩ => ⟨S1x128x1024, .f32⟩
  | .hbm, ⟨12, _⟩ => ⟨S1x128x1024, .f32⟩
  | .hbm, ⟨13, _⟩ => ⟨S2x128x1024, .f32⟩
  | .hbm, ⟨14, _⟩ => ⟨S_, .f32⟩
  | .hbm, ⟨15, _⟩ => ⟨S2x128x1024, .f32⟩
  | .hbm, ⟨16, _⟩ => ⟨S2x128x1024, .f32⟩
  | .hbm, ⟨17, _⟩ => ⟨S_, .f32⟩
  | .hbm, ⟨18, _⟩ => ⟨S2x128x1024, .f32⟩
  | .hbm, ⟨19, _⟩ => ⟨S2x128x1024, .f32⟩
  | .hbm, ⟨20, _⟩ => ⟨S2x128x1024, .f32⟩
  | .hbm, ⟨21, _⟩ => ⟨S_, .f32⟩
  | .hbm, ⟨22, _⟩ => ⟨S2x128x1024, .f32⟩
  | .hbm, ⟨23, _⟩ => ⟨S2x128x1024, .f32⟩
  | .hbm, ⟨24, _⟩ => ⟨S2x128x1024, .f32⟩
  | .hbm, ⟨25, _⟩ => ⟨S_, .f32⟩
  | .hbm, ⟨26, _⟩ => ⟨S2x128x1024, .f32⟩
  | .hbm, ⟨27, _⟩ => ⟨S2x128x1024, .f32⟩
  | .hbm, ⟨28, _⟩ => ⟨S2x128x1024, .f32⟩
  | .hbm, ⟨29, _⟩ => ⟨S_, .f32⟩
  | .hbm, ⟨30, _⟩ => ⟨S2x128x1024, .f32⟩
  | .hbm, ⟨31, _⟩ => ⟨S2x128x1024, .f32⟩
  | .hbm, ⟨32, _⟩ => ⟨S_, .f32⟩
  | .hbm, ⟨33, _⟩ => ⟨S2x128x1024, .f32⟩
  | .hbm, ⟨34, _⟩ => ⟨S2x128x1024, .f32⟩
  | .hbm, ⟨35, _⟩ => ⟨S2x128x1024, .f32⟩
  | .hbm, ⟨36, _⟩ => ⟨S_, .f32⟩
  | .hbm, ⟨37, _⟩ => ⟨S2x128x1024, .f32⟩
  | .hbm, ⟨38, _⟩ => ⟨S2x128x1024, .f32⟩
  | .hbm, ⟨39, _⟩ => ⟨S2x128x1024, .f32⟩
  | .hbm, ⟨40, _⟩ => ⟨S_, .f32⟩
  | .hbm, ⟨41, _⟩ => ⟨S2x128x1024, .f32⟩
  | .hbm, ⟨42, _⟩ => ⟨S2x128x1024, .f32⟩
  | .hbm, ⟨43, _⟩ => ⟨S2x128x1024, .f32⟩
  | .hbm, ⟨44, _⟩ => ⟨S_, .f32⟩
  | .hbm, ⟨45, _⟩ => ⟨S2x128x1024, .f32⟩
  | .hbm, ⟨46, _⟩ => ⟨S2x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel21.lean ====
abbrev S8x1024x704 : Shape := ⟨3, ![8, 1024, 704]⟩
abbrev S2x1024x704 : Shape := ⟨3, ![2, 1024, 704]⟩
abbrev S8x256x704 : Shape := ⟨3, ![8, 256, 704]⟩
abbrev S1x256x704 : Shape := ⟨3, ![1, 256, 704]⟩
abbrev S256x704 : Shape := ⟨2, ![256, 704]⟩

abbrev nBuf : Space → Nat
  | .hbm => 9
  | .vmem => 18
  | .smem => 0
  | _ => 0

abbrev bufTy : (tb : Table) → Fin (tcTables nBuf tb) → BufTy
  | .hbm, ⟨0, _⟩ => ⟨S8x1024x704, .bf16⟩
  | .hbm, ⟨1, _⟩ => ⟨S8x1024x704, .bf16⟩
  | .hbm, ⟨2, _⟩ => ⟨S2x1024x704, .f32⟩
  | .hbm, ⟨3, _⟩ => ⟨S2x1024x704, .f32⟩
  | .hbm, ⟨4, _⟩ => ⟨S2x1024x704, .f32⟩
  | .hbm, ⟨5, _⟩ => ⟨S2x1024x704, .f32⟩
  | .hbm, ⟨6, _⟩ => ⟨S2x1024x704, .f32⟩
  | .hbm, ⟨7, _⟩ => ⟨S2x1024x704, .f32⟩
  | .hbm, ⟨8, _⟩ => ⟨S2x1024x704, .f32⟩
  | .local _ .vmem, ⟨0, _⟩ => ⟨S8x256x704, .bf16⟩
  | .local _ .vmem, ⟨1, _⟩ => ⟨S8x256x704, .bf16⟩
  | .local _ .vmem, ⟨2, _⟩ => ⟨S8x256x704, .bf16⟩
  | .local _ .vmem, ⟨3, _⟩ => ⟨S8x256x704, .bf16⟩
  | .local _ .vmem, ⟨4, _⟩ => ⟨S1x256x704, .f32⟩
  | .local _ .vmem, ⟨5, _⟩ => ⟨S1x256x704, .f32⟩
  | .local _ .vmem, ⟨6, _⟩ => ⟨S1x256x704, .f32⟩
  | .local _ .vmem, ⟨7, _⟩ => ⟨S1x256x704, .f32⟩
  | .local _ .vmem, ⟨8, _⟩ => ⟨S1x256x704, .f32⟩
  | .local _ .vmem, ⟨9, _⟩ => ⟨S1x256x704, .f32⟩
  | .local _ .vmem, ⟨10, _⟩ => ⟨S1x256x704, .f32⟩
  | .local _ .vmem, ⟨11, _⟩ => ⟨S1x256x704, .f32⟩
  | .local _ .vmem, ⟨12, _⟩ => ⟨S1x256x704, .f32⟩
  | .local _ .vmem, ⟨13, _⟩ => ⟨S1x256x704, .f32⟩
  | .local _ .vmem, ⟨14, _⟩ => ⟨S1x256x704, .f32⟩
  | .local _ .vmem, ⟨15, _⟩ => ⟨S1x256x704, .f32⟩
  | .local _ .vmem, ⟨16, _⟩ => ⟨S1x256x704, .f32⟩
  | .local _ .vmem, ⟨17, _⟩ => ⟨S1x256x704, .f32⟩
  | _, _ => ⟨S8x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference21Ideal.lean ====
abbrev S8x1024x704 : Shape := ⟨3, ![8, 1024, 704]⟩
abbrev S2x1024x704 : Shape := ⟨3, ![2, 1024, 704]⟩
abbrev S_ : Shape := ⟨0, ![]⟩
abbrev S1024x704 : Shape := ⟨2, ![1024, 704]⟩
abbrev S1x1024x704 : Shape := ⟨3, ![1, 1024, 704]⟩

abbrev nBuf : Space → Nat
  | .hbm => 47
  | .vmem => 0
  | .smem => 0
  | _ => 0

abbrev bufTy : (tb : Table) → Fin (tcTables nBuf tb) → BufTy
  | .hbm, ⟨0, _⟩ => ⟨S8x1024x704, .bf16⟩
  | .hbm, ⟨1, _⟩ => ⟨S8x1024x704, .bf16⟩
  | .hbm, ⟨2, _⟩ => ⟨S2x1024x704, .f32⟩
  | .hbm, ⟨3, _⟩ => ⟨S2x1024x704, .f32⟩
  | .hbm, ⟨4, _⟩ => ⟨S2x1024x704, .f32⟩
  | .hbm, ⟨5, _⟩ => ⟨S8x1024x704, .f32⟩
  | .hbm, ⟨6, _⟩ => ⟨S_, .f32⟩
  | .hbm, ⟨7, _⟩ => ⟨S1024x704, .f32⟩
  | .hbm, ⟨8, _⟩ => ⟨S8x1024x704, .f32⟩
  | .hbm, ⟨9, _⟩ => ⟨S_, .f32⟩
  | .hbm, ⟨10, _⟩ => ⟨S1024x704, .f32⟩
  | .hbm, ⟨11, _⟩ => ⟨S1x1024x704, .f32⟩
  | .hbm, ⟨12, _⟩ => ⟨S1x1024x704, .f32⟩
  | .hbm, ⟨13, _⟩ => ⟨S2x1024x704, .f32⟩
  | .hbm, ⟨14, _⟩ => ⟨S_, .f32⟩
  | .hbm, ⟨15, _⟩ => ⟨S2x1024x704, .f32⟩
  | .hbm, ⟨16, _⟩ => ⟨S2x1024x704, .f32⟩
  | .hbm, ⟨17, _⟩ => ⟨S_, .f32⟩
  | .hbm, ⟨18, _⟩ => ⟨S2x1024x704, .f32⟩
  | .hbm, ⟨19, _⟩ => ⟨S2x1024x704, .f32⟩
  | .hbm, ⟨20, _⟩ => ⟨S2x1024x704, .f32⟩
  | .hbm, ⟨21, _⟩ => ⟨S_, .f32⟩
  | .hbm, ⟨22, _⟩ => ⟨S2x1024x704, .f32⟩
  | .hbm, ⟨23, _⟩ => ⟨S2x1024x704, .f32⟩
  | .hbm, ⟨24, _⟩ => ⟨S2x1024x704, .f32⟩
  | .hbm, ⟨25, _⟩ => ⟨S_, .f32⟩
  | .hbm, ⟨26, _⟩ => ⟨S2x1024x704, .f32⟩
  | .hbm, ⟨27, _⟩ => ⟨S2x1024x704, .f32⟩
  | .hbm, ⟨28, _⟩ => ⟨S2x1024x704, .f32⟩
  | .hbm, ⟨29, _⟩ => ⟨S_, .f32⟩
  | .hbm, ⟨30, _⟩ => ⟨S2x1024x704, .f32⟩
  | .hbm, ⟨31, _⟩ => ⟨S2x1024x704, .f32⟩
  | .hbm, ⟨32, _⟩ => ⟨S_, .f32⟩
  | .hbm, ⟨33, _⟩ => ⟨S2x1024x704, .f32⟩
  | .hbm, ⟨34, _⟩ => ⟨S2x1024x704, .f32⟩
  | .hbm, ⟨35, _⟩ => ⟨S2x1024x704, .f32⟩
  | .hbm, ⟨36, _⟩ => ⟨S_, .f32⟩
  | .hbm, ⟨37, _⟩ => ⟨S2x1024x704, .f32⟩
  | .hbm, ⟨38, _⟩ => ⟨S2x1024x704, .f32⟩
  | .hbm, ⟨39, _⟩ => ⟨S2x1024x704, .f32⟩
  | .hbm, ⟨40, _⟩ => ⟨S_, .f32⟩
  | .hbm, ⟨41, _⟩ => ⟨S2x1024x704, .f32⟩
  | .hbm, ⟨42, _⟩ => ⟨S2x1024x704, .f32⟩
  | .hbm, ⟨43, _⟩ => ⟨S2x1024x704, .f32⟩
  | .hbm, ⟨44, _⟩ => ⟨S_, .f32⟩
  | .hbm, ⟨45, _⟩ => ⟨S2x1024x704, .f32⟩
  | .hbm, ⟨46, _⟩ => ⟨S2x1024x704, .f32⟩
  | _, _ => ⟨S8x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel22.lean ====
abbrev S8x352x1024 : Shape := ⟨3, ![8, 352, 1024]⟩
abbrev S2x352x1024 : Shape := ⟨3, ![2, 352, 1024]⟩
abbrev S1x352x1024 : Shape := ⟨3, ![1, 352, 1024]⟩
abbrev S352x1024 : Shape := ⟨2, ![352, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S2x352x1024, .f32⟩
  | .local _ .vmem, ⟨0, _⟩ => ⟨S8x352x1024, .bf16⟩
  | .local _ .vmem, ⟨1, _⟩ => ⟨S8x352x1024, .bf16⟩
  | .local _ .vmem, ⟨2, _⟩ => ⟨S8x352x1024, .bf16⟩
  | .local _ .vmem, ⟨3, _⟩ => ⟨S8x352x1024, .bf16⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | .local _ .vmem, ⟨16, _⟩ => ⟨S1x352x1024, .f32⟩
  | .local _ .vmem, ⟨17, _⟩ => ⟨S1x352x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference22Ideal.lean ====
abbrev S8x352x1024 : Shape := ⟨3, ![8, 352, 1024]⟩
abbrev S2x352x1024 : Shape := ⟨3, ![2, 352, 1024]⟩
abbrev S_ : Shape := ⟨0, ![]⟩
abbrev S352x1024 : Shape := ⟨2, ![352, 1024]⟩
abbrev S1x352x1024 : Shape := ⟨3, ![1, 352, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S8x352x1024, .f32⟩
  | .hbm, ⟨6, _⟩ => ⟨S_, .f32⟩
  | .hbm, ⟨7, _⟩ => ⟨S352x1024, .f32⟩
  | .hbm, ⟨8, _⟩ => ⟨S8x352x1024, .f32⟩
  | .hbm, ⟨9, _⟩ => ⟨S_, .f32⟩
  | .hbm, ⟨10, _⟩ => ⟨S352x1024, .f32⟩
  | .hbm, ⟨11, _⟩ => ⟨S1x352x1024, .f32⟩
  | .hbm, ⟨12, _⟩ => ⟨S1x352x1024, .f32⟩
  | .hbm, ⟨13, _⟩ => ⟨S2x352x1024, .f32⟩
  | .hbm, ⟨14, _⟩ => ⟨S_, .f32⟩
  | .hbm, ⟨15, _⟩ => ⟨S2x352x1024, .f32⟩
  | .hbm, ⟨16, _⟩ => ⟨S2x352x1024, .f32⟩
  | .hbm, ⟨17, _⟩ => ⟨S_, .f32⟩
  | .hbm, ⟨18, _⟩ => ⟨S2x352x1024, .f32⟩
  | .hbm, ⟨19, _⟩ => ⟨S2x352x1024, .f32⟩
  | .hbm, ⟨20, _⟩ => ⟨S2x352x1024, .f32⟩
  | .hbm, ⟨21, _⟩ => ⟨S_, .f32⟩
  | .hbm, ⟨22, _⟩ => ⟨S2x352x1024, .f32⟩
  | .hbm, ⟨23, _⟩ => ⟨S2x352x1024, .f32⟩
  | .hbm, ⟨24, _⟩ => ⟨S2x352x1024, .f32⟩
  | .hbm, ⟨25, _⟩ => ⟨S_, .f32⟩
  | .hbm, ⟨26, _⟩ => ⟨S2x352x1024, .f32⟩
  | .hbm, ⟨27, _⟩ => ⟨S2x352x1024, .f32⟩
  | .hbm, ⟨28, _⟩ => ⟨S2x352x1024, .f32⟩
  | .hbm, ⟨29, _⟩ => ⟨S_, .f32⟩
  | .hbm, ⟨30, _⟩ => ⟨S2x352x1024, .f32⟩
  | .hbm, ⟨31, _⟩ => ⟨S2x352x1024, .f32⟩
  | .hbm, ⟨32, _⟩ => ⟨S_, .f32⟩
  | .hbm, ⟨33, _⟩ => ⟨S2x352x1024, .f32⟩
  | .hbm, ⟨34, _⟩ => ⟨S2x352x1024, .f32⟩
  | .hbm, ⟨35, _⟩ => ⟨S2x352x1024, .f32⟩
  | .hbm, ⟨36, _⟩ => ⟨S_, .f32⟩
  | .hbm, ⟨37, _⟩ => ⟨S2x352x1024, .f32⟩
  | .hbm, ⟨38, _⟩ => ⟨S2x352x1024, .f32⟩
  | .hbm, ⟨39, _⟩ => ⟨S2x352x1024, .f32⟩
  | .hbm, ⟨40, _⟩ => ⟨S_, .f32⟩
  | .hbm, ⟨41, _⟩ => ⟨S2x352x1024, .f32⟩
  | .hbm, ⟨42, _⟩ => ⟨S2x352x1024, .f32⟩
  | .hbm, ⟨43, _⟩ => ⟨S2x352x1024, .f32⟩
  | .hbm, ⟨44, _⟩ => ⟨S_, .f32⟩
  | .hbm, ⟨45, _⟩ => ⟨S2x352x1024, .f32⟩
  | .hbm, ⟨46, _⟩ => ⟨S2x352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel23.lean ====
abbrev S1x32x1024 : Shape := ⟨3, ![1, 32, 1024]⟩
abbrev S32x1024 : Shape := ⟨2, ![32, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x32x1024, .f32⟩
  | .hbm, ⟨1, _⟩ => ⟨S1x32x1024, .f32⟩
  | .hbm, ⟨2, _⟩ => ⟨S1x32x1024, .f32⟩
  | .hbm, ⟨3, _⟩ => ⟨S1x32x1024, .f32⟩
  | .hbm, ⟨4, _⟩ => ⟨S1x32x1024, .f32⟩
  | .hbm, ⟨5, _⟩ => ⟨S1x32x1024, .f32⟩
  | .hbm, ⟨6, _⟩ => ⟨S1x32x1024, .f32⟩
  | .hbm, ⟨7, _⟩ => ⟨S1x32x1024, .f32⟩
  | .local _ .vmem, ⟨0, _⟩ => ⟨S1x32x1024, .f32⟩
  | .local _ .vmem, ⟨1, _⟩ => ⟨S1x32x1024, .f32⟩
  | .local _ .vmem, ⟨2, _⟩ => ⟨S1x32x1024, .f32⟩
  | .local _ .vmem, ⟨3, _⟩ => ⟨S1x32x1024, .f32⟩
  | .local _ .vmem, ⟨4, _⟩ => ⟨S1x32x1024, .f32⟩
  | .local _ .vmem, ⟨5, _⟩ => ⟨S1x32x1024, .f32⟩
  | .local _ .vmem, ⟨6, _⟩ => ⟨S1x32x1024, .f32⟩
  | .local _ .vmem, ⟨7, _⟩ => ⟨S1x32x1024, .f32⟩
  | _, _ => ⟨S1x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x32x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference23Ideal.lean ====
abbrev S1x32x1024 : Shape := ⟨3, ![1, 32, 1024]⟩
abbrev S_ : Shape := ⟨0, ![]⟩
abbrev S32x1024 : Shape := ⟨2, ![32, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1x32x1024, .f32⟩
  | .hbm, ⟨1, _⟩ => ⟨S1x32x1024, .f32⟩
  | .hbm, ⟨2, _⟩ => ⟨S1x32x1024, .f32⟩
  | .hbm, ⟨3, _⟩ => ⟨S1x32x1024, .f32⟩
  | .hbm, ⟨4, _⟩ => ⟨S_, .f32⟩
  | .hbm, ⟨5, _⟩ => ⟨S32x1024, .f32⟩
  | .hbm, ⟨6, _⟩ => ⟨S1x32x1024, .f32⟩
  | .hbm, ⟨7, _⟩ => ⟨S_, .f32⟩
  | .hbm, ⟨8, _⟩ => ⟨S1x32x1024, .f32⟩
  | .hbm, ⟨9, _⟩ => ⟨S1x32x1024, .f32⟩
  | .hbm, ⟨10, _⟩ => ⟨S_, .f32⟩
  | .hbm, ⟨11, _⟩ => ⟨S1x32x1024, .f32⟩
  | .hbm, ⟨12, _⟩ => ⟨S1x32x1024, .f32⟩
  | .hbm, ⟨13, _⟩ => ⟨S1x32x1024, .f32⟩
  | .hbm, ⟨14, _⟩ => ⟨S_, .f32⟩
  | .hbm, ⟨15, _⟩ => ⟨S1x32x1024, .f32⟩
  | .hbm, ⟨16, _⟩ => ⟨S1x32x1024, .f32⟩
  | .hbm, ⟨17, _⟩ => ⟨S1x32x1024, .f32⟩
  | .hbm, ⟨18, _⟩ => ⟨S_, .f32⟩
  | .hbm, ⟨19, _⟩ => ⟨S1x32x1024, .f32⟩
  | .hbm, ⟨20, _⟩ => ⟨S1x32x1024, .f32⟩
  | .hbm, ⟨21, _⟩ => ⟨S1x32x1024, .f32⟩
  | .hbm, ⟨22, _⟩ => ⟨S_, .f32⟩
  | .hbm, ⟨23, _⟩ => ⟨S1x32x1024, .f32⟩
  | .hbm, ⟨24, _⟩ => ⟨S1x32x1024, .f32⟩
  | .hbm, ⟨25, _⟩ => ⟨S_, .f32⟩
  | .hbm, ⟨26, _⟩ => ⟨S1x32x1024, .f32⟩
  | .hbm, ⟨27, _⟩ => ⟨S1x32x1024, .f32⟩
  | .hbm, ⟨28, _⟩ => ⟨S1x32x1024, .f32⟩
  | .hbm, ⟨29, _⟩ => ⟨S_, .f32⟩
  | .hbm, ⟨30, _⟩ => ⟨S1x32x1024, .f32⟩
  | .hbm, ⟨31, _⟩ => ⟨S1x32x1024, .f32⟩
  | .hbm, ⟨32, _⟩ => ⟨S1x32x1024, .f32⟩
  | .hbm, ⟨33, _⟩ => ⟨S_, .f32⟩
  | .hbm, ⟨34, _⟩ => ⟨S1x32x1024, .f32⟩
  | .hbm, ⟨35, _⟩ => ⟨S1x32x1024, .f32⟩
  | .hbm, ⟨36, _⟩ => ⟨S1x32x1024, .f32⟩
  | .hbm, ⟨37, _⟩ => ⟨S_, .f32⟩
  | .hbm, ⟨38, _⟩ => ⟨S1x32x1024, .f32⟩
  | .hbm, ⟨39, _⟩ => ⟨S1x32x1024, .f32⟩
  | _, _ => ⟨S1x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel24.lean ====
abbrev S8x64x1024 : Shape := ⟨3, ![8, 64, 1024]⟩
abbrev S64x1024 : Shape := ⟨2, ![64, 1024]⟩
abbrev S1x64x1024 : Shape := ⟨3, ![1, 64, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x64x1024, .f32⟩
  | .hbm, ⟨1, _⟩ => ⟨S64x1024, .f32⟩
  | .local _ .vmem, ⟨0, _⟩ => ⟨S8x64x1024, .f32⟩
  | .local _ .vmem, ⟨1, _⟩ => ⟨S64x1024, .f32⟩
  | _, _ => ⟨S8x64x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference24Ideal.lean ====
abbrev S8x64x1024 : Shape := ⟨3, ![8, 64, 1024]⟩
abbrev S_ : Shape := ⟨0, ![]⟩
abbrev S64x1024 : Shape := ⟨2, ![64, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x64x1024, .f32⟩
  | .hbm, ⟨1, _⟩ => ⟨S_, .f32⟩
  | .hbm, ⟨2, _⟩ => ⟨S64x1024, .f32⟩
  | _, _ => ⟨S8x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel25.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v39 : BitVec 1 := Scalar.cmpi .eq arg0 c0_i32
  let v40 : BitVec 32 := Scalar.extui v39
  let c0_i32_16 : BitVec 32 := 0#32
  let v41 : BitVec 1 := Scalar.cmpi .ne v40 c0_i32_16
  v41

def k0_cond2 (i : grid0.Coords) : BitVec 1 :=
  let arg0 : BitVec 32 := BitVec.ofNat 32 (i 0).val
  let c0_i32_17 : BitVec 32 := 0#32
  let v42 : BitVec 1 := Scalar.cmpi .sgt arg0 c0_i32_17
  let v43 : BitVec 32 := Scalar.extui v42
  let c0_i32_18 : BitVec 32 := 0#32
  let v44 : BitVec 1 := Scalar.cmpi .ne v43 c0_i32_18
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference25Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel26.lean ====
abbrev S8192x1024 : Shape := ⟨2, ![8192, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1, .f32⟩
  | .hbm, ⟨3, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_9 : BitVec 32 := 0#32
  let v17 : BitVec 1 := Scalar.cmpi .ne v16 c0_i32_9
  v17

def k0_cond2 (i : grid0.Coords) : BitVec 1 :=
  let arg0 : BitVec 32 := BitVec.ofNat 32 (i 0).val
  let c0_i32_10 : BitVec 32 := 0#32
  let v18 : BitVec 1 := Scalar.cmpi .sgt arg0 c0_i32_10
  let v19 : BitVec 32 := Scalar.extui v18
  let c0_i32_11 : BitVec 32 := 0#32
  let v20 : BitVec 1 := Scalar.cmpi .ne v19 c0_i32_11
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference26Ideal.lean ====
abbrev S8192x1024 : Shape := ⟨2, ![8192, 1024]⟩
abbrev S_ : Shape := ⟨0, ![]⟩
abbrev S8192 : Shape := ⟨1, ![8192]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | .hbm, ⟨25, _⟩ => ⟨S1x1, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Proof.Conds.lean ====
/-
  What the runs of the ideal kernel's body share: the body's branch conditions over the grid's points, the windows that are never idle,
  and the staging memrefs of a point.
-/
module

public import proofs.«01_k».proof.Proof.Gen.KernelIdeal.Frame
public import proofs.«01_k».proof.Proof.Gen.KernelIdeal.Skeleton
public import proofs.«01_k».proof.Proof.Gen.KernelIdeal.Points

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

/-- The condition of the body's `scf.if` 0 (`k0_h1`), from the grid coordinates (its scalar chain substituted). -/
abbrev cond0_0 (i : grid0.Coords) : Prop := k0_cond1 i = 1#1
/-- It holds at the points whose coordinates have i1 = 0 — by arithmetic of the point. -/
theorem hcond0_0 : ∀ t : Fin cfg0.N, cond0_0 (grid0.coords t) ↔ t.val / 4 % 8 = 0 :=
  (fun t => by
    have ht : t.val < 128 := Nat.lt_of_lt_of_eq t.isLt N_0
    have e0 : (grid0.coords t 0).val = t.val / 32 % 4 := Pipeline.Grid.coords_val t 0 (by decide) rfl
    have e1 : (grid0.coords t 1).val = t.val / 4 % 8 := Pipeline.Grid.coords_val t 1 (by decide) rfl
    have e2 : (grid0.coords t 2).val = t.val / 1 % 4 := Pipeline.Grid.coords_val t 2 (by decide) rfl
    simp only [cond0_0, k0_cond1, e0, e1, e2]
    word_cmp
   : ∀ t : Fin grid0.N, cond0_0 (grid0.coords t) ↔ t.val / 4 % 8 = 0)

/-- The condition of the body's `scf.if` 1 (`k0_h2`), from the grid coordinates (its scalar chain substituted). -/
abbrev cond0_1 (i : grid0.Coords) : Prop := k0_cond2 i = 1#1
/-- It holds at the points whose coordinates have 1 ≤ i1 — decided over the grid. -/
theorem hcond0_1 : ∀ t : Fin cfg0.N, cond0_1 (grid0.coords t) ↔ 1 ≤ t.val / 4 % 8 :=
  (by decide +kernel : ∀ t : Fin grid0.N, cond0_1 (grid0.coords t) ↔ 1 ≤ t.val / 4 % 8)

/-- The condition of the body's `scf.if` 2 (`k0_h3`), from the grid coordinates (its scalar chain substituted). -/
abbrev cond0_2 (i : grid0.Coords) : Prop := k0_cond3 i = 1#1
/-- It holds at the points ≡ 0 (mod 4) — by arithmetic of the point. -/
theorem hcond0_2 : ∀ t : Fin cfg0.N, cond0_2 (grid0.coords t) ↔ t.val % 4 = 0 :=
  (fun t => by
    have ht : t.val < 128 := Nat.lt_of_lt_of_eq t.isLt N_0
    have e0 : (grid0.coords t 0).val = t.val / 32 % 4 := Pipeline.Grid.coords_val t 0 (by decide) rfl
    have e1 : (grid0.coords t 1).val = t.val / 4 % 8 := Pipeline.Grid.coords_val t 1 (by decide) rfl
    have e2 : (grid0.coords t 2).val = t.val / 1 % 4 := Pipeline.Grid.coords_val t 2 (by decide) rfl
    simp only [cond0_2, k0_cond3, e0, e1, e2]
    word_cmp
   : ∀ t : Fin grid0.N, cond0_2 (grid0.coords t) ↔ t.val % 4 = 0)

/-- The condition of the body's `scf.if` 3 (`k0_h4`), from the grid coordinates (its scalar chain substituted). -/
abbrev cond0_3 (i : grid0.Coords) : Prop := k0_cond4 i = 1#1
/-- It holds at the points whose coordinates have 1 ≤ i2 — decided over the grid. -/
theorem hcond0_3 : ∀ t : Fin cfg0.N, cond0_3 (grid0.coords t) ↔ 1 ≤ t.val % 4 :=
  (by decide +kernel : ∀ t : Fin grid0.N, cond0_3 (grid0.coords t) ↔ 1 ≤ t.val % 4)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl

/-- Each window's current staging memref at point `t`, spelled as the pipeline passes it (`bodyAt0`), and its wholeness. -/
abbrev ms0_0 (t : Fin cfg0.N) : Memref sig .tc .vmem S1024x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8192x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x128 .f32 := win0_8.stage (cfg0.slots t 8)
abbrev hs0_8 (t : Fin cfg0.N) : (ms0_8 t).IsWhole := hstage0_8 ((cfg0.slots t 8).cast nbuf0_8)

end Cert.KernelIdeal.Hand

end
-- ==== Proof.Rows.lean ====
/-
  How a store of 2048 whole rows changes the block of dq: inside the rows it leaves its payload, outside it leaves what was there.
-/
module

public import proofs.«01_k».proof.Proof.Conds
public import Idealize.ShloMosaic.Lib.VecWindow
public import Idealize.ShloMosaic.Lib.WritesUnit
public import Idealize.ShloMosaic.Lib.WholeRead

@[expose] public section

noncomputable section

namespace Cert.KernelIdeal.Hand

open Cert.KernelIdeal Cert.KernelIdeal.Gen
open Idealize.ShloMosaic Idealize.ShloMosaic.TcCoe

variable {F : FTy → Type} [FloatOps F]

theorem hz : (![0, 0] : Fin 2 → Nat) = fun _ => 0 := funext fun a => by fin_cases a <;> rfl

theorem hz3 : (![0, 0, 0] : Fin 3 → Nat) = fun _ => 0 := funext fun a => by fin_cases a <;> rfl

/-- `X` is `Y` with the rows from `2048 * n` on replaced by the tile `T`. -/
def Put (n : ℕ) (X Y : Vec F S8192x128 .f32) (T : Vec F S2048x128 .f32) : Prop :=
  (∀ (y : S8192x128.Idx) (x : S2048x128.Idx), (y 0).val = 2048 * n + (x 0).val → (y 1).val = (x 1).val → X y = T x) ∧
  ∀ y : S8192x128.Idx, (y 0).val < 2048 * n ∨ 2048 * n + 2048 ≤ (y 0).val → X y = Y y

/-- One store of 2048 rows into a whole buffer that read `Y` puts its payload over those rows. -/
theorem put_of_writes {κ : Kind} {sp : Space} (v : View sig κ sp S8192x128 .f32) (f : v.ty.Contents (Elt F)) (n : ℕ)
    (off : Fin 2 → ℕ) (hoff : off = ![2048 * n, 0]) (inb : ∀ a, off a + S2048x128.size a ≤ S8192x128.size a)
    (T : Vec F S2048x128 .f32) :
    Put (F := F) n (v.read (Elt F) (v.writes (Elt F) f [⟨Rect.unit (s := S8192x128) off S2048x128.size inb, T⟩])) (v.read (Elt F) f) T :=
  ⟨fun y x h0 h1 => View.read_writes_cons_rows_of_mem v f inb T [] y x hoff h0 h1,
    fun y h => View.read_writes_cons_rows_of_not_mem v f inb T [] y hoff rfl h⟩

end Cert.KernelIdeal.Hand

end
-- ==== Proof.RunA.lean ====
/-
  The body of the ideal kernel at the first key tile, the first query tile: every output block is assigned.
  The run says what it leaves in the three output blocks, as a function of the input blocks and of what the output blocks held.
-/
module

public import proofs.«01_k».proof.Proof.Rows

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body at the first key tile, the first query tile: every output block is assigned. -/
theorem run_A (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x2048x1 .f32) (harg8 : arg8.IsWhole) (arg9 : Memref sig .tc .vmem S8192x128 .f32) (harg9 : arg9.IsWhole) (arg10 : Memref sig .tc .vmem S1024x128 .f32) (harg10 : arg10.IsWhole) (arg11 : Memref sig .tc .vmem S1024x128 .f32) (harg11 : arg11.IsWhole) (hc0 : cond0_0 i) (hc1 : ¬cond0_1 i) (hc2 : cond0_2 i) (hc3 : ¬cond0_3 i)
    (x0 : Vec F S1024x128 .bf16) (x1 : Vec F S1024x128 .bf16) (x2 : Vec F S2048x128 .bf16) (x3 : Vec F S2048x128 .f32) (x4 : Vec F S2048x128 .f32) (x5 : Vec F S1x2048x1 .f32) (y6 : Vec F S8192x128 .f32) (y7 : Vec F S1024x128 .f32) (y8 : Vec F S1024x128 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare y6 ∗ owns (c : Thread nD τ) arg10 fullShare y7 ∗ owns (c : Thread nD τ) arg11 fullShare y8
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ X, ⌜Put (i 2).val X y6 (k0_pay2 x0 (k0_pay9 x0 x1 x2 x3 x4 x5))⌝ ∗ owns (c : Thread nD τ) arg9 fullShare X) ∗ owns (c : Thread nD τ) arg10 fullShare (k0_pay1 k0_pay6 x2 (k0_pay9 x0 x1 x2 x3 x4 x5)) ∗ owns (c : Thread nD τ) arg11 fullShare (k0_pay8 x0 x2 x3 x5)) -∗ K ⟨⟩))
          ⊢ wp frame (wpE (defs₀ (F := F)) Variants.none c none) E (cc0_l1_b_attn_b i arg3 harg3 arg4 harg4 arg5 harg5 arg6 harg6 arg7 harg7 arg8 harg8 arg9 harg9 arg10 harg10 arg11 harg11) K := by
    intro E K
    simp only [cc0_l1_b_attn_b_eq_skeleton]; unfold cc0_l1_b_attn_b_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; swap
      · iexists _; isplitr; swap; · iexact H6
        ipureintro; rfl
      ipureintro
      have h := put_of_writes arg9.view (harg9.unread y6) (i 2).val _ (k0_off1_eq i) (k0_off1_inb i hc0) (k0_pay2 x0 (k0_pay9 x0 x1 x2 x3 x4 x5))
      rw [harg9.read_unread] at h
      sl_unfold_words
      simp only [View.readAt_eq_ld, harg3.read_unread, harg4.read_unread, harg5.read_unread, harg6.read_unread, harg7.read_unread, harg8.read_unread, harg9.read_unread, harg10.read_unread, harg11.read_unread, View.ld_unit_zero (S := S1024x128) hz, View.ld_unit_zero (S := S2048x128) hz, View.ld_unit_zero (S := S1x2048x1) hz3]
      exact h
    isplitl [H7]
    · iexists _; isplitr; swap; · iexact H7
      ipureintro
      refine (View.read_writes_full _ _ _ _ _).trans ?_
      sl_unfold_words
      simp only [View.readAt_eq_ld, harg3.read_unread, harg4.read_unread, harg5.read_unread, harg6.read_unread, harg7.read_unread, harg8.read_unread, harg9.read_unread, harg10.read_unread, harg11.read_unread, View.ld_unit_zero (S := S1024x128) hz, View.ld_unit_zero (S := S2048x128) hz, View.ld_unit_zero (S := S1x2048x1) hz3]
    iexists _; isplitr; swap; · iexact H8
    ipureintro
    refine (View.read_writes_full _ _ _ _ _).trans ?_
    sl_unfold_words
    simp only [View.readAt_eq_ld, harg3.read_unread, harg4.read_unread, harg5.read_unread, harg6.read_unread, harg7.read_unread, harg8.read_unread, harg9.read_unread, harg10.read_unread, harg11.read_unread, View.ld_unit_zero (S := S1024x128) hz, View.ld_unit_zero (S := S2048x128) hz, View.ld_unit_zero (S := S1x2048x1) hz3]

end Cert.KernelIdeal.Hand

end
-- ==== Proof.RunB.lean ====
/-
  The body of the ideal kernel at the first key tile, a later query tile: the rows of dq are assigned, dk and dv are added to.
  The run says what it leaves in the three output blocks, as a function of the input blocks and of what the output blocks held.
-/
module

public import proofs.«01_k».proof.Proof.RunA

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body at the first key tile, a later query tile: the rows of dq are assigned, dk and dv are added to. -/
theorem run_B (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x2048x1 .f32) (harg8 : arg8.IsWhole) (arg9 : Memref sig .tc .vmem S8192x128 .f32) (harg9 : arg9.IsWhole) (arg10 : Memref sig .tc .vmem S1024x128 .f32) (harg10 : arg10.IsWhole) (arg11 : Memref sig .tc .vmem S1024x128 .f32) (harg11 : arg11.IsWhole) (hc0 : cond0_0 i) (hc1 : ¬cond0_1 i) (hc2 : ¬cond0_2 i) (hc3 : cond0_3 i)
    (x0 : Vec F S1024x128 .bf16) (x1 : Vec F S1024x128 .bf16) (x2 : Vec F S2048x128 .bf16) (x3 : Vec F S2048x128 .f32) (x4 : Vec F S2048x128 .f32) (x5 : Vec F S1x2048x1 .f32) (y6 : Vec F S8192x128 .f32) (y7 : Vec F S1024x128 .f32) (y8 : Vec F S1024x128 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare y6 ∗ owns (c : Thread nD τ) arg10 fullShare y7 ∗ owns (c : Thread nD τ) arg11 fullShare y8
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ X, ⌜Put (i 2).val X y6 (k0_pay2 x0 (k0_pay9 x0 x1 x2 x3 x4 x5))⌝ ∗ owns (c : Thread nD τ) arg9 fullShare X) ∗ owns (c : Thread nD τ) arg10 fullShare (k0_pay4 k0_pay6 x2 (k0_pay9 x0 x1 x2 x3 x4 x5) y7) ∗ owns (c : Thread nD τ) arg11 fullShare (k0_pay5 (k0_pay8 x0 x2 x3 x5) y8)) -∗ K ⟨⟩))
          ⊢ wp frame (wpE (defs₀ (F := F)) Variants.none c none) E (cc0_l1_b_attn_b i arg3 harg3 arg4 harg4 arg5 harg5 arg6 harg6 arg7 harg7 arg8 harg8 arg9 harg9 arg10 harg10 arg11 harg11) K := by
    intro E K
    simp only [cc0_l1_b_attn_b_eq_skeleton]; unfold cc0_l1_b_attn_b_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; swap
      · iexists _; isplitr; swap; · iexact H6
        ipureintro; rfl
      ipureintro
      have h := put_of_writes arg9.view (harg9.unread y6) (i 2).val _ (k0_off1_eq i) (k0_off1_inb i hc0) (k0_pay2 x0 (k0_pay9 x0 x1 x2 x3 x4 x5))
      rw [harg9.read_unread] at h
      sl_unfold_words
      simp only [View.readAt_eq_ld, harg3.read_unread, harg4.read_unread, harg5.read_unread, harg6.read_unread, harg7.read_unread, harg8.read_unread, harg9.read_unread, harg10.read_unread, harg11.read_unread, View.ld_unit_zero (S := S1024x128) hz, View.ld_unit_zero (S := S2048x128) hz, View.ld_unit_zero (S := S1x2048x1) hz3]
      exact h
    isplitl [H7]
    · iexists _; isplitr; swap; · iexact H7
      ipureintro
      refine (View.read_writes_full _ _ _ _ _).trans ?_
      sl_unfold_words
      simp only [View.readAt_eq_ld, harg3.read_unread, harg4.read_unread, harg5.read_unread, harg6.read_unread, harg7.read_unread, harg8.read_unread, harg9.read_unread, harg10.read_unread, harg11.read_unread, View.ld_unit_zero (S := S1024x128) hz, View.ld_unit_zero (S := S2048x128) hz, View.ld_unit_zero (S := S1x2048x1) hz3]
    iexists _; isplitr; swap; · iexact H8
    ipureintro
    refine (View.read_writes_full _ _ _ _ _).trans ?_
    sl_unfold_words
    simp only [View.readAt_eq_ld, harg3.read_unread, harg4.read_unread, harg5.read_unread, harg6.read_unread, harg7.read_unread, harg8.read_unread, harg9.read_unread, harg10.read_unread, harg11.read_unread, View.ld_unit_zero (S := S1024x128) hz, View.ld_unit_zero (S := S2048x128) hz, View.ld_unit_zero (S := S1x2048x1) hz3]

end Cert.KernelIdeal.Hand

end
-- ==== Proof.RunC.lean ====
/-
  The body of the ideal kernel at a later key tile, the first query tile: the rows of dq are added to, dk and dv are assigned.
  The run says what it leaves in the three output blocks, as a function of the input blocks and of what the output blocks held.
-/
module

public import proofs.«01_k».proof.Proof.RunB

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body at a later key tile, the first query tile: the rows of dq are added to, dk and dv are assigned. -/
theorem run_C (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x2048x1 .f32) (harg8 : arg8.IsWhole) (arg9 : Memref sig .tc .vmem S8192x128 .f32) (harg9 : arg9.IsWhole) (arg10 : Memref sig .tc .vmem S1024x128 .f32) (harg10 : arg10.IsWhole) (arg11 : Memref sig .tc .vmem S1024x128 .f32) (harg11 : arg11.IsWhole) (hc0 : ¬cond0_0 i) (hc1 : cond0_1 i) (hc2 : cond0_2 i) (hc3 : ¬cond0_3 i)
    (x0 : Vec F S1024x128 .bf16) (x1 : Vec F S1024x128 .bf16) (x2 : Vec F S2048x128 .bf16) (x3 : Vec F S2048x128 .f32) (x4 : Vec F S2048x128 .f32) (x5 : Vec F S1x2048x1 .f32) (y6 : Vec F S8192x128 .f32) (y7 : Vec F S1024x128 .f32) (y8 : Vec F S1024x128 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare y6 ∗ owns (c : Thread nD τ) arg10 fullShare y7 ∗ owns (c : Thread nD τ) arg11 fullShare y8
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ X, ⌜Put (i 2).val X y6 (k0_pay3 x0 (k0_pay9 x0 x1 x2 x3 x4 x5) (View.ld y6 (Rect.unit (s := S8192x128) (k0_off2 i) S2048x128.size (k0_off2_inb i hc1))))⌝ ∗ owns (c : Thread nD τ) arg9 fullShare X) ∗ owns (c : Thread nD τ) arg10 fullShare (k0_pay1 k0_pay6 x2 (k0_pay9 x0 x1 x2 x3 x4 x5)) ∗ owns (c : Thread nD τ) arg11 fullShare (k0_pay8 x0 x2 x3 x5)) -∗ K ⟨⟩))
          ⊢ wp frame (wpE (defs₀ (F := F)) Variants.none c none) E (cc0_l1_b_attn_b i arg3 harg3 arg4 harg4 arg5 harg5 arg6 harg6 arg7 harg7 arg8 harg8 arg9 harg9 arg10 harg10 arg11 harg11) K := by
    intro E K
    simp only [cc0_l1_b_attn_b_eq_skeleton]; unfold cc0_l1_b_attn_b_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; swap
      · iexists _; isplitr; swap; · iexact H6
        ipureintro; rfl
      ipureintro
      have h := put_of_writes arg9.view (harg9.unread y6) (i 2).val _ (k0_off2_eq i) (k0_off2_inb i hc1) (k0_pay3 x0 (k0_pay9 x0 x1 x2 x3 x4 x5) (View.ld y6 (Rect.unit (s := S8192x128) (k0_off2 i) S2048x128.size (k0_off2_inb i hc1))))
      rw [harg9.read_unread] at h
      sl_unfold_words
      simp only [View.readAt_eq_ld, harg3.read_unread, harg4.read_unread, harg5.read_unread, harg6.read_unread, harg7.read_unread, harg8.read_unread, harg9.read_unread, harg10.read_unread, harg11.read_unread, View.ld_unit_zero (S := S1024x128) hz, View.ld_unit_zero (S := S2048x128) hz, View.ld_unit_zero (S := S1x2048x1) hz3]
      exact h
    isplitl [H7]
    · iexists _; isplitr; swap; · iexact H7
      ipureintro
      refine (View.read_writes_full _ _ _ _ _).trans ?_
      sl_unfold_words
      simp only [View.readAt_eq_ld, harg3.read_unread, harg4.read_unread, harg5.read_unread, harg6.read_unread, harg7.read_unread, harg8.read_unread, harg9.read_unread, harg10.read_unread, harg11.read_unread, View.ld_unit_zero (S := S1024x128) hz, View.ld_unit_zero (S := S2048x128) hz, View.ld_unit_zero (S := S1x2048x1) hz3]
    iexists _; isplitr; swap; · iexact H8
    ipureintro
    refine (View.read_writes_full _ _ _ _ _).trans ?_
    sl_unfold_words
    simp only [View.readAt_eq_ld, harg3.read_unread, harg4.read_unread, harg5.read_unread, harg6.read_unread, harg7.read_unread, harg8.read_unread, harg9.read_unread, harg10.read_unread, harg11.read_unread, View.ld_unit_zero (S := S1024x128) hz, View.ld_unit_zero (S := S2048x128) hz, View.ld_unit_zero (S := S1x2048x1) hz3]

end Cert.KernelIdeal.Hand

end
-- ==== Proof.RunD.lean ====
/-
  The body of the ideal kernel at a later key tile, a later query tile: every output block is added to.
  The run says what it leaves in the three output blocks, as a function of the input blocks and of what the output blocks held.
-/
module

public import proofs.«01_k».proof.Proof.RunC

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body at a later key tile, a later query tile: every output block is added to. -/
theorem run_D (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x2048x1 .f32) (harg8 : arg8.IsWhole) (arg9 : Memref sig .tc .vmem S8192x128 .f32) (harg9 : arg9.IsWhole) (arg10 : Memref sig .tc .vmem S1024x128 .f32) (harg10 : arg10.IsWhole) (arg11 : Memref sig .tc .vmem S1024x128 .f32) (harg11 : arg11.IsWhole) (hc0 : ¬cond0_0 i) (hc1 : cond0_1 i) (hc2 : ¬cond0_2 i) (hc3 : cond0_3 i)
    (x0 : Vec F S1024x128 .bf16) (x1 : Vec F S1024x128 .bf16) (x2 : Vec F S2048x128 .bf16) (x3 : Vec F S2048x128 .f32) (x4 : Vec F S2048x128 .f32) (x5 : Vec F S1x2048x1 .f32) (y6 : Vec F S8192x128 .f32) (y7 : Vec F S1024x128 .f32) (y8 : Vec F S1024x128 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare y6 ∗ owns (c : Thread nD τ) arg10 fullShare y7 ∗ owns (c : Thread nD τ) arg11 fullShare y8
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ X, ⌜Put (i 2).val X y6 (k0_pay3 x0 (k0_pay9 x0 x1 x2 x3 x4 x5) (View.ld y6 (Rect.unit (s := S8192x128) (k0_off2 i) S2048x128.size (k0_off2_inb i hc1))))⌝ ∗ owns (c : Thread nD τ) arg9 fullShare X) ∗ owns (c : Thread nD τ) arg10 fullShare (k0_pay4 k0_pay6 x2 (k0_pay9 x0 x1 x2 x3 x4 x5) y7) ∗ owns (c : Thread nD τ) arg11 fullShare (k0_pay5 (k0_pay8 x0 x2 x3 x5) y8)) -∗ K ⟨⟩))
          ⊢ wp frame (wpE (defs₀ (F := F)) Variants.none c none) E (cc0_l1_b_attn_b i arg3 harg3 arg4 harg4 arg5 harg5 arg6 harg6 arg7 harg7 arg8 harg8 arg9 harg9 arg10 harg10 arg11 harg11) K := by
    intro E K
    simp only [cc0_l1_b_attn_b_eq_skeleton]; unfold cc0_l1_b_attn_b_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; swap
      · iexists _; isplitr; swap; · iexact H6
        ipureintro; rfl
      ipureintro
      have h := put_of_writes arg9.view (harg9.unread y6) (i 2).val _ (k0_off2_eq i) (k0_off2_inb i hc1) (k0_pay3 x0 (k0_pay9 x0 x1 x2 x3 x4 x5) (View.ld y6 (Rect.unit (s := S8192x128) (k0_off2 i) S2048x128.size (k0_off2_inb i hc1))))
      rw [harg9.read_unread] at h
      sl_unfold_words
      simp only [View.readAt_eq_ld, harg3.read_unread, harg4.read_unread, harg5.read_unread, harg6.read_unread, harg7.read_unread, harg8.read_unread, harg9.read_unread, harg10.read_unread, harg11.read_unread, View.ld_unit_zero (S := S1024x128) hz, View.ld_unit_zero (S := S2048x128) hz, View.ld_unit_zero (S := S1x2048x1) hz3]
      exact h
    isplitl [H7]
    · iexists _; isplitr; swap; · iexact H7
      ipureintro
      refine (View.read_writes_full _ _ _ _ _).trans ?_
      sl_unfold_words
      simp only [View.readAt_eq_ld, harg3.read_unread, harg4.read_unread, harg5.read_unread, harg6.read_unread, harg7.read_unread, harg8.read_unread, harg9.read_unread, harg10.read_unread, harg11.read_unread, View.ld_unit_zero (S := S1024x128) hz, View.ld_unit_zero (S := S2048x128) hz, View.ld_unit_zero (S := S1x2048x1) hz3]
    iexists _; isplitr; swap; · iexact H8
    ipureintro
    refine (View.read_writes_full _ _ _ _ _).trans ?_
    sl_unfold_words
    simp only [View.readAt_eq_ld, harg3.read_unread, harg4.read_unread, harg5.read_unread, harg6.read_unread, harg7.read_unread, harg8.read_unread, harg9.read_unread, harg10.read_unread, harg11.read_unread, View.ld_unit_zero (S := S1024x128) hz, View.ld_unit_zero (S := S2048x128) hz, View.ld_unit_zero (S := S1x2048x1) hz3]

end Cert.KernelIdeal.Hand

end
-- ==== Proof.Acc.lean ====
/-
  What the three output blocks of the ideal kernel hold along the grid.

  A grid point is `32 * g + 4 * j + i`: head `g`, key tile `j`, query tile `i`. The block of dk (and of dv) of a key tile is summed over
  the query tiles, which are the last axis; the block of dq of a head stays for the head's 32 points, and its rows of query tile `i`
  are summed over the key tiles, in steps of four points.
-/
module

public import proofs.«01_k».proof.Proof.Rows

@[expose] public section

noncomputable section

namespace Cert.KernelIdeal.Hand

open Cert.KernelIdeal Cert.KernelIdeal.Gen
open Idealize.ShloMosaic Idealize.ShloMosaic.TcCoe

variable {F : FTy → Type} [FloatOps F] [Named F]

variable (m : (ℓ : Loc nD τ sig) → Buf (Elt F) ℓ)

/-- The grid point of a number. -/
def pt (n : ℕ) : Fin cfg0.N := ⟨n % 128, Nat.lt_of_lt_of_eq (Nat.mod_lt _ (by decide)) N_0.symm⟩

theorem pt_val (t : Fin cfg0.N) : pt t.val = t := by
  have ht : t.val < 128 := Nat.lt_of_lt_of_eq t.isLt N_0
  exact Fin.ext (Nat.mod_eq_of_lt ht)

theorem pt_of_eq {n : ℕ} {t : Fin cfg0.N} (h : n = t.val) : pt n = t := by rw [h, pt_val]

/-- The blocks that the body reads at a point. -/
abbrev kB (c : Dev nD) (t : Fin cfg0.N) : Vec F S1024x128 .bf16 := iblk m c 0 t
abbrev vB (c : Dev nD) (t : Fin cfg0.N) : Vec F S1024x128 .bf16 := iblk m c 1 t
abbrev qB (c : Dev nD) (t : Fin cfg0.N) : Vec F S2048x128 .bf16 := iblk m c 2 t
abbrev doB (c : Dev nD) (t : Fin cfg0.N) : Vec F S2048x128 .f32 := iblk m c 3 t
abbrev oB (c : Dev nD) (t : Fin cfg0.N) : Vec F S2048x128 .f32 := iblk m c 4 t
abbrev lseB (c : Dev nD) (t : Fin cfg0.N) : Vec F S1x2048x1 .f32 := iblk m c 5 t

/-- The tile of the gradient of the scores at a point, and its share of dv. -/
def dsT (c : Dev nD) (t : Fin cfg0.N) : FVec F S2048x1024 .f32 :=
  k0_pay9 (kB m c t) (vB m c t) (qB m c t) (doB m c t) (oB m c t) (lseB m c t)
def dvT (c : Dev nD) (t : Fin cfg0.N) : FVec F S1024x128 .f32 := k0_pay8 (kB m c t) (qB m c t) (doB m c t) (lseB m c t)

/-- dk's block after `i + 1` query tiles, from point `b` on. -/
def accK (c : Dev nD) (b : ℕ) : ℕ → Vec F S1024x128 .f32
  | 0 => k0_pay1 k0_pay6 (qB m c (pt b)) (dsT m c (pt b))
  | i + 1 => k0_pay4 k0_pay6 (qB m c (pt (b + (i + 1)))) (dsT m c (pt (b + (i + 1)))) (accK c b i)

/-- dv's block after `i + 1` query tiles, from point `b` on. -/
def accV (c : Dev nD) (b : ℕ) : ℕ → Vec F S1024x128 .f32
  | 0 => dvT m c (pt b)
  | i + 1 => k0_pay5 (dvT m c (pt (b + (i + 1)))) (accV c b i)

/-- A query tile of dq after `j + 1` key tiles, from point `b` on. -/
def accQ (c : Dev nD) (b : ℕ) : ℕ → Vec F S2048x128 .f32
  | 0 => k0_pay2 (kB m c (pt b)) (dsT m c (pt b))
  | j + 1 => k0_pay3 (kB m c (pt (b + 4 * (j + 1)))) (dsT m c (pt (b + 4 * (j + 1)))) (accQ c b j)

/-- The rows of query tile `n` of a block of dq are the tile `T`. -/
def RowsAre (n : ℕ) (X : Vec F S8192x128 .f32) (T : Vec F S2048x128 .f32) : Prop :=
  ∀ (y : S8192x128.Idx) (x : S2048x128.Idx), (y 0).val = 2048 * n + (x 0).val → (y 1).val = (x 1).val → X y = T x

/-- What the block of dq is known to hold after point `t`: the query tiles that the head's last four points have written. -/
def QIs (c : Dev nD) (t : ℕ) (X : Vec F S8192x128 .f32) : Prop :=
  ∀ n, n ≤ t → t < n + 4 → n / 32 = t / 32 → RowsAre (n % 4) X (accQ m c (n / 32 * 32 + n % 4) (n / 4 % 8))

/-- A load of rows that are `T` reads `T`. -/
theorem ld_rows {n : ℕ} {X : Vec F S8192x128 .f32} {T : Vec F S2048x128 .f32} (h : RowsAre n X T) (off : Fin 2 → ℕ) (hoff : off = ![2048 * n, 0])
    (inb : ∀ a, off a + S2048x128.size a ≤ S8192x128.size a) : View.ld X (Rect.unit (s := S8192x128) off S2048x128.size inb) = T := by
  subst hoff
  funext x
  refine h _ x ?_ ?_
  · show 2048 * n + 1 * (x 0).val = _
    omega
  · show 0 + 1 * (x 1).val = _
    omega

theorem accK_zero (c : Dev nD) (t : Fin cfg0.N) (h : t.val % 4 = 0) :
    k0_pay1 k0_pay6 (qB m c t) (dsT m c t) = accK m c (t.val / 4 * 4) (t.val % 4) := by
  rw [h]; unfold accK; rw [pt_of_eq (t := t) (by omega)]

theorem accK_succ (c : Dev nD) (t : Fin cfg0.N) (h : 1 ≤ t.val % 4) :
    k0_pay4 k0_pay6 (qB m c t) (dsT m c t) (accK m c ((t.val - 1) / 4 * 4) ((t.val - 1) % 4)) = accK m c (t.val / 4 * 4) (t.val % 4) := by
  obtain ⟨i, hi⟩ : ∃ i, t.val % 4 = i + 1 := ⟨t.val % 4 - 1, by omega⟩
  rw [hi, show (t.val - 1) / 4 * 4 = t.val / 4 * 4 by omega, show (t.val - 1) % 4 = i by omega]
  show _ = k0_pay4 k0_pay6 (qB m c (pt (t.val / 4 * 4 + (i + 1)))) (dsT m c (pt (t.val / 4 * 4 + (i + 1)))) (accK m c (t.val / 4 * 4) i)
  rw [pt_of_eq (t := t) (by omega)]

theorem accV_zero (c : Dev nD) (t : Fin cfg0.N) (h : t.val % 4 = 0) : dvT m c t = accV m c (t.val / 4 * 4) (t.val % 4) := by
  rw [h]; unfold accV; rw [pt_of_eq (t := t) (by omega)]

theorem accV_succ (c : Dev nD) (t : Fin cfg0.N) (h : 1 ≤ t.val % 4) :
    k0_pay5 (dvT m c t) (accV m c ((t.val - 1) / 4 * 4) ((t.val - 1) % 4)) = accV m c (t.val / 4 * 4) (t.val % 4) := by
  obtain ⟨i, hi⟩ : ∃ i, t.val % 4 = i + 1 := ⟨t.val % 4 - 1, by omega⟩
  rw [hi, show (t.val - 1) / 4 * 4 = t.val / 4 * 4 by omega, show (t.val - 1) % 4 = i by omega]
  show _ = k0_pay5 (dvT m c (pt (t.val / 4 * 4 + (i + 1)))) (accV m c (t.val / 4 * 4) i)
  rw [pt_of_eq (t := t) (by omega)]

theorem accQ_zero (c : Dev nD) (t : Fin cfg0.N) (h : t.val / 4 % 8 = 0) :
    k0_pay2 (kB m c t) (dsT m c t) = accQ m c (t.val / 32 * 32 + t.val % 4) (t.val / 4 % 8) := by
  rw [h]; unfold accQ; rw [pt_of_eq (t := t) (by omega)]

theorem accQ_succ (c : Dev nD) (t : Fin cfg0.N) (h : 1 ≤ t.val / 4 % 8) :
    k0_pay3 (kB m c t) (dsT m c t) (accQ m c ((t.val - 4) / 32 * 32 + (t.val - 4) % 4) ((t.val - 4) / 4 % 8))
      = accQ m c (t.val / 32 * 32 + t.val % 4) (t.val / 4 % 8) := by
  obtain ⟨j, hj⟩ : ∃ j, t.val / 4 % 8 = j + 1 := ⟨t.val / 4 % 8 - 1, by omega⟩
  rw [hj, show (t.val - 4) / 32 * 32 + (t.val - 4) % 4 = t.val / 32 * 32 + t.val % 4 by omega, show (t.val - 4) / 4 % 8 = j by omega]
  show _ = k0_pay3 (kB m c (pt (t.val / 32 * 32 + t.val % 4 + 4 * (j + 1)))) (dsT m c (pt (t.val / 32 * 32 + t.val % 4 + 4 * (j + 1))))
    (accQ m c (t.val / 32 * 32 + t.val % 4) j)
  rw [pt_of_eq (t := t) (by omega)]

/-- After a store of the point's own query tile the block of dq holds what it should, if before it held what the point before left. -/
theorem qIs_of_put (c : Dev nD) (t : Fin cfg0.N) (X Y : Vec F S8192x128 .f32) (T : Vec F S2048x128 .f32) (h : Put (t.val % 4) X Y T)
    (hT : T = accQ m c (t.val / 32 * 32 + t.val % 4) (t.val / 4 % 8)) (hY : t.val % 32 ≠ 0 → QIs m c (t.val - 1) Y) : QIs m c t.val X := by
  intro n hn hlt h32
  by_cases e : n = t.val
  · subst e hT; exact h.1
  · intro y x h0 h1
    have hx : (x 0).val < 2048 := (x 0).isLt
    rw [h.2 y (by omega)]
    exact hY (by omega) n (by omega) (by omega) (by omega) y x h0 h1

/-- The rows that a later key tile adds to are the sum over the earlier ones. -/
theorem rows_before (c : Dev nD) (t : Fin cfg0.N) (Y : Vec F S8192x128 .f32) (h : 1 ≤ t.val / 4 % 8) (hY : QIs m c (t.val - 1) Y) :
    RowsAre (t.val % 4) Y (accQ m c ((t.val - 4) / 32 * 32 + (t.val - 4) % 4) ((t.val - 4) / 4 % 8)) := by
  have := hY (t.val - 4) (by omega) (by omega) (by omega)
  rwa [show (t.val - 4) % 4 = t.val % 4 by omega] at this ⊢

end Cert.KernelIdeal.Hand

end
-- ==== Proof.Body.lean ====
/-
  The launch of the ideal kernel with what its output blocks hold: the body's four cases keep the sums of Acc.lean, so at every final
  state the arguments are unchanged, the counters are zero, and every write-back of an output wrote such a sum.
-/
module

public import proofs.«01_k».proof.Proof.RunD
public import proofs.«01_k».proof.Proof.Acc
public import Idealize.ShloMosaic.Lib.Pipeline.DatRel
public import Idealize.ShloMosaic.Lib.Pipeline.ArrRel

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The output windows: dq, dk, dv. -/
def outs0 : Fin 9 → Bool := fun w => w.val == 6 || w.val == 7 || w.val == 8

/-- The inputs' blocks stay what they are; of the outputs the exact data name nothing (`Rl` does). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body leaves in an output's block at point `t`: the sums of Acc.lean. -/
def Rl (c : Dev nD) (w : Fin cfg0.W) (t : Fin cfg0.N) (X : (cfg0.win w).block.Idx → Elt F (cfg0.win w).elt) : Prop :=
  match w, X with
  | ⟨0, _⟩, _ => True
  | ⟨1, _⟩, _ => True
  | ⟨2, _⟩, _ => True
  | ⟨3, _⟩, _ => True
  | ⟨4, _⟩, _ => True
  | ⟨5, _⟩, _ => True
  | ⟨6, _⟩, X => QIs m c t.val X
  | ⟨7, _⟩, X => X = accK m c (t.val / 4 * 4) (t.val % 4)
  | ⟨8, _⟩, X => X = accV m c (t.val / 4 * 4) (t.val % 4)

/-- The proof data with the outputs held to `Rl`. -/
def rdat (c : Dev nD) : RDat τ (Elt F) Unit ℕ (UR sig nD τ) ℕ cfg0 c := (dats m 0 c).toRRel outs0 (Rl m c)

theorem coord2 (t : Fin cfg0.N) : (grid0.coords t 2).val = t.val % 4 :=
  by
  have e2 : (grid0.coords t 2).val = t.val / 1 % 4 := Pipeline.Grid.coords_val t 2 (by decide) rfl
  rw [e2, Nat.div_one]

/-- Inside a head's points the block of dq is found as the point before left it. -/
theorem finds6 (c : Dev nD) (t : Fin cfg0.N) (Y : Vec F S8192x128 .f32) (h : (rdat m c).Finds 6 t Y) (h0 : t.val % 32 ≠ 0) :
    QIs m c (t.val - 1) Y := by
  rcases ((rdat m c).finds_of_pos ((cfg0.win 6).fetch_out rfl t) (by omega) Y).mp h with hf | hl
  · have := (flush0_6 _).mp hf
    exact absurd this (by show ¬((t.val - 1) % 32 = 31); omega)
  · exact (dats m 0 c).toRRel_leaves (fgt := outs0) (Rl := Rl m c) (w := 6) rfl hl

/-- Inside a key tile's points the block of dk is found as the point before left it. -/
theorem finds7 (c : Dev nD) (t : Fin cfg0.N) (Y : Vec F S1024x128 .f32) (h : (rdat m c).Finds 7 t Y) (h0 : t.val % 4 ≠ 0) :
    Y = accK m c ((t.val - 1) / 4 * 4) ((t.val - 1) % 4) := by
  rcases ((rdat m c).finds_of_pos ((cfg0.win 7).fetch_out rfl t) (by omega) Y).mp h with hf | hl
  · have := (flush0_7 _).mp hf
    exact absurd this (by show ¬((t.val - 1) % 4 = 3); omega)
  · exact (dats m 0 c).toRRel_leaves (fgt := outs0) (Rl := Rl m c) (w := 7) rfl hl

/-- Inside a key tile's points the block of dv is found as the point before left it. -/
theorem finds8 (c : Dev nD) (t : Fin cfg0.N) (Y : Vec F S1024x128 .f32) (h : (rdat m c).Finds 8 t Y) (h0 : t.val % 4 ≠ 0) :
    Y = accV m c ((t.val - 1) / 4 * 4) ((t.val - 1) % 4) := by
  rcases ((rdat m c).finds_of_pos ((cfg0.win 8).fetch_out rfl t) (by omega) Y).mp h with hf | hl
  · have := (flush0_8 _).mp hf
    exact absurd this (by show ¬((t.val - 1) % 4 = 3); omega)
  · exact (dats m 0 c).toRRel_leaves (fgt := outs0) (Rl := Rl m c) (w := 8) rfl hl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ Y, ⌜(rdat m c).Finds 6 t Y⌝ ∗ owns (c : Thread nD τ) (ms0_6 t) fullShare Y)
    ∗ (∃ Y, ⌜(rdat m c).Finds 7 t Y⌝ ∗ owns (c : Thread nD τ) (ms0_7 t) fullShare Y)
    ∗ (∃ Y, ⌜(rdat m c).Finds 8 t Y⌝ ∗ owns (c : Thread nD τ) (ms0_8 t) fullShare Y))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ X, ⌜Rl m c 6 t X⌝ ∗ owns (c : Thread nD τ) (ms0_6 t) fullShare X)
    ∗ (∃ X, ⌜Rl m c 7 t X⌝ ∗ owns (c : Thread nD τ) (ms0_7 t) fullShare X)
    ∗ (∃ X, ⌜Rl m c 8 t X⌝ ∗ owns (c : Thread nD τ) (ms0_8 t) fullShare X))

set_option maxHeartbeats 1600000 in
/-- Case A of the body. -/
theorem sound_A (c : Dev nD) (t : Fin cfg0.N) (h0 : t.val / 4 % 8 = 0) (h2 : t.val % 4 = 0) :
    bodyPre m c t ⊢ wp frame (wpE (defs₀ (F := F)) Variants.none c none) Set.univ (bodyAt0 t) (fun _ => bodyPost m c t) := by
    unfold bodyPre bodyPost bodyAt0
    simp only [before0_0, before0_1, before0_2, before0_3, before0_4, before0_5]
    rw [show (dats m 0 c).Φ t.succ = (dats m 0 c).Φ t.castSucc from rfl,
      show (dats m 0 c).owesAt () t.succ = (dats m 0 c).owesAt () t.castSucc from rfl]
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    iintro ⟨HΦ, Ho, ⟨%d0, H0⟩, ⟨%d1, H1⟩, ⟨%d2, H2⟩, ⟨%d3, H3⟩, ⟨%d4, H4⟩, ⟨%d5, H5⟩, ⟨%y6, %hy6, H6⟩, ⟨%y7, %hy7, H7⟩, ⟨%y8, %hy8, H8⟩⟩
    iapply (run_A c (grid0.coords t) _ _ _ _ _ _ _ _ _ _ _ _ _ _ _ _ _ _ ((hcond0_0 t).mpr h0) (fun h => absurd ((hcond0_1 t).mp h) (by omega)) ((hcond0_2 t).mpr h2) (fun h => absurd ((hcond0_3 t).mp h) (by omega))
      (iblk m c 0 t) (iblk m c 1 t) (iblk m c 2 t) (iblk m c 3 t) (iblk m c 4 t) (iblk m c 5 t) y6 y7 y8 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, ⟨%X, %hX, H6⟩, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists X; isplitr
      · ipureintro
        exact qIs_of_put m c t X y6 _ (coord2 t ▸ hX) (accQ_zero m c t h0) (finds6 m c t y6 hy6)
      iexact H6
    isplitl [H7]
    · iexists _; isplitr; swap; · iexact H7
      ipureintro
      exact accK_zero m c t h2
    iexists _; isplitr; swap; · iexact H8
    ipureintro
    exact accV_zero m c t h2

set_option maxHeartbeats 1600000 in
/-- Case B of the body. -/
theorem sound_B (c : Dev nD) (t : Fin cfg0.N) (h0 : t.val / 4 % 8 = 0) (h2 : ¬t.val % 4 = 0) :
    bodyPre m c t ⊢ wp frame (wpE (defs₀ (F := F)) Variants.none c none) Set.univ (bodyAt0 t) (fun _ => bodyPost m c t) := by
    unfold bodyPre bodyPost bodyAt0
    simp only [before0_0, before0_1, before0_2, before0_3, before0_4, before0_5]
    rw [show (dats m 0 c).Φ t.succ = (dats m 0 c).Φ t.castSucc from rfl,
      show (dats m 0 c).owesAt () t.succ = (dats m 0 c).owesAt () t.castSucc from rfl]
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    iintro ⟨HΦ, Ho, ⟨%d0, H0⟩, ⟨%d1, H1⟩, ⟨%d2, H2⟩, ⟨%d3, H3⟩, ⟨%d4, H4⟩, ⟨%d5, H5⟩, ⟨%y6, %hy6, H6⟩, ⟨%y7, %hy7, H7⟩, ⟨%y8, %hy8, H8⟩⟩
    iapply (run_B c (grid0.coords t) _ _ _ _ _ _ _ _ _ _ _ _ _ _ _ _ _ _ ((hcond0_0 t).mpr h0) (fun h => absurd ((hcond0_1 t).mp h) (by omega)) (fun h => h2 ((hcond0_2 t).mp h)) ((hcond0_3 t).mpr (by omega))
      (iblk m c 0 t) (iblk m c 1 t) (iblk m c 2 t) (iblk m c 3 t) (iblk m c 4 t) (iblk m c 5 t) y6 y7 y8 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, ⟨%X, %hX, H6⟩, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists X; isplitr
      · ipureintro
        exact qIs_of_put m c t X y6 _ (coord2 t ▸ hX) (accQ_zero m c t h0) (finds6 m c t y6 hy6)
      iexact H6
    isplitl [H7]
    · iexists _; isplitr; swap; · iexact H7
      ipureintro
      rw [finds7 m c t y7 hy7 h2]; exact accK_succ m c t (by omega)
    iexists _; isplitr; swap; · iexact H8
    ipureintro
    rw [finds8 m c t y8 hy8 h2]; exact accV_succ m c t (by omega)

set_option maxHeartbeats 1600000 in
/-- Case C of the body. -/
theorem sound_C (c : Dev nD) (t : Fin cfg0.N) (h0 : ¬t.val / 4 % 8 = 0) (h2 : t.val % 4 = 0) :
    bodyPre m c t ⊢ wp frame (wpE (defs₀ (F := F)) Variants.none c none) Set.univ (bodyAt0 t) (fun _ => bodyPost m c t) := by
    unfold bodyPre bodyPost bodyAt0
    simp only [before0_0, before0_1, before0_2, before0_3, before0_4, before0_5]
    rw [show (dats m 0 c).Φ t.succ = (dats m 0 c).Φ t.castSucc from rfl,
      show (dats m 0 c).owesAt () t.succ = (dats m 0 c).owesAt () t.castSucc from rfl]
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    iintro ⟨HΦ, Ho, ⟨%d0, H0⟩, ⟨%d1, H1⟩, ⟨%d2, H2⟩, ⟨%d3, H3⟩, ⟨%d4, H4⟩, ⟨%d5, H5⟩, ⟨%y6, %hy6, H6⟩, ⟨%y7, %hy7, H7⟩, ⟨%y8, %hy8, H8⟩⟩
    iapply (run_C c (grid0.coords t) _ _ _ _ _ _ _ _ _ _ _ _ _ _ _ _ _ _ (fun h => h0 ((hcond0_0 t).mp h)) ((hcond0_1 t).mpr (by omega)) ((hcond0_2 t).mpr h2) (fun h => absurd ((hcond0_3 t).mp h) (by omega))
      (iblk m c 0 t) (iblk m c 1 t) (iblk m c 2 t) (iblk m c 3 t) (iblk m c 4 t) (iblk m c 5 t) y6 y7 y8 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, ⟨%X, %hX, H6⟩, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists X; isplitr
      · ipureintro
        refine qIs_of_put m c t X y6 _ (coord2 t ▸ hX) ?_ (finds6 m c t y6 hy6)
        rw [ld_rows (n := t.val % 4) (rows_before m c t y6 (by omega) (finds6 m c t y6 hy6 (by omega))) _ ((k0_off2_eq (grid0.coords t)).trans (by rw [coord2]))]
        exact accQ_succ m c t (by omega)
      iexact H6
    isplitl [H7]
    · iexists _; isplitr; swap; · iexact H7
      ipureintro
      exact accK_zero m c t h2
    iexists _; isplitr; swap; · iexact H8
    ipureintro
    exact accV_zero m c t h2

set_option maxHeartbeats 1600000 in
/-- Case D of the body. -/
theorem sound_D (c : Dev nD) (t : Fin cfg0.N) (h0 : ¬t.val / 4 % 8 = 0) (h2 : ¬t.val % 4 = 0) :
    bodyPre m c t ⊢ wp frame (wpE (defs₀ (F := F)) Variants.none c none) Set.univ (bodyAt0 t) (fun _ => bodyPost m c t) := by
    unfold bodyPre bodyPost bodyAt0
    simp only [before0_0, before0_1, before0_2, before0_3, before0_4, before0_5]
    rw [show (dats m 0 c).Φ t.succ = (dats m 0 c).Φ t.castSucc from rfl,
      show (dats m 0 c).owesAt () t.succ = (dats m 0 c).owesAt () t.castSucc from rfl]
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    iintro ⟨HΦ, Ho, ⟨%d0, H0⟩, ⟨%d1, H1⟩, ⟨%d2, H2⟩, ⟨%d3, H3⟩, ⟨%d4, H4⟩, ⟨%d5, H5⟩, ⟨%y6, %hy6, H6⟩, ⟨%y7, %hy7, H7⟩, ⟨%y8, %hy8, H8⟩⟩
    iapply (run_D c (grid0.coords t) _ _ _ _ _ _ _ _ _ _ _ _ _ _ _ _ _ _ (fun h => h0 ((hcond0_0 t).mp h)) ((hcond0_1 t).mpr (by omega)) (fun h => h2 ((hcond0_2 t).mp h)) ((hcond0_3 t).mpr (by omega))
      (iblk m c 0 t) (iblk m c 1 t) (iblk m c 2 t) (iblk m c 3 t) (iblk m c 4 t) (iblk m c 5 t) y6 y7 y8 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, ⟨%X, %hX, H6⟩, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists X; isplitr
      · ipureintro
        refine qIs_of_put m c t X y6 _ (coord2 t ▸ hX) ?_ (finds6 m c t y6 hy6)
        rw [ld_rows (n := t.val % 4) (rows_before m c t y6 (by omega) (finds6 m c t y6 hy6 (by omega))) _ ((k0_off2_eq (grid0.coords t)).trans (by rw [coord2]))]
        exact accQ_succ m c t (by omega)
      iexact H6
    isplitl [H7]
    · iexists _; isplitr; swap; · iexact H7
      ipureintro
      rw [finds7 m c t y7 hy7 h2]; exact accK_succ m c t (by omega)
    iexists _; isplitr; swap; · iexact H8
    ipureintro
    rw [finds8 m c t y8 hy8 h2]; exact accV_succ m c t (by omega)

theorem sound_body (c : Dev nD) (t : Fin cfg0.N) :
    bodyPre m c t ⊢ wp frame (wpE (defs₀ (F := F)) Variants.none c none) Set.univ (bodyAt0 t) (fun _ => bodyPost m c t) := by
  by_cases h0 : t.val / 4 % 8 = 0 <;> by_cases h2 : t.val % 4 = 0
  · exact sound_A m c t h0 h2
  · exact sound_B m c t h0 h2
  · exact sound_C m c t h0 h2
  · exact sound_D m c t h0 h2

theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligationRel (dats (F := F) m 0 c) (defs₀ (F := F)) Variants.none () Set.univ outs0 (Rl m c) := fun t => by
  rw [bigSep_W0, bigSep_W0, defs₀_row]
  exact triple_restated (sound_body m c t) rfl .rfl fun _ => .rfl

set_option backward.isDefEq.respectTransparency.types false in
/-- The launch: what the arrays hold, and every counter at zero. -/
theorem run_main : θ_run defs (onTc (τ := τ) (main (F := F))) (s₀ m ρ) (fun r => (Pipeline.RDat.FramePost (cfgs 0) (rdat m) (V m)) r ∧ r.2.sem = fun _ => 0) :=
  Pipeline.RDat.θ_run_frame (Q' := _) cfgs (0 : Fin 1) launch0 defs₀ Variants.none (rdat m) m ρ main
    (hbody := fun c => (body_obligation m c).toRRel) (hshare := fun c w => (dats m 0 c).share_full (fun _ => rfl) w)
    (howed := fun _ _ => rfl) (V := V m) (hmain := hmain m Variants.none) (hA := fun c w => A_eq m c w) (hΦ := fun _ _ => rfl)

theorem rdat_A (c : Dev nD) (w : Fin cfg0.W) : (rdat m c).A w = V m c (Pipeline.arrRef spec0 w) := A_eq m c w

/-- At a final state of the launch the arguments are unchanged. -/
theorem args_of_post {r : PUnit × MemSt nD τ sig (Elt F)} (h : Pipeline.RDat.FramePost (cfgs 0) (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
by
  have e := fun w => Pipeline.RDat.FramePost.arr_in h c w
  simp only [rdat_A] at e
  exact ⟨(e 2 rfl).trans (V_main_arg0 m c), (e 0 rfl).trans (V_main_arg1 m c), (e 1 rfl).trans (V_main_arg2 m c),
    (e 3 rfl).trans (V_main_arg3 m c)⟩

/-- The frame of the ideal kernel. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => args_of_post m h.1 c, h.2⟩) (run_main m ρ)

end Cert.KernelIdeal.Hand

end
-- ==== Proof.Heads.lean ====
module

public import Idealize.ShloMosaic.Lib.Pointwise
public import Mathlib.Analysis.SpecialFunctions.Pow.Real

@[expose] public section

/-!
The mathematics of one attention head over the real numbers: the weights of a softmax, its output and the gradient of
that output with respect to queries, keys and values. Arrays are functions of two natural numbers; a sum over positions
runs over `Fin 8192`, a sum over lanes over `Fin 128`.
-/

noncomputable section
namespace Cert.Heads
open Idealize.ShloMosaic

/-- A real array of rows and columns. -/
abbrev Mat := ℕ → ℕ → ℝ

/-- The columns that belong to head `h`. -/
def hv (X : Mat) (h : ℕ) : Mat := fun a d => X a (h * 128 + d)

variable (σ : ℝ) (q k v g : Mat)

/-- The scaled score of query `a` against key `b`. -/
def sc (a b : ℕ) : ℝ := (∑ e : Fin 128, q a e * k b e) * σ
/-- The sum of the exponentials of a query's scores. -/
def Z (a : ℕ) : ℝ := ∑ b : Fin 8192, Real.exp (sc σ q k a b)
/-- The softmax weight of key `b` for query `a`. -/
def pr (a b : ℕ) : ℝ := Real.exp (sc σ q k a b) / Z σ q k a
/-- The attention's output. -/
def out (a e : ℕ) : ℝ := ∑ b : Fin 8192, pr σ q k a b * v b e
/-- The cotangent of the weights. -/
def dp (a b : ℕ) : ℝ := ∑ e : Fin 128, g a e * v b e
/-- The cotangent of the unscaled scores. -/
def ds (a b : ℕ) : ℝ :=
  pr σ q k a b * (dp v g a b - ∑ b' : Fin 8192, pr σ q k a b' * dp v g a b') * σ
/-- The gradient of the queries. -/
def dq (a e : ℕ) : ℝ := ∑ b : Fin 8192, ds σ q k v g a b * k b e
/-- The gradient of the keys. -/
def dk (b e : ℕ) : ℝ := ∑ a : Fin 8192, ds σ q k v g a b * q a e
/-- The gradient of the values. -/
def dv (b e : ℕ) : ℝ := ∑ a : Fin 8192, pr σ q k a b * g a e

theorem Z_pos (a : ℕ) : 0 < Z σ q k a :=
  Finset.sum_pos (fun _ _ => Real.exp_pos _) ⟨0, Finset.mem_univ _⟩

/-- The sum of the exponentials of scores shifted by `M`. -/
def ZM (M : ℝ) (a : ℕ) : ℝ := ∑ b : Fin 8192, Real.exp (sc σ q k a b - M)

theorem ZM_eq (M : ℝ) (a : ℕ) : ZM σ q k M a = Real.exp (-M) * Z σ q k a := by
  unfold ZM Z
  rw [Finset.mul_sum]
  refine Finset.sum_congr rfl fun b _ => ?_
  rw [← Real.exp_add]; congr 1; ring

theorem ZM_pos (M : ℝ) (a : ℕ) : 0 < ZM σ q k M a := by
  rw [ZM_eq]; exact mul_pos (Real.exp_pos _) (Z_pos σ q k a)

/-- A shift of the scores does not change the weights. -/
theorem pr_shift (M : ℝ) (a b : ℕ) : Real.exp (sc σ q k a b - M) / ZM σ q k M a = pr σ q k a b := by
  have h := (Z_pos σ q k a).ne'
  have h' := (Real.exp_pos (-M)).ne'
  rw [ZM_eq, pr, sub_eq_add_neg, Real.exp_add]
  field_simp

/-- A shift of the scores moves out of the logarithm. -/
theorem log_shift (M : ℝ) (a : ℕ) : M + Real.log (ZM σ q k M a) = Real.log (Z σ q k a) := by
  rw [ZM_eq, Real.log_mul (Real.exp_pos _).ne' (Z_pos σ q k a).ne', Real.log_exp]; ring

/-- The weight as a power of two of the score less the logarithm of the sum. -/
theorem pr_exp2 (a b : ℕ) :
    Real.rpow 2 ((∑ e : Fin 128, q a e * k b e) * (σ * (1 / Real.log 2)) - Real.log (Z σ q k a) * (1 / Real.log 2))
      = pr σ q k a b := by
  have h2 : Real.log 2 ≠ 0 := (Real.log_pos one_lt_two).ne'
  have e : (∑ e : Fin 128, q a e * k b e) * (σ * (1 / Real.log 2)) - Real.log (Z σ q k a) * (1 / Real.log 2)
      = (sc σ q k a b - Real.log (Z σ q k a)) * (1 / Real.log 2) := by unfold sc; ring
  rw [e]
  change (2 : ℝ) ^ ((sc σ q k a b - Real.log (Z σ q k a)) * (1 / Real.log 2)) = _
  rw [Real.rpow_def_of_pos two_pos, pr, mul_comm (Real.log 2), mul_assoc, one_div, inv_mul_cancel₀ h2, mul_one,
    Real.exp_sub, Real.exp_log (Z_pos σ q k a)]

/-- The cotangent times the output, summed over the lanes, is the weighted sum of the weights' cotangents. -/
theorem delta (a : ℕ) :
    ∑ e : Fin 128, g a e * out σ q k v a e = ∑ b : Fin 8192, pr σ q k a b * dp v g a b := by
  simp only [out, dp, Finset.mul_sum]
  rw [Finset.sum_comm]
  refine Finset.sum_congr rfl fun b _ => Finset.sum_congr rfl fun e _ => by ring

/-- The cotangent of the scores from the quotient rule written with the shifted exponentials. -/
theorem ds_quotient (M : ℝ) (a b : ℕ) :
    (dp v g a b / ZM σ q k M a
        + -(∑ b' : Fin 8192, dp v g a b' * (1 / (ZM σ q k M a * ZM σ q k M a)) * Real.exp (sc σ q k a b' - M)))
      * Real.exp (sc σ q k a b - M) * σ = ds σ q k v g a b := by
  have h := (ZM_pos σ q k M a).ne'
  have e : (∑ b' : Fin 8192, dp v g a b' * (1 / (ZM σ q k M a * ZM σ q k M a)) * Real.exp (sc σ q k a b' - M))
      = (∑ b' : Fin 8192, pr σ q k a b' * dp v g a b') / ZM σ q k M a := by
    rw [Finset.sum_div]
    refine Finset.sum_congr rfl fun b' _ => ?_
    rw [← pr_shift σ q k M a b']
    field_simp
  rw [e, ds, ← pr_shift σ q k M a b]
  field_simp
  ring

/-! ### Real values among the extended reals -/

/-- A sum of real values is real. -/
theorem sum_coe {ι : Type} (s : Finset ι) (f : ι → ℝ) :
    ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

/-- The largest of finitely many real values and minus infinity is a real value, if there is one. -/
theorem fold_max_real {ι : Type} [Fintype ι] [Nonempty ι] (f : ι → ℝ) :
    ∃ M : ℝ, Finset.fold max (⊥ : EReal) (fun x => (f x : EReal)) Finset.univ = (M : EReal) := by
  classical
  have key : ∀ s : Finset ι, s.Nonempty → ∃ M : ℝ, Finset.fold max (⊥ : EReal) (fun x => (f x : EReal)) s = (M : EReal) := by
    intro s hs
    induction hs using Finset.Nonempty.cons_induction with
    | singleton a => exact ⟨f a, by rw [Finset.fold_singleton]; simp⟩
    | cons a s ha _ ih =>
      obtain ⟨M, hM⟩ := ih
      exact ⟨max (f a) M, by rw [Finset.fold_cons, hM]; exact (EReal.coe_strictMono.monotone.map_max).symm⟩
  exact key _ Finset.univ_nonempty

/-- A quotient of real values by a positive one. -/
theorem div_real (x y : ℝ) (h : 0 < y) : Ideal.div (x : EReal) (y : EReal) = ((x / y : ℝ) : EReal) := by
  rw [Ideal.div_coe h.ne', ← EReal.coe_mul, mul_one_div]

/-- The logarithm of a positive real value. -/
theorem log_real (x : ℝ) (h : 0 < x) : Ideal.log (x : EReal) = ((Real.log x : ℝ) : EReal) := by
  rw [Ideal.log_coe, if_neg (not_le.2 h)]

/-- Sums over consecutive tiles of equal length make one sum. -/
theorem sum_tiles (f : ℕ → ℝ) (n w : ℕ) :
    ∑ j ∈ Finset.range n, ∑ x : Fin w, f (w * j + x) = ∑ a : Fin (n * w), f a := by
  rw [← Finset.sum_range]
  induction n with
  | zero => simp
  | succ n ih =>
    rw [Finset.sum_range_succ, ih, Nat.succ_mul, Finset.sum_range_add, ← Finset.sum_range (fun x => f (w * n + x))]
    simp only [mul_comm w n]

end Cert.Heads
-- ==== Proof.Consts.lean ====
module

public import Idealize.ShloMosaic.Lib.Pointwise

@[expose] public section

/-! The values of the constants that the programs spell as bit patterns. -/

noncomputable section
namespace Cert.Heads
open Idealize.ShloMosaic

theorem bits_eighth : Ideal.ofBits FTy.f32 0x3E000000#32 = ((1 / 8 : ℝ) : EReal) := by
  simp [Ideal.ofBits, Ideal.ieee, -EReal.coe_mul]; norm_num

/-- The scale of the latent attention: the single-precision number nearest to one over the root of 96. -/
def scA : ℝ := 3424635 / 33554432

theorem bits_scA : Ideal.ofBits FTy.f32 0x3DD105EC#32 = ((scA : ℝ) : EReal) := by
  simp [Ideal.ofBits, Ideal.ieee, scA, -EReal.coe_mul]; norm_num

theorem bits_one : Ideal.ofBits FTy.f32 0x3F800000#32 = ((1 : ℝ) : EReal) := by
  simp [Ideal.ofBits, Ideal.ieee, -EReal.coe_mul]; norm_num

theorem bits_bot : Ideal.ofBits FTy.f32 0xFF800000#32 = (⊥ : EReal) := by
  simp [Ideal.ofBits, Ideal.ieee]

end Cert.Heads
-- ==== Proof.Host.lean ====
module

public import proofs.«01_k».proof.Proof.Gen.KernelIdeal.Frame
public import Idealize.ShloMosaic.Lib.StableHlo.ReadAt
public import Idealize.ShloMosaic.Lib.Pointwise
public import proofs.«01_k».proof.Proof.Heads
public import proofs.«01_k».proof.Proof.Consts

@[expose] public section

/-! What the host operations before the call leave in the arrays of the attention's output and of the logarithms of the sums. -/

noncomputable section
namespace Cert.KernelIdeal.Hand
open Cert.KernelIdeal Cert.KernelIdeal.Gen
open Cert.Heads
open Idealize.ShloMosaic Idealize.ShloMosaic.TcCoe

abbrev A3 := FVec Ideal S4x8192x8192 .f32
abbrev A2 := FVec Ideal S4x8192 .f32
abbrev A1 := FVec Ideal S4x8192x1 .f32
abbrev AH := FVec Ideal S8192x4x128 .f32

/-- An array's columns split into heads. -/
def hdT (x : FVec Ideal S8192x512 .bf16) : AH :=
  shapeCast S8192x4x128 (extf .f32 x bitsLt_bf16_f32) shapeCasts_S8192x512_S8192x4x128
/-- The scaled scores. -/
def scT (q k : AH) : A3 :=
  mulf (Host.dotGeneral dot_S8192x4x128_S8192x4x128_S4x8192x8192_2_2_0_0_1_1 none q k)
    (broadcastInDim S4x8192x8192 ![] bcast_S_S4x8192x8192 (constant (F := Ideal) S_ .f32 0x3E000000#32))
/-- Each query's largest score. -/
def mxT (s : A3) : A2 :=
  Host.reduce FloatOps.maximumf s (constant (F := Ideal) S_ .f32 0xFF800000#32) reducesTo_S4x8192x8192_S4x8192_d2 h_S_
/-- The same, no smaller than minus infinity. -/
def mx2T (x : A2) : A2 :=
  maximumf (broadcastInDim S4x8192 ![] bcast_S_S4x8192 (constant (F := Ideal) S_ .f32 0xFF800000#32)) x
/-- One value a query, as a column. -/
def colT (x : A2) : A1 := broadcastInDim S4x8192x1 ![0, 1] bcast_S4x8192_S4x8192x1_0_1 x
/-- The exponentials of the shifted scores. -/
def exT (s : A3) (x : A1) : A3 :=
  Host.exp (subf s (broadcastInDim S4x8192x8192 ![0, 1, 2] bcast_S4x8192x1_S4x8192x8192_0_1_2 x))
/-- The sum over the keys. -/
def smT (e : A3) : A2 :=
  Host.reduceAdd e (constant (F := Ideal) S_ .f32 0x00000000#32) reducesTo_S4x8192x8192_S4x8192_d2 h_S_
/-- Each query's row divided by one value. -/
def divT (e : A3) (x : A1) : A3 :=
  Host.divf e (broadcastInDim S4x8192x8192 ![0, 1, 2] bcast_S4x8192x1_S4x8192x8192_0_1_2 x)

theorem hdT_apply (x : FVec Ideal S8192x512 .bf16) (a : Fin 8192) (h : Fin 4) (d : Fin 128) :
    hdT x (ix3 a h d) = x (ix2 a ⟨h * 128 + d, by omega⟩) := by
  pointwise [hdT]
theorem scT_apply (q k : AH) (h : Fin 4) (a b : Fin 8192) :
    scT q k (ix3 h a b) = (∑ x, q (ix3 a h x) * k (ix3 b h x)) * Ideal.ofBits FTy.f32 0x3E000000#32 := by
  pointwise [scT]
theorem mxT_apply (s : A3) (h : Fin 4) (a : Fin 8192) :
    mxT s (ix2 h a) = Finset.fold max (Ideal.ofBits FTy.f32 0xFF800000#32) (fun x => s (ix3 h a x)) Finset.univ := by
  pointwise [mxT]
theorem mx2T_apply (x : A2) (h : Fin 4) (a : Fin 8192) :
    mx2T x (ix2 h a) = max (Ideal.ofBits FTy.f32 0xFF800000#32) (x (ix2 h a)) := by
  pointwise [mx2T]
theorem colT_apply (x : A2) (h : Fin 4) (a : Fin 8192) : colT x (ix3 h a 0) = x (ix2 h a) := by
  pointwise [colT]
theorem exT_apply (s : A3) (x : A1) (h : Fin 4) (a b : Fin 8192) :
    exT s x (ix3 h a b) = Ideal.exp (s (ix3 h a b) - x (ix3 h a 0)) := by
  pointwise [exT]
theorem smT_apply (s : A3) (h : Fin 4) (a : Fin 8192) : smT s (ix2 h a) = ∑ x, s (ix3 h a x) := by
  pointwise [smT]
theorem divT_apply (e : A3) (x : A1) (h : Fin 4) (a b : Fin 8192) :
    divT e x (ix3 h a b) = Ideal.div (e (ix3 h a b)) (x (ix3 h a 0)) := by
  pointwise [divT]

/-! ### The same over real arguments -/

/-- An argument's entries are the real values `X`. -/
def Real2 {ft : FTy} (x : FVec Ideal S8192x512 ft) (X : Mat) : Prop := ∀ (a : Fin 8192) (b : Fin 512), x (ix2 a b) = ((X a b : ℝ) : EReal)

theorem hdT_real {x : FVec Ideal S8192x512 .bf16} {X : Mat} (hx : Real2 x X) (a : Fin 8192) (h : Fin 4) (d : Fin 128) :
    hdT x (ix3 a h d) = ((hv X h a d : ℝ) : EReal) := (hdT_apply x a h d).trans (hx _ _)

section
variable {x y : FVec Ideal S8192x512 .bf16} {X Y : Mat} (hx : Real2 x X) (hy : Real2 y Y)
include hx hy
theorem scT_real (h : Fin 4) (a b : Fin 8192) :
    scT (hdT x) (hdT y) (ix3 h a b) = ((sc (1 / 8) (hv X h) (hv Y h) a b : ℝ) : EReal) := by
  rw [scT_apply, bits_eighth]
  simp only [hdT_real hx, hdT_real hy, ← EReal.coe_mul, sum_coe]
  rfl

theorem mxT_real (h : Fin 4) (a : Fin 8192) : ∃ M : ℝ, mxT (scT (hdT x) (hdT y)) (ix2 h a) = (M : EReal) := by
  rw [mxT_apply, bits_bot]
  simp only [scT_real hx hy]
  exact fold_max_real _

theorem exT_real {c : A1} {h : Fin 4} {a : Fin 8192} {M : ℝ} (hM : c (ix3 h a 0) = (M : EReal)) (b : Fin 8192) :
    exT (scT (hdT x) (hdT y)) c (ix3 h a b) = ((Real.exp (sc (1 / 8) (hv X h) (hv Y h) a b - M) : ℝ) : EReal) := by
  rw [exT_apply, hM, scT_real hx hy, ← EReal.coe_sub, Ideal.exp_coe]

theorem smT_real {c : A1} {h : Fin 4} {a : Fin 8192} {M : ℝ} (hM : c (ix3 h a 0) = (M : EReal)) :
    smT (exT (scT (hdT x) (hdT y)) c) (ix2 h a) = ((ZM (1 / 8) (hv X h) (hv Y h) M a : ℝ) : EReal) := by
  rw [smT_apply]
  simp only [exT_real hx hy hM, sum_coe]
  rfl

/-- The weights, whatever real shift the exponentials were taken with. -/
theorem weight_real {c : A1} {h : Fin 4} {a : Fin 8192} {M : ℝ} (hM : c (ix3 h a 0) = (M : EReal)) (b : Fin 8192) :
    divT (exT (scT (hdT x) (hdT y)) c) (colT (smT (exT (scT (hdT x) (hdT y)) c))) (ix3 h a b)
      = ((pr (1 / 8) (hv X h) (hv Y h) a b : ℝ) : EReal) := by
  rw [divT_apply, colT_apply, smT_real hx hy hM, exT_real hx hy hM, div_real _ _ (ZM_pos ..), pr_shift]
end

/-- The attention's output, with heads side by side. -/
def outT (v : AH) (p : A3) : FVec Ideal S8192x512 .f32 :=
  shapeCast S8192x512 (transpose S8192x4x128 [2, 0, 1]
    (Host.dotGeneral dot_S8192x4x128_S4x8192x8192_S4x128x8192_0_2_2_1_1_0 none v p) transposes_S4x128x8192_S8192x4x128_2_0_1)
    shapeCasts_S8192x4x128_S8192x512
/-- The logarithm of the sum of the exponentials, from the largest score and the sum of the shifted ones. -/
def lseT (x y : A1) : A1 := addf x (Host.log y)

theorem outT_apply (v : AH) (p : A3) (a : Fin 8192) (b : Fin 512) :
    outT v p (ix2 a b) = ∑ x, v (ix3 x ⟨b / 128, by omega⟩ ⟨b % 128, by omega⟩) * p (ix3 ⟨b / 128, by omega⟩ a x) := by
  pointwise [outT]
theorem lseT_apply (x y : A1) (h : Fin 4) (a : Fin 8192) :
    lseT x y (ix3 h a 0) = x (ix3 h a 0) + Ideal.log (y (ix3 h a 0)) := by
  pointwise [lseT]

variable (m : (ℓ : Loc nD τ sig) → Buf (Elt Ideal) ℓ) (c : Dev nD)

/-- The arguments. -/
abbrev argQ : FVec Ideal S8192x512 .bf16 := m ((c.tc : Thread nD τ).loc main_arg0)
abbrev argK : FVec Ideal S8192x512 .bf16 := m ((c.tc : Thread nD τ).loc main_arg1)
abbrev argV : FVec Ideal S8192x512 .bf16 := m ((c.tc : Thread nD τ).loc main_arg2)
abbrev argG : FVec Ideal S8192x512 .f32 := m ((c.tc : Thread nD τ).loc main_arg3)

/-- The scores and the exponentials that the output is made of. -/
def hS : A3 := scT (hdT (argQ m c)) (hdT (argK m c))
def hE : A3 := exT (hS m c) (colT (mx2T (mxT (hS m c))))

set_option maxHeartbeats 4000000 in
theorem V_o : V (F := Ideal) m c main_v22 = outT (hdT (argV m c)) (divT (hE m c) (colT (smT (hE m c)))) := by
  unfold V
  after_results_simp <;> rfl

set_option maxHeartbeats 4000000 in
theorem V_lse : V (F := Ideal) m c main_v38
    = lseT (colT (mxT (hS m c))) (colT (smT (exT (hS m c) (colT (mxT (hS m c)))))) := by
  unfold V
  after_results_simp <;> rfl

section
variable {m c} {Q K W : Mat} (hq : Real2 (argQ m c) Q) (hk : Real2 (argK m c) K)
include hq hk

theorem V_o_real (hw : Real2 (argV m c) W) (a : Fin 8192) (b : Fin 512) :
    V (F := Ideal) m c main_v22 (ix2 a b)
      = ((out (1 / 8) (hv Q (b / 128)) (hv K (b / 128)) (hv W (b / 128)) a (b % 128) : ℝ) : EReal) := by
  obtain ⟨M, hM⟩ := mxT_real hq hk ⟨b / 128, by omega⟩ a
  have hM' : colT (mx2T (mxT (hS m c))) (ix3 ⟨b / 128, by omega⟩ a 0) = (M : EReal) := by
    rw [colT_apply, mx2T_apply, bits_bot, bot_sup_eq]; exact hM
  rw [V_o, outT_apply]
  unfold hE hS at *
  simp only [hdT_real hw, weight_real hq hk hM', ← EReal.coe_mul, sum_coe]
  rw [EReal.coe_eq_coe_iff]
  exact Finset.sum_congr rfl fun _ _ => mul_comm _ _

theorem V_lse_real (h : Fin 4) (a : Fin 8192) :
    V (F := Ideal) m c main_v38 (ix3 h a 0) = ((Real.log (Z (1 / 8) (hv Q h) (hv K h) a) : ℝ) : EReal) := by
  obtain ⟨M, hM⟩ := mxT_real hq hk h a
  have hM' : colT (mxT (hS m c)) (ix3 h a 0) = (M : EReal) := (colT_apply _ _ _).trans hM
  rw [V_lse, lseT_apply, hM', colT_apply]
  unfold hS at *
  rw [smT_real hq hk hM', log_real _ (ZM_pos ..), ← EReal.coe_add, log_shift]
end
end Cert.KernelIdeal.Hand
-- ==== Proof.Pay.lean ====
module

public import proofs.«01_k».proof.Proof.Gen.KernelIdeal.Skeleton
public import proofs.«01_k».proof.Proof.Heads
public import proofs.«01_k».proof.Proof.Consts
public import Idealize.ShloMosaic.Lib.Pointwise

@[expose] public section

/-! What the body computes from its blocks, entry by entry, and its values over blocks of real numbers. -/

noncomputable section
namespace Cert.KernelIdeal.Hand
open Cert.KernelIdeal Cert.KernelIdeal.Gen Cert.Heads
open Idealize.ShloMosaic Idealize.ShloMosaic.TcCoe

variable (k v : Vec Ideal S1024x128 .bf16) (q : Vec Ideal S2048x128 .bf16) (d o : Vec Ideal S2048x128 .f32) (lse : Vec Ideal S1x2048x1 .f32)

theorem pay7_apply (a : Fin 2048) (b : Fin 1024) :
    k0_pay7 k q lse (ix2 a b) = Ideal.exp2 ((∑ x, q (ix2 a x) * k (ix2 b x)) * Named.named (F := Ideal) (φ := .f32) κ "c2" 0x3E38AA3B#32
      - lse (ix3 0 a 0) * Named.named (F := Ideal) (φ := .f32) κ "log2e" 0x3FB8AA3B#32) := by
  pointwise [k0_pay7]
  rfl
theorem pay8_apply (b : Fin 1024) (e : Fin 128) :
    k0_pay8 k q d lse (ix2 b e) = ∑ x, k0_pay7 k q lse (ix2 x b) * d (ix2 x e) := by
  pointwise [k0_pay8]
theorem pay9_apply (a : Fin 2048) (b : Fin 1024) :
    k0_pay9 k v q d o lse (ix2 a b) = k0_pay7 k q lse (ix2 a b) * (∑ x, d (ix2 a x) * v (ix2 b x) - ∑ x, d (ix2 a x) * o (ix2 a x))
      * Ideal.ofBits FTy.f32 0x3E000000#32 := by
  pointwise [k0_pay9]
theorem pay1_apply (s : FVec Ideal S2048x1024 .f32) (b : Fin 1024) (e : Fin 128) :
    k0_pay1 k0_pay6 q s (ix2 b e) = ∑ x, s (ix2 x b) * q (ix2 x e) := by
  pointwise [k0_pay1, k0_pay6]
theorem pay2_apply (s : FVec Ideal S2048x1024 .f32) (a : Fin 2048) (e : Fin 128) :
    k0_pay2 k s (ix2 a e) = ∑ x, s (ix2 a x) * k (ix2 x e) := by
  pointwise [k0_pay2]
theorem pay3_apply (s : FVec Ideal S2048x1024 .f32) (y : Vec Ideal S2048x128 .f32) (a : Fin 2048) (e : Fin 128) :
    k0_pay3 k s y (ix2 a e) = y (ix2 a e) + k0_pay2 k s (ix2 a e) := by
  pointwise [k0_pay3]
theorem pay4_apply (s : FVec Ideal S2048x1024 .f32) (y : Vec Ideal S1024x128 .f32) (b : Fin 1024) (e : Fin 128) :
    k0_pay4 k0_pay6 q s y (ix2 b e) = y (ix2 b e) + k0_pay1 k0_pay6 q s (ix2 b e) := by
  pointwise [k0_pay4]
theorem pay5_apply (x : FVec Ideal S1024x128 .f32) (y : Vec Ideal S1024x128 .f32) (b : Fin 1024) (e : Fin 128) :
    k0_pay5 x y (ix2 b e) = y (ix2 b e) + x (ix2 b e) := by
  pointwise [k0_pay5]

/-- The two named constants. -/
theorem named_c2 : Named.named (F := Ideal) (φ := .f32) κ "c2" 0x3E38AA3B#32 = ((1 / 8 * (1 / Real.log 2) : ℝ) : EReal) := by
  rw [one_div, one_div]; exact IdealRules.named_const.ideal_named_scalar _ _ _ _ rfl
theorem named_log2e : Named.named (F := Ideal) (φ := .f32) κ "log2e" 0x3FB8AA3B#32 = ((1 / Real.log 2 : ℝ) : EReal) := by
  rw [one_div]; exact IdealRules.named_const.ideal_named_scalar _ _ _ _ rfl

section
variable {k v q d o lse} {K W Q G : Mat} {i j : ℕ}
  (hk : ∀ (x : Fin 1024) (e : Fin 128), k (ix2 x e) = ((K (1024 * j + x) e : ℝ) : EReal))
  (hw : ∀ (x : Fin 1024) (e : Fin 128), v (ix2 x e) = ((W (1024 * j + x) e : ℝ) : EReal))
  (hq : ∀ (x : Fin 2048) (e : Fin 128), q (ix2 x e) = ((Q (2048 * i + x) e : ℝ) : EReal))
  (hd : ∀ (x : Fin 2048) (e : Fin 128), d (ix2 x e) = ((G (2048 * i + x) e : ℝ) : EReal))
  (ho : ∀ (x : Fin 2048) (e : Fin 128), o (ix2 x e) = ((out (1 / 8) Q K W (2048 * i + x) e : ℝ) : EReal))
  (hl : ∀ x : Fin 2048, lse (ix3 0 x 0) = ((Real.log (Z (1 / 8) Q K (2048 * i + x)) : ℝ) : EReal))

include hk hq hl in
/-- A tile of weights. -/
theorem pay7_real (a : Fin 2048) (b : Fin 1024) :
    k0_pay7 k q lse (ix2 a b) = ((pr (1 / 8) Q K (2048 * i + a) (1024 * j + b) : ℝ) : EReal) := by
  rw [pay7_apply, named_c2, named_log2e, hl]
  simp only [hk, hq, ← EReal.coe_mul, sum_coe, ← EReal.coe_sub, Ideal.exp2_coe]
  rw [pr_exp2]

include hk hq hl hd in
/-- A tile's share of the gradient of the values. -/
theorem pay8_real (b : Fin 1024) (e : Fin 128) :
    k0_pay8 k q d lse (ix2 b e)
      = ((∑ x : Fin 2048, pr (1 / 8) Q K (2048 * i + x) (1024 * j + b) * G (2048 * i + x) e : ℝ) : EReal) := by
  rw [pay8_apply]
  simp only [pay7_real hk hq hl, hd, ← EReal.coe_mul, sum_coe]

include hk hw hq hd ho hl in
/-- A tile of the cotangents of the scores. -/
theorem pay9_real (a : Fin 2048) (b : Fin 1024) :
    k0_pay9 k v q d o lse (ix2 a b) = ((ds (1 / 8) Q K W G (2048 * i + a) (1024 * j + b) : ℝ) : EReal) := by
  rw [pay9_apply, pay7_real hk hq hl, bits_eighth]
  simp only [hd, hw, ho, ← EReal.coe_mul, sum_coe, ← EReal.coe_sub]
  rw [delta]
  rfl
end
end Cert.KernelIdeal.Hand
-- ==== Proof.Blocks.lean ====
module

public import proofs.«01_k».proof.Proof.Acc
public import proofs.«01_k».proof.Proof.Host
public import proofs.«01_k».proof.Proof.Pay
public import Idealize.ShloMosaic.Lib.Pipeline.ValueKit.Point

@[expose] public section

/-! The blocks that the body reads at a grid point, the tiles it computes from them, and the sums of those tiles. -/

noncomputable section
namespace Cert.KernelIdeal.Hand
open Cert.KernelIdeal Cert.KernelIdeal.Gen Cert.Heads
open Idealize.ShloMosaic Idealize.ShloMosaic.TcCoe

/-- Each window's block at a point. -/
theorem idx : ∀ t : Fin cfg0.N, win0_0.index t = ![t.val / 4 % 8, t.val / 32] ∧ win0_1.index t = ![t.val / 4 % 8, t.val / 32]
    ∧ win0_2.index t = ![t.val % 4, t.val / 32] ∧ win0_3.index t = ![t.val % 4, t.val / 32] ∧ win0_4.index t = ![t.val % 4, t.val / 32]
    ∧ win0_5.index t = ![t.val / 32, t.val % 4, 0] ∧ win0_6.index t = ![0, t.val / 32]
    ∧ win0_7.index t = ![t.val / 4 % 8, t.val / 32] ∧ win0_8.index t = ![t.val / 4 % 8, t.val / 32] :=
  (by decide +kernel : ∀ t : Fin grid0.N, _)

theorem lt128 (t : Fin cfg0.N) : t.val < 128 := Nat.lt_of_lt_of_eq t.isLt N_0

variable {m : (ℓ : Loc nD τ sig) → Buf (Elt Ideal) ℓ} {c : Dev nD} {Q K W G : Mat}
  (hq : Real2 (argQ m c) Q) (hk : Real2 (argK m c) K) (hw : Real2 (argV m c) W) (hg : Real2 (argG m c) G)
  (t : Fin cfg0.N)

include hk in
theorem kB_real (x : Fin 1024) (e : Fin 128) :
    kB m c t (ix2 x e) = ((hv K (t.val / 32) (1024 * (t.val / 4 % 8) + x) e : ℝ) : EReal) := by
  have ht := lt128 t
  refine Eq.trans ?_ (hk ⟨1024 * (t.val / 4 % 8) + x, by omega⟩ ⟨t.val / 32 * 128 + e, by omega⟩)
  blk_ext! [iblk, V, idx t]

include hw in
theorem vB_real (x : Fin 1024) (e : Fin 128) :
    vB m c t (ix2 x e) = ((hv W (t.val / 32) (1024 * (t.val / 4 % 8) + x) e : ℝ) : EReal) := by
  have ht := lt128 t
  refine Eq.trans ?_ (hw ⟨1024 * (t.val / 4 % 8) + x, by omega⟩ ⟨t.val / 32 * 128 + e, by omega⟩)
  blk_ext! [iblk, V, idx t]

include hq in
theorem qB_real (x : Fin 2048) (e : Fin 128) :
    qB m c t (ix2 x e) = ((hv Q (t.val / 32) (2048 * (t.val % 4) + x) e : ℝ) : EReal) := by
  have ht := lt128 t
  refine Eq.trans ?_ (hq ⟨2048 * (t.val % 4) + x, by omega⟩ ⟨t.val / 32 * 128 + e, by omega⟩)
  blk_ext! [iblk, V, idx t]

include hg in
theorem doB_real (x : Fin 2048) (e : Fin 128) :
    doB m c t (ix2 x e) = ((hv G (t.val / 32) (2048 * (t.val % 4) + x) e : ℝ) : EReal) := by
  have ht := lt128 t
  refine Eq.trans ?_ (hg ⟨2048 * (t.val % 4) + x, by omega⟩ ⟨t.val / 32 * 128 + e, by omega⟩)
  blk_ext! [iblk, V, idx t]

/-- The entries of the blocks of the output and of the logarithms, whatever their arrays hold. -/
theorem read_o (A : FVec Ideal S8192x512 .f32) (x : Fin 2048) (e : Fin 128) (h₁ : 2048 * (t.val % 4) + x.val < 8192)
    (h₂ : t.val / 32 * 128 + e.val < 512) :
    ((cfg0.win 4).blk t).view.read (Elt Ideal) A (ix2 x e) = A (ix2 ⟨2048 * (t.val % 4) + x, h₁⟩ ⟨t.val / 32 * 128 + e, h₂⟩) := by
  blk_ext [idx t]
theorem read_lse (A : FVec Ideal S4x8192x1 .f32) (x : Fin 2048) (h₁ : t.val / 32 < 4) (h₂ : 2048 * (t.val % 4) + x.val < 8192) :
    ((cfg0.win 5).blk t).view.read (Elt Ideal) A (ix3 0 x 0) = A (ix3 ⟨t.val / 32, h₁⟩ ⟨2048 * (t.val % 4) + x, h₂⟩ 0) := by
  blk_ext [idx t]

include hq hk hw in
theorem oB_real (x : Fin 2048) (e : Fin 128) :
    oB m c t (ix2 x e)
      = ((out (1 / 8) (hv Q (t.val / 32)) (hv K (t.val / 32)) (hv W (t.val / 32)) (2048 * (t.val % 4) + x) e : ℝ) : EReal) := by
  have ht := lt128 t
  have h := V_o_real hq hk hw ⟨2048 * (t.val % 4) + x, by omega⟩ ⟨t.val / 32 * 128 + e, by omega⟩
  simp only [show (t.val / 32 * 128 + e.val) / 128 = t.val / 32 by omega, show (t.val / 32 * 128 + e.val) % 128 = e.val by omega] at h
  exact (read_o t (V m c main_v22) x e _ _).trans h

include hq hk in
theorem lseB_real (x : Fin 2048) :
    lseB m c t (ix3 0 x 0)
      = ((Real.log (Z (1 / 8) (hv Q (t.val / 32)) (hv K (t.val / 32)) (2048 * (t.val % 4) + x)) : ℝ) : EReal) := by
  have ht := lt128 t
  have h := V_lse_real hq hk ⟨t.val / 32, by omega⟩ ⟨2048 * (t.val % 4) + x, by omega⟩
  exact (read_lse t (V m c main_v38) x _ _).trans h

include hq hk hw hg in
/-- The tile of the cotangents of the scores. -/
theorem dsT_real (a : Fin 2048) (b : Fin 1024) :
    dsT m c t (ix2 a b) = ((ds (1 / 8) (hv Q (t.val / 32)) (hv K (t.val / 32)) (hv W (t.val / 32)) (hv G (t.val / 32))
      (2048 * (t.val % 4) + a) (1024 * (t.val / 4 % 8) + b) : ℝ) : EReal) :=
  pay9_real (kB_real hk t) (vB_real hw t) (qB_real hq t) (doB_real hg t) (oB_real hq hk hw t) (lseB_real hq hk t) a b

include hq hk hg in
/-- The tile's share of the gradient of the values. -/
theorem dvT_real (b : Fin 1024) (e : Fin 128) :
    dvT m c t (ix2 b e) = ((∑ x : Fin 2048, pr (1 / 8) (hv Q (t.val / 32)) (hv K (t.val / 32)) (2048 * (t.val % 4) + x)
      (1024 * (t.val / 4 % 8) + b) * hv G (t.val / 32) (2048 * (t.val % 4) + x) e : ℝ) : EReal) :=
  pay8_real (kB_real hk t) (qB_real hq t) (doB_real hg t) (lseB_real hq hk t) b e

theorem pt_v {n : ℕ} (h : n < 128) : (pt n).val = n := Nat.mod_eq_of_lt h

include hq hk hw hg in
/-- The sum of dk over the first query tiles. -/
theorem accK_real {h j : ℕ} (hh : h < 4) (hj : j < 8) (b : Fin 1024) (e : Fin 128) (i : ℕ) (hi : i < 4) :
    accK m c (32 * h + 4 * j) i (ix2 b e) = ((∑ i' ∈ Finset.range (i + 1), ∑ x : Fin 2048,
      ds (1 / 8) (hv Q h) (hv K h) (hv W h) (hv G h) (2048 * i' + x) (1024 * j + b) * hv Q h (2048 * i' + x) e : ℝ) : EReal) := by
  have one : ∀ i, i < 4 → k0_pay1 k0_pay6 (qB m c (pt (32 * h + 4 * j + i))) (dsT m c (pt (32 * h + 4 * j + i))) (ix2 b e)
      = ((∑ x : Fin 2048, ds (1 / 8) (hv Q h) (hv K h) (hv W h) (hv G h) (2048 * i + x) (1024 * j + b) * hv Q h (2048 * i + x) e : ℝ) : EReal) := by
    intro i hi
    have hv' := pt_v (n := 32 * h + 4 * j + i) (by omega)
    rw [pay1_apply]
    simp only [dsT_real hq hk hw hg, qB_real hq, hv', show (32 * h + 4 * j + i) / 32 = h by omega,
      show (32 * h + 4 * j + i) % 4 = i by omega, show (32 * h + 4 * j + i) / 4 % 8 = j by omega, ← EReal.coe_mul, sum_coe]
  induction i with
  | zero => rw [Finset.sum_range_one]; exact one 0 hi
  | succ i ih =>
    rw [Finset.sum_range_succ, EReal.coe_add, ← ih (by omega), ← one (i + 1) hi]
    exact pay4_apply ..

include hq hk hg in
/-- The sum of dv over the first query tiles. -/
theorem accV_real {h j : ℕ} (hh : h < 4) (hj : j < 8) (b : Fin 1024) (e : Fin 128) (i : ℕ) (hi : i < 4) :
    accV m c (32 * h + 4 * j) i (ix2 b e) = ((∑ i' ∈ Finset.range (i + 1), ∑ x : Fin 2048,
      pr (1 / 8) (hv Q h) (hv K h) (2048 * i' + x) (1024 * j + b) * hv G h (2048 * i' + x) e : ℝ) : EReal) := by
  have one : ∀ i, i < 4 → dvT m c (pt (32 * h + 4 * j + i)) (ix2 b e)
      = ((∑ x : Fin 2048, pr (1 / 8) (hv Q h) (hv K h) (2048 * i + x) (1024 * j + b) * hv G h (2048 * i + x) e : ℝ) : EReal) := by
    intro i hi
    have hv' := pt_v (n := 32 * h + 4 * j + i) (by omega)
    simp only [dvT_real hq hk hg, hv', show (32 * h + 4 * j + i) / 32 = h by omega,
      show (32 * h + 4 * j + i) % 4 = i by omega, show (32 * h + 4 * j + i) / 4 % 8 = j by omega]
  induction i with
  | zero => rw [Finset.sum_range_one]; exact one 0 hi
  | succ i ih =>
    rw [Finset.sum_range_succ, EReal.coe_add, ← ih (by omega), ← one (i + 1) hi]
    exact pay5_apply ..

include hq hk hw hg in
/-- The sum of dq over the first key tiles. -/
theorem accQ_real {h i : ℕ} (hh : h < 4) (hi : i < 4) (a : Fin 2048) (e : Fin 128) (j : ℕ) (hj : j < 8) :
    accQ m c (32 * h + i) j (ix2 a e) = ((∑ j' ∈ Finset.range (j + 1), ∑ x : Fin 1024,
      ds (1 / 8) (hv Q h) (hv K h) (hv W h) (hv G h) (2048 * i + a) (1024 * j' + x) * hv K h (1024 * j' + x) e : ℝ) : EReal) := by
  have one : ∀ j, j < 8 → k0_pay2 (kB m c (pt (32 * h + i + 4 * j))) (dsT m c (pt (32 * h + i + 4 * j))) (ix2 a e)
      = ((∑ x : Fin 1024, ds (1 / 8) (hv Q h) (hv K h) (hv W h) (hv G h) (2048 * i + a) (1024 * j + x) * hv K h (1024 * j + x) e : ℝ) : EReal) := by
    intro j hj
    have hv' := pt_v (n := 32 * h + i + 4 * j) (by omega)
    rw [pay2_apply]
    simp only [dsT_real hq hk hw hg, kB_real hk, hv', show (32 * h + i + 4 * j) / 32 = h by omega,
      show (32 * h + i + 4 * j) % 4 = i by omega, show (32 * h + i + 4 * j) / 4 % 8 = j by omega, ← EReal.coe_mul, sum_coe]
  induction j with
  | zero => rw [Finset.sum_range_one]; exact one 0 hj
  | succ j ih =>
    rw [Finset.sum_range_succ, EReal.coe_add, ← ih (by omega), ← one (j + 1) hj]
    exact pay3_apply ..
end Cert.KernelIdeal.Hand
-- ==== Proof.Final.lean ====
module

public import proofs.«01_k».proof.Proof.Body
public import proofs.«01_k».proof.Proof.Blocks
public import Idealize.ShloMosaic.Lib.Pipeline.ValueKit.Geometry

@[expose] public section

/-! The three result arrays of the ideal kernel at a final state, over real arguments. -/

noncomputable section
namespace Cert.KernelIdeal.Hand
open Cert.KernelIdeal Cert.KernelIdeal.Gen Cert.Heads
open Idealize.ShloMosaic Idealize.ShloMosaic.TcCoe Idealize.SL.Sem

variable (Q K W G : Mat)

/-- The gradients, with heads side by side. -/
def gradQ (y : S8192x512.Idx) : EReal :=
  ((dq (1 / 8) (hv Q ((y 1).val / 128)) (hv K ((y 1).val / 128)) (hv W ((y 1).val / 128)) (hv G ((y 1).val / 128)) (y 0).val ((y 1).val % 128) : ℝ) : EReal)
def gradK (y : S8192x512.Idx) : EReal :=
  ((dk (1 / 8) (hv Q ((y 1).val / 128)) (hv K ((y 1).val / 128)) (hv W ((y 1).val / 128)) (hv G ((y 1).val / 128)) (y 0).val ((y 1).val % 128) : ℝ) : EReal)
def gradV (y : S8192x512.Idx) : EReal :=
  ((dv (1 / 8) (hv Q ((y 1).val / 128)) (hv K ((y 1).val / 128)) (hv G ((y 1).val / 128)) (y 0).val ((y 1).val % 128) : ℝ) : EReal)

variable {Q K W G} {m : (ℓ : Loc nD τ sig) → Buf (Elt Ideal) ℓ} {c : Dev nD}
  (hq : Real2 (argQ m c) Q) (hk : Real2 (argK m c) K) (hw : Real2 (argV m c) W) (hg : Real2 (argG m c) G)

include hq hk hw hg in
theorem accQ_full {h i : ℕ} (hh : h < 4) (hi : i < 4) (a : Fin 2048) (e : Fin 128) :
    accQ m c (32 * h + i) 7 (ix2 a e) = ((dq (1 / 8) (hv Q h) (hv K h) (hv W h) (hv G h) (2048 * i + a) e : ℝ) : EReal) :=
  (accQ_real hq hk hw hg hh hi a e 7 (by omega)).trans (congrArg _
    (sum_tiles (fun b => ds (1 / 8) (hv Q h) (hv K h) (hv W h) (hv G h) (2048 * i + a) b * hv K h b e) 8 1024))

include hq hk hw hg in
theorem accK_full {h j : ℕ} (hh : h < 4) (hj : j < 8) (b : Fin 1024) (e : Fin 128) :
    accK m c (32 * h + 4 * j) 3 (ix2 b e) = ((dk (1 / 8) (hv Q h) (hv K h) (hv W h) (hv G h) (1024 * j + b) e : ℝ) : EReal) :=
  (accK_real hq hk hw hg hh hj b e 3 (by omega)).trans (congrArg _
    (sum_tiles (fun a => ds (1 / 8) (hv Q h) (hv K h) (hv W h) (hv G h) a (1024 * j + b) * hv Q h a e) 4 2048))

include hq hk hg in
theorem accV_full {h j : ℕ} (hh : h < 4) (hj : j < 8) (b : Fin 1024) (e : Fin 128) :
    accV m c (32 * h + 4 * j) 3 (ix2 b e) = ((dv (1 / 8) (hv Q h) (hv K h) (hv G h) (1024 * j + b) e : ℝ) : EReal) :=
  (accV_real hq hk hg hh hj b e 3 (by omega)).trans (congrArg _
    (sum_tiles (fun a => pr (1 / 8) (hv Q h) (hv K h) a (1024 * j + b) * hv G h a e) 4 2048))

include hq hk hw hg in
/-- The block of dq that a head's last point leaves. -/
theorem blockQ (t : Fin cfg0.N) (ht : t.val % 32 = 31) (X : Vec Ideal S8192x128 .f32) (h : QIs m c t.val X) (y : S8192x128.Idx) :
    X y = ((dq (1 / 8) (hv Q (t.val / 32)) (hv K (t.val / 32)) (hv W (t.val / 32)) (hv G (t.val / 32)) (y 0).val (y 1).val : ℝ) : EReal) := by
  have ht' := lt128 t
  have h0 : (y 0).val < 8192 := (y 0).isLt
  have h1 : (y 1).val < 128 := (y 1).isLt
  have r := h (t.val - 3 + (y 0).val / 2048) (by omega) (by omega) (by omega)
    y (ix2 ⟨(y 0).val % 2048, Nat.mod_lt _ (by decide)⟩ ⟨(y 1).val, h1⟩) (by show (y 0).val = 2048 * _ + (y 0).val % 2048; omega) rfl
  rw [show (t.val - 3 + (y 0).val / 2048) / 32 * 32 + (t.val - 3 + (y 0).val / 2048) % 4 = 32 * (t.val / 32) + (y 0).val / 2048 by omega,
    show (t.val - 3 + (y 0).val / 2048) / 4 % 8 = 7 by omega,
    accQ_full hq hk hw hg (h := t.val / 32) (i := (y 0).val / 2048) (by omega) (by omega)] at r
  rw [r]
  simp only [show 2048 * ((y 0).val / 2048) + (y 0).val % 2048 = (y 0).val by omega]

include hq hk hw hg in
/-- The block of dk that a key tile's last point leaves. -/
theorem blockK (t : Fin cfg0.N) (ht : t.val % 4 = 3) (y : S1024x128.Idx) :
    accK m c (t.val / 4 * 4) (t.val % 4) y
      = ((dk (1 / 8) (hv Q (t.val / 32)) (hv K (t.val / 32)) (hv W (t.val / 32)) (hv G (t.val / 32)) (1024 * (t.val / 4 % 8) + (y 0).val) (y 1).val : ℝ) : EReal) := by
  have ht' := lt128 t
  have e : y = ix2 ⟨(y 0).val, (y 0).isLt⟩ ⟨(y 1).val, (y 1).isLt⟩ := by
    funext a; fin_cases a <;> rfl
  rw [ht, show t.val / 4 * 4 = 32 * (t.val / 32) + 4 * (t.val / 4 % 8) by omega]
  exact (congrArg _ e).trans (accK_full hq hk hw hg (by omega) (by omega) ⟨(y 0).val, (y 0).isLt⟩ ⟨(y 1).val, (y 1).isLt⟩)

include hq hk hg in
/-- The block of dv that a key tile's last point leaves. -/
theorem blockV (t : Fin cfg0.N) (ht : t.val % 4 = 3) (y : S1024x128.Idx) :
    accV m c (t.val / 4 * 4) (t.val % 4) y
      = ((dv (1 / 8) (hv Q (t.val / 32)) (hv K (t.val / 32)) (hv G (t.val / 32)) (1024 * (t.val / 4 % 8) + (y 0).val) (y 1).val : ℝ) : EReal) := by
  have ht' := lt128 t
  have e : y = ix2 ⟨(y 0).val, (y 0).isLt⟩ ⟨(y 1).val, (y 1).isLt⟩ := by
    funext a; fin_cases a <;> rfl
  rw [ht, show t.val / 4 * 4 = 32 * (t.val / 32) + 4 * (t.val / 4 % 8) by omega]
  exact (congrArg _ e).trans (accV_full hq hk hg (by omega) (by omega) ⟨(y 0).val, (y 0).isLt⟩ ⟨(y 1).val, (y 1).isLt⟩)

include hq hk hw hg in
/-- The results at a final state. -/
theorem results {r : PUnit × MemSt nD τ sig (Elt Ideal)} (h : Pipeline.RDat.FramePost (cfgs 0) (rdat m) (V m) r) :
    r.2.mem ((c.tc : Thread nD τ).loc main_v39_0) = gradQ Q K W G
      ∧ r.2.mem ((c.tc : Thread nD τ).loc main_v39_1) = gradK Q K W G
      ∧ r.2.mem ((c.tc : Thread nD τ).loc main_v39_2) = gradV Q K G := by
  obtain ⟨after, hL, hA⟩ := Pipeline.RDat.FramePost.exists_exact h c
  refine ⟨(hA 6).trans ?_, (hA 7).trans ?_, (hA 8).trans ?_⟩
  · refine ((rdat m c).withAfter after).arrAt_eq_of_covers 6 _ (by decide +kernel) fun t hf y => ?_
    have hl := (dats m 0 c).toRRel_leaves (fgt := outs0) (Rl := Rl m c) (w := 6) rfl (hL 6 t hf)
    have hb := blockQ hq hk hw hg t ((flush0_6 t).mp hf) (after 6 t) hl y
    have ht' := lt128 t
    have h1 : (y 1).val < 128 := (y 1).isLt
    refine Eq.trans ?_ (hb.trans ?_)
    · blk_simp
      rfl
    · unfold gradQ
      blk_simp [idx t]
      simp only [show (t.val / 32 * 128 + (y 1).val) / 128 = t.val / 32 by omega,
        show (t.val / 32 * 128 + (y 1).val) % 128 = (y 1).val by omega]
  · refine ((rdat m c).withAfter after).arrAt_eq_of_covers 7 _ (by decide +kernel) fun t hf y => ?_
    have hl := (dats m 0 c).toRRel_leaves (fgt := outs0) (Rl := Rl m c) (w := 7) rfl (hL 7 t hf)
    have hb := (congrFun hl y).trans (blockK hq hk hw hg t ((flush0_7 t).mp hf) y)
    have ht' := lt128 t
    have h1 : (y 1).val < 128 := (y 1).isLt
    refine Eq.trans ?_ (hb.trans ?_)
    · blk_simp
      rfl
    · unfold gradK
      blk_simp [idx t]
      simp only [show (t.val / 32 * 128 + (y 1).val) / 128 = t.val / 32 by omega,
        show (t.val / 32 * 128 + (y 1).val) % 128 = (y 1).val by omega, mul_comm 1024]
  · refine ((rdat m c).withAfter after).arrAt_eq_of_covers 8 _ (by decide +kernel) fun t hf y => ?_
    have hl := (dats m 0 c).toRRel_leaves (fgt := outs0) (Rl := Rl m c) (w := 8) rfl (hL 8 t hf)
    have hb := (congrFun hl y).trans (blockV hq hk hg t ((flush0_8 t).mp hf) y)
    have ht' := lt128 t
    have h1 : (y 1).val < 128 := (y 1).isLt
    refine Eq.trans ?_ (hb.trans ?_)
    · blk_simp
      rfl
    · unfold gradV
      blk_simp [idx t]
      simp only [show (t.val / 32 * 128 + (y 1).val) / 128 = t.val / 32 by omega,
        show (t.val / 32 * 128 + (y 1).val) % 128 = (y 1).val by omega, mul_comm 1024]
end Cert.KernelIdeal.Hand
-- ==== Proof.RefVal.lean ====
module

public import proofs.«01_k».proof.Proof.Gen.ReferenceIdeal.Run
public import Idealize.ShloMosaic.Lib.Pointwise
public import proofs.«01_k».proof.Proof.Heads
public import proofs.«01_k».proof.Proof.Consts

@[expose] public section

/-! What the reference computes, stage by stage, and its values over real arguments. -/

noncomputable section
namespace Cert.ReferenceIdeal.Hand
open Cert.ReferenceIdeal Cert.ReferenceIdeal.Value Cert.ReferenceIdeal.Gen
open Cert.Heads
open Idealize.ShloMosaic Idealize.ShloMosaic.TcCoe

abbrev A3 := FVec Ideal S4x8192x8192 .f32
abbrev A2 := FVec Ideal S4x8192 .f32
abbrev A1 := FVec Ideal S4x8192x1 .f32
abbrev AH := FVec Ideal S8192x4x128 .f32

/-- An array's columns split into heads. -/
def hdT (x : FVec Ideal S8192x512 .bf16) : AH :=
  shapeCast S8192x4x128 (extf .f32 x bitsLt_bf16_f32) shapeCasts_S8192x512_S8192x4x128
/-- The scaled scores. -/
def scT (q k : AH) : A3 :=
  mulf (Host.dotGeneral dot_S8192x4x128_S8192x4x128_S4x8192x8192_2_2_0_0_1_1 none q k)
    (broadcastInDim S4x8192x8192 ![] bcast_S_S4x8192x8192 (constant (F := Ideal) S_ .f32 0x3E000000#32))
/-- Each query's largest score. -/
def mxT (s : A3) : A2 :=
  Host.reduce FloatOps.maximumf s (constant (F := Ideal) S_ .f32 0xFF800000#32) reducesTo_S4x8192x8192_S4x8192_d2 h_S_
/-- The same, no smaller than minus infinity. -/
def mx2T (x : A2) : A2 :=
  maximumf (broadcastInDim S4x8192 ![] bcast_S_S4x8192 (constant (F := Ideal) S_ .f32 0xFF800000#32)) x
/-- One value a query, as a column. -/
def colT (x : A2) : A1 := broadcastInDim S4x8192x1 ![0, 1] bcast_S4x8192_S4x8192x1_0_1 x
/-- The exponentials of the shifted scores. -/
def exT (s : A3) (x : A1) : A3 :=
  Host.exp (subf s (broadcastInDim S4x8192x8192 ![0, 1, 2] bcast_S4x8192x1_S4x8192x8192_0_1_2 x))
/-- The sum over the keys. -/
def smT (e : A3) : A2 :=
  Host.reduceAdd e (constant (F := Ideal) S_ .f32 0x00000000#32) reducesTo_S4x8192x8192_S4x8192_d2 h_S_
/-- Each query's row divided by one value. -/
def divT (e : A3) (x : A1) : A3 :=
  Host.divf e (broadcastInDim S4x8192x8192 ![0, 1, 2] bcast_S4x8192x1_S4x8192x8192_0_1_2 x)

theorem hdT_apply (x : FVec Ideal S8192x512 .bf16) (a : Fin 8192) (h : Fin 4) (d : Fin 128) :
    hdT x (ix3 a h d) = x (ix2 a ⟨h * 128 + d, by omega⟩) := by
  pointwise [hdT]
theorem scT_apply (q k : AH) (h : Fin 4) (a b : Fin 8192) :
    scT q k (ix3 h a b) = (∑ x, q (ix3 a h x) * k (ix3 b h x)) * Ideal.ofBits FTy.f32 0x3E000000#32 := by
  pointwise [scT]
theorem mxT_apply (s : A3) (h : Fin 4) (a : Fin 8192) :
    mxT s (ix2 h a) = Finset.fold max (Ideal.ofBits FTy.f32 0xFF800000#32) (fun x => s (ix3 h a x)) Finset.univ := by
  pointwise [mxT]
theorem mx2T_apply (x : A2) (h : Fin 4) (a : Fin 8192) :
    mx2T x (ix2 h a) = max (Ideal.ofBits FTy.f32 0xFF800000#32) (x (ix2 h a)) := by
  pointwise [mx2T]
theorem colT_apply (x : A2) (h : Fin 4) (a : Fin 8192) : colT x (ix3 h a 0) = x (ix2 h a) := by
  pointwise [colT]
theorem exT_apply (s : A3) (x : A1) (h : Fin 4) (a b : Fin 8192) :
    exT s x (ix3 h a b) = Ideal.exp (s (ix3 h a b) - x (ix3 h a 0)) := by
  pointwise [exT]
theorem smT_apply (s : A3) (h : Fin 4) (a : Fin 8192) : smT s (ix2 h a) = ∑ x, s (ix3 h a x) := by
  pointwise [smT]
theorem divT_apply (e : A3) (x : A1) (h : Fin 4) (a b : Fin 8192) :
    divT e x (ix3 h a b) = Ideal.div (e (ix3 h a b)) (x (ix3 h a 0)) := by
  pointwise [divT]

/-! ### The same over real arguments -/

/-- An argument's entries are the real values `X`. -/
def Real2 {ft : FTy} (x : FVec Ideal S8192x512 ft) (X : Mat) : Prop := ∀ (a : Fin 8192) (b : Fin 512), x (ix2 a b) = ((X a b : ℝ) : EReal)

theorem hdT_real {x : FVec Ideal S8192x512 .bf16} {X : Mat} (hx : Real2 x X) (a : Fin 8192) (h : Fin 4) (d : Fin 128) :
    hdT x (ix3 a h d) = ((hv X h a d : ℝ) : EReal) := (hdT_apply x a h d).trans (hx _ _)

section
variable {x y : FVec Ideal S8192x512 .bf16} {X Y : Mat} (hx : Real2 x X) (hy : Real2 y Y)
include hx hy
theorem scT_real (h : Fin 4) (a b : Fin 8192) :
    scT (hdT x) (hdT y) (ix3 h a b) = ((sc (1 / 8) (hv X h) (hv Y h) a b : ℝ) : EReal) := by
  rw [scT_apply, bits_eighth]
  simp only [hdT_real hx, hdT_real hy, ← EReal.coe_mul, sum_coe]
  rfl

theorem mxT_real (h : Fin 4) (a : Fin 8192) : ∃ M : ℝ, mxT (scT (hdT x) (hdT y)) (ix2 h a) = (M : EReal) := by
  rw [mxT_apply, bits_bot]
  simp only [scT_real hx hy]
  exact fold_max_real _

theorem exT_real {c : A1} {h : Fin 4} {a : Fin 8192} {M : ℝ} (hM : c (ix3 h a 0) = (M : EReal)) (b : Fin 8192) :
    exT (scT (hdT x) (hdT y)) c (ix3 h a b) = ((Real.exp (sc (1 / 8) (hv X h) (hv Y h) a b - M) : ℝ) : EReal) := by
  rw [exT_apply, hM, scT_real hx hy, ← EReal.coe_sub, Ideal.exp_coe]

theorem smT_real {c : A1} {h : Fin 4} {a : Fin 8192} {M : ℝ} (hM : c (ix3 h a 0) = (M : EReal)) :
    smT (exT (scT (hdT x) (hdT y)) c) (ix2 h a) = ((ZM (1 / 8) (hv X h) (hv Y h) M a : ℝ) : EReal) := by
  rw [smT_apply]
  simp only [exT_real hx hy hM, sum_coe]
  rfl

/-- The weights, whatever real shift the exponentials were taken with. -/
theorem weight_real {c : A1} {h : Fin 4} {a : Fin 8192} {M : ℝ} (hM : c (ix3 h a 0) = (M : EReal)) (b : Fin 8192) :
    divT (exT (scT (hdT x) (hdT y)) c) (colT (smT (exT (scT (hdT x) (hdT y)) c))) (ix3 h a b)
      = ((pr (1 / 8) (hv X h) (hv Y h) a b : ℝ) : EReal) := by
  rw [divT_apply, colT_apply, smT_real hx hy hM, exT_real hx hy hM, div_real _ _ (ZM_pos ..), pr_shift]
end

/-- The cotangent, split into heads and transposed. -/
def ctT (g : FVec Ideal S8192x512 .f32) : FVec Ideal S4x128x8192 .f32 :=
  transpose S4x128x8192 [1, 2, 0] (shapeCast S8192x4x128 g shapeCasts_S8192x512_S8192x4x128) transposes_S8192x4x128_S4x128x8192_1_2_0
/-- The cotangent of the weights. -/
def dpT (g : FVec Ideal S4x128x8192 .f32) (v : AH) : A3 :=
  Host.dotGeneral dot_S4x128x8192_S8192x4x128_S4x8192x8192_1_2_2_0_0_1 none g v
/-- One over the square of the sums. -/
def rsqT (l : A1) : A1 :=
  Host.divf (broadcastInDim S4x8192x1 ![] bcast_S_S4x8192x1 (constant (F := Ideal) S_ .f32 0x3F800000#32)) (mulf l l)
/-- The products that the correction is the sum of. -/
def cprodT (d e : A3) (r : A1) : A3 :=
  mulf (mulf d (broadcastInDim S4x8192x8192 ![0, 1, 2] bcast_S4x8192x1_S4x8192x8192_0_1_2 r)) e
/-- The correction, negated. -/
def negT (x : A2) : A2 :=
  Host.reduceAdd (Host.negf (shapeCast S4x8192x1 x shapeCasts_S4x8192_S4x8192x1)) (constant (F := Ideal) S_ .f32 0x00000000#32)
    reducesTo_S4x8192x1_S4x8192_d2 h_S_
/-- The cotangent of the unscaled scores. -/
def dsT (d e : A3) (x : A2) : A3 :=
  mulf (mulf (addf d (broadcastInDim S4x8192x8192 ![0, 1] bcast_S4x8192_S4x8192x8192_0_1 x)) e)
    (broadcastInDim S4x8192x8192 ![] bcast_S_S4x8192x8192 (constant (F := Ideal) S_ .f32 0x3E000000#32))
/-- The gradients from the cotangents. -/
def gkT (s : A3) (q : AH) : FVec Ideal S8192x512 .f32 :=
  shapeCast S8192x512 (transpose S8192x4x128 [1, 0, 2]
    (Host.dotGeneral dot_S4x8192x8192_S8192x4x128_S4x8192x128_1_0_2_2_0_1 none s q) transposes_S4x8192x128_S8192x4x128_1_0_2)
    shapeCasts_S8192x4x128_S8192x512
def gqT (s : A3) (k : AH) : FVec Ideal S8192x512 .f32 :=
  shapeCast S8192x512 (transpose S8192x4x128 [1, 0, 2]
    (Host.dotGeneral dot_S4x8192x8192_S8192x4x128_S4x8192x128_2_0_1_2_0_1 none s k) transposes_S4x8192x128_S8192x4x128_1_0_2)
    shapeCasts_S8192x4x128_S8192x512
def gvT (g : FVec Ideal S4x128x8192 .f32) (p : A3) : FVec Ideal S8192x512 .f32 :=
  shapeCast S8192x512 (transpose S8192x4x128 [2, 0, 1]
    (Host.dotGeneral dot_S4x128x8192_S4x8192x8192_S4x128x8192_2_1_1_2_0_0 none g p) transposes_S4x128x8192_S8192x4x128_2_0_1)
    shapeCasts_S8192x4x128_S8192x512

theorem ctT_apply (g : FVec Ideal S8192x512 .f32) (a : Fin 8192) (h : Fin 4) (d : Fin 128) :
    ctT g (ix3 h d a) = g (ix2 a ⟨h * 128 + d, by omega⟩) := by
  pointwise [ctT]
theorem dpT_apply (g : FVec Ideal S4x128x8192 .f32) (v : AH) (h : Fin 4) (a b : Fin 8192) :
    dpT g v (ix3 h a b) = ∑ x, g (ix3 h x a) * v (ix3 b h x) := by
  pointwise [dpT]
theorem rsqT_apply (l : A1) (h : Fin 4) (a : Fin 8192) :
    rsqT l (ix3 h a 0) = Ideal.div (Ideal.ofBits FTy.f32 0x3F800000#32) (l (ix3 h a 0) * l (ix3 h a 0)) := by
  pointwise [rsqT]
theorem cprodT_apply (d e : A3) (r : A1) (h : Fin 4) (a b : Fin 8192) :
    cprodT d e r (ix3 h a b) = d (ix3 h a b) * r (ix3 h a 0) * e (ix3 h a b) := by
  pointwise [cprodT]
theorem negT_apply (x : A2) (h : Fin 4) (a : Fin 8192) : negT x (ix2 h a) = -x (ix2 h a) := by
  pointwise [negT]
  exact Fin.sum_univ_one _
theorem dsT_apply (d e : A3) (x : A2) (h : Fin 4) (a b : Fin 8192) :
    dsT d e x (ix3 h a b) = (d (ix3 h a b) + x (ix2 h a)) * e (ix3 h a b) * Ideal.ofBits FTy.f32 0x3E000000#32 := by
  pointwise [dsT]
theorem gkT_apply (s : A3) (q : AH) (a : Fin 8192) (b : Fin 512) :
    gkT s q (ix2 a b) = ∑ x, s (ix3 ⟨b / 128, by omega⟩ x a) * q (ix3 x ⟨b / 128, by omega⟩ ⟨b % 128, by omega⟩) := by
  pointwise [gkT]
theorem gqT_apply (s : A3) (q : AH) (a : Fin 8192) (b : Fin 512) :
    gqT s q (ix2 a b) = ∑ x, s (ix3 ⟨b / 128, by omega⟩ a x) * q (ix3 x ⟨b / 128, by omega⟩ ⟨b % 128, by omega⟩) := by
  pointwise [gqT]
theorem gvT_apply (g : FVec Ideal S4x128x8192 .f32) (p : A3) (a : Fin 8192) (b : Fin 512) :
    gvT g p (ix2 a b) = ∑ x, g (ix3 ⟨b / 128, by omega⟩ ⟨b % 128, by omega⟩ x) * p (ix3 ⟨b / 128, by omega⟩ x a) := by
  pointwise [gvT]

/-! ### The results from the arguments -/

section
variable (q k v : FVec Ideal S8192x512 .bf16) (g : FVec Ideal S8192x512 .f32)
def rS : A3 := scT (hdT q) (hdT k)
def rE : A3 := exT (rS q k) (colT (mx2T (mxT (rS q k))))
def rL : A1 := colT (smT (rE q k))
def rP : A3 := dpT (ctT g) (hdT v)
def rD : A3 :=
  dsT (divT (rP v g) (rL q k)) (rE q k) (negT (smT (cprodT (rP v g) (rE q k) (rsqT (rL q k)))))
end

section
variable (m : (ℓ : Loc nD τ sig) → Buf (Elt Ideal) ℓ) (c : Dev nD)
abbrev argQ : FVec Ideal S8192x512 .bf16 := m ((c.tc : Thread nD τ).loc main_arg0)
abbrev argK : FVec Ideal S8192x512 .bf16 := m ((c.tc : Thread nD τ).loc main_arg1)
abbrev argV : FVec Ideal S8192x512 .bf16 := m ((c.tc : Thread nD τ).loc main_arg2)
abbrev argG : FVec Ideal S8192x512 .f32 := m ((c.tc : Thread nD τ).loc main_arg3)

theorem res_dk : res_main_v64 m c = gkT (rD (argQ m c) (argK m c) (argV m c) (argG m c)) (hdT (argQ m c)) := rfl
theorem res_dq : res_main_v65 m c = gqT (rD (argQ m c) (argK m c) (argV m c) (argG m c)) (hdT (argK m c)) := rfl
end

section
variable {q k v : FVec Ideal S8192x512 .bf16} {g : FVec Ideal S8192x512 .f32} {Q K W G : Mat}
  (hq : Real2 q Q) (hk : Real2 k K) (hw : Real2 v W) (hg : Real2 g G)

theorem ctT_real (hg : Real2 g G) (a : Fin 8192) (h : Fin 4) (d : Fin 128) : ctT g (ix3 h d a) = ((hv G h a d : ℝ) : EReal) :=
  (ctT_apply g a h d).trans (hg _ _)

include hq hk in
theorem shift_real (h : Fin 4) (a : Fin 8192) : ∃ M : ℝ, colT (mx2T (mxT (rS q k))) (ix3 h a 0) = (M : EReal) := by
  obtain ⟨M, hM⟩ := mxT_real hq hk h a
  exact ⟨M, by rw [colT_apply, mx2T_apply, bits_bot, bot_sup_eq]; exact hM⟩

include hw hg in
theorem dp_real (h : Fin 4) (a b : Fin 8192) : rP v g (ix3 h a b) = ((dp (hv W h) (hv G h) a b : ℝ) : EReal) := by
  rw [rP, dpT_apply]
  simp only [ctT_real hg, hdT_real hw, ← EReal.coe_mul, sum_coe]
  rfl

include hq hk hw hg in
theorem ds_real (h : Fin 4) (a b : Fin 8192) :
    rD q k v g (ix3 h a b) = ((ds (1 / 8) (hv Q h) (hv K h) (hv W h) (hv G h) a b : ℝ) : EReal) := by
  obtain ⟨M, hM⟩ := shift_real hq hk h a
  have hE : ∀ b, rE q k (ix3 h a b) = _ := fun b => exT_real hq hk hM b
  have hL : rL q k (ix3 h a 0) = _ := (colT_apply _ h a).trans (smT_real hq hk hM)
  have hZ := ZM_pos (1 / 8) (hv Q h) (hv K h) M a
  rw [rD, dsT_apply, divT_apply, negT_apply, smT_apply, bits_eighth, hE, hL, dp_real hw hg, div_real _ _ hZ]
  simp only [cprodT_apply, rsqT_apply, bits_one, hE, hL, dp_real hw hg, ← EReal.coe_mul, div_real _ _ (mul_pos hZ hZ), sum_coe,
    ← EReal.coe_neg, ← EReal.coe_add]
  rw [ds_quotient]

include hq hk hw hg in
theorem dk_real (a : Fin 8192) (b : Fin 512) :
    gkT (rD q k v g) (hdT q) (ix2 a b)
      = ((dk (1 / 8) (hv Q (b / 128)) (hv K (b / 128)) (hv W (b / 128)) (hv G (b / 128)) a (b % 128) : ℝ) : EReal) := by
  rw [gkT_apply]
  simp only [ds_real hq hk hw hg, hdT_real hq, ← EReal.coe_mul, sum_coe]
  rfl

include hq hk hw hg in
theorem dq_real (a : Fin 8192) (b : Fin 512) :
    gqT (rD q k v g) (hdT k) (ix2 a b)
      = ((dq (1 / 8) (hv Q (b / 128)) (hv K (b / 128)) (hv W (b / 128)) (hv G (b / 128)) a (b % 128) : ℝ) : EReal) := by
  rw [gqT_apply]
  simp only [ds_real hq hk hw hg, hdT_real hk, ← EReal.coe_mul, sum_coe]
  rfl

include hq hk hg in
theorem dv_real (a : Fin 8192) (b : Fin 512) :
    gvT (ctT g) (divT (rE q k) (rL q k)) (ix2 a b)
      = ((dv (1 / 8) (hv Q (b / 128)) (hv K (b / 128)) (hv G (b / 128)) a (b % 128) : ℝ) : EReal) := by
  rw [gvT_apply]
  have hp : ∀ x : Fin 8192, divT (rE q k) (rL q k) (ix3 ⟨b / 128, by omega⟩ x a) = _ := fun x => by
    obtain ⟨M, hM⟩ := shift_real hq hk ⟨b / 128, by omega⟩ x
    exact weight_real hq hk hM a
  simp only [hp, ctT_real hg, ← EReal.coe_mul, sum_coe]
  rw [EReal.coe_eq_coe_iff]
  exact Finset.sum_congr rfl fun _ _ => mul_comm _ _
end
end Cert.ReferenceIdeal.Hand
-- ==== Proof.Finite.lean ====
module

public import proofs.«01_k».proof.Pre_finite
public import proofs.«01_k».proof.Proof.Consts
public import Idealize.ShloMosaic.Lib.ReduceAll
public import Idealize.ShloMosaic.Lib.Pointwise
public import Idealize.ShloMosaic.Lib.Affine

@[expose] public section

/-! What the precondition says: every entry of the four arguments is a real number. -/

noncomputable section
namespace Cert.Finite
open Idealize.ShloMosaic Cert.Pre_finite

theorem facts : Cert.Pre_finite.Facts where
  bitsLt_bf16_f32 := by decide
  bcast_S_S8192x512 := by decide
  reducesTo_S8192x512_S_d0_1 := by decide
  h_S_ := by decide

theorem bits_top : Ideal.ofBits FTy.f32 0x7F800000#32 = (⊤ : EReal) := by
  simp [Ideal.ofBits, Ideal.ieee]

/-- A value whose absolute value is below infinity is real. -/
theorem real_of_abs_lt (x : EReal) (h : max x (-x) < ⊤) : x = ((x.toReal : ℝ) : EReal) := by
  induction x using EReal.rec with
  | bot => simp at h
  | top => simp at h
  | coe r => rfl

theorem real_of_all [Cert.Pre_finite.Facts] (x : FVec Ideal S8192x512 .f32)
    (h : Host.reduce IntOp.andi (cmpf .olt (Host.absf x) (broadcastInDim S8192x512 ![] Facts.bcast_S_S8192x512 (constant (F := Ideal) S_ .f32 0x7F800000#32)))
      (constantI S_ 1 1#1) Facts.reducesTo_S8192x512_S_d0_1 Facts.h_S_ = fun _ => 1#1) (i : S8192x512.Idx) :
    x i = (((x i).toReal : ℝ) : EReal) := by
  haveI : Subsingleton S_.Idx := ⟨fun a b => funext fun k => k.elim0⟩
  have e := Host.reduce_andi_all _ _ _ _ (fun k => k.elim0) (congrFun h _) i
  apply real_of_abs_lt
  have e2 : Ideal.cmp .olt (max (x i) (-(x i))) (Ideal.ofBits FTy.f32 0x7F800000#32) = 1#1 := e
  rw [bits_top] at e2
  by_contra hc
  simp [Ideal.cmp, hc] at e2

theorem of_fn [Cert.Pre_finite.Facts] {a b c : FVec Ideal S8192x512 .bf16} {d : FVec Ideal S8192x512 .f32}
    (h : Cert.Pre_finite.fn (F := Ideal) a b c d = fun _ => 1#1) :
    (∀ i, a i = (((a i).toReal : ℝ) : EReal)) ∧ (∀ i, b i = (((b i).toReal : ℝ) : EReal))
      ∧ (∀ i, c i = (((c i).toReal : ℝ) : EReal)) ∧ ∀ i, d i = (((d i).toReal : ℝ) : EReal) := by
  have h' := fun j => congrFun h j
  simp only [fn, fn_part1, andi, IntOp.andi_eq_one] at h'
  exact ⟨real_of_all _ (funext fun j => (h' j).1.1.1), real_of_all _ (funext fun j => (h' j).1.1.2),
    real_of_all _ (funext fun j => (h' j).1.2), real_of_all _ (funext fun j => (h' j).2)⟩
end Cert.Finite
-- ==== Proof.Value.lean ====
module

public import proofs.«01_k».proof.Defs
public import proofs.«01_k».proof.Proof.Final
public import proofs.«01_k».proof.Proof.RefVal
public import proofs.«01_k».proof.Proof.Finite
public import Idealize.ShloMosaic.Lib.Quiescent

@[expose] public section

/-! The algebraic claim: over real arguments the ideal kernel's results are the reference's. -/

noncomputable section
namespace Cert.Value
open Idealize.ShloMosaic Idealize.ShloMosaic.TcCoe Idealize.SL.Sem Cert.Heads

/-- The real values of an array, by row and column. -/
def mat {ft : FTy} (x : FVec Ideal KernelIdeal.S8192x512 ft) : Mat := fun a b =>
  if h : a < 8192 ∧ b < 512 then (show EReal from x (ix2 ⟨a, h.1⟩ ⟨b, h.2⟩)).toReal else 0

theorem mat_real {ft : FTy} {x : FVec Ideal KernelIdeal.S8192x512 ft} (h : ∀ i, (show EReal from x i) = (((show EReal from x i).toReal : ℝ) : EReal)) :
    KernelIdeal.Hand.Real2 x (mat x) := by
  intro a b
  rw [mat, dif_pos ⟨a.isLt, b.isLt⟩]
  exact h _

theorem ix2_eta (y : KernelIdeal.S8192x512.Idx) : y = ix2 ⟨(y 0).val, (y 0).isLt⟩ ⟨(y 1).val, (y 1).isLt⟩ := by
  funext a; fin_cases a <;> rfl

section
variable {q k v : FVec Ideal KernelIdeal.S8192x512 .bf16} {g : FVec Ideal KernelIdeal.S8192x512 .f32} {Q K W G : Mat}
  (hq : KernelIdeal.Hand.Real2 q Q) (hk : KernelIdeal.Hand.Real2 k K) (hw : KernelIdeal.Hand.Real2 v W) (hg : KernelIdeal.Hand.Real2 g G)
include hq hk hw hg

theorem ref_dq : ReferenceIdeal.Hand.gqT (ReferenceIdeal.Hand.rD q k v g) (ReferenceIdeal.Hand.hdT k) = KernelIdeal.Hand.gradQ Q K W G := by
  funext y
  exact (congrArg _ (ix2_eta y)).trans (ReferenceIdeal.Hand.dq_real (Q := Q) (K := K) (W := W) (G := G) hq hk hw hg _ _)

theorem ref_dk : ReferenceIdeal.Hand.gkT (ReferenceIdeal.Hand.rD q k v g) (ReferenceIdeal.Hand.hdT q) = KernelIdeal.Hand.gradK Q K W G := by
  funext y
  exact (congrArg _ (ix2_eta y)).trans (ReferenceIdeal.Hand.dk_real (Q := Q) (K := K) (W := W) (G := G) hq hk hw hg _ _)

omit hw in
theorem ref_dv : ReferenceIdeal.Hand.gvT (ReferenceIdeal.Hand.ctT g) (ReferenceIdeal.Hand.divT (ReferenceIdeal.Hand.rE q k) (ReferenceIdeal.Hand.rL q k))
    = KernelIdeal.Hand.gradV Q K G := by
  funext y
  exact (congrArg _ (ix2_eta y)).trans (ReferenceIdeal.Hand.dv_real (Q := Q) (K := K) (G := G) hq hk hg _ _)
end

/-- The kernel's three results are `gradQ`, `gradK`, `gradV` of the arguments' reals, and so are the reference's. -/
theorem algebraic [Cert.Pre_finite.Facts] :
    algebraic_KernelIdeal_ReferenceIdeal_pre_finite (hKernelIdeal := KernelIdeal.Gen.facts) (hReferenceIdeal := ReferenceIdeal.Gen.facts) := by
  intro m ρ m' ρ' hpre hagree
  have hf := fun c => Finite.of_fn (hpre c)
  refine ⟨fun c => KernelIdeal.Hand.gradQ (mat (KernelIdeal.Hand.argQ m c)) (mat (KernelIdeal.Hand.argK m c)) (mat (KernelIdeal.Hand.argV m c)) (mat (KernelIdeal.Hand.argG m c)),
    fun c => KernelIdeal.Hand.gradK (mat (KernelIdeal.Hand.argQ m c)) (mat (KernelIdeal.Hand.argK m c)) (mat (KernelIdeal.Hand.argV m c)) (mat (KernelIdeal.Hand.argG m c)),
    fun c => KernelIdeal.Hand.gradV (mat (KernelIdeal.Hand.argQ m c)) (mat (KernelIdeal.Hand.argK m c)) (mat (KernelIdeal.Hand.argG m c)), ?_, ?_⟩
  · refine (θ_run _ _ _).mono (fun r h c => ?_) (KernelIdeal.Hand.run_main (F := Ideal) m ρ)
    obtain ⟨h1, h2, h3⟩ := KernelIdeal.Hand.results (c := c) (mat_real (hf c).1) (mat_real (hf c).2.1) (mat_real (hf c).2.2.1) (mat_real (hf c).2.2.2) h.1
    exact ⟨h1, h2, h3, KernelIdeal.Hand.args_of_post m h.1 c⟩
  · refine (θ_run _ _ _).mono (fun r h c => ?_) (ReferenceIdeal.Value.run (F := Ideal) m' ρ')
    obtain ⟨a0, a1, a2, a3⟩ := hagree c
    obtain ⟨h1, h2, h3, h4⟩ := h c
    refine ⟨h1.trans ?_, h2.trans ?_, h3.trans ?_, h4⟩
    · refine (ReferenceIdeal.Hand.res_dq m' c).trans (Eq.trans ?_ (ref_dq (mat_real (hf c).1) (mat_real (hf c).2.1) (mat_real (hf c).2.2.1) (mat_real (hf c).2.2.2)))
      exact congr (congrArg _ (congr (congr (congr (congrArg _ a0) a1) a2) a3)) (congrArg _ a1)
    · refine (ReferenceIdeal.Hand.res_dk m' c).trans (Eq.trans ?_ (ref_dk (mat_real (hf c).1) (mat_real (hf c).2.1) (mat_real (hf c).2.2.1) (mat_real (hf c).2.2.2)))
      exact congr (congrArg _ (congr (congr (congr (congrArg _ a0) a1) a2) a3)) (congrArg _ a0)
    · refine Eq.trans ?_ (ref_dv (mat_real (hf c).1) (mat_real (hf c).2.1) (mat_real (hf c).2.2.2))
      refine Eq.trans (b := ReferenceIdeal.Hand.gvT (ReferenceIdeal.Hand.ctT (ReferenceIdeal.Hand.argG m' c)) (ReferenceIdeal.Hand.divT (ReferenceIdeal.Hand.rE (ReferenceIdeal.Hand.argQ m' c) (ReferenceIdeal.Hand.argK m' c)) (ReferenceIdeal.Hand.rL (ReferenceIdeal.Hand.argQ m' c) (ReferenceIdeal.Hand.argK m' c)))) rfl ?_
      exact congr (congrArg _ (congrArg _ a3)) (congr (congrArg _ (congr (congrArg _ a0) a1)) (congr (congrArg _ a0) a1))

/-- The reference ends with its arguments unchanged; its program has no semaphore. -/
theorem reference_frame : quiescent_ReferenceIdeal (hReferenceIdeal := ReferenceIdeal.Gen.facts) := fun m ρ _ =>
  (θ_run ReferenceIdeal.defs _ _).mono (fun r h => ⟨fun c => (h c).2.2.2, Idealize.ShloMosaic.sem_eq_zero_of_no_sems (by decide) r.2⟩)
    (ReferenceIdeal.Value.run (F := Ideal) m ρ)
end Cert.Value
-- ==== Proof.Latent.Conds.lean ====
/-
  What the runs of the ideal kernel's body share: the body's branch conditions over the grid's points, the windows that are never idle,
  and the staging memrefs of a point.
-/
module

public import proofs.«01_k».proof.Proof.Gen.Kernel2Ideal.Frame
public import proofs.«01_k».proof.Proof.Gen.Kernel2Ideal.Skeleton
public import proofs.«01_k».proof.Proof.Gen.Kernel2Ideal.Points

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.Sem

/-- The condition of the body's `scf.if` 0 (`k0_h1`), from the grid coordinates (its scalar chain substituted). -/
abbrev cond0_0 (i : grid0.Coords) : Prop := k0_cond1 i = 1#1
/-- It holds at the points whose coordinates have i1 = 0 — by arithmetic of the point. -/
theorem hcond0_0 : ∀ t : Fin cfg0.N, cond0_0 (grid0.coords t) ↔ t.val / 4 % 8 = 0 :=
  (fun t => by
    have ht : t.val < 128 := Nat.lt_of_lt_of_eq t.isLt N_0
    have e0 : (grid0.coords t 0).val = t.val / 32 % 4 := Pipeline.Grid.coords_val t 0 (by decide) rfl
    have e1 : (grid0.coords t 1).val = t.val / 4 % 8 := Pipeline.Grid.coords_val t 1 (by decide) rfl
    have e2 : (grid0.coords t 2).val = t.val / 1 % 4 := Pipeline.Grid.coords_val t 2 (by decide) rfl
    simp only [cond0_0, k0_cond1, e0, e1, e2]
    word_cmp
   : ∀ t : Fin grid0.N, cond0_0 (grid0.coords t) ↔ t.val / 4 % 8 = 0)

/-- The condition of the body's `scf.if` 1 (`k0_h2`), from the grid coordinates (its scalar chain substituted). -/
abbrev cond0_1 (i : grid0.Coords) : Prop := k0_cond2 i = 1#1
/-- It holds at the points whose coordinates have 1 ≤ i1 — decided over the grid. -/
theorem hcond0_1 : ∀ t : Fin cfg0.N, cond0_1 (grid0.coords t) ↔ 1 ≤ t.val / 4 % 8 :=
  (by decide +kernel : ∀ t : Fin grid0.N, cond0_1 (grid0.coords t) ↔ 1 ≤ t.val / 4 % 8)

/-- The condition of the body's `scf.if` 2 (`k0_h3`), from the grid coordinates (its scalar chain substituted). -/
abbrev cond0_2 (i : grid0.Coords) : Prop := k0_cond3 i = 1#1
/-- It holds at the points ≡ 0 (mod 4) — by arithmetic of the point. -/
theorem hcond0_2 : ∀ t : Fin cfg0.N, cond0_2 (grid0.coords t) ↔ t.val % 4 = 0 :=
  (fun t => by
    have ht : t.val < 128 := Nat.lt_of_lt_of_eq t.isLt N_0
    have e0 : (grid0.coords t 0).val = t.val / 32 % 4 := Pipeline.Grid.coords_val t 0 (by decide) rfl
    have e1 : (grid0.coords t 1).val = t.val / 4 % 8 := Pipeline.Grid.coords_val t 1 (by decide) rfl
    have e2 : (grid0.coords t 2).val = t.val / 1 % 4 := Pipeline.Grid.coords_val t 2 (by decide) rfl
    simp only [cond0_2, k0_cond3, e0, e1, e2]
    word_cmp
   : ∀ t : Fin grid0.N, cond0_2 (grid0.coords t) ↔ t.val % 4 = 0)

/-- The condition of the body's `scf.if` 3 (`k0_h4`), from the grid coordinates (its scalar chain substituted). -/
abbrev cond0_3 (i : grid0.Coords) : Prop := k0_cond4 i = 1#1
/-- It holds at the points whose coordinates have 1 ≤ i2 — decided over the grid. -/
theorem hcond0_3 : ∀ t : Fin cfg0.N, cond0_3 (grid0.coords t) ↔ 1 ≤ t.val % 4 :=
  (by decide +kernel : ∀ t : Fin grid0.N, cond0_3 (grid0.coords t) ↔ 1 ≤ t.val % 4)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl

/-- Each window's current staging memref at point `t`, spelled as the pipeline passes it (`bodyAt0`), and its wholeness. -/
abbrev ms0_0 (t : Fin cfg0.N) : Memref sig .tc .vmem S1024x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8192x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x128 .f32 := win0_8.stage (cfg0.slots t 8)
abbrev hs0_8 (t : Fin cfg0.N) : (ms0_8 t).IsWhole := hstage0_8 ((cfg0.slots t 8).cast nbuf0_8)

end Cert.Kernel2Ideal.Hand

end
-- ==== Proof.Latent.Rows.lean ====
/-
  How a store of 2048 whole rows changes the block of dq: inside the rows it leaves its payload, outside it leaves what was there.
-/
module

public import proofs.«01_k».proof.Proof.Latent.Conds
public import Idealize.ShloMosaic.Lib.VecWindow
public import Idealize.ShloMosaic.Lib.WritesUnit
public import Idealize.ShloMosaic.Lib.WholeRead

@[expose] public section

noncomputable section

namespace Cert.Kernel2Ideal.Hand

open Cert.Kernel2Ideal Cert.Kernel2Ideal.Gen
open Idealize.ShloMosaic Idealize.ShloMosaic.TcCoe

variable {F : FTy → Type} [FloatOps F]

theorem hz : (![0, 0] : Fin 2 → Nat) = fun _ => 0 := funext fun a => by fin_cases a <;> rfl

theorem hz3 : (![0, 0, 0] : Fin 3 → Nat) = fun _ => 0 := funext fun a => by fin_cases a <;> rfl

/-- `X` is `Y` with the rows from `2048 * n` on replaced by the tile `T`. -/
def Put (n : ℕ) (X Y : Vec F S8192x128 .f32) (T : Vec F S2048x128 .f32) : Prop :=
  (∀ (y : S8192x128.Idx) (x : S2048x128.Idx), (y 0).val = 2048 * n + (x 0).val → (y 1).val = (x 1).val → X y = T x) ∧
  ∀ y : S8192x128.Idx, (y 0).val < 2048 * n ∨ 2048 * n + 2048 ≤ (y 0).val → X y = Y y

/-- One store of 2048 rows into a whole buffer that read `Y` puts its payload over those rows. -/
theorem put_of_writes {κ : Kind} {sp : Space} (v : View sig κ sp S8192x128 .f32) (f : v.ty.Contents (Elt F)) (n : ℕ)
    (off : Fin 2 → ℕ) (hoff : off = ![2048 * n, 0]) (inb : ∀ a, off a + S2048x128.size a ≤ S8192x128.size a)
    (T : Vec F S2048x128 .f32) :
    Put (F := F) n (v.read (Elt F) (v.writes (Elt F) f [⟨Rect.unit (s := S8192x128) off S2048x128.size inb, T⟩])) (v.read (Elt F) f) T :=
  ⟨fun y x h0 h1 => View.read_writes_cons_rows_of_mem v f inb T [] y x hoff h0 h1,
    fun y h => View.read_writes_cons_rows_of_not_mem v f inb T [] y hoff rfl h⟩

end Cert.Kernel2Ideal.Hand

end
-- ==== Proof.Latent.RunA.lean ====
/-
  The body of the ideal kernel at the first key tile, the first query tile: every output block is assigned.
  The run says what it leaves in the three output blocks, as a function of the input blocks and of what the output blocks held.
-/
module

public import proofs.«01_k».proof.Proof.Latent.Rows

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body at the first key tile, the first query tile: every output block is assigned. -/
theorem run_A (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x2048x1 .f32) (harg8 : arg8.IsWhole) (arg9 : Memref sig .tc .vmem S8192x128 .f32) (harg9 : arg9.IsWhole) (arg10 : Memref sig .tc .vmem S1024x128 .f32) (harg10 : arg10.IsWhole) (arg11 : Memref sig .tc .vmem S1024x128 .f32) (harg11 : arg11.IsWhole) (hc0 : cond0_0 i) (hc1 : ¬cond0_1 i) (hc2 : cond0_2 i) (hc3 : ¬cond0_3 i)
    (x0 : Vec F S1024x128 .bf16) (x1 : Vec F S1024x128 .bf16) (x2 : Vec F S2048x128 .bf16) (x3 : Vec F S2048x128 .f32) (x4 : Vec F S2048x128 .f32) (x5 : Vec F S1x2048x1 .f32) (y6 : Vec F S8192x128 .f32) (y7 : Vec F S1024x128 .f32) (y8 : Vec F S1024x128 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare y6 ∗ owns (c : Thread nD τ) arg10 fullShare y7 ∗ owns (c : Thread nD τ) arg11 fullShare y8
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ X, ⌜Put (i 2).val X y6 (k0_pay2 x0 (k0_pay9 x0 x1 x2 x3 x4 x5))⌝ ∗ owns (c : Thread nD τ) arg9 fullShare X) ∗ owns (c : Thread nD τ) arg10 fullShare (k0_pay1 k0_pay6 x2 (k0_pay9 x0 x1 x2 x3 x4 x5)) ∗ owns (c : Thread nD τ) arg11 fullShare (k0_pay8 x0 x2 x3 x5)) -∗ K ⟨⟩))
          ⊢ wp frame (wpE (defs₀ (F := F)) Variants.none c none) E (cc0_l1_a_attn_b i arg3 harg3 arg4 harg4 arg5 harg5 arg6 harg6 arg7 harg7 arg8 harg8 arg9 harg9 arg10 harg10 arg11 harg11) K := by
    intro E K
    simp only [cc0_l1_a_attn_b_eq_skeleton]; unfold cc0_l1_a_attn_b_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; swap
      · iexists _; isplitr; swap; · iexact H6
        ipureintro; rfl
      ipureintro
      have h := put_of_writes arg9.view (harg9.unread y6) (i 2).val _ (k0_off1_eq i) (k0_off1_inb i hc0) (k0_pay2 x0 (k0_pay9 x0 x1 x2 x3 x4 x5))
      rw [harg9.read_unread] at h
      sl_unfold_words
      simp only [View.readAt_eq_ld, harg3.read_unread, harg4.read_unread, harg5.read_unread, harg6.read_unread, harg7.read_unread, harg8.read_unread, harg9.read_unread, harg10.read_unread, harg11.read_unread, View.ld_unit_zero (S := S1024x128) hz, View.ld_unit_zero (S := S2048x128) hz, View.ld_unit_zero (S := S1x2048x1) hz3]
      exact h
    isplitl [H7]
    · iexists _; isplitr; swap; · iexact H7
      ipureintro
      refine (View.read_writes_full _ _ _ _ _).trans ?_
      sl_unfold_words
      simp only [View.readAt_eq_ld, harg3.read_unread, harg4.read_unread, harg5.read_unread, harg6.read_unread, harg7.read_unread, harg8.read_unread, harg9.read_unread, harg10.read_unread, harg11.read_unread, View.ld_unit_zero (S := S1024x128) hz, View.ld_unit_zero (S := S2048x128) hz, View.ld_unit_zero (S := S1x2048x1) hz3]
    iexists _; isplitr; swap; · iexact H8
    ipureintro
    refine (View.read_writes_full _ _ _ _ _).trans ?_
    sl_unfold_words
    simp only [View.readAt_eq_ld, harg3.read_unread, harg4.read_unread, harg5.read_unread, harg6.read_unread, harg7.read_unread, harg8.read_unread, harg9.read_unread, harg10.read_unread, harg11.read_unread, View.ld_unit_zero (S := S1024x128) hz, View.ld_unit_zero (S := S2048x128) hz, View.ld_unit_zero (S := S1x2048x1) hz3]

end Cert.Kernel2Ideal.Hand

end
-- ==== Proof.Latent.RunB.lean ====
/-
  The body of the ideal kernel at the first key tile, a later query tile: the rows of dq are assigned, dk and dv are added to.
  The run says what it leaves in the three output blocks, as a function of the input blocks and of what the output blocks held.
-/
module

public import proofs.«01_k».proof.Proof.Latent.RunA

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body at the first key tile, a later query tile: the rows of dq are assigned, dk and dv are added to. -/
theorem run_B (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x2048x1 .f32) (harg8 : arg8.IsWhole) (arg9 : Memref sig .tc .vmem S8192x128 .f32) (harg9 : arg9.IsWhole) (arg10 : Memref sig .tc .vmem S1024x128 .f32) (harg10 : arg10.IsWhole) (arg11 : Memref sig .tc .vmem S1024x128 .f32) (harg11 : arg11.IsWhole) (hc0 : cond0_0 i) (hc1 : ¬cond0_1 i) (hc2 : ¬cond0_2 i) (hc3 : cond0_3 i)
    (x0 : Vec F S1024x128 .bf16) (x1 : Vec F S1024x128 .bf16) (x2 : Vec F S2048x128 .bf16) (x3 : Vec F S2048x128 .f32) (x4 : Vec F S2048x128 .f32) (x5 : Vec F S1x2048x1 .f32) (y6 : Vec F S8192x128 .f32) (y7 : Vec F S1024x128 .f32) (y8 : Vec F S1024x128 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare y6 ∗ owns (c : Thread nD τ) arg10 fullShare y7 ∗ owns (c : Thread nD τ) arg11 fullShare y8
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ X, ⌜Put (i 2).val X y6 (k0_pay2 x0 (k0_pay9 x0 x1 x2 x3 x4 x5))⌝ ∗ owns (c : Thread nD τ) arg9 fullShare X) ∗ owns (c : Thread nD τ) arg10 fullShare (k0_pay4 k0_pay6 x2 (k0_pay9 x0 x1 x2 x3 x4 x5) y7) ∗ owns (c : Thread nD τ) arg11 fullShare (k0_pay5 (k0_pay8 x0 x2 x3 x5) y8)) -∗ K ⟨⟩))
          ⊢ wp frame (wpE (defs₀ (F := F)) Variants.none c none) E (cc0_l1_a_attn_b i arg3 harg3 arg4 harg4 arg5 harg5 arg6 harg6 arg7 harg7 arg8 harg8 arg9 harg9 arg10 harg10 arg11 harg11) K := by
    intro E K
    simp only [cc0_l1_a_attn_b_eq_skeleton]; unfold cc0_l1_a_attn_b_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; swap
      · iexists _; isplitr; swap; · iexact H6
        ipureintro; rfl
      ipureintro
      have h := put_of_writes arg9.view (harg9.unread y6) (i 2).val _ (k0_off1_eq i) (k0_off1_inb i hc0) (k0_pay2 x0 (k0_pay9 x0 x1 x2 x3 x4 x5))
      rw [harg9.read_unread] at h
      sl_unfold_words
      simp only [View.readAt_eq_ld, harg3.read_unread, harg4.read_unread, harg5.read_unread, harg6.read_unread, harg7.read_unread, harg8.read_unread, harg9.read_unread, harg10.read_unread, harg11.read_unread, View.ld_unit_zero (S := S1024x128) hz, View.ld_unit_zero (S := S2048x128) hz, View.ld_unit_zero (S := S1x2048x1) hz3]
      exact h
    isplitl [H7]
    · iexists _; isplitr; swap; · iexact H7
      ipureintro
      refine (View.read_writes_full _ _ _ _ _).trans ?_
      sl_unfold_words
      simp only [View.readAt_eq_ld, harg3.read_unread, harg4.read_unread, harg5.read_unread, harg6.read_unread, harg7.read_unread, harg8.read_unread, harg9.read_unread, harg10.read_unread, harg11.read_unread, View.ld_unit_zero (S := S1024x128) hz, View.ld_unit_zero (S := S2048x128) hz, View.ld_unit_zero (S := S1x2048x1) hz3]
    iexists _; isplitr; swap; · iexact H8
    ipureintro
    refine (View.read_writes_full _ _ _ _ _).trans ?_
    sl_unfold_words
    simp only [View.readAt_eq_ld, harg3.read_unread, harg4.read_unread, harg5.read_unread, harg6.read_unread, harg7.read_unread, harg8.read_unread, harg9.read_unread, harg10.read_unread, harg11.read_unread, View.ld_unit_zero (S := S1024x128) hz, View.ld_unit_zero (S := S2048x128) hz, View.ld_unit_zero (S := S1x2048x1) hz3]

end Cert.Kernel2Ideal.Hand

end
-- ==== Proof.Latent.RunC.lean ====
/-
  The body of the ideal kernel at a later key tile, the first query tile: the rows of dq are added to, dk and dv are assigned.
  The run says what it leaves in the three output blocks, as a function of the input blocks and of what the output blocks held.
-/
module

public import proofs.«01_k».proof.Proof.Latent.RunB

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body at a later key tile, the first query tile: the rows of dq are added to, dk and dv are assigned. -/
theorem run_C (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x2048x1 .f32) (harg8 : arg8.IsWhole) (arg9 : Memref sig .tc .vmem S8192x128 .f32) (harg9 : arg9.IsWhole) (arg10 : Memref sig .tc .vmem S1024x128 .f32) (harg10 : arg10.IsWhole) (arg11 : Memref sig .tc .vmem S1024x128 .f32) (harg11 : arg11.IsWhole) (hc0 : ¬cond0_0 i) (hc1 : cond0_1 i) (hc2 : cond0_2 i) (hc3 : ¬cond0_3 i)
    (x0 : Vec F S1024x128 .bf16) (x1 : Vec F S1024x128 .bf16) (x2 : Vec F S2048x128 .bf16) (x3 : Vec F S2048x128 .f32) (x4 : Vec F S2048x128 .f32) (x5 : Vec F S1x2048x1 .f32) (y6 : Vec F S8192x128 .f32) (y7 : Vec F S1024x128 .f32) (y8 : Vec F S1024x128 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare y6 ∗ owns (c : Thread nD τ) arg10 fullShare y7 ∗ owns (c : Thread nD τ) arg11 fullShare y8
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ X, ⌜Put (i 2).val X y6 (k0_pay3 x0 (k0_pay9 x0 x1 x2 x3 x4 x5) (View.ld y6 (Rect.unit (s := S8192x128) (k0_off2 i) S2048x128.size (k0_off2_inb i hc1))))⌝ ∗ owns (c : Thread nD τ) arg9 fullShare X) ∗ owns (c : Thread nD τ) arg10 fullShare (k0_pay1 k0_pay6 x2 (k0_pay9 x0 x1 x2 x3 x4 x5)) ∗ owns (c : Thread nD τ) arg11 fullShare (k0_pay8 x0 x2 x3 x5)) -∗ K ⟨⟩))
          ⊢ wp frame (wpE (defs₀ (F := F)) Variants.none c none) E (cc0_l1_a_attn_b i arg3 harg3 arg4 harg4 arg5 harg5 arg6 harg6 arg7 harg7 arg8 harg8 arg9 harg9 arg10 harg10 arg11 harg11) K := by
    intro E K
    simp only [cc0_l1_a_attn_b_eq_skeleton]; unfold cc0_l1_a_attn_b_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; swap
      · iexists _; isplitr; swap; · iexact H6
        ipureintro; rfl
      ipureintro
      have h := put_of_writes arg9.view (harg9.unread y6) (i 2).val _ (k0_off2_eq i) (k0_off2_inb i hc1) (k0_pay3 x0 (k0_pay9 x0 x1 x2 x3 x4 x5) (View.ld y6 (Rect.unit (s := S8192x128) (k0_off2 i) S2048x128.size (k0_off2_inb i hc1))))
      rw [harg9.read_unread] at h
      sl_unfold_words
      simp only [View.readAt_eq_ld, harg3.read_unread, harg4.read_unread, harg5.read_unread, harg6.read_unread, harg7.read_unread, harg8.read_unread, harg9.read_unread, harg10.read_unread, harg11.read_unread, View.ld_unit_zero (S := S1024x128) hz, View.ld_unit_zero (S := S2048x128) hz, View.ld_unit_zero (S := S1x2048x1) hz3]
      exact h
    isplitl [H7]
    · iexists _; isplitr; swap; · iexact H7
      ipureintro
      refine (View.read_writes_full _ _ _ _ _).trans ?_
      sl_unfold_words
      simp only [View.readAt_eq_ld, harg3.read_unread, harg4.read_unread, harg5.read_unread, harg6.read_unread, harg7.read_unread, harg8.read_unread, harg9.read_unread, harg10.read_unread, harg11.read_unread, View.ld_unit_zero (S := S1024x128) hz, View.ld_unit_zero (S := S2048x128) hz, View.ld_unit_zero (S := S1x2048x1) hz3]
    iexists _; isplitr; swap; · iexact H8
    ipureintro
    refine (View.read_writes_full _ _ _ _ _).trans ?_
    sl_unfold_words
    simp only [View.readAt_eq_ld, harg3.read_unread, harg4.read_unread, harg5.read_unread, harg6.read_unread, harg7.read_unread, harg8.read_unread, harg9.read_unread, harg10.read_unread, harg11.read_unread, View.ld_unit_zero (S := S1024x128) hz, View.ld_unit_zero (S := S2048x128) hz, View.ld_unit_zero (S := S1x2048x1) hz3]

end Cert.Kernel2Ideal.Hand

end
-- ==== Proof.Latent.RunD.lean ====
/-
  The body of the ideal kernel at a later key tile, a later query tile: every output block is added to.
  The run says what it leaves in the three output blocks, as a function of the input blocks and of what the output blocks held.
-/
module

public import proofs.«01_k».proof.Proof.Latent.RunC

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body at a later key tile, a later query tile: every output block is added to. -/
theorem run_D (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x2048x1 .f32) (harg8 : arg8.IsWhole) (arg9 : Memref sig .tc .vmem S8192x128 .f32) (harg9 : arg9.IsWhole) (arg10 : Memref sig .tc .vmem S1024x128 .f32) (harg10 : arg10.IsWhole) (arg11 : Memref sig .tc .vmem S1024x128 .f32) (harg11 : arg11.IsWhole) (hc0 : ¬cond0_0 i) (hc1 : cond0_1 i) (hc2 : ¬cond0_2 i) (hc3 : cond0_3 i)
    (x0 : Vec F S1024x128 .bf16) (x1 : Vec F S1024x128 .bf16) (x2 : Vec F S2048x128 .bf16) (x3 : Vec F S2048x128 .f32) (x4 : Vec F S2048x128 .f32) (x5 : Vec F S1x2048x1 .f32) (y6 : Vec F S8192x128 .f32) (y7 : Vec F S1024x128 .f32) (y8 : Vec F S1024x128 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare y6 ∗ owns (c : Thread nD τ) arg10 fullShare y7 ∗ owns (c : Thread nD τ) arg11 fullShare y8
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ X, ⌜Put (i 2).val X y6 (k0_pay3 x0 (k0_pay9 x0 x1 x2 x3 x4 x5) (View.ld y6 (Rect.unit (s := S8192x128) (k0_off2 i) S2048x128.size (k0_off2_inb i hc1))))⌝ ∗ owns (c : Thread nD τ) arg9 fullShare X) ∗ owns (c : Thread nD τ) arg10 fullShare (k0_pay4 k0_pay6 x2 (k0_pay9 x0 x1 x2 x3 x4 x5) y7) ∗ owns (c : Thread nD τ) arg11 fullShare (k0_pay5 (k0_pay8 x0 x2 x3 x5) y8)) -∗ K ⟨⟩))
          ⊢ wp frame (wpE (defs₀ (F := F)) Variants.none c none) E (cc0_l1_a_attn_b i arg3 harg3 arg4 harg4 arg5 harg5 arg6 harg6 arg7 harg7 arg8 harg8 arg9 harg9 arg10 harg10 arg11 harg11) K := by
    intro E K
    simp only [cc0_l1_a_attn_b_eq_skeleton]; unfold cc0_l1_a_attn_b_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; swap
      · iexists _; isplitr; swap; · iexact H6
        ipureintro; rfl
      ipureintro
      have h := put_of_writes arg9.view (harg9.unread y6) (i 2).val _ (k0_off2_eq i) (k0_off2_inb i hc1) (k0_pay3 x0 (k0_pay9 x0 x1 x2 x3 x4 x5) (View.ld y6 (Rect.unit (s := S8192x128) (k0_off2 i) S2048x128.size (k0_off2_inb i hc1))))
      rw [harg9.read_unread] at h
      sl_unfold_words
      simp only [View.readAt_eq_ld, harg3.read_unread, harg4.read_unread, harg5.read_unread, harg6.read_unread, harg7.read_unread, harg8.read_unread, harg9.read_unread, harg10.read_unread, harg11.read_unread, View.ld_unit_zero (S := S1024x128) hz, View.ld_unit_zero (S := S2048x128) hz, View.ld_unit_zero (S := S1x2048x1) hz3]
      exact h
    isplitl [H7]
    · iexists _; isplitr; swap; · iexact H7
      ipureintro
      refine (View.read_writes_full _ _ _ _ _).trans ?_
      sl_unfold_words
      simp only [View.readAt_eq_ld, harg3.read_unread, harg4.read_unread, harg5.read_unread, harg6.read_unread, harg7.read_unread, harg8.read_unread, harg9.read_unread, harg10.read_unread, harg11.read_unread, View.ld_unit_zero (S := S1024x128) hz, View.ld_unit_zero (S := S2048x128) hz, View.ld_unit_zero (S := S1x2048x1) hz3]
    iexists _; isplitr; swap; · iexact H8
    ipureintro
    refine (View.read_writes_full _ _ _ _ _).trans ?_
    sl_unfold_words
    simp only [View.readAt_eq_ld, harg3.read_unread, harg4.read_unread, harg5.read_unread, harg6.read_unread, harg7.read_unread, harg8.read_unread, harg9.read_unread, harg10.read_unread, harg11.read_unread, View.ld_unit_zero (S := S1024x128) hz, View.ld_unit_zero (S := S2048x128) hz, View.ld_unit_zero (S := S1x2048x1) hz3]

end Cert.Kernel2Ideal.Hand

end
-- ==== Proof.Latent.Acc.lean ====
/-
  What the three output blocks of the ideal kernel hold along the grid.

  A grid point is `32 * g + 4 * j + i`: head `g`, key tile `j`, query tile `i`. The block of dk (and of dv) of a key tile is summed over
  the query tiles, which are the last axis; the block of dq of a head stays for the head's 32 points, and its rows of query tile `i`
  are summed over the key tiles, in steps of four points.
-/
module

public import proofs.«01_k».proof.Proof.Latent.Rows

@[expose] public section

noncomputable section

namespace Cert.Kernel2Ideal.Hand

open Cert.Kernel2Ideal Cert.Kernel2Ideal.Gen
open Idealize.ShloMosaic Idealize.ShloMosaic.TcCoe

variable {F : FTy → Type} [FloatOps F] [Named F]

variable (m : (ℓ : Loc nD τ sig) → Buf (Elt F) ℓ)

/-- The grid point of a number. -/
def pt (n : ℕ) : Fin cfg0.N := ⟨n % 128, Nat.lt_of_lt_of_eq (Nat.mod_lt _ (by decide)) N_0.symm⟩

theorem pt_val (t : Fin cfg0.N) : pt t.val = t := by
  have ht : t.val < 128 := Nat.lt_of_lt_of_eq t.isLt N_0
  exact Fin.ext (Nat.mod_eq_of_lt ht)

theorem pt_of_eq {n : ℕ} {t : Fin cfg0.N} (h : n = t.val) : pt n = t := by rw [h, pt_val]

/-- The blocks that the body reads at a point. -/
abbrev kB (c : Dev nD) (t : Fin cfg0.N) : Vec F S1024x128 .bf16 := iblk m c 0 t
abbrev vB (c : Dev nD) (t : Fin cfg0.N) : Vec F S1024x128 .bf16 := iblk m c 1 t
abbrev qB (c : Dev nD) (t : Fin cfg0.N) : Vec F S2048x128 .bf16 := iblk m c 2 t
abbrev doB (c : Dev nD) (t : Fin cfg0.N) : Vec F S2048x128 .f32 := iblk m c 3 t
abbrev oB (c : Dev nD) (t : Fin cfg0.N) : Vec F S2048x128 .f32 := iblk m c 4 t
abbrev lseB (c : Dev nD) (t : Fin cfg0.N) : Vec F S1x2048x1 .f32 := iblk m c 5 t

/-- The tile of the gradient of the scores at a point, and its share of dv. -/
def dsT (c : Dev nD) (t : Fin cfg0.N) : FVec F S2048x1024 .f32 :=
  k0_pay9 (kB m c t) (vB m c t) (qB m c t) (doB m c t) (oB m c t) (lseB m c t)
def dvT (c : Dev nD) (t : Fin cfg0.N) : FVec F S1024x128 .f32 := k0_pay8 (kB m c t) (qB m c t) (doB m c t) (lseB m c t)

/-- dk's block after `i + 1` query tiles, from point `b` on. -/
def accK (c : Dev nD) (b : ℕ) : ℕ → Vec F S1024x128 .f32
  | 0 => k0_pay1 k0_pay6 (qB m c (pt b)) (dsT m c (pt b))
  | i + 1 => k0_pay4 k0_pay6 (qB m c (pt (b + (i + 1)))) (dsT m c (pt (b + (i + 1)))) (accK c b i)

/-- dv's block after `i + 1` query tiles, from point `b` on. -/
def accV (c : Dev nD) (b : ℕ) : ℕ → Vec F S1024x128 .f32
  | 0 => dvT m c (pt b)
  | i + 1 => k0_pay5 (dvT m c (pt (b + (i + 1)))) (accV c b i)

/-- A query tile of dq after `j + 1` key tiles, from point `b` on. -/
def accQ (c : Dev nD) (b : ℕ) : ℕ → Vec F S2048x128 .f32
  | 0 => k0_pay2 (kB m c (pt b)) (dsT m c (pt b))
  | j + 1 => k0_pay3 (kB m c (pt (b + 4 * (j + 1)))) (dsT m c (pt (b + 4 * (j + 1)))) (accQ c b j)

/-- The rows of query tile `n` of a block of dq are the tile `T`. -/
def RowsAre (n : ℕ) (X : Vec F S8192x128 .f32) (T : Vec F S2048x128 .f32) : Prop :=
  ∀ (y : S8192x128.Idx) (x : S2048x128.Idx), (y 0).val = 2048 * n + (x 0).val → (y 1).val = (x 1).val → X y = T x

/-- What the block of dq is known to hold after point `t`: the query tiles that the head's last four points have written. -/
def QIs (c : Dev nD) (t : ℕ) (X : Vec F S8192x128 .f32) : Prop :=
  ∀ n, n ≤ t → t < n + 4 → n / 32 = t / 32 → RowsAre (n % 4) X (accQ m c (n / 32 * 32 + n % 4) (n / 4 % 8))

/-- A load of rows that are `T` reads `T`. -/
theorem ld_rows {n : ℕ} {X : Vec F S8192x128 .f32} {T : Vec F S2048x128 .f32} (h : RowsAre n X T) (off : Fin 2 → ℕ) (hoff : off = ![2048 * n, 0])
    (inb : ∀ a, off a + S2048x128.size a ≤ S8192x128.size a) : View.ld X (Rect.unit (s := S8192x128) off S2048x128.size inb) = T := by
  subst hoff
  funext x
  refine h _ x ?_ ?_
  · show 2048 * n + 1 * (x 0).val = _
    omega
  · show 0 + 1 * (x 1).val = _
    omega

theorem accK_zero (c : Dev nD) (t : Fin cfg0.N) (h : t.val % 4 = 0) :
    k0_pay1 k0_pay6 (qB m c t) (dsT m c t) = accK m c (t.val / 4 * 4) (t.val % 4) := by
  rw [h]; unfold accK; rw [pt_of_eq (t := t) (by omega)]

theorem accK_succ (c : Dev nD) (t : Fin cfg0.N) (h : 1 ≤ t.val % 4) :
    k0_pay4 k0_pay6 (qB m c t) (dsT m c t) (accK m c ((t.val - 1) / 4 * 4) ((t.val - 1) % 4)) = accK m c (t.val / 4 * 4) (t.val % 4) := by
  obtain ⟨i, hi⟩ : ∃ i, t.val % 4 = i + 1 := ⟨t.val % 4 - 1, by omega⟩
  rw [hi, show (t.val - 1) / 4 * 4 = t.val / 4 * 4 by omega, show (t.val - 1) % 4 = i by omega]
  show _ = k0_pay4 k0_pay6 (qB m c (pt (t.val / 4 * 4 + (i + 1)))) (dsT m c (pt (t.val / 4 * 4 + (i + 1)))) (accK m c (t.val / 4 * 4) i)
  rw [pt_of_eq (t := t) (by omega)]

theorem accV_zero (c : Dev nD) (t : Fin cfg0.N) (h : t.val % 4 = 0) : dvT m c t = accV m c (t.val / 4 * 4) (t.val % 4) := by
  rw [h]; unfold accV; rw [pt_of_eq (t := t) (by omega)]

theorem accV_succ (c : Dev nD) (t : Fin cfg0.N) (h : 1 ≤ t.val % 4) :
    k0_pay5 (dvT m c t) (accV m c ((t.val - 1) / 4 * 4) ((t.val - 1) % 4)) = accV m c (t.val / 4 * 4) (t.val % 4) := by
  obtain ⟨i, hi⟩ : ∃ i, t.val % 4 = i + 1 := ⟨t.val % 4 - 1, by omega⟩
  rw [hi, show (t.val - 1) / 4 * 4 = t.val / 4 * 4 by omega, show (t.val - 1) % 4 = i by omega]
  show _ = k0_pay5 (dvT m c (pt (t.val / 4 * 4 + (i + 1)))) (accV m c (t.val / 4 * 4) i)
  rw [pt_of_eq (t := t) (by omega)]

theorem accQ_zero (c : Dev nD) (t : Fin cfg0.N) (h : t.val / 4 % 8 = 0) :
    k0_pay2 (kB m c t) (dsT m c t) = accQ m c (t.val / 32 * 32 + t.val % 4) (t.val / 4 % 8) := by
  rw [h]; unfold accQ; rw [pt_of_eq (t := t) (by omega)]

theorem accQ_succ (c : Dev nD) (t : Fin cfg0.N) (h : 1 ≤ t.val / 4 % 8) :
    k0_pay3 (kB m c t) (dsT m c t) (accQ m c ((t.val - 4) / 32 * 32 + (t.val - 4) % 4) ((t.val - 4) / 4 % 8))
      = accQ m c (t.val / 32 * 32 + t.val % 4) (t.val / 4 % 8) := by
  obtain ⟨j, hj⟩ : ∃ j, t.val / 4 % 8 = j + 1 := ⟨t.val / 4 % 8 - 1, by omega⟩
  rw [hj, show (t.val - 4) / 32 * 32 + (t.val - 4) % 4 = t.val / 32 * 32 + t.val % 4 by omega, show (t.val - 4) / 4 % 8 = j by omega]
  show _ = k0_pay3 (kB m c (pt (t.val / 32 * 32 + t.val % 4 + 4 * (j + 1)))) (dsT m c (pt (t.val / 32 * 32 + t.val % 4 + 4 * (j + 1))))
    (accQ m c (t.val / 32 * 32 + t.val % 4) j)
  rw [pt_of_eq (t := t) (by omega)]

/-- After a store of the point's own query tile the block of dq holds what it should, if before it held what the point before left. -/
theorem qIs_of_put (c : Dev nD) (t : Fin cfg0.N) (X Y : Vec F S8192x128 .f32) (T : Vec F S2048x128 .f32) (h : Put (t.val % 4) X Y T)
    (hT : T = accQ m c (t.val / 32 * 32 + t.val % 4) (t.val / 4 % 8)) (hY : t.val % 32 ≠ 0 → QIs m c (t.val - 1) Y) : QIs m c t.val X := by
  intro n hn hlt h32
  by_cases e : n = t.val
  · subst e hT; exact h.1
  · intro y x h0 h1
    have hx : (x 0).val < 2048 := (x 0).isLt
    rw [h.2 y (by omega)]
    exact hY (by omega) n (by omega) (by omega) (by omega) y x h0 h1

/-- The rows that a later key tile adds to are the sum over the earlier ones. -/
theorem rows_before (c : Dev nD) (t : Fin cfg0.N) (Y : Vec F S8192x128 .f32) (h : 1 ≤ t.val / 4 % 8) (hY : QIs m c (t.val - 1) Y) :
    RowsAre (t.val % 4) Y (accQ m c ((t.val - 4) / 32 * 32 + (t.val - 4) % 4) ((t.val - 4) / 4 % 8)) := by
  have := hY (t.val - 4) (by omega) (by omega) (by omega)
  rwa [show (t.val - 4) % 4 = t.val % 4 by omega] at this ⊢

end Cert.Kernel2Ideal.Hand

end
-- ==== Proof.Latent.Body.lean ====
/-
  The launch of the ideal kernel with what its output blocks hold: the body's four cases keep the sums of Acc.lean, so at every final
  state the arguments are unchanged, the counters are zero, and every write-back of an output wrote such a sum.
-/
module

public import proofs.«01_k».proof.Proof.Latent.RunD
public import proofs.«01_k».proof.Proof.Latent.Acc
public import Idealize.ShloMosaic.Lib.Pipeline.DatRel
public import Idealize.ShloMosaic.Lib.Pipeline.ArrRel

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The output windows: dq, dk, dv. -/
def outs0 : Fin 9 → Bool := fun w => w.val == 6 || w.val == 7 || w.val == 8

/-- The inputs' blocks stay what they are; of the outputs the exact data name nothing (`Rl` does). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body leaves in an output's block at point `t`: the sums of Acc.lean. -/
def Rl (c : Dev nD) (w : Fin cfg0.W) (t : Fin cfg0.N) (X : (cfg0.win w).block.Idx → Elt F (cfg0.win w).elt) : Prop :=
  match w, X with
  | ⟨0, _⟩, _ => True
  | ⟨1, _⟩, _ => True
  | ⟨2, _⟩, _ => True
  | ⟨3, _⟩, _ => True
  | ⟨4, _⟩, _ => True
  | ⟨5, _⟩, _ => True
  | ⟨6, _⟩, X => QIs m c t.val X
  | ⟨7, _⟩, X => X = accK m c (t.val / 4 * 4) (t.val % 4)
  | ⟨8, _⟩, X => X = accV m c (t.val / 4 * 4) (t.val % 4)

/-- The proof data with the outputs held to `Rl`. -/
def rdat (c : Dev nD) : RDat τ (Elt F) Unit ℕ (UR sig nD τ) ℕ cfg0 c := (dats m 0 c).toRRel outs0 (Rl m c)

theorem coord2 (t : Fin cfg0.N) : (grid0.coords t 2).val = t.val % 4 :=
  by
  have e2 : (grid0.coords t 2).val = t.val / 1 % 4 := Pipeline.Grid.coords_val t 2 (by decide) rfl
  rw [e2, Nat.div_one]

/-- Inside a head's points the block of dq is found as the point before left it. -/
theorem finds6 (c : Dev nD) (t : Fin cfg0.N) (Y : Vec F S8192x128 .f32) (h : (rdat m c).Finds 6 t Y) (h0 : t.val % 32 ≠ 0) :
    QIs m c (t.val - 1) Y := by
  rcases ((rdat m c).finds_of_pos ((cfg0.win 6).fetch_out rfl t) (by omega) Y).mp h with hf | hl
  · have := (flush0_6 _).mp hf
    exact absurd this (by show ¬((t.val - 1) % 32 = 31); omega)
  · exact (dats m 0 c).toRRel_leaves (fgt := outs0) (Rl := Rl m c) (w := 6) rfl hl

/-- Inside a key tile's points the block of dk is found as the point before left it. -/
theorem finds7 (c : Dev nD) (t : Fin cfg0.N) (Y : Vec F S1024x128 .f32) (h : (rdat m c).Finds 7 t Y) (h0 : t.val % 4 ≠ 0) :
    Y = accK m c ((t.val - 1) / 4 * 4) ((t.val - 1) % 4) := by
  rcases ((rdat m c).finds_of_pos ((cfg0.win 7).fetch_out rfl t) (by omega) Y).mp h with hf | hl
  · have := (flush0_7 _).mp hf
    exact absurd this (by show ¬((t.val - 1) % 4 = 3); omega)
  · exact (dats m 0 c).toRRel_leaves (fgt := outs0) (Rl := Rl m c) (w := 7) rfl hl

/-- Inside a key tile's points the block of dv is found as the point before left it. -/
theorem finds8 (c : Dev nD) (t : Fin cfg0.N) (Y : Vec F S1024x128 .f32) (h : (rdat m c).Finds 8 t Y) (h0 : t.val % 4 ≠ 0) :
    Y = accV m c ((t.val - 1) / 4 * 4) ((t.val - 1) % 4) := by
  rcases ((rdat m c).finds_of_pos ((cfg0.win 8).fetch_out rfl t) (by omega) Y).mp h with hf | hl
  · have := (flush0_8 _).mp hf
    exact absurd this (by show ¬((t.val - 1) % 4 = 3); omega)
  · exact (dats m 0 c).toRRel_leaves (fgt := outs0) (Rl := Rl m c) (w := 8) rfl hl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ Y, ⌜(rdat m c).Finds 6 t Y⌝ ∗ owns (c : Thread nD τ) (ms0_6 t) fullShare Y)
    ∗ (∃ Y, ⌜(rdat m c).Finds 7 t Y⌝ ∗ owns (c : Thread nD τ) (ms0_7 t) fullShare Y)
    ∗ (∃ Y, ⌜(rdat m c).Finds 8 t Y⌝ ∗ owns (c : Thread nD τ) (ms0_8 t) fullShare Y))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ X, ⌜Rl m c 6 t X⌝ ∗ owns (c : Thread nD τ) (ms0_6 t) fullShare X)
    ∗ (∃ X, ⌜Rl m c 7 t X⌝ ∗ owns (c : Thread nD τ) (ms0_7 t) fullShare X)
    ∗ (∃ X, ⌜Rl m c 8 t X⌝ ∗ owns (c : Thread nD τ) (ms0_8 t) fullShare X))

set_option maxHeartbeats 1600000 in
/-- Case A of the body. -/
theorem sound_A (c : Dev nD) (t : Fin cfg0.N) (h0 : t.val / 4 % 8 = 0) (h2 : t.val % 4 = 0) :
    bodyPre m c t ⊢ wp frame (wpE (defs₀ (F := F)) Variants.none c none) Set.univ (bodyAt0 t) (fun _ => bodyPost m c t) := by
    unfold bodyPre bodyPost bodyAt0
    simp only [before0_0, before0_1, before0_2, before0_3, before0_4, before0_5]
    rw [show (dats m 0 c).Φ t.succ = (dats m 0 c).Φ t.castSucc from rfl,
      show (dats m 0 c).owesAt () t.succ = (dats m 0 c).owesAt () t.castSucc from rfl]
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    iintro ⟨HΦ, Ho, ⟨%d0, H0⟩, ⟨%d1, H1⟩, ⟨%d2, H2⟩, ⟨%d3, H3⟩, ⟨%d4, H4⟩, ⟨%d5, H5⟩, ⟨%y6, %hy6, H6⟩, ⟨%y7, %hy7, H7⟩, ⟨%y8, %hy8, H8⟩⟩
    iapply (run_A c (grid0.coords t) _ _ _ _ _ _ _ _ _ _ _ _ _ _ _ _ _ _ ((hcond0_0 t).mpr h0) (fun h => absurd ((hcond0_1 t).mp h) (by omega)) ((hcond0_2 t).mpr h2) (fun h => absurd ((hcond0_3 t).mp h) (by omega))
      (iblk m c 0 t) (iblk m c 1 t) (iblk m c 2 t) (iblk m c 3 t) (iblk m c 4 t) (iblk m c 5 t) y6 y7 y8 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, ⟨%X, %hX, H6⟩, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists X; isplitr
      · ipureintro
        exact qIs_of_put m c t X y6 _ (coord2 t ▸ hX) (accQ_zero m c t h0) (finds6 m c t y6 hy6)
      iexact H6
    isplitl [H7]
    · iexists _; isplitr; swap; · iexact H7
      ipureintro
      exact accK_zero m c t h2
    iexists _; isplitr; swap; · iexact H8
    ipureintro
    exact accV_zero m c t h2

set_option maxHeartbeats 1600000 in
/-- Case B of the body. -/
theorem sound_B (c : Dev nD) (t : Fin cfg0.N) (h0 : t.val / 4 % 8 = 0) (h2 : ¬t.val % 4 = 0) :
    bodyPre m c t ⊢ wp frame (wpE (defs₀ (F := F)) Variants.none c none) Set.univ (bodyAt0 t) (fun _ => bodyPost m c t) := by
    unfold bodyPre bodyPost bodyAt0
    simp only [before0_0, before0_1, before0_2, before0_3, before0_4, before0_5]
    rw [show (dats m 0 c).Φ t.succ = (dats m 0 c).Φ t.castSucc from rfl,
      show (dats m 0 c).owesAt () t.succ = (dats m 0 c).owesAt () t.castSucc from rfl]
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    iintro ⟨HΦ, Ho, ⟨%d0, H0⟩, ⟨%d1, H1⟩, ⟨%d2, H2⟩, ⟨%d3, H3⟩, ⟨%d4, H4⟩, ⟨%d5, H5⟩, ⟨%y6, %hy6, H6⟩, ⟨%y7, %hy7, H7⟩, ⟨%y8, %hy8, H8⟩⟩
    iapply (run_B c (grid0.coords t) _ _ _ _ _ _ _ _ _ _ _ _ _ _ _ _ _ _ ((hcond0_0 t).mpr h0) (fun h => absurd ((hcond0_1 t).mp h) (by omega)) (fun h => h2 ((hcond0_2 t).mp h)) ((hcond0_3 t).mpr (by omega))
      (iblk m c 0 t) (iblk m c 1 t) (iblk m c 2 t) (iblk m c 3 t) (iblk m c 4 t) (iblk m c 5 t) y6 y7 y8 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, ⟨%X, %hX, H6⟩, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists X; isplitr
      · ipureintro
        exact qIs_of_put m c t X y6 _ (coord2 t ▸ hX) (accQ_zero m c t h0) (finds6 m c t y6 hy6)
      iexact H6
    isplitl [H7]
    · iexists _; isplitr; swap; · iexact H7
      ipureintro
      rw [finds7 m c t y7 hy7 h2]; exact accK_succ m c t (by omega)
    iexists _; isplitr; swap; · iexact H8
    ipureintro
    rw [finds8 m c t y8 hy8 h2]; exact accV_succ m c t (by omega)

set_option maxHeartbeats 1600000 in
/-- Case C of the body. -/
theorem sound_C (c : Dev nD) (t : Fin cfg0.N) (h0 : ¬t.val / 4 % 8 = 0) (h2 : t.val % 4 = 0) :
    bodyPre m c t ⊢ wp frame (wpE (defs₀ (F := F)) Variants.none c none) Set.univ (bodyAt0 t) (fun _ => bodyPost m c t) := by
    unfold bodyPre bodyPost bodyAt0
    simp only [before0_0, before0_1, before0_2, before0_3, before0_4, before0_5]
    rw [show (dats m 0 c).Φ t.succ = (dats m 0 c).Φ t.castSucc from rfl,
      show (dats m 0 c).owesAt () t.succ = (dats m 0 c).owesAt () t.castSucc from rfl]
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    iintro ⟨HΦ, Ho, ⟨%d0, H0⟩, ⟨%d1, H1⟩, ⟨%d2, H2⟩, ⟨%d3, H3⟩, ⟨%d4, H4⟩, ⟨%d5, H5⟩, ⟨%y6, %hy6, H6⟩, ⟨%y7, %hy7, H7⟩, ⟨%y8, %hy8, H8⟩⟩
    iapply (run_C c (grid0.coords t) _ _ _ _ _ _ _ _ _ _ _ _ _ _ _ _ _ _ (fun h => h0 ((hcond0_0 t).mp h)) ((hcond0_1 t).mpr (by omega)) ((hcond0_2 t).mpr h2) (fun h => absurd ((hcond0_3 t).mp h) (by omega))
      (iblk m c 0 t) (iblk m c 1 t) (iblk m c 2 t) (iblk m c 3 t) (iblk m c 4 t) (iblk m c 5 t) y6 y7 y8 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, ⟨%X, %hX, H6⟩, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists X; isplitr
      · ipureintro
        refine qIs_of_put m c t X y6 _ (coord2 t ▸ hX) ?_ (finds6 m c t y6 hy6)
        rw [ld_rows (n := t.val % 4) (rows_before m c t y6 (by omega) (finds6 m c t y6 hy6 (by omega))) _ ((k0_off2_eq (grid0.coords t)).trans (by rw [coord2]))]
        exact accQ_succ m c t (by omega)
      iexact H6
    isplitl [H7]
    · iexists _; isplitr; swap; · iexact H7
      ipureintro
      exact accK_zero m c t h2
    iexists _; isplitr; swap; · iexact H8
    ipureintro
    exact accV_zero m c t h2

set_option maxHeartbeats 1600000 in
/-- Case D of the body. -/
theorem sound_D (c : Dev nD) (t : Fin cfg0.N) (h0 : ¬t.val / 4 % 8 = 0) (h2 : ¬t.val % 4 = 0) :
    bodyPre m c t ⊢ wp frame (wpE (defs₀ (F := F)) Variants.none c none) Set.univ (bodyAt0 t) (fun _ => bodyPost m c t) := by
    unfold bodyPre bodyPost bodyAt0
    simp only [before0_0, before0_1, before0_2, before0_3, before0_4, before0_5]
    rw [show (dats m 0 c).Φ t.succ = (dats m 0 c).Φ t.castSucc from rfl,
      show (dats m 0 c).owesAt () t.succ = (dats m 0 c).owesAt () t.castSucc from rfl]
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    iintro ⟨HΦ, Ho, ⟨%d0, H0⟩, ⟨%d1, H1⟩, ⟨%d2, H2⟩, ⟨%d3, H3⟩, ⟨%d4, H4⟩, ⟨%d5, H5⟩, ⟨%y6, %hy6, H6⟩, ⟨%y7, %hy7, H7⟩, ⟨%y8, %hy8, H8⟩⟩
    iapply (run_D c (grid0.coords t) _ _ _ _ _ _ _ _ _ _ _ _ _ _ _ _ _ _ (fun h => h0 ((hcond0_0 t).mp h)) ((hcond0_1 t).mpr (by omega)) (fun h => h2 ((hcond0_2 t).mp h)) ((hcond0_3 t).mpr (by omega))
      (iblk m c 0 t) (iblk m c 1 t) (iblk m c 2 t) (iblk m c 3 t) (iblk m c 4 t) (iblk m c 5 t) y6 y7 y8 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, ⟨%X, %hX, H6⟩, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists X; isplitr
      · ipureintro
        refine qIs_of_put m c t X y6 _ (coord2 t ▸ hX) ?_ (finds6 m c t y6 hy6)
        rw [ld_rows (n := t.val % 4) (rows_before m c t y6 (by omega) (finds6 m c t y6 hy6 (by omega))) _ ((k0_off2_eq (grid0.coords t)).trans (by rw [coord2]))]
        exact accQ_succ m c t (by omega)
      iexact H6
    isplitl [H7]
    · iexists _; isplitr; swap; · iexact H7
      ipureintro
      rw [finds7 m c t y7 hy7 h2]; exact accK_succ m c t (by omega)
    iexists _; isplitr; swap; · iexact H8
    ipureintro
    rw [finds8 m c t y8 hy8 h2]; exact accV_succ m c t (by omega)

theorem sound_body (c : Dev nD) (t : Fin cfg0.N) :
    bodyPre m c t ⊢ wp frame (wpE (defs₀ (F := F)) Variants.none c none) Set.univ (bodyAt0 t) (fun _ => bodyPost m c t) := by
  by_cases h0 : t.val / 4 % 8 = 0 <;> by_cases h2 : t.val % 4 = 0
  · exact sound_A m c t h0 h2
  · exact sound_B m c t h0 h2
  · exact sound_C m c t h0 h2
  · exact sound_D m c t h0 h2

theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligationRel (dats (F := F) m 0 c) (defs₀ (F := F)) Variants.none () Set.univ outs0 (Rl m c) := fun t => by
  rw [bigSep_W0, bigSep_W0, defs₀_row]
  exact triple_restated (sound_body m c t) rfl .rfl fun _ => .rfl

set_option backward.isDefEq.respectTransparency.types false in
/-- The launch: what the arrays hold, and every counter at zero. -/
theorem run_main : θ_run defs (onTc (τ := τ) (main (F := F))) (s₀ m ρ) (fun r => (Pipeline.RDat.FramePost (cfgs 0) (rdat m) (V m)) r ∧ r.2.sem = fun _ => 0) :=
  Pipeline.RDat.θ_run_frame (Q' := _) cfgs (0 : Fin 1) launch0 defs₀ Variants.none (rdat m) m ρ main
    (hbody := fun c => (body_obligation m c).toRRel) (hshare := fun c w => (dats m 0 c).share_full (fun _ => rfl) w)
    (howed := fun _ _ => rfl) (V := V m) (hmain := hmain m Variants.none) (hA := fun c w => A_eq m c w) (hΦ := fun _ _ => rfl)

theorem rdat_A (c : Dev nD) (w : Fin cfg0.W) : (rdat m c).A w = V m c (Pipeline.arrRef spec0 w) := A_eq m c w

/-- At a final state of the launch the arguments are unchanged. -/
theorem args_of_post {r : PUnit × MemSt nD τ sig (Elt F)} (h : Pipeline.RDat.FramePost (cfgs 0) (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
by
  have e := fun w => Pipeline.RDat.FramePost.arr_in h c w
  simp only [rdat_A] at e
  exact ⟨(e 2 rfl).trans (V_main_arg0 m c), (e 0 rfl).trans (V_main_arg1 m c), (e 1 rfl).trans (V_main_arg2 m c),
    (e 3 rfl).trans (V_main_arg3 m c)⟩

/-- The frame of the ideal kernel. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => args_of_post m h.1 c, h.2⟩) (run_main m ρ)

end Cert.Kernel2Ideal.Hand

end
-- ==== Proof.Latent.Host.lean ====
module

public import proofs.«01_k».proof.Proof.Gen.Kernel2Ideal.Frame
public import Idealize.ShloMosaic.Lib.StableHlo.ReadAt
public import Idealize.ShloMosaic.Lib.Pointwise
public import proofs.«01_k».proof.Proof.Heads
public import proofs.«01_k».proof.Proof.Consts

@[expose] public section

/-! What the host operations before the call leave in the arrays of the attention's output and of the logarithms of the sums. -/

noncomputable section
namespace Cert.Kernel2Ideal.Hand
open Cert.Kernel2Ideal Cert.Kernel2Ideal.Gen
open Cert.Heads
open Idealize.ShloMosaic Idealize.ShloMosaic.TcCoe

abbrev A3 := FVec Ideal S4x8192x8192 .f32
abbrev A2 := FVec Ideal S4x8192 .f32
abbrev A1 := FVec Ideal S4x8192x1 .f32
abbrev AH := FVec Ideal S8192x4x128 .f32

/-- An array's columns split into heads. -/
def hdT (x : FVec Ideal S8192x512 .bf16) : AH :=
  shapeCast S8192x4x128 (extf .f32 x bitsLt_bf16_f32) shapeCasts_S8192x512_S8192x4x128
/-- The scaled scores. -/
def scT (q k : AH) : A3 :=
  mulf (Host.dotGeneral dot_S8192x4x128_S8192x4x128_S4x8192x8192_2_2_0_0_1_1 none q k)
    (broadcastInDim S4x8192x8192 ![] bcast_S_S4x8192x8192 (constant (F := Ideal) S_ .f32 0x3DD105EC#32))
/-- Each query's largest score. -/
def mxT (s : A3) : A2 :=
  Host.reduce FloatOps.maximumf s (constant (F := Ideal) S_ .f32 0xFF800000#32) reducesTo_S4x8192x8192_S4x8192_d2 h_S_
/-- The same, no smaller than minus infinity. -/
def mx2T (x : A2) : A2 :=
  maximumf (broadcastInDim S4x8192 ![] bcast_S_S4x8192 (constant (F := Ideal) S_ .f32 0xFF800000#32)) x
/-- One value a query, as a column. -/
def colT (x : A2) : A1 := broadcastInDim S4x8192x1 ![0, 1] bcast_S4x8192_S4x8192x1_0_1 x
/-- The exponentials of the shifted scores. -/
def exT (s : A3) (x : A1) : A3 :=
  Host.exp (subf s (broadcastInDim S4x8192x8192 ![0, 1, 2] bcast_S4x8192x1_S4x8192x8192_0_1_2 x))
/-- The sum over the keys. -/
def smT (e : A3) : A2 :=
  Host.reduceAdd e (constant (F := Ideal) S_ .f32 0x00000000#32) reducesTo_S4x8192x8192_S4x8192_d2 h_S_
/-- Each query's row divided by one value. -/
def divT (e : A3) (x : A1) : A3 :=
  Host.divf e (broadcastInDim S4x8192x8192 ![0, 1, 2] bcast_S4x8192x1_S4x8192x8192_0_1_2 x)

theorem hdT_apply (x : FVec Ideal S8192x512 .bf16) (a : Fin 8192) (h : Fin 4) (d : Fin 128) :
    hdT x (ix3 a h d) = x (ix2 a ⟨h * 128 + d, by omega⟩) := by
  pointwise [hdT]
theorem scT_apply (q k : AH) (h : Fin 4) (a b : Fin 8192) :
    scT q k (ix3 h a b) = (∑ x, q (ix3 a h x) * k (ix3 b h x)) * Ideal.ofBits FTy.f32 0x3DD105EC#32 := by
  pointwise [scT]
theorem mxT_apply (s : A3) (h : Fin 4) (a : Fin 8192) :
    mxT s (ix2 h a) = Finset.fold max (Ideal.ofBits FTy.f32 0xFF800000#32) (fun x => s (ix3 h a x)) Finset.univ := by
  pointwise [mxT]
theorem mx2T_apply (x : A2) (h : Fin 4) (a : Fin 8192) :
    mx2T x (ix2 h a) = max (Ideal.ofBits FTy.f32 0xFF800000#32) (x (ix2 h a)) := by
  pointwise [mx2T]
theorem colT_apply (x : A2) (h : Fin 4) (a : Fin 8192) : colT x (ix3 h a 0) = x (ix2 h a) := by
  pointwise [colT]
theorem exT_apply (s : A3) (x : A1) (h : Fin 4) (a b : Fin 8192) :
    exT s x (ix3 h a b) = Ideal.exp (s (ix3 h a b) - x (ix3 h a 0)) := by
  pointwise [exT]
theorem smT_apply (s : A3) (h : Fin 4) (a : Fin 8192) : smT s (ix2 h a) = ∑ x, s (ix3 h a x) := by
  pointwise [smT]
theorem divT_apply (e : A3) (x : A1) (h : Fin 4) (a b : Fin 8192) :
    divT e x (ix3 h a b) = Ideal.div (e (ix3 h a b)) (x (ix3 h a 0)) := by
  pointwise [divT]

/-! ### The same over real arguments -/

/-- An argument's entries are the real values `X`. -/
def Real2 {ft : FTy} (x : FVec Ideal S8192x512 ft) (X : Mat) : Prop := ∀ (a : Fin 8192) (b : Fin 512), x (ix2 a b) = ((X a b : ℝ) : EReal)

theorem hdT_real {x : FVec Ideal S8192x512 .bf16} {X : Mat} (hx : Real2 x X) (a : Fin 8192) (h : Fin 4) (d : Fin 128) :
    hdT x (ix3 a h d) = ((hv X h a d : ℝ) : EReal) := (hdT_apply x a h d).trans (hx _ _)

section
variable {x y : FVec Ideal S8192x512 .bf16} {X Y : Mat} (hx : Real2 x X) (hy : Real2 y Y)
include hx hy
theorem scT_real (h : Fin 4) (a b : Fin 8192) :
    scT (hdT x) (hdT y) (ix3 h a b) = ((sc scA (hv X h) (hv Y h) a b : ℝ) : EReal) := by
  rw [scT_apply, bits_scA]
  simp only [hdT_real hx, hdT_real hy, ← EReal.coe_mul, sum_coe]
  rfl

theorem mxT_real (h : Fin 4) (a : Fin 8192) : ∃ M : ℝ, mxT (scT (hdT x) (hdT y)) (ix2 h a) = (M : EReal) := by
  rw [mxT_apply, bits_bot]
  simp only [scT_real hx hy]
  exact fold_max_real _

theorem exT_real {c : A1} {h : Fin 4} {a : Fin 8192} {M : ℝ} (hM : c (ix3 h a 0) = (M : EReal)) (b : Fin 8192) :
    exT (scT (hdT x) (hdT y)) c (ix3 h a b) = ((Real.exp (sc scA (hv X h) (hv Y h) a b - M) : ℝ) : EReal) := by
  rw [exT_apply, hM, scT_real hx hy, ← EReal.coe_sub, Ideal.exp_coe]

theorem smT_real {c : A1} {h : Fin 4} {a : Fin 8192} {M : ℝ} (hM : c (ix3 h a 0) = (M : EReal)) :
    smT (exT (scT (hdT x) (hdT y)) c) (ix2 h a) = ((ZM scA (hv X h) (hv Y h) M a : ℝ) : EReal) := by
  rw [smT_apply]
  simp only [exT_real hx hy hM, sum_coe]
  rfl

/-- The weights, whatever real shift the exponentials were taken with. -/
theorem weight_real {c : A1} {h : Fin 4} {a : Fin 8192} {M : ℝ} (hM : c (ix3 h a 0) = (M : EReal)) (b : Fin 8192) :
    divT (exT (scT (hdT x) (hdT y)) c) (colT (smT (exT (scT (hdT x) (hdT y)) c))) (ix3 h a b)
      = ((pr scA (hv X h) (hv Y h) a b : ℝ) : EReal) := by
  rw [divT_apply, colT_apply, smT_real hx hy hM, exT_real hx hy hM, div_real _ _ (ZM_pos ..), pr_shift]
end

/-- The attention's output, with heads side by side. -/
def outT (v : AH) (p : A3) : FVec Ideal S8192x512 .f32 :=
  shapeCast S8192x512 (transpose S8192x4x128 [2, 0, 1]
    (Host.dotGeneral dot_S8192x4x128_S4x8192x8192_S4x128x8192_0_2_2_1_1_0 none v p) transposes_S4x128x8192_S8192x4x128_2_0_1)
    shapeCasts_S8192x4x128_S8192x512
/-- The logarithm of the sum of the exponentials, from the largest score and the sum of the shifted ones. -/
def lseT (x y : A1) : A1 := addf x (Host.log y)

theorem outT_apply (v : AH) (p : A3) (a : Fin 8192) (b : Fin 512) :
    outT v p (ix2 a b) = ∑ x, v (ix3 x ⟨b / 128, by omega⟩ ⟨b % 128, by omega⟩) * p (ix3 ⟨b / 128, by omega⟩ a x) := by
  pointwise [outT]
theorem lseT_apply (x y : A1) (h : Fin 4) (a : Fin 8192) :
    lseT x y (ix3 h a 0) = x (ix3 h a 0) + Ideal.log (y (ix3 h a 0)) := by
  pointwise [lseT]

variable (m : (ℓ : Loc nD τ sig) → Buf (Elt Ideal) ℓ) (c : Dev nD)

/-- The arguments. -/
abbrev argQ : FVec Ideal S8192x512 .bf16 := m ((c.tc : Thread nD τ).loc main_arg0)
abbrev argK : FVec Ideal S8192x512 .bf16 := m ((c.tc : Thread nD τ).loc main_arg1)
abbrev argV : FVec Ideal S8192x512 .bf16 := m ((c.tc : Thread nD τ).loc main_arg2)
abbrev argG : FVec Ideal S8192x512 .f32 := m ((c.tc : Thread nD τ).loc main_arg3)

/-- The scores and the exponentials that the output is made of. -/
def hS : A3 := scT (hdT (argQ m c)) (hdT (argK m c))
def hE : A3 := exT (hS m c) (colT (mx2T (mxT (hS m c))))

set_option maxHeartbeats 4000000 in
theorem V_o : V (F := Ideal) m c main_v22 = outT (hdT (argV m c)) (divT (hE m c) (colT (smT (hE m c)))) := by
  unfold V
  after_results_simp <;> rfl

set_option maxHeartbeats 4000000 in
theorem V_lse : V (F := Ideal) m c main_v38
    = lseT (colT (mxT (hS m c))) (colT (smT (exT (hS m c) (colT (mxT (hS m c)))))) := by
  unfold V
  after_results_simp <;> rfl

section
variable {m c} {Q K W : Mat} (hq : Real2 (argQ m c) Q) (hk : Real2 (argK m c) K)
include hq hk

theorem V_o_real (hw : Real2 (argV m c) W) (a : Fin 8192) (b : Fin 512) :
    V (F := Ideal) m c main_v22 (ix2 a b)
      = ((out scA (hv Q (b / 128)) (hv K (b / 128)) (hv W (b / 128)) a (b % 128) : ℝ) : EReal) := by
  obtain ⟨M, hM⟩ := mxT_real hq hk ⟨b / 128, by omega⟩ a
  have hM' : colT (mx2T (mxT (hS m c))) (ix3 ⟨b / 128, by omega⟩ a 0) = (M : EReal) := by
    rw [colT_apply, mx2T_apply, bits_bot, bot_sup_eq]; exact hM
  rw [V_o, outT_apply]
  unfold hE hS at *
  simp only [hdT_real hw, weight_real hq hk hM', ← EReal.coe_mul, sum_coe]
  rw [EReal.coe_eq_coe_iff]
  exact Finset.sum_congr rfl fun _ _ => mul_comm _ _

theorem V_lse_real (h : Fin 4) (a : Fin 8192) :
    V (F := Ideal) m c main_v38 (ix3 h a 0) = ((Real.log (Z scA (hv Q h) (hv K h) a) : ℝ) : EReal) := by
  obtain ⟨M, hM⟩ := mxT_real hq hk h a
  have hM' : colT (mxT (hS m c)) (ix3 h a 0) = (M : EReal) := (colT_apply _ _ _).trans hM
  rw [V_lse, lseT_apply, hM', colT_apply]
  unfold hS at *
  rw [smT_real hq hk hM', log_real _ (ZM_pos ..), ← EReal.coe_add, log_shift]
end
end Cert.Kernel2Ideal.Hand
-- ==== Proof.Latent.Pay.lean ====
module

public import proofs.«01_k».proof.Proof.Gen.Kernel2Ideal.Skeleton
public import proofs.«01_k».proof.Proof.Heads
public import proofs.«01_k».proof.Proof.Consts
public import Idealize.ShloMosaic.Lib.Pointwise

@[expose] public section

/-! What the body computes from its blocks, entry by entry, and its values over blocks of real numbers. -/

noncomputable section
namespace Cert.Kernel2Ideal.Hand
open Cert.Kernel2Ideal Cert.Kernel2Ideal.Gen Cert.Heads
open Idealize.ShloMosaic Idealize.ShloMosaic.TcCoe

variable (k v : Vec Ideal S1024x128 .bf16) (q : Vec Ideal S2048x128 .bf16) (d o : Vec Ideal S2048x128 .f32) (lse : Vec Ideal S1x2048x1 .f32)

theorem pay7_apply (a : Fin 2048) (b : Fin 1024) :
    k0_pay7 k q lse (ix2 a b) = Ideal.exp2 ((∑ x, q (ix2 a x) * k (ix2 b x)) * Named.named (F := Ideal) (φ := .f32) κ "c2" 0x3E16C740#32
      - lse (ix3 0 a 0) * Named.named (F := Ideal) (φ := .f32) κ "log2e" 0x3FB8AA3B#32) := by
  pointwise [k0_pay7]
  rfl
theorem pay8_apply (b : Fin 1024) (e : Fin 128) :
    k0_pay8 k q d lse (ix2 b e) = ∑ x, k0_pay7 k q lse (ix2 x b) * d (ix2 x e) := by
  pointwise [k0_pay8]
theorem pay9_apply (a : Fin 2048) (b : Fin 1024) :
    k0_pay9 k v q d o lse (ix2 a b) = k0_pay7 k q lse (ix2 a b) * (∑ x, d (ix2 a x) * v (ix2 b x) - ∑ x, d (ix2 a x) * o (ix2 a x))
      * Ideal.ofBits FTy.f32 0x3DD105EC#32 := by
  pointwise [k0_pay9]
theorem pay1_apply (s : FVec Ideal S2048x1024 .f32) (b : Fin 1024) (e : Fin 128) :
    k0_pay1 k0_pay6 q s (ix2 b e) = ∑ x, s (ix2 x b) * q (ix2 x e) := by
  pointwise [k0_pay1, k0_pay6]
theorem pay2_apply (s : FVec Ideal S2048x1024 .f32) (a : Fin 2048) (e : Fin 128) :
    k0_pay2 k s (ix2 a e) = ∑ x, s (ix2 a x) * k (ix2 x e) := by
  pointwise [k0_pay2]
theorem pay3_apply (s : FVec Ideal S2048x1024 .f32) (y : Vec Ideal S2048x128 .f32) (a : Fin 2048) (e : Fin 128) :
    k0_pay3 k s y (ix2 a e) = y (ix2 a e) + k0_pay2 k s (ix2 a e) := by
  pointwise [k0_pay3]
theorem pay4_apply (s : FVec Ideal S2048x1024 .f32) (y : Vec Ideal S1024x128 .f32) (b : Fin 1024) (e : Fin 128) :
    k0_pay4 k0_pay6 q s y (ix2 b e) = y (ix2 b e) + k0_pay1 k0_pay6 q s (ix2 b e) := by
  pointwise [k0_pay4]
theorem pay5_apply (x : FVec Ideal S1024x128 .f32) (y : Vec Ideal S1024x128 .f32) (b : Fin 1024) (e : Fin 128) :
    k0_pay5 x y (ix2 b e) = y (ix2 b e) + x (ix2 b e) := by
  pointwise [k0_pay5]

/-- The two named constants. -/
theorem named_c2 : Named.named (F := Ideal) (φ := .f32) κ "c2" 0x3E16C740#32 = ((scA * (1 / Real.log 2) : ℝ) : EReal) := by
  rw [scA, div_eq_mul_inv, one_div]; exact IdealRules.named_const.ideal_named_scalar _ _ _ _ rfl
theorem named_log2e : Named.named (F := Ideal) (φ := .f32) κ "log2e" 0x3FB8AA3B#32 = ((1 / Real.log 2 : ℝ) : EReal) := by
  rw [one_div]; exact IdealRules.named_const.ideal_named_scalar _ _ _ _ rfl

section
variable {k v q d o lse} {K W Q G : Mat} {i j : ℕ}
  (hk : ∀ (x : Fin 1024) (e : Fin 128), k (ix2 x e) = ((K (1024 * j + x) e : ℝ) : EReal))
  (hw : ∀ (x : Fin 1024) (e : Fin 128), v (ix2 x e) = ((W (1024 * j + x) e : ℝ) : EReal))
  (hq : ∀ (x : Fin 2048) (e : Fin 128), q (ix2 x e) = ((Q (2048 * i + x) e : ℝ) : EReal))
  (hd : ∀ (x : Fin 2048) (e : Fin 128), d (ix2 x e) = ((G (2048 * i + x) e : ℝ) : EReal))
  (ho : ∀ (x : Fin 2048) (e : Fin 128), o (ix2 x e) = ((out scA Q K W (2048 * i + x) e : ℝ) : EReal))
  (hl : ∀ x : Fin 2048, lse (ix3 0 x 0) = ((Real.log (Z scA Q K (2048 * i + x)) : ℝ) : EReal))

include hk hq hl in
/-- A tile of weights. -/
theorem pay7_real (a : Fin 2048) (b : Fin 1024) :
    k0_pay7 k q lse (ix2 a b) = ((pr scA Q K (2048 * i + a) (1024 * j + b) : ℝ) : EReal) := by
  rw [pay7_apply, named_c2, named_log2e, hl]
  simp only [hk, hq, ← EReal.coe_mul, sum_coe, ← EReal.coe_sub, Ideal.exp2_coe]
  rw [pr_exp2]

include hk hq hl hd in
/-- A tile's share of the gradient of the values. -/
theorem pay8_real (b : Fin 1024) (e : Fin 128) :
    k0_pay8 k q d lse (ix2 b e)
      = ((∑ x : Fin 2048, pr scA Q K (2048 * i + x) (1024 * j + b) * G (2048 * i + x) e : ℝ) : EReal) := by
  rw [pay8_apply]
  simp only [pay7_real hk hq hl, hd, ← EReal.coe_mul, sum_coe]

include hk hw hq hd ho hl in
/-- A tile of the cotangents of the scores. -/
theorem pay9_real (a : Fin 2048) (b : Fin 1024) :
    k0_pay9 k v q d o lse (ix2 a b) = ((ds scA Q K W G (2048 * i + a) (1024 * j + b) : ℝ) : EReal) := by
  rw [pay9_apply, pay7_real hk hq hl, bits_scA]
  simp only [hd, hw, ho, ← EReal.coe_mul, sum_coe, ← EReal.coe_sub]
  rw [delta]
  rfl
end
end Cert.Kernel2Ideal.Hand
-- ==== Proof.Latent.Blocks.lean ====
module

public import proofs.«01_k».proof.Proof.Latent.Acc
public import proofs.«01_k».proof.Proof.Latent.Host
public import proofs.«01_k».proof.Proof.Latent.Pay
public import Idealize.ShloMosaic.Lib.Pipeline.ValueKit.Point

@[expose] public section

/-! The blocks that the body reads at a grid point, the tiles it computes from them, and the sums of those tiles. -/

noncomputable section
namespace Cert.Kernel2Ideal.Hand
open Cert.Kernel2Ideal Cert.Kernel2Ideal.Gen Cert.Heads
open Idealize.ShloMosaic Idealize.ShloMosaic.TcCoe

/-- Each window's block at a point. -/
theorem idx : ∀ t : Fin cfg0.N, win0_0.index t = ![t.val / 4 % 8, t.val / 32] ∧ win0_1.index t = ![t.val / 4 % 8, t.val / 32]
    ∧ win0_2.index t = ![t.val % 4, t.val / 32] ∧ win0_3.index t = ![t.val % 4, t.val / 32] ∧ win0_4.index t = ![t.val % 4, t.val / 32]
    ∧ win0_5.index t = ![t.val / 32, t.val % 4, 0] ∧ win0_6.index t = ![0, t.val / 32]
    ∧ win0_7.index t = ![t.val / 4 % 8, t.val / 32] ∧ win0_8.index t = ![t.val / 4 % 8, t.val / 32] :=
  (by decide +kernel : ∀ t : Fin grid0.N, _)

theorem lt128 (t : Fin cfg0.N) : t.val < 128 := Nat.lt_of_lt_of_eq t.isLt N_0

variable {m : (ℓ : Loc nD τ sig) → Buf (Elt Ideal) ℓ} {c : Dev nD} {Q K W G : Mat}
  (hq : Real2 (argQ m c) Q) (hk : Real2 (argK m c) K) (hw : Real2 (argV m c) W) (hg : Real2 (argG m c) G)
  (t : Fin cfg0.N)

include hk in
theorem kB_real (x : Fin 1024) (e : Fin 128) :
    kB m c t (ix2 x e) = ((hv K (t.val / 32) (1024 * (t.val / 4 % 8) + x) e : ℝ) : EReal) := by
  have ht := lt128 t
  refine Eq.trans ?_ (hk ⟨1024 * (t.val / 4 % 8) + x, by omega⟩ ⟨t.val / 32 * 128 + e, by omega⟩)
  blk_ext! [iblk, V, idx t]

include hw in
theorem vB_real (x : Fin 1024) (e : Fin 128) :
    vB m c t (ix2 x e) = ((hv W (t.val / 32) (1024 * (t.val / 4 % 8) + x) e : ℝ) : EReal) := by
  have ht := lt128 t
  refine Eq.trans ?_ (hw ⟨1024 * (t.val / 4 % 8) + x, by omega⟩ ⟨t.val / 32 * 128 + e, by omega⟩)
  blk_ext! [iblk, V, idx t]

include hq in
theorem qB_real (x : Fin 2048) (e : Fin 128) :
    qB m c t (ix2 x e) = ((hv Q (t.val / 32) (2048 * (t.val % 4) + x) e : ℝ) : EReal) := by
  have ht := lt128 t
  refine Eq.trans ?_ (hq ⟨2048 * (t.val % 4) + x, by omega⟩ ⟨t.val / 32 * 128 + e, by omega⟩)
  blk_ext! [iblk, V, idx t]

include hg in
theorem doB_real (x : Fin 2048) (e : Fin 128) :
    doB m c t (ix2 x e) = ((hv G (t.val / 32) (2048 * (t.val % 4) + x) e : ℝ) : EReal) := by
  have ht := lt128 t
  refine Eq.trans ?_ (hg ⟨2048 * (t.val % 4) + x, by omega⟩ ⟨t.val / 32 * 128 + e, by omega⟩)
  blk_ext! [iblk, V, idx t]

/-- The entries of the blocks of the output and of the logarithms, whatever their arrays hold. -/
theorem read_o (A : FVec Ideal S8192x512 .f32) (x : Fin 2048) (e : Fin 128) (h₁ : 2048 * (t.val % 4) + x.val < 8192)
    (h₂ : t.val / 32 * 128 + e.val < 512) :
    ((cfg0.win 4).blk t).view.read (Elt Ideal) A (ix2 x e) = A (ix2 ⟨2048 * (t.val % 4) + x, h₁⟩ ⟨t.val / 32 * 128 + e, h₂⟩) := by
  blk_ext [idx t]
theorem read_lse (A : FVec Ideal S4x8192x1 .f32) (x : Fin 2048) (h₁ : t.val / 32 < 4) (h₂ : 2048 * (t.val % 4) + x.val < 8192) :
    ((cfg0.win 5).blk t).view.read (Elt Ideal) A (ix3 0 x 0) = A (ix3 ⟨t.val / 32, h₁⟩ ⟨2048 * (t.val % 4) + x, h₂⟩ 0) := by
  blk_ext [idx t]

include hq hk hw in
theorem oB_real (x : Fin 2048) (e : Fin 128) :
    oB m c t (ix2 x e)
      = ((out scA (hv Q (t.val / 32)) (hv K (t.val / 32)) (hv W (t.val / 32)) (2048 * (t.val % 4) + x) e : ℝ) : EReal) := by
  have ht := lt128 t
  have h := V_o_real hq hk hw ⟨2048 * (t.val % 4) + x, by omega⟩ ⟨t.val / 32 * 128 + e, by omega⟩
  simp only [show (t.val / 32 * 128 + e.val) / 128 = t.val / 32 by omega, show (t.val / 32 * 128 + e.val) % 128 = e.val by omega] at h
  exact (read_o t (V m c main_v22) x e _ _).trans h

include hq hk in
theorem lseB_real (x : Fin 2048) :
    lseB m c t (ix3 0 x 0)
      = ((Real.log (Z scA (hv Q (t.val / 32)) (hv K (t.val / 32)) (2048 * (t.val % 4) + x)) : ℝ) : EReal) := by
  have ht := lt128 t
  have h := V_lse_real hq hk ⟨t.val / 32, by omega⟩ ⟨2048 * (t.val % 4) + x, by omega⟩
  exact (read_lse t (V m c main_v38) x _ _).trans h

include hq hk hw hg in
/-- The tile of the cotangents of the scores. -/
theorem dsT_real (a : Fin 2048) (b : Fin 1024) :
    dsT m c t (ix2 a b) = ((ds scA (hv Q (t.val / 32)) (hv K (t.val / 32)) (hv W (t.val / 32)) (hv G (t.val / 32))
      (2048 * (t.val % 4) + a) (1024 * (t.val / 4 % 8) + b) : ℝ) : EReal) :=
  pay9_real (kB_real hk t) (vB_real hw t) (qB_real hq t) (doB_real hg t) (oB_real hq hk hw t) (lseB_real hq hk t) a b

include hq hk hg in
/-- The tile's share of the gradient of the values. -/
theorem dvT_real (b : Fin 1024) (e : Fin 128) :
    dvT m c t (ix2 b e) = ((∑ x : Fin 2048, pr scA (hv Q (t.val / 32)) (hv K (t.val / 32)) (2048 * (t.val % 4) + x)
      (1024 * (t.val / 4 % 8) + b) * hv G (t.val / 32) (2048 * (t.val % 4) + x) e : ℝ) : EReal) :=
  pay8_real (kB_real hk t) (qB_real hq t) (doB_real hg t) (lseB_real hq hk t) b e

theorem pt_v {n : ℕ} (h : n < 128) : (pt n).val = n := Nat.mod_eq_of_lt h

include hq hk hw hg in
/-- The sum of dk over the first query tiles. -/
theorem accK_real {h j : ℕ} (hh : h < 4) (hj : j < 8) (b : Fin 1024) (e : Fin 128) (i : ℕ) (hi : i < 4) :
    accK m c (32 * h + 4 * j) i (ix2 b e) = ((∑ i' ∈ Finset.range (i + 1), ∑ x : Fin 2048,
      ds scA (hv Q h) (hv K h) (hv W h) (hv G h) (2048 * i' + x) (1024 * j + b) * hv Q h (2048 * i' + x) e : ℝ) : EReal) := by
  have one : ∀ i, i < 4 → k0_pay1 k0_pay6 (qB m c (pt (32 * h + 4 * j + i))) (dsT m c (pt (32 * h + 4 * j + i))) (ix2 b e)
      = ((∑ x : Fin 2048, ds scA (hv Q h) (hv K h) (hv W h) (hv G h) (2048 * i + x) (1024 * j + b) * hv Q h (2048 * i + x) e : ℝ) : EReal) := by
    intro i hi
    have hv' := pt_v (n := 32 * h + 4 * j + i) (by omega)
    rw [pay1_apply]
    simp only [dsT_real hq hk hw hg, qB_real hq, hv', show (32 * h + 4 * j + i) / 32 = h by omega,
      show (32 * h + 4 * j + i) % 4 = i by omega, show (32 * h + 4 * j + i) / 4 % 8 = j by omega, ← EReal.coe_mul, sum_coe]
  induction i with
  | zero => rw [Finset.sum_range_one]; exact one 0 hi
  | succ i ih =>
    rw [Finset.sum_range_succ, EReal.coe_add, ← ih (by omega), ← one (i + 1) hi]
    exact pay4_apply ..

include hq hk hg in
/-- The sum of dv over the first query tiles. -/
theorem accV_real {h j : ℕ} (hh : h < 4) (hj : j < 8) (b : Fin 1024) (e : Fin 128) (i : ℕ) (hi : i < 4) :
    accV m c (32 * h + 4 * j) i (ix2 b e) = ((∑ i' ∈ Finset.range (i + 1), ∑ x : Fin 2048,
      pr scA (hv Q h) (hv K h) (2048 * i' + x) (1024 * j + b) * hv G h (2048 * i' + x) e : ℝ) : EReal) := by
  have one : ∀ i, i < 4 → dvT m c (pt (32 * h + 4 * j + i)) (ix2 b e)
      = ((∑ x : Fin 2048, pr scA (hv Q h) (hv K h) (2048 * i + x) (1024 * j + b) * hv G h (2048 * i + x) e : ℝ) : EReal) := by
    intro i hi
    have hv' := pt_v (n := 32 * h + 4 * j + i) (by omega)
    simp only [dvT_real hq hk hg, hv', show (32 * h + 4 * j + i) / 32 = h by omega,
      show (32 * h + 4 * j + i) % 4 = i by omega, show (32 * h + 4 * j + i) / 4 % 8 = j by omega]
  induction i with
  | zero => rw [Finset.sum_range_one]; exact one 0 hi
  | succ i ih =>
    rw [Finset.sum_range_succ, EReal.coe_add, ← ih (by omega), ← one (i + 1) hi]
    exact pay5_apply ..

include hq hk hw hg in
/-- The sum of dq over the first key tiles. -/
theorem accQ_real {h i : ℕ} (hh : h < 4) (hi : i < 4) (a : Fin 2048) (e : Fin 128) (j : ℕ) (hj : j < 8) :
    accQ m c (32 * h + i) j (ix2 a e) = ((∑ j' ∈ Finset.range (j + 1), ∑ x : Fin 1024,
      ds scA (hv Q h) (hv K h) (hv W h) (hv G h) (2048 * i + a) (1024 * j' + x) * hv K h (1024 * j' + x) e : ℝ) : EReal) := by
  have one : ∀ j, j < 8 → k0_pay2 (kB m c (pt (32 * h + i + 4 * j))) (dsT m c (pt (32 * h + i + 4 * j))) (ix2 a e)
      = ((∑ x : Fin 1024, ds scA (hv Q h) (hv K h) (hv W h) (hv G h) (2048 * i + a) (1024 * j + x) * hv K h (1024 * j + x) e : ℝ) : EReal) := by
    intro j hj
    have hv' := pt_v (n := 32 * h + i + 4 * j) (by omega)
    rw [pay2_apply]
    simp only [dsT_real hq hk hw hg, kB_real hk, hv', show (32 * h + i + 4 * j) / 32 = h by omega,
      show (32 * h + i + 4 * j) % 4 = i by omega, show (32 * h + i + 4 * j) / 4 % 8 = j by omega, ← EReal.coe_mul, sum_coe]
  induction j with
  | zero => rw [Finset.sum_range_one]; exact one 0 hj
  | succ j ih =>
    rw [Finset.sum_range_succ, EReal.coe_add, ← ih (by omega), ← one (j + 1) hj]
    exact pay3_apply ..
end Cert.Kernel2Ideal.Hand
-- ==== Proof.Latent.Final.lean ====
module

public import proofs.«01_k».proof.Proof.Latent.Body
public import proofs.«01_k».proof.Proof.Latent.Blocks
public import Idealize.ShloMosaic.Lib.Pipeline.ValueKit.Geometry

@[expose] public section

/-! The three result arrays of the ideal kernel at a final state, over real arguments. -/

noncomputable section
namespace Cert.Kernel2Ideal.Hand
open Cert.Kernel2Ideal Cert.Kernel2Ideal.Gen Cert.Heads
open Idealize.ShloMosaic Idealize.ShloMosaic.TcCoe Idealize.SL.Sem

variable (Q K W G : Mat)

/-- The gradients, with heads side by side. -/
def gradQ (y : S8192x512.Idx) : EReal :=
  ((dq scA (hv Q ((y 1).val / 128)) (hv K ((y 1).val / 128)) (hv W ((y 1).val / 128)) (hv G ((y 1).val / 128)) (y 0).val ((y 1).val % 128) : ℝ) : EReal)
def gradK (y : S8192x512.Idx) : EReal :=
  ((dk scA (hv Q ((y 1).val / 128)) (hv K ((y 1).val / 128)) (hv W ((y 1).val / 128)) (hv G ((y 1).val / 128)) (y 0).val ((y 1).val % 128) : ℝ) : EReal)
def gradV (y : S8192x512.Idx) : EReal :=
  ((dv scA (hv Q ((y 1).val / 128)) (hv K ((y 1).val / 128)) (hv G ((y 1).val / 128)) (y 0).val ((y 1).val % 128) : ℝ) : EReal)

variable {Q K W G} {m : (ℓ : Loc nD τ sig) → Buf (Elt Ideal) ℓ} {c : Dev nD}
  (hq : Real2 (argQ m c) Q) (hk : Real2 (argK m c) K) (hw : Real2 (argV m c) W) (hg : Real2 (argG m c) G)

include hq hk hw hg in
theorem accQ_full {h i : ℕ} (hh : h < 4) (hi : i < 4) (a : Fin 2048) (e : Fin 128) :
    accQ m c (32 * h + i) 7 (ix2 a e) = ((dq scA (hv Q h) (hv K h) (hv W h) (hv G h) (2048 * i + a) e : ℝ) : EReal) :=
  (accQ_real hq hk hw hg hh hi a e 7 (by omega)).trans (congrArg _
    (sum_tiles (fun b => ds scA (hv Q h) (hv K h) (hv W h) (hv G h) (2048 * i + a) b * hv K h b e) 8 1024))

include hq hk hw hg in
theorem accK_full {h j : ℕ} (hh : h < 4) (hj : j < 8) (b : Fin 1024) (e : Fin 128) :
    accK m c (32 * h + 4 * j) 3 (ix2 b e) = ((dk scA (hv Q h) (hv K h) (hv W h) (hv G h) (1024 * j + b) e : ℝ) : EReal) :=
  (accK_real hq hk hw hg hh hj b e 3 (by omega)).trans (congrArg _
    (sum_tiles (fun a => ds scA (hv Q h) (hv K h) (hv W h) (hv G h) a (1024 * j + b) * hv Q h a e) 4 2048))

include hq hk hg in
theorem accV_full {h j : ℕ} (hh : h < 4) (hj : j < 8) (b : Fin 1024) (e : Fin 128) :
    accV m c (32 * h + 4 * j) 3 (ix2 b e) = ((dv scA (hv Q h) (hv K h) (hv G h) (1024 * j + b) e : ℝ) : EReal) :=
  (accV_real hq hk hg hh hj b e 3 (by omega)).trans (congrArg _
    (sum_tiles (fun a => pr scA (hv Q h) (hv K h) a (1024 * j + b) * hv G h a e) 4 2048))

include hq hk hw hg in
/-- The block of dq that a head's last point leaves. -/
theorem blockQ (t : Fin cfg0.N) (ht : t.val % 32 = 31) (X : Vec Ideal S8192x128 .f32) (h : QIs m c t.val X) (y : S8192x128.Idx) :
    X y = ((dq scA (hv Q (t.val / 32)) (hv K (t.val / 32)) (hv W (t.val / 32)) (hv G (t.val / 32)) (y 0).val (y 1).val : ℝ) : EReal) := by
  have ht' := lt128 t
  have h0 : (y 0).val < 8192 := (y 0).isLt
  have h1 : (y 1).val < 128 := (y 1).isLt
  have r := h (t.val - 3 + (y 0).val / 2048) (by omega) (by omega) (by omega)
    y (ix2 ⟨(y 0).val % 2048, Nat.mod_lt _ (by decide)⟩ ⟨(y 1).val, h1⟩) (by show (y 0).val = 2048 * _ + (y 0).val % 2048; omega) rfl
  rw [show (t.val - 3 + (y 0).val / 2048) / 32 * 32 + (t.val - 3 + (y 0).val / 2048) % 4 = 32 * (t.val / 32) + (y 0).val / 2048 by omega,
    show (t.val - 3 + (y 0).val / 2048) / 4 % 8 = 7 by omega,
    accQ_full hq hk hw hg (h := t.val / 32) (i := (y 0).val / 2048) (by omega) (by omega)] at r
  rw [r]
  simp only [show 2048 * ((y 0).val / 2048) + (y 0).val % 2048 = (y 0).val by omega]

include hq hk hw hg in
/-- The block of dk that a key tile's last point leaves. -/
theorem blockK (t : Fin cfg0.N) (ht : t.val % 4 = 3) (y : S1024x128.Idx) :
    accK m c (t.val / 4 * 4) (t.val % 4) y
      = ((dk scA (hv Q (t.val / 32)) (hv K (t.val / 32)) (hv W (t.val / 32)) (hv G (t.val / 32)) (1024 * (t.val / 4 % 8) + (y 0).val) (y 1).val : ℝ) : EReal) := by
  have ht' := lt128 t
  have e : y = ix2 ⟨(y 0).val, (y 0).isLt⟩ ⟨(y 1).val, (y 1).isLt⟩ := by
    funext a; fin_cases a <;> rfl
  rw [ht, show t.val / 4 * 4 = 32 * (t.val / 32) + 4 * (t.val / 4 % 8) by omega]
  exact (congrArg _ e).trans (accK_full hq hk hw hg (by omega) (by omega) ⟨(y 0).val, (y 0).isLt⟩ ⟨(y 1).val, (y 1).isLt⟩)

include hq hk hg in
/-- The block of dv that a key tile's last point leaves. -/
theorem blockV (t : Fin cfg0.N) (ht : t.val % 4 = 3) (y : S1024x128.Idx) :
    accV m c (t.val / 4 * 4) (t.val % 4) y
      = ((dv scA (hv Q (t.val / 32)) (hv K (t.val / 32)) (hv G (t.val / 32)) (1024 * (t.val / 4 % 8) + (y 0).val) (y 1).val : ℝ) : EReal) := by
  have ht' := lt128 t
  have e : y = ix2 ⟨(y 0).val, (y 0).isLt⟩ ⟨(y 1).val, (y 1).isLt⟩ := by
    funext a; fin_cases a <;> rfl
  rw [ht, show t.val / 4 * 4 = 32 * (t.val / 32) + 4 * (t.val / 4 % 8) by omega]
  exact (congrArg _ e).trans (accV_full hq hk hg (by omega) (by omega) ⟨(y 0).val, (y 0).isLt⟩ ⟨(y 1).val, (y 1).isLt⟩)

include hq hk hw hg in
/-- The results at a final state. -/
theorem results {r : PUnit × MemSt nD τ sig (Elt Ideal)} (h : Pipeline.RDat.FramePost (cfgs 0) (rdat m) (V m) r) :
    r.2.mem ((c.tc : Thread nD τ).loc main_v39_0) = gradQ Q K W G
      ∧ r.2.mem ((c.tc : Thread nD τ).loc main_v39_1) = gradK Q K W G
      ∧ r.2.mem ((c.tc : Thread nD τ).loc main_v39_2) = gradV Q K G := by
  obtain ⟨after, hL, hA⟩ := Pipeline.RDat.FramePost.exists_exact h c
  refine ⟨(hA 6).trans ?_, (hA 7).trans ?_, (hA 8).trans ?_⟩
  · refine ((rdat m c).withAfter after).arrAt_eq_of_covers 6 _ (by decide +kernel) fun t hf y => ?_
    have hl := (dats m 0 c).toRRel_leaves (fgt := outs0) (Rl := Rl m c) (w := 6) rfl (hL 6 t hf)
    have hb := blockQ hq hk hw hg t ((flush0_6 t).mp hf) (after 6 t) hl y
    have ht' := lt128 t
    have h1 : (y 1).val < 128 := (y 1).isLt
    refine Eq.trans ?_ (hb.trans ?_)
    · blk_simp
      rfl
    · unfold gradQ
      blk_simp [idx t]
      simp only [show (t.val / 32 * 128 + (y 1).val) / 128 = t.val / 32 by omega,
        show (t.val / 32 * 128 + (y 1).val) % 128 = (y 1).val by omega]
  · refine ((rdat m c).withAfter after).arrAt_eq_of_covers 7 _ (by decide +kernel) fun t hf y => ?_
    have hl := (dats m 0 c).toRRel_leaves (fgt := outs0) (Rl := Rl m c) (w := 7) rfl (hL 7 t hf)
    have hb := (congrFun hl y).trans (blockK hq hk hw hg t ((flush0_7 t).mp hf) y)
    have ht' := lt128 t
    have h1 : (y 1).val < 128 := (y 1).isLt
    refine Eq.trans ?_ (hb.trans ?_)
    · blk_simp
      rfl
    · unfold gradK
      blk_simp [idx t]
      simp only [show (t.val / 32 * 128 + (y 1).val) / 128 = t.val / 32 by omega,
        show (t.val / 32 * 128 + (y 1).val) % 128 = (y 1).val by omega, mul_comm 1024]
  · refine ((rdat m c).withAfter after).arrAt_eq_of_covers 8 _ (by decide +kernel) fun t hf y => ?_
    have hl := (dats m 0 c).toRRel_leaves (fgt := outs0) (Rl := Rl m c) (w := 8) rfl (hL 8 t hf)
    have hb := (congrFun hl y).trans (blockV hq hk hg t ((flush0_8 t).mp hf) y)
    have ht' := lt128 t
    have h1 : (y 1).val < 128 := (y 1).isLt
    refine Eq.trans ?_ (hb.trans ?_)
    · blk_simp
      rfl
    · unfold gradV
      blk_simp [idx t]
      simp only [show (t.val / 32 * 128 + (y 1).val) / 128 = t.val / 32 by omega,
        show (t.val / 32 * 128 + (y 1).val) % 128 = (y 1).val by omega, mul_comm 1024]
end Cert.Kernel2Ideal.Hand
-- ==== Proof.Latent.RefVal.lean ====
module

public import proofs.«01_k».proof.Proof.Gen.Reference2Ideal.Run
public import Idealize.ShloMosaic.Lib.Pointwise
public import proofs.«01_k».proof.Proof.Heads
public import proofs.«01_k».proof.Proof.Consts

@[expose] public section

/-! What the reference computes, stage by stage, and its values over real arguments. -/

noncomputable section
namespace Cert.Reference2Ideal.Hand
open Cert.Reference2Ideal Cert.Reference2Ideal.Value Cert.Reference2Ideal.Gen
open Cert.Heads
open Idealize.ShloMosaic Idealize.ShloMosaic.TcCoe

abbrev A3 := FVec Ideal S4x8192x8192 .f32
abbrev A2 := FVec Ideal S4x8192 .f32
abbrev A1 := FVec Ideal S4x8192x1 .f32
abbrev AH := FVec Ideal S8192x4x128 .f32

/-- An array's columns split into heads. -/
def hdT (x : FVec Ideal S8192x512 .bf16) : AH :=
  shapeCast S8192x4x128 (extf .f32 x bitsLt_bf16_f32) shapeCasts_S8192x512_S8192x4x128
/-- The scaled scores. -/
def scT (q k : AH) : A3 :=
  mulf (Host.dotGeneral dot_S8192x4x128_S8192x4x128_S4x8192x8192_2_2_0_0_1_1 none q k)
    (broadcastInDim S4x8192x8192 ![] bcast_S_S4x8192x8192 (constant (F := Ideal) S_ .f32 0x3DD105EC#32))
/-- Each query's largest score. -/
def mxT (s : A3) : A2 :=
  Host.reduce FloatOps.maximumf s (constant (F := Ideal) S_ .f32 0xFF800000#32) reducesTo_S4x8192x8192_S4x8192_d2 h_S_
/-- The same, no smaller than minus infinity. -/
def mx2T (x : A2) : A2 :=
  maximumf (broadcastInDim S4x8192 ![] bcast_S_S4x8192 (constant (F := Ideal) S_ .f32 0xFF800000#32)) x
/-- One value a query, as a column. -/
def colT (x : A2) : A1 := broadcastInDim S4x8192x1 ![0, 1] bcast_S4x8192_S4x8192x1_0_1 x
/-- The exponentials of the shifted scores. -/
def exT (s : A3) (x : A1) : A3 :=
  Host.exp (subf s (broadcastInDim S4x8192x8192 ![0, 1, 2] bcast_S4x8192x1_S4x8192x8192_0_1_2 x))
/-- The sum over the keys. -/
def smT (e : A3) : A2 :=
  Host.reduceAdd e (constant (F := Ideal) S_ .f32 0x00000000#32) reducesTo_S4x8192x8192_S4x8192_d2 h_S_
/-- Each query's row divided by one value. -/
def divT (e : A3) (x : A1) : A3 :=
  Host.divf e (broadcastInDim S4x8192x8192 ![0, 1, 2] bcast_S4x8192x1_S4x8192x8192_0_1_2 x)

theorem hdT_apply (x : FVec Ideal S8192x512 .bf16) (a : Fin 8192) (h : Fin 4) (d : Fin 128) :
    hdT x (ix3 a h d) = x (ix2 a ⟨h * 128 + d, by omega⟩) := by
  pointwise [hdT]
theorem scT_apply (q k : AH) (h : Fin 4) (a b : Fin 8192) :
    scT q k (ix3 h a b) = (∑ x, q (ix3 a h x) * k (ix3 b h x)) * Ideal.ofBits FTy.f32 0x3DD105EC#32 := by
  pointwise [scT]
theorem mxT_apply (s : A3) (h : Fin 4) (a : Fin 8192) :
    mxT s (ix2 h a) = Finset.fold max (Ideal.ofBits FTy.f32 0xFF800000#32) (fun x => s (ix3 h a x)) Finset.univ := by
  pointwise [mxT]
theorem mx2T_apply (x : A2) (h : Fin 4) (a : Fin 8192) :
    mx2T x (ix2 h a) = max (Ideal.ofBits FTy.f32 0xFF800000#32) (x (ix2 h a)) := by
  pointwise [mx2T]
theorem colT_apply (x : A2) (h : Fin 4) (a : Fin 8192) : colT x (ix3 h a 0) = x (ix2 h a) := by
  pointwise [colT]
theorem exT_apply (s : A3) (x : A1) (h : Fin 4) (a b : Fin 8192) :
    exT s x (ix3 h a b) = Ideal.exp (s (ix3 h a b) - x (ix3 h a 0)) := by
  pointwise [exT]
theorem smT_apply (s : A3) (h : Fin 4) (a : Fin 8192) : smT s (ix2 h a) = ∑ x, s (ix3 h a x) := by
  pointwise [smT]
theorem divT_apply (e : A3) (x : A1) (h : Fin 4) (a b : Fin 8192) :
    divT e x (ix3 h a b) = Ideal.div (e (ix3 h a b)) (x (ix3 h a 0)) := by
  pointwise [divT]

/-! ### The same over real arguments -/

/-- An argument's entries are the real values `X`. -/
def Real2 {ft : FTy} (x : FVec Ideal S8192x512 ft) (X : Mat) : Prop := ∀ (a : Fin 8192) (b : Fin 512), x (ix2 a b) = ((X a b : ℝ) : EReal)

theorem hdT_real {x : FVec Ideal S8192x512 .bf16} {X : Mat} (hx : Real2 x X) (a : Fin 8192) (h : Fin 4) (d : Fin 128) :
    hdT x (ix3 a h d) = ((hv X h a d : ℝ) : EReal) := (hdT_apply x a h d).trans (hx _ _)

section
variable {x y : FVec Ideal S8192x512 .bf16} {X Y : Mat} (hx : Real2 x X) (hy : Real2 y Y)
include hx hy
theorem scT_real (h : Fin 4) (a b : Fin 8192) :
    scT (hdT x) (hdT y) (ix3 h a b) = ((sc scA (hv X h) (hv Y h) a b : ℝ) : EReal) := by
  rw [scT_apply, bits_scA]
  simp only [hdT_real hx, hdT_real hy, ← EReal.coe_mul, sum_coe]
  rfl

theorem mxT_real (h : Fin 4) (a : Fin 8192) : ∃ M : ℝ, mxT (scT (hdT x) (hdT y)) (ix2 h a) = (M : EReal) := by
  rw [mxT_apply, bits_bot]
  simp only [scT_real hx hy]
  exact fold_max_real _

theorem exT_real {c : A1} {h : Fin 4} {a : Fin 8192} {M : ℝ} (hM : c (ix3 h a 0) = (M : EReal)) (b : Fin 8192) :
    exT (scT (hdT x) (hdT y)) c (ix3 h a b) = ((Real.exp (sc scA (hv X h) (hv Y h) a b - M) : ℝ) : EReal) := by
  rw [exT_apply, hM, scT_real hx hy, ← EReal.coe_sub, Ideal.exp_coe]

theorem smT_real {c : A1} {h : Fin 4} {a : Fin 8192} {M : ℝ} (hM : c (ix3 h a 0) = (M : EReal)) :
    smT (exT (scT (hdT x) (hdT y)) c) (ix2 h a) = ((ZM scA (hv X h) (hv Y h) M a : ℝ) : EReal) := by
  rw [smT_apply]
  simp only [exT_real hx hy hM, sum_coe]
  rfl

/-- The weights, whatever real shift the exponentials were taken with. -/
theorem weight_real {c : A1} {h : Fin 4} {a : Fin 8192} {M : ℝ} (hM : c (ix3 h a 0) = (M : EReal)) (b : Fin 8192) :
    divT (exT (scT (hdT x) (hdT y)) c) (colT (smT (exT (scT (hdT x) (hdT y)) c))) (ix3 h a b)
      = ((pr scA (hv X h) (hv Y h) a b : ℝ) : EReal) := by
  rw [divT_apply, colT_apply, smT_real hx hy hM, exT_real hx hy hM, div_real _ _ (ZM_pos ..), pr_shift]
end

/-- The cotangent, split into heads and transposed. -/
def ctT (g : FVec Ideal S8192x512 .f32) : FVec Ideal S4x128x8192 .f32 :=
  transpose S4x128x8192 [1, 2, 0] (shapeCast S8192x4x128 g shapeCasts_S8192x512_S8192x4x128) transposes_S8192x4x128_S4x128x8192_1_2_0
/-- The cotangent of the weights. -/
def dpT (g : FVec Ideal S4x128x8192 .f32) (v : AH) : A3 :=
  Host.dotGeneral dot_S4x128x8192_S8192x4x128_S4x8192x8192_1_2_2_0_0_1 none g v
/-- One over the square of the sums. -/
def rsqT (l : A1) : A1 :=
  Host.divf (broadcastInDim S4x8192x1 ![] bcast_S_S4x8192x1 (constant (F := Ideal) S_ .f32 0x3F800000#32)) (mulf l l)
/-- The products that the correction is the sum of. -/
def cprodT (d e : A3) (r : A1) : A3 :=
  mulf (mulf d (broadcastInDim S4x8192x8192 ![0, 1, 2] bcast_S4x8192x1_S4x8192x8192_0_1_2 r)) e
/-- The correction, negated. -/
def negT (x : A2) : A2 :=
  Host.reduceAdd (Host.negf (shapeCast S4x8192x1 x shapeCasts_S4x8192_S4x8192x1)) (constant (F := Ideal) S_ .f32 0x00000000#32)
    reducesTo_S4x8192x1_S4x8192_d2 h_S_
/-- The cotangent of the unscaled scores. -/
def dsT (d e : A3) (x : A2) : A3 :=
  mulf (mulf (addf d (broadcastInDim S4x8192x8192 ![0, 1] bcast_S4x8192_S4x8192x8192_0_1 x)) e)
    (broadcastInDim S4x8192x8192 ![] bcast_S_S4x8192x8192 (constant (F := Ideal) S_ .f32 0x3DD105EC#32))
/-- The gradients from the cotangents. -/
def gkT (s : A3) (q : AH) : FVec Ideal S8192x512 .f32 :=
  shapeCast S8192x512 (transpose S8192x4x128 [1, 0, 2]
    (Host.dotGeneral dot_S4x8192x8192_S8192x4x128_S4x8192x128_1_0_2_2_0_1 none s q) transposes_S4x8192x128_S8192x4x128_1_0_2)
    shapeCasts_S8192x4x128_S8192x512
def gqT (s : A3) (k : AH) : FVec Ideal S8192x512 .f32 :=
  shapeCast S8192x512 (transpose S8192x4x128 [1, 0, 2]
    (Host.dotGeneral dot_S4x8192x8192_S8192x4x128_S4x8192x128_2_0_1_2_0_1 none s k) transposes_S4x8192x128_S8192x4x128_1_0_2)
    shapeCasts_S8192x4x128_S8192x512
def gvT (g : FVec Ideal S4x128x8192 .f32) (p : A3) : FVec Ideal S8192x512 .f32 :=
  shapeCast S8192x512 (transpose S8192x4x128 [2, 0, 1]
    (Host.dotGeneral dot_S4x128x8192_S4x8192x8192_S4x128x8192_2_1_1_2_0_0 none g p) transposes_S4x128x8192_S8192x4x128_2_0_1)
    shapeCasts_S8192x4x128_S8192x512

theorem ctT_apply (g : FVec Ideal S8192x512 .f32) (a : Fin 8192) (h : Fin 4) (d : Fin 128) :
    ctT g (ix3 h d a) = g (ix2 a ⟨h * 128 + d, by omega⟩) := by
  pointwise [ctT]
theorem dpT_apply (g : FVec Ideal S4x128x8192 .f32) (v : AH) (h : Fin 4) (a b : Fin 8192) :
    dpT g v (ix3 h a b) = ∑ x, g (ix3 h x a) * v (ix3 b h x) := by
  pointwise [dpT]
theorem rsqT_apply (l : A1) (h : Fin 4) (a : Fin 8192) :
    rsqT l (ix3 h a 0) = Ideal.div (Ideal.ofBits FTy.f32 0x3F800000#32) (l (ix3 h a 0) * l (ix3 h a 0)) := by
  pointwise [rsqT]
theorem cprodT_apply (d e : A3) (r : A1) (h : Fin 4) (a b : Fin 8192) :
    cprodT d e r (ix3 h a b) = d (ix3 h a b) * r (ix3 h a 0) * e (ix3 h a b) := by
  pointwise [cprodT]
theorem negT_apply (x : A2) (h : Fin 4) (a : Fin 8192) : negT x (ix2 h a) = -x (ix2 h a) := by
  pointwise [negT]
  exact Fin.sum_univ_one _
theorem dsT_apply (d e : A3) (x : A2) (h : Fin 4) (a b : Fin 8192) :
    dsT d e x (ix3 h a b) = (d (ix3 h a b) + x (ix2 h a)) * e (ix3 h a b) * Ideal.ofBits FTy.f32 0x3DD105EC#32 := by
  pointwise [dsT]
theorem gkT_apply (s : A3) (q : AH) (a : Fin 8192) (b : Fin 512) :
    gkT s q (ix2 a b) = ∑ x, s (ix3 ⟨b / 128, by omega⟩ x a) * q (ix3 x ⟨b / 128, by omega⟩ ⟨b % 128, by omega⟩) := by
  pointwise [gkT]
theorem gqT_apply (s : A3) (q : AH) (a : Fin 8192) (b : Fin 512) :
    gqT s q (ix2 a b) = ∑ x, s (ix3 ⟨b / 128, by omega⟩ a x) * q (ix3 x ⟨b / 128, by omega⟩ ⟨b % 128, by omega⟩) := by
  pointwise [gqT]
theorem gvT_apply (g : FVec Ideal S4x128x8192 .f32) (p : A3) (a : Fin 8192) (b : Fin 512) :
    gvT g p (ix2 a b) = ∑ x, g (ix3 ⟨b / 128, by omega⟩ ⟨b % 128, by omega⟩ x) * p (ix3 ⟨b / 128, by omega⟩ x a) := by
  pointwise [gvT]

/-! ### The results from the arguments -/

section
variable (q k v : FVec Ideal S8192x512 .bf16) (g : FVec Ideal S8192x512 .f32)
def rS : A3 := scT (hdT q) (hdT k)
def rE : A3 := exT (rS q k) (colT (mx2T (mxT (rS q k))))
def rL : A1 := colT (smT (rE q k))
def rP : A3 := dpT (ctT g) (hdT v)
def rD : A3 :=
  dsT (divT (rP v g) (rL q k)) (rE q k) (negT (smT (cprodT (rP v g) (rE q k) (rsqT (rL q k)))))
end

section
variable (m : (ℓ : Loc nD τ sig) → Buf (Elt Ideal) ℓ) (c : Dev nD)
abbrev argQ : FVec Ideal S8192x512 .bf16 := m ((c.tc : Thread nD τ).loc main_arg0)
abbrev argK : FVec Ideal S8192x512 .bf16 := m ((c.tc : Thread nD τ).loc main_arg1)
abbrev argV : FVec Ideal S8192x512 .bf16 := m ((c.tc : Thread nD τ).loc main_arg2)
abbrev argG : FVec Ideal S8192x512 .f32 := m ((c.tc : Thread nD τ).loc main_arg3)

theorem res_dk : res_main_v64 m c = gkT (rD (argQ m c) (argK m c) (argV m c) (argG m c)) (hdT (argQ m c)) := rfl
theorem res_dq : res_main_v65 m c = gqT (rD (argQ m c) (argK m c) (argV m c) (argG m c)) (hdT (argK m c)) := rfl
end

section
variable {q k v : FVec Ideal S8192x512 .bf16} {g : FVec Ideal S8192x512 .f32} {Q K W G : Mat}
  (hq : Real2 q Q) (hk : Real2 k K) (hw : Real2 v W) (hg : Real2 g G)

theorem ctT_real (hg : Real2 g G) (a : Fin 8192) (h : Fin 4) (d : Fin 128) : ctT g (ix3 h d a) = ((hv G h a d : ℝ) : EReal) :=
  (ctT_apply g a h d).trans (hg _ _)

include hq hk in
theorem shift_real (h : Fin 4) (a : Fin 8192) : ∃ M : ℝ, colT (mx2T (mxT (rS q k))) (ix3 h a 0) = (M : EReal) := by
  obtain ⟨M, hM⟩ := mxT_real hq hk h a
  exact ⟨M, by rw [colT_apply, mx2T_apply, bits_bot, bot_sup_eq]; exact hM⟩

include hw hg in
theorem dp_real (h : Fin 4) (a b : Fin 8192) : rP v g (ix3 h a b) = ((dp (hv W h) (hv G h) a b : ℝ) : EReal) := by
  rw [rP, dpT_apply]
  simp only [ctT_real hg, hdT_real hw, ← EReal.coe_mul, sum_coe]
  rfl

include hq hk hw hg in
theorem ds_real (h : Fin 4) (a b : Fin 8192) :
    rD q k v g (ix3 h a b) = ((ds scA (hv Q h) (hv K h) (hv W h) (hv G h) a b : ℝ) : EReal) := by
  obtain ⟨M, hM⟩ := shift_real hq hk h a
  have hE : ∀ b, rE q k (ix3 h a b) = _ := fun b => exT_real hq hk hM b
  have hL : rL q k (ix3 h a 0) = _ := (colT_apply _ h a).trans (smT_real hq hk hM)
  have hZ := ZM_pos scA (hv Q h) (hv K h) M a
  rw [rD, dsT_apply, divT_apply, negT_apply, smT_apply, bits_scA, hE, hL, dp_real hw hg, div_real _ _ hZ]
  simp only [cprodT_apply, rsqT_apply, bits_one, hE, hL, dp_real hw hg, ← EReal.coe_mul, div_real _ _ (mul_pos hZ hZ), sum_coe,
    ← EReal.coe_neg, ← EReal.coe_add]
  rw [ds_quotient]

include hq hk hw hg in
theorem dk_real (a : Fin 8192) (b : Fin 512) :
    gkT (rD q k v g) (hdT q) (ix2 a b)
      = ((dk scA (hv Q (b / 128)) (hv K (b / 128)) (hv W (b / 128)) (hv G (b / 128)) a (b % 128) : ℝ) : EReal) := by
  rw [gkT_apply]
  simp only [ds_real hq hk hw hg, hdT_real hq, ← EReal.coe_mul, sum_coe]
  rfl

include hq hk hw hg in
theorem dq_real (a : Fin 8192) (b : Fin 512) :
    gqT (rD q k v g) (hdT k) (ix2 a b)
      = ((dq scA (hv Q (b / 128)) (hv K (b / 128)) (hv W (b / 128)) (hv G (b / 128)) a (b % 128) : ℝ) : EReal) := by
  rw [gqT_apply]
  simp only [ds_real hq hk hw hg, hdT_real hk, ← EReal.coe_mul, sum_coe]
  rfl

include hq hk hg in
theorem dv_real (a : Fin 8192) (b : Fin 512) :
    gvT (ctT g) (divT (rE q k) (rL q k)) (ix2 a b)
      = ((dv scA (hv Q (b / 128)) (hv K (b / 128)) (hv G (b / 128)) a (b % 128) : ℝ) : EReal) := by
  rw [gvT_apply]
  have hp : ∀ x : Fin 8192, divT (rE q k) (rL q k) (ix3 ⟨b / 128, by omega⟩ x a) = _ := fun x => by
    obtain ⟨M, hM⟩ := shift_real hq hk ⟨b / 128, by omega⟩ x
    exact weight_real hq hk hM a
  simp only [hp, ctT_real hg, ← EReal.coe_mul, sum_coe]
  rw [EReal.coe_eq_coe_iff]
  exact Finset.sum_congr rfl fun _ _ => mul_comm _ _
end
end Cert.Reference2Ideal.Hand
-- ==== Proof.Latent.Value.lean ====
module

public import proofs.«01_k».proof.Defs
public import proofs.«01_k».proof.Proof.Latent.Final
public import proofs.«01_k».proof.Proof.Latent.RefVal
public import proofs.«01_k».proof.Proof.Finite
public import Idealize.ShloMosaic.Lib.Quiescent

@[expose] public section

/-! The algebraic claim: over real arguments the ideal kernel's results are the reference's. -/

noncomputable section
namespace Cert.Latent
open Idealize.ShloMosaic Idealize.ShloMosaic.TcCoe Idealize.SL.Sem Cert.Heads

/-- The real values of an array, by row and column. -/
def mat {ft : FTy} (x : FVec Ideal Kernel2Ideal.S8192x512 ft) : Mat := fun a b =>
  if h : a < 8192 ∧ b < 512 then (show EReal from x (ix2 ⟨a, h.1⟩ ⟨b, h.2⟩)).toReal else 0

theorem mat_real {ft : FTy} {x : FVec Ideal Kernel2Ideal.S8192x512 ft} (h : ∀ i, (show EReal from x i) = (((show EReal from x i).toReal : ℝ) : EReal)) :
    Kernel2Ideal.Hand.Real2 x (mat x) := by
  intro a b
  rw [mat, dif_pos ⟨a.isLt, b.isLt⟩]
  exact h _

theorem ix2_eta (y : Kernel2Ideal.S8192x512.Idx) : y = ix2 ⟨(y 0).val, (y 0).isLt⟩ ⟨(y 1).val, (y 1).isLt⟩ := by
  funext a; fin_cases a <;> rfl

section
variable {q k v : FVec Ideal Kernel2Ideal.S8192x512 .bf16} {g : FVec Ideal Kernel2Ideal.S8192x512 .f32} {Q K W G : Mat}
  (hq : Kernel2Ideal.Hand.Real2 q Q) (hk : Kernel2Ideal.Hand.Real2 k K) (hw : Kernel2Ideal.Hand.Real2 v W) (hg : Kernel2Ideal.Hand.Real2 g G)
include hq hk hw hg

theorem ref_dq : Reference2Ideal.Hand.gqT (Reference2Ideal.Hand.rD q k v g) (Reference2Ideal.Hand.hdT k) = Kernel2Ideal.Hand.gradQ Q K W G := by
  funext y
  exact (congrArg _ (ix2_eta y)).trans (Reference2Ideal.Hand.dq_real (Q := Q) (K := K) (W := W) (G := G) hq hk hw hg _ _)

theorem ref_dk : Reference2Ideal.Hand.gkT (Reference2Ideal.Hand.rD q k v g) (Reference2Ideal.Hand.hdT q) = Kernel2Ideal.Hand.gradK Q K W G := by
  funext y
  exact (congrArg _ (ix2_eta y)).trans (Reference2Ideal.Hand.dk_real (Q := Q) (K := K) (W := W) (G := G) hq hk hw hg _ _)

omit hw in
theorem ref_dv : Reference2Ideal.Hand.gvT (Reference2Ideal.Hand.ctT g) (Reference2Ideal.Hand.divT (Reference2Ideal.Hand.rE q k) (Reference2Ideal.Hand.rL q k))
    = Kernel2Ideal.Hand.gradV Q K G := by
  funext y
  exact (congrArg _ (ix2_eta y)).trans (Reference2Ideal.Hand.dv_real (Q := Q) (K := K) (G := G) hq hk hg _ _)
end

/-- The kernel's three results are `gradQ`, `gradK`, `gradV` of the arguments' reals, and so are the reference's. -/
theorem algebraic [Cert.Pre_finite.Facts] :
    algebraic_Kernel2Ideal_Reference2Ideal_pre_finite (hKernel2Ideal := Kernel2Ideal.Gen.facts) (hReference2Ideal := Reference2Ideal.Gen.facts) := by
  intro m ρ m' ρ' hpre hagree
  have hf := fun c => Finite.of_fn (hpre c)
  refine ⟨fun c => Kernel2Ideal.Hand.gradQ (mat (Kernel2Ideal.Hand.argQ m c)) (mat (Kernel2Ideal.Hand.argK m c)) (mat (Kernel2Ideal.Hand.argV m c)) (mat (Kernel2Ideal.Hand.argG m c)),
    fun c => Kernel2Ideal.Hand.gradK (mat (Kernel2Ideal.Hand.argQ m c)) (mat (Kernel2Ideal.Hand.argK m c)) (mat (Kernel2Ideal.Hand.argV m c)) (mat (Kernel2Ideal.Hand.argG m c)),
    fun c => Kernel2Ideal.Hand.gradV (mat (Kernel2Ideal.Hand.argQ m c)) (mat (Kernel2Ideal.Hand.argK m c)) (mat (Kernel2Ideal.Hand.argG m c)), ?_, ?_⟩
  · refine (θ_run _ _ _).mono (fun r h c => ?_) (Kernel2Ideal.Hand.run_main (F := Ideal) m ρ)
    obtain ⟨h1, h2, h3⟩ := Kernel2Ideal.Hand.results (c := c) (mat_real (hf c).1) (mat_real (hf c).2.1) (mat_real (hf c).2.2.1) (mat_real (hf c).2.2.2) h.1
    exact ⟨h1, h2, h3, Kernel2Ideal.Hand.args_of_post m h.1 c⟩
  · refine (θ_run _ _ _).mono (fun r h c => ?_) (Reference2Ideal.Value.run (F := Ideal) m' ρ')
    obtain ⟨a0, a1, a2, a3⟩ := hagree c
    obtain ⟨h1, h2, h3, h4⟩ := h c
    refine ⟨h1.trans ?_, h2.trans ?_, h3.trans ?_, h4⟩
    · refine (Reference2Ideal.Hand.res_dq m' c).trans (Eq.trans ?_ (ref_dq (mat_real (hf c).1) (mat_real (hf c).2.1) (mat_real (hf c).2.2.1) (mat_real (hf c).2.2.2)))
      exact congr (congrArg _ (congr (congr (congr (congrArg _ a0) a1) a2) a3)) (congrArg _ a1)
    · refine (Reference2Ideal.Hand.res_dk m' c).trans (Eq.trans ?_ (ref_dk (mat_real (hf c).1) (mat_real (hf c).2.1) (mat_real (hf c).2.2.1) (mat_real (hf c).2.2.2)))
      exact congr (congrArg _ (congr (congr (congr (congrArg _ a0) a1) a2) a3)) (congrArg _ a0)
    · refine Eq.trans ?_ (ref_dv (mat_real (hf c).1) (mat_real (hf c).2.1) (mat_real (hf c).2.2.2))
      refine Eq.trans (b := Reference2Ideal.Hand.gvT (Reference2Ideal.Hand.ctT (Reference2Ideal.Hand.argG m' c)) (Reference2Ideal.Hand.divT (Reference2Ideal.Hand.rE (Reference2Ideal.Hand.argQ m' c) (Reference2Ideal.Hand.argK m' c)) (Reference2Ideal.Hand.rL (Reference2Ideal.Hand.argQ m' c) (Reference2Ideal.Hand.argK m' c)))) rfl ?_
      exact congr (congrArg _ (congrArg _ a3)) (congr (congrArg _ (congr (congrArg _ a0) a1)) (congr (congrArg _ a0) a1))

/-- The reference ends with its arguments unchanged; its program has no semaphore. -/
theorem reference_frame : quiescent_Reference2Ideal (hReference2Ideal := Reference2Ideal.Gen.facts) := fun m ρ _ =>
  (θ_run Reference2Ideal.defs _ _).mono (fun r h => ⟨fun c => (h c).2.2.2, Idealize.ShloMosaic.sem_eq_zero_of_no_sems (by decide) r.2⟩)
    (Reference2Ideal.Value.run (F := Ideal) m ρ)
end Cert.Latent
-- ==== Proof.Products.lean ====
module

public import Idealize.ShloMosaic.Lib.Pipeline.ValueKit.Point
public import Idealize.ShloMosaic.Lib.Pointwise

@[expose] public section

/-! A product of matrices and the two products of its backward pass, as functions of the entries. -/

noncomputable section
namespace Cert.Products
open Idealize.ShloMosaic

/-- A matrix of extended reals, of any float type. -/
abbrev M (A B : ℕ) (ft : FTy) : Type := FVec Ideal ⟨2, ![A, B]⟩ ft

/-- `a b`. -/
def plain {A B K : ℕ} {fa fb : FTy} (a : M A K fa) (b : M K B fb) : M A B .f32 :=
  fun y => ∑ x : Fin K, (show EReal from a (ix2 (y 0) x)) * (show EReal from b (ix2 x (y 1)))

/-- `a bᵀ`: the rows of `a` against the rows of `b`. -/
def rows {A B K : ℕ} {fa fb : FTy} (a : M A K fa) (b : M B K fb) : M A B .f32 :=
  fun y => ∑ x : Fin K, (show EReal from a (ix2 (y 0) x)) * (show EReal from b (ix2 (y 1) x))

/-- `aᵀ b`: the columns of `a` against the columns of `b`. -/
def cols {A B K : ℕ} {fa fb : FTy} (a : M K A fa) (b : M K B fb) : M A B .f32 :=
  fun y => ∑ x : Fin K, (show EReal from a (ix2 x (y 0))) * (show EReal from b (ix2 x (y 1)))

theorem eta {A B : ℕ} (y : (⟨2, ![A, B]⟩ : Shape).Idx) : y = ix2 (y 0) (y 1) := by
  funext a; fin_cases a <;> rfl

/-- One product of `cols`: row `n` of both, column `i` of `a`, column `j` of `b`. -/
def ent {A B K : ℕ} {fa fb : FTy} (a : M K A fa) (b : M K B fb) (i j n : ℕ) : EReal :=
  if h : (i < A ∧ j < B) ∧ n < K then (show EReal from a (ix2 ⟨n, h.2⟩ ⟨i, h.1.1⟩)) * (show EReal from b (ix2 ⟨n, h.2⟩ ⟨j, h.1.2⟩)) else 0

/-- `cols` is the sum of its four quarters of the contracted axis. -/
theorem cols_four {A B K : ℕ} {fa fb : FTy} (a : M K A fa) (b : M K B fb) (T : ℕ) (hK : 4 * T = K) (y : (⟨2, ![A, B]⟩ : Shape).Idx) :
    cols a b y = (∑ x : Fin T, ent a b (y 0).val (y 1).val (0 * T + x)) + (∑ x : Fin T, ent a b (y 0).val (y 1).val (1 * T + x))
      + (∑ x : Fin T, ent a b (y 0).val (y 1).val (2 * T + x)) + ∑ x : Fin T, ent a b (y 0).val (y 1).val (3 * T + x) := by
  have e : cols a b y = ∑ n : Fin K, ent a b (y 0).val (y 1).val n.val :=
    Finset.sum_congr rfl fun n _ => by
      rw [ent, dif_pos ⟨⟨(y 0).isLt, (y 1).isLt⟩, n.isLt⟩]
      rfl
  rw [e, Fin.sum_univ_tiles 4 T hK, Fin.sum_univ_four]
  rfl

end Cert.Products
-- ==== Proof.Products.FInDx.lean ====
module

public import proofs.«01_k».proof.Defs
public import proofs.«01_k».proof.Proof.Products
public import proofs.«01_k».proof.Proof.Gen.Kernel3.Frame
public import proofs.«01_k».proof.Proof.Gen.Kernel3Ideal.Value
public import proofs.«01_k».proof.Proof.Gen.Reference3Ideal.Run
public import Idealize.ShloMosaic.Lib.Quiescent

@[expose] public section

/-! The gradient of the channel mixer's input (call `f_in_dx`): each block of 512 rows is one product. -/

noncomputable section
namespace Cert.Products.FInDx
open Idealize.ShloMosaic Idealize.ShloMosaic.TcCoe Idealize.SL.Sem
open Cert.Kernel3Ideal Cert.Kernel3Ideal.Gen

theorem block_eq (a : FVec Ideal S512x5632 .bf16) (b : FVec Ideal S1024x5632 .bf16) (i : Fin 512) (j : Fin 1024) :
    k0_pay1 (F := Ideal) a b (ix2 i j) = ∑ x : Fin 5632, (a (ix2 i x) : EReal) * b (ix2 j x) := by
  pointwise [k0_pay1]

/-- Each window's block at a point. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

abbrev argA : FVec Ideal S8192x5632 .bf16 := m ((c.tc : Thread nD τ).loc main_arg0)
abbrev argB : FVec Ideal S1024x5632 .bf16 := m ((c.tc : Thread nD τ).loc main_arg1)

/-- The result after the run. -/
theorem result : (dats m 0 c).arrAt 2 cfg0.N = rows (argA m c) (argB m c) := by
  refine (dats m 0 c).arrAt_eq_of_covers 2 _ (by decide +kernel) fun t hf y => ?_
  have ht : t.val < 16 := Nat.lt_of_lt_of_eq t.isLt N_0
  blk_simp
  rw [after0_2]
  frame_out
  refine (congrArg _ (eta y)).trans ((block_eq _ _ _ _).trans ?_)
  unfold rows
  refine Finset.sum_congr rfl fun x _ => ?_
  congr 1
  · blk_ext [iblk, V, idx t]
  · blk_ext [iblk, V, idx t]

theorem reference (a : FVec Ideal S8192x5632 .bf16) (b : FVec Ideal S1024x5632 .bf16)
    (h : FTy.bits .bf16 < FTy.bits .f32) : Host.dotGeneral Reference3Ideal.dot_S8192x5632_S1024x5632_S8192x1024_1_1_0_0_n_n none
      (extf .f32 a h) (extf .f32 b h) = rows a b := by
  funext y
  refine (congrArg _ (eta y)).trans ?_
  unfold rows
  pointwise []

theorem algebraic : algebraic_Kernel3Ideal_Reference3Ideal (hKernel3Ideal := Kernel3Ideal.Gen.facts) (hReference3Ideal := Reference3Ideal.Gen.facts) := by
  intro m ρ m' ρ' _ hagree
  refine ⟨fun c => rows (argA m c) (argB m c), ?_, ?_⟩
  · exact (θ_run _ _ _).mono (fun r h c => ⟨(h c).1.trans (result m c), (h c).2⟩) (Kernel3Ideal.Value.run_blocks (F := Ideal) m ρ)
  · refine (θ_run _ _ _).mono (fun r h c => ⟨(h c).1.trans ?_, (h c).2⟩) (Reference3Ideal.Value.run (F := Ideal) m' ρ')
    exact (reference _ _ _).trans (congr (congrArg _ (hagree c).1) (hagree c).2)

theorem kernel_frame : quiescent_Kernel3 (hKernel3 := Kernel3.Gen.facts) := fun m ρ _ => Kernel3.Gen.frame m ρ

theorem ideal_frame : quiescent_Kernel3Ideal (hKernel3Ideal := Kernel3Ideal.Gen.facts) := fun m ρ _ => Kernel3Ideal.Gen.frame m ρ

theorem reference_frame : quiescent_Reference3Ideal (hReference3Ideal := Reference3Ideal.Gen.facts) := fun m ρ _ =>
  (θ_run Reference3Ideal.defs _ _).mono (fun r h => ⟨fun c => (h c).2, Idealize.ShloMosaic.sem_eq_zero_of_no_sems (by decide) r.2⟩)
    (Reference3Ideal.Value.run (F := Ideal) m ρ)

end Cert.Products.FInDx
-- ==== Proof.Products.FInDw.lean ====
module

public import proofs.«01_k».proof.Defs
public import proofs.«01_k».proof.Proof.Products
public import proofs.«01_k».proof.Proof.Gen.Kernel4.Frame
public import proofs.«01_k».proof.Proof.Gen.Kernel4Ideal.Value
public import proofs.«01_k».proof.Proof.Gen.Reference4Ideal.Run
public import Idealize.ShloMosaic.Lib.Quiescent

@[expose] public section

/-! The gradient of the channel mixer's first weight (call `f_in_dw`): four tiles of the contracted axis are added up. -/

noncomputable section
namespace Cert.Products.FInDw
open Idealize.ShloMosaic Idealize.ShloMosaic.TcCoe Idealize.SL.Sem Cert.Products
open Cert.Kernel4Ideal Cert.Kernel4Ideal.Gen

theorem tile (a : FVec Ideal S2048x512 .bf16) (b : FVec Ideal S2048x1408 .bf16) (i : Fin 512) (j : Fin 1408) :
    k0_pay1 (F := Ideal) a b (ix2 i j) = ∑ x : Fin 2048, (a (ix2 x i) : EReal) * b (ix2 x j) := by
  pointwise [k0_pay1]

/-- Each window's block at a point. -/
theorem idx : ∀ t : Fin cfg0.N, win0_0.index t = ![t.val % 4, t.val / 16] ∧ win0_1.index t = ![t.val % 4, t.val / 4 % 4]
    ∧ win0_2.index t = ![t.val / 16, t.val / 4 % 4] :=
  (by decide +kernel : ∀ t : Fin grid0.N, _)

variable (m : (ℓ : Loc nD τ sig) → Buf (Elt Ideal) ℓ) (c : Dev nD)

abbrev argA : FVec Ideal S8192x1024 .bf16 := m ((c.tc : Thread nD τ).loc main_arg0)
abbrev argB : FVec Ideal S8192x5632 .bf16 := m ((c.tc : Thread nD τ).loc main_arg1)

/-- The term that point `t` adds to the accumulator. -/
def term (t : Fin cfg0.N) : FVec Ideal S512x1408 .f32 := k0_pay1 (F := Ideal) (iblk m c 0 t) (iblk m c 1 t)

theorem reset (t : Fin cfg0.N) (h : t.val % 4 = 0) : (outsAt0 m c t.val t.isLt).2 = term m c t := by
  rw [outsAt0_A m c t h (by omega) (by omega)]
  frame_out
  rw [k0_pay2, shapeCast_self]
  rfl

theorem step (t : Fin cfg0.N) (h : 1 ≤ t.val % 4 ∧ t.val % 4 ≤ 2) :
    (outsAt0 m c t.val t.isLt).2 = addf (outsAt0 m c (t.val - 1) (Nat.lt_of_le_of_lt (Nat.sub_le _ _) t.isLt)).2 (term m c t) := by
  rw [outsAt0_B m c t (by omega) h (by omega)]
  frame_out
  rw [k0_pay3, shapeCast_self]
  exact congrArg (addf · _) ((Memref.isWhole_whole _).read_unread _)

theorem last (t : Fin cfg0.N) (h : t.val % 4 = 3) :
    (outsAt0 m c t.val t.isLt).1 = addf (outsAt0 m c (t.val - 1) (Nat.lt_of_le_of_lt (Nat.sub_le _ _) t.isLt)).2 (term m c t) := by
  rw [outsAt0_C m c t (by omega) (by omega) h]
  frame_out
  rw [k0_pay4]
  exact congrArg (addf · _) ((Memref.isWhole_whole _).read_unread _)

/-- A term's entries, from the arguments. -/
theorem term_eq (t : Fin cfg0.N) (i : Fin 512) (j : Fin 1408) :
    term m c t (ix2 i j) = ∑ x : Fin 2048, ent (argA m c) (argB m c) (t.val / 16 * 512 + i) (t.val / 4 % 4 * 1408 + j) (t.val % 4 * 2048 + x) := by
  have ht : t.val < 32 := Nat.lt_of_lt_of_eq t.isLt N_0
  refine (tile _ _ _ _).trans (Finset.sum_congr rfl fun x _ => ?_)
  rw [ent, dif_pos (by omega)]
  congr 1
  · blk_ext [iblk, V, idx t]
  · blk_ext [iblk, V, idx t]

/-- What the last point of a block leaves: its four terms, added in order. -/
theorem fold (t : Fin cfg0.N) (h : t.val % 4 = 3) :
    (outsAt0 m c t.val t.isLt).1 = addf (addf (addf (term m c ⟨t.val - 3, by omega⟩) (term m c ⟨t.val - 2, by omega⟩))
      (term m c ⟨t.val - 1, by omega⟩)) (term m c t) := by
  rw [last m c t h]
  refine congrArg (addf · _) ?_
  refine (step m c ⟨t.val - 1, by omega⟩ (by dsimp only; omega)).trans ?_
  refine congrArg (addf · _) ?_
  refine (step m c ⟨t.val - 2, by omega⟩ (by dsimp only; omega)).trans ?_
  refine congrArg (addf · _) ?_
  exact reset m c ⟨t.val - 3, by omega⟩ (by dsimp only; omega)

/-- The same at an entry: the sum of four quarters of the contracted axis. -/
theorem fold_eq (t : Fin cfg0.N) (h : t.val % 4 = 3) (i : Fin 512) (j : Fin 1408) (a b : ℕ) (ha : a = t.val / 16 * 512 + i) (hb : b = t.val / 4 % 4 * 1408 + j) :
    (outsAt0 m c t.val t.isLt).1 (ix2 i j) = (∑ x : Fin 2048, ent (argA m c) (argB m c) a b (0 * 2048 + x))
      + (∑ x : Fin 2048, ent (argA m c) (argB m c) a b (1 * 2048 + x)) + (∑ x : Fin 2048, ent (argA m c) (argB m c) a b (2 * 2048 + x))
      + ∑ x : Fin 2048, ent (argA m c) (argB m c) a b (3 * 2048 + x) := by
  subst ha hb
  rw [fold m c t h]
  show (show EReal from term m c ⟨t.val - 3, _⟩ (ix2 i j)) + term m c ⟨t.val - 2, _⟩ (ix2 i j) + term m c ⟨t.val - 1, _⟩ (ix2 i j) + term m c t (ix2 i j) = _
  rw [term_eq, term_eq, term_eq, term_eq]
  simp only [show (t.val - 3) % 4 = 0 by omega, show (t.val - 2) % 4 = 1 by omega, show (t.val - 1) % 4 = 2 by omega, h,
    show (t.val - 3) / 16 = t.val / 16 by omega, show (t.val - 2) / 16 = t.val / 16 by omega, show (t.val - 1) / 16 = t.val / 16 by omega,
    show (t.val - 3) / 4 = t.val / 4 by omega, show (t.val - 2) / 4 = t.val / 4 by omega, show (t.val - 1) / 4 = t.val / 4 by omega]

/-- The result after the run. -/
theorem result : (dats m 0 c).arrAt 2 cfg0.N = cols (argA m c) (argB m c) := by
  refine (dats m 0 c).arrAt_eq_of_covers 2 _ (by decide +kernel) fun t hf y => ?_
  have h3 := (flush0_2 t).mp hf
  blk_simp
  rw [after0_2, cols_four _ _ 2048 rfl]
  refine (congrArg _ (eta y)).trans (fold_eq m c t h3 _ _ _ _ ?_ ?_)
  · blk_simp [idx t]
  · blk_simp [idx t]

theorem reference (a : FVec Ideal S8192x1024 .bf16) (b : FVec Ideal S8192x5632 .bf16) :
    transpose Reference4Ideal.S1024x5632 [1, 0] (Host.dotGeneral Reference4Ideal.dot_S8192x5632_S8192x1024_S5632x1024_0_0_1_1_n_n none
      (extf .f32 b Reference4Ideal.Gen.bitsLt_bf16_f32) (extf .f32 a Reference4Ideal.Gen.bitsLt_bf16_f32)) Reference4Ideal.Gen.transposes_S5632x1024_S1024x5632_1_0 = cols a b := by
  funext y
  refine (congrArg _ (eta y)).trans ?_
  unfold cols
  pointwise []
  exact Finset.sum_congr rfl fun x _ => mul_comm _ _

theorem algebraic : algebraic_Kernel4Ideal_Reference4Ideal (hKernel4Ideal := Kernel4Ideal.Gen.facts) (hReference4Ideal := Reference4Ideal.Gen.facts) := by
  intro m ρ m' ρ' _ hagree
  refine ⟨fun c => cols (argA m c) (argB m c), ?_, ?_⟩
  · exact (θ_run _ _ _).mono (fun r h c => ⟨(h c).1.trans (result m c), (h c).2⟩) (Kernel4Ideal.Value.run_blocks (F := Ideal) m ρ)
  · refine (θ_run _ _ _).mono (fun r h c => ⟨(h c).1.trans ?_, (h c).2⟩) (Reference4Ideal.Value.run (F := Ideal) m' ρ')
    exact (reference _ _).trans (congr (congrArg _ (hagree c).1) (hagree c).2)

theorem kernel_frame : quiescent_Kernel4 (hKernel4 := Kernel4.Gen.facts) := fun m ρ _ => Kernel4.Gen.frame m ρ

theorem ideal_frame : quiescent_Kernel4Ideal (hKernel4Ideal := Kernel4Ideal.Gen.facts) := fun m ρ _ => Kernel4Ideal.Gen.frame m ρ

theorem reference_frame : quiescent_Reference4Ideal (hReference4Ideal := Reference4Ideal.Gen.facts) := fun m ρ _ =>
  (θ_run Reference4Ideal.defs _ _).mono (fun r h => ⟨fun c => (h c).2, Idealize.ShloMosaic.sem_eq_zero_of_no_sems (by decide) r.2⟩)
    (Reference4Ideal.Value.run (F := Ideal) m ρ)

end Cert.Products.FInDw
-- ==== Proof.Products.FOutDx.lean ====
module

public import proofs.«01_k».proof.Defs
public import proofs.«01_k».proof.Proof.Products
public import proofs.«01_k».proof.Proof.Gen.Kernel5.Frame
public import proofs.«01_k».proof.Proof.Gen.Kernel5Ideal.Value
public import proofs.«01_k».proof.Proof.Gen.Reference5Ideal.Run
public import Idealize.ShloMosaic.Lib.Quiescent

@[expose] public section

/-! The gradient of the channel mixer's activations (call `f_out_dx`): each block of 512 rows is one product. -/

noncomputable section
namespace Cert.Products.FOutDx
open Idealize.ShloMosaic Idealize.ShloMosaic.TcCoe Idealize.SL.Sem
open Cert.Kernel5Ideal Cert.Kernel5Ideal.Gen

theorem block_eq (a : FVec Ideal S512x1024 .bf16) (b : FVec Ideal S2816x1024 .bf16) (i : Fin 512) (j : Fin 2816) :
    k0_pay1 (F := Ideal) a b (ix2 i j) = ∑ x : Fin 1024, (a (ix2 i x) : EReal) * b (ix2 j x) := by
  pointwise [k0_pay1]

/-- Each window's block at a point. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

abbrev argA : FVec Ideal S8192x1024 .bf16 := m ((c.tc : Thread nD τ).loc main_arg0)
abbrev argB : FVec Ideal S2816x1024 .bf16 := m ((c.tc : Thread nD τ).loc main_arg1)

/-- The result after the run. -/
theorem result : (dats m 0 c).arrAt 2 cfg0.N = rows (argA m c) (argB m c) := by
  refine (dats m 0 c).arrAt_eq_of_covers 2 _ (by decide +kernel) fun t hf y => ?_
  have ht : t.val < 16 := Nat.lt_of_lt_of_eq t.isLt N_0
  blk_simp
  rw [after0_2]
  frame_out
  refine (congrArg _ (eta y)).trans ((block_eq _ _ _ _).trans ?_)
  unfold rows
  refine Finset.sum_congr rfl fun x _ => ?_
  congr 1
  · blk_ext [iblk, V, idx t]
  · blk_ext [iblk, V, idx t]

theorem reference (a : FVec Ideal S8192x1024 .bf16) (b : FVec Ideal S2816x1024 .bf16)
    (h : FTy.bits .bf16 < FTy.bits .f32) : Host.dotGeneral Reference5Ideal.dot_S8192x1024_S2816x1024_S8192x2816_1_1_0_0_n_n none
      (extf .f32 a h) (extf .f32 b h) = rows a b := by
  funext y
  refine (congrArg _ (eta y)).trans ?_
  unfold rows
  pointwise []

theorem algebraic : algebraic_Kernel5Ideal_Reference5Ideal (hKernel5Ideal := Kernel5Ideal.Gen.facts) (hReference5Ideal := Reference5Ideal.Gen.facts) := by
  intro m ρ m' ρ' _ hagree
  refine ⟨fun c => rows (argA m c) (argB m c), ?_, ?_⟩
  · exact (θ_run _ _ _).mono (fun r h c => ⟨(h c).1.trans (result m c), (h c).2⟩) (Kernel5Ideal.Value.run_blocks (F := Ideal) m ρ)
  · refine (θ_run _ _ _).mono (fun r h c => ⟨(h c).1.trans ?_, (h c).2⟩) (Reference5Ideal.Value.run (F := Ideal) m' ρ')
    exact (reference _ _ _).trans (congr (congrArg _ (hagree c).1) (hagree c).2)

theorem kernel_frame : quiescent_Kernel5 (hKernel5 := Kernel5.Gen.facts) := fun m ρ _ => Kernel5.Gen.frame m ρ

theorem ideal_frame : quiescent_Kernel5Ideal (hKernel5Ideal := Kernel5Ideal.Gen.facts) := fun m ρ _ => Kernel5Ideal.Gen.frame m ρ

theorem reference_frame : quiescent_Reference5Ideal (hReference5Ideal := Reference5Ideal.Gen.facts) := fun m ρ _ =>
  (θ_run Reference5Ideal.defs _ _).mono (fun r h => ⟨fun c => (h c).2, Idealize.ShloMosaic.sem_eq_zero_of_no_sems (by decide) r.2⟩)
    (Reference5Ideal.Value.run (F := Ideal) m ρ)

end Cert.Products.FOutDx
-- ==== Proof.Products.FOutDw.lean ====
module

public import proofs.«01_k».proof.Defs
public import proofs.«01_k».proof.Proof.Products
public import proofs.«01_k».proof.Proof.Gen.Kernel6.Frame
public import proofs.«01_k».proof.Proof.Gen.Kernel6Ideal.Value
public import proofs.«01_k».proof.Proof.Gen.Reference6Ideal.Run
public import Idealize.ShloMosaic.Lib.Quiescent

@[expose] public section

/-! The gradient of the channel mixer's second weight (call `f_out_dw`): four tiles of the contracted axis are added up. -/

noncomputable section
namespace Cert.Products.FOutDw
open Idealize.ShloMosaic Idealize.ShloMosaic.TcCoe Idealize.SL.Sem Cert.Products
open Cert.Kernel6Ideal Cert.Kernel6Ideal.Gen

theorem tile (a : FVec Ideal S2048x1408 .bf16) (b : FVec Ideal S2048x1024 .bf16) (i : Fin 1408) (j : Fin 1024) :
    k0_pay1 (F := Ideal) a b (ix2 i j) = ∑ x : Fin 2048, (a (ix2 x i) : EReal) * b (ix2 x j) := by
  pointwise [k0_pay1]

/-- Each window's block at a point. -/
theorem idx : ∀ t : Fin cfg0.N, win0_0.index t = ![t.val % 4, t.val / 4] ∧ win0_1.index t = ![t.val % 4, 0]
    ∧ win0_2.index t = ![t.val / 4, 0] :=
  (by decide +kernel : ∀ t : Fin grid0.N, _)

variable (m : (ℓ : Loc nD τ sig) → Buf (Elt Ideal) ℓ) (c : Dev nD)

abbrev argA : FVec Ideal S8192x2816 .bf16 := m ((c.tc : Thread nD τ).loc main_arg0)
abbrev argB : FVec Ideal S8192x1024 .bf16 := m ((c.tc : Thread nD τ).loc main_arg1)

/-- The term that point `t` adds to the accumulator. -/
def term (t : Fin cfg0.N) : FVec Ideal S1408x1024 .f32 := k0_pay1 (F := Ideal) (iblk m c 0 t) (iblk m c 1 t)

theorem reset (t : Fin cfg0.N) (h : t.val % 4 = 0) : (outsAt0 m c t.val t.isLt).2 = term m c t := by
  rw [outsAt0_A m c t h (by omega) (by omega)]
  frame_out
  rw [k0_pay2, shapeCast_self]
  rfl

theorem step (t : Fin cfg0.N) (h : 1 ≤ t.val % 4 ∧ t.val % 4 ≤ 2) :
    (outsAt0 m c t.val t.isLt).2 = addf (outsAt0 m c (t.val - 1) (Nat.lt_of_le_of_lt (Nat.sub_le _ _) t.isLt)).2 (term m c t) := by
  rw [outsAt0_B m c t (by omega) h (by omega)]
  frame_out
  rw [k0_pay3, shapeCast_self]
  exact congrArg (addf · _) ((Memref.isWhole_whole _).read_unread _)

theorem last (t : Fin cfg0.N) (h : t.val % 4 = 3) :
    (outsAt0 m c t.val t.isLt).1 = addf (outsAt0 m c (t.val - 1) (Nat.lt_of_le_of_lt (Nat.sub_le _ _) t.isLt)).2 (term m c t) := by
  rw [outsAt0_C m c t (by omega) (by omega) h]
  frame_out
  rw [k0_pay4]
  exact congrArg (addf · _) ((Memref.isWhole_whole _).read_unread _)

/-- A term's entries, from the arguments. -/
theorem term_eq (t : Fin cfg0.N) (i : Fin 1408) (j : Fin 1024) :
    term m c t (ix2 i j) = ∑ x : Fin 2048, ent (argA m c) (argB m c) (t.val / 4 * 1408 + i) (0 * 1024 + j) (t.val % 4 * 2048 + x) := by
  have ht : t.val < 8 := Nat.lt_of_lt_of_eq t.isLt N_0
  refine (tile _ _ _ _).trans (Finset.sum_congr rfl fun x _ => ?_)
  rw [ent, dif_pos (by omega)]
  congr 1
  · blk_ext [iblk, V, idx t]
  · blk_ext [iblk, V, idx t]

/-- What the last point of a block leaves: its four terms, added in order. -/
theorem fold (t : Fin cfg0.N) (h : t.val % 4 = 3) :
    (outsAt0 m c t.val t.isLt).1 = addf (addf (addf (term m c ⟨t.val - 3, by omega⟩) (term m c ⟨t.val - 2, by omega⟩))
      (term m c ⟨t.val - 1, by omega⟩)) (term m c t) := by
  rw [last m c t h]
  refine congrArg (addf · _) ?_
  refine (step m c ⟨t.val - 1, by omega⟩ (by dsimp only; omega)).trans ?_
  refine congrArg (addf · _) ?_
  refine (step m c ⟨t.val - 2, by omega⟩ (by dsimp only; omega)).trans ?_
  refine congrArg (addf · _) ?_
  exact reset m c ⟨t.val - 3, by omega⟩ (by dsimp only; omega)

/-- The same at an entry: the sum of four quarters of the contracted axis. -/
theorem fold_eq (t : Fin cfg0.N) (h : t.val % 4 = 3) (i : Fin 1408) (j : Fin 1024) (a b : ℕ) (ha : a = t.val / 4 * 1408 + i) (hb : b = 0 * 1024 + j) :
    (outsAt0 m c t.val t.isLt).1 (ix2 i j) = (∑ x : Fin 2048, ent (argA m c) (argB m c) a b (0 * 2048 + x))
      + (∑ x : Fin 2048, ent (argA m c) (argB m c) a b (1 * 2048 + x)) + (∑ x : Fin 2048, ent (argA m c) (argB m c) a b (2 * 2048 + x))
      + ∑ x : Fin 2048, ent (argA m c) (argB m c) a b (3 * 2048 + x) := by
  subst ha hb
  rw [fold m c t h]
  show (show EReal from term m c ⟨t.val - 3, _⟩ (ix2 i j)) + term m c ⟨t.val - 2, _⟩ (ix2 i j) + term m c ⟨t.val - 1, _⟩ (ix2 i j) + term m c t (ix2 i j) = _
  rw [term_eq, term_eq, term_eq, term_eq]
  simp only [show (t.val - 3) % 4 = 0 by omega, show (t.val - 2) % 4 = 1 by omega, show (t.val - 1) % 4 = 2 by omega, h,
    show (t.val - 3) / 4 = t.val / 4 by omega, show (t.val - 2) / 4 = t.val / 4 by omega, show (t.val - 1) / 4 = t.val / 4 by omega]

/-- The result after the run. -/
theorem result : (dats m 0 c).arrAt 2 cfg0.N = cols (argA m c) (argB m c) := by
  refine (dats m 0 c).arrAt_eq_of_covers 2 _ (by decide +kernel) fun t hf y => ?_
  have h3 := (flush0_2 t).mp hf
  blk_simp
  rw [after0_2, cols_four _ _ 2048 rfl]
  refine (congrArg _ (eta y)).trans (fold_eq m c t h3 _ _ _ _ ?_ ?_)
  · blk_simp [idx t]
  · blk_simp [idx t]

theorem reference (a : FVec Ideal S8192x2816 .bf16) (b : FVec Ideal S8192x1024 .bf16) :
    transpose Reference6Ideal.S2816x1024 [1, 0] (Host.dotGeneral Reference6Ideal.dot_S8192x1024_S8192x2816_S1024x2816_0_0_1_1_n_n none
      (extf .f32 b Reference6Ideal.Gen.bitsLt_bf16_f32) (extf .f32 a Reference6Ideal.Gen.bitsLt_bf16_f32)) Reference6Ideal.Gen.transposes_S1024x2816_S2816x1024_1_0 = cols a b := by
  funext y
  refine (congrArg _ (eta y)).trans ?_
  unfold cols
  pointwise []
  exact Finset.sum_congr rfl fun x _ => mul_comm _ _

theorem algebraic : algebraic_Kernel6Ideal_Reference6Ideal (hKernel6Ideal := Kernel6Ideal.Gen.facts) (hReference6Ideal := Reference6Ideal.Gen.facts) := by
  intro m ρ m' ρ' _ hagree
  refine ⟨fun c => cols (argA m c) (argB m c), ?_, ?_⟩
  · exact (θ_run _ _ _).mono (fun r h c => ⟨(h c).1.trans (result m c), (h c).2⟩) (Kernel6Ideal.Value.run_blocks (F := Ideal) m ρ)
  · refine (θ_run _ _ _).mono (fun r h c => ⟨(h c).1.trans ?_, (h c).2⟩) (Reference6Ideal.Value.run (F := Ideal) m' ρ')
    exact (reference _ _).trans (congr (congrArg _ (hagree c).1) (hagree c).2)

theorem kernel_frame : quiescent_Kernel6 (hKernel6 := Kernel6.Gen.facts) := fun m ρ _ => Kernel6.Gen.frame m ρ

theorem ideal_frame : quiescent_Kernel6Ideal (hKernel6Ideal := Kernel6Ideal.Gen.facts) := fun m ρ _ => Kernel6Ideal.Gen.frame m ρ

theorem reference_frame : quiescent_Reference6Ideal (hReference6Ideal := Reference6Ideal.Gen.facts) := fun m ρ _ =>
  (θ_run Reference6Ideal.defs _ _).mono (fun r h => ⟨fun c => (h c).2, Idealize.ShloMosaic.sem_eq_zero_of_no_sems (by decide) r.2⟩)
    (Reference6Ideal.Value.run (F := Ideal) m ρ)

end Cert.Products.FOutDw
-- ==== Proof.Products.InDx.lean ====
module

public import proofs.«01_k».proof.Defs
public import proofs.«01_k».proof.Proof.Products
public import proofs.«01_k».proof.Proof.Gen.Kernel7.Frame
public import proofs.«01_k».proof.Proof.Gen.Kernel7Ideal.Value
public import proofs.«01_k».proof.Proof.Gen.Reference7Ideal.Run
public import Idealize.ShloMosaic.Lib.Quiescent

@[expose] public section

/-! The gradient of the input of the projections (call `in_dx`): each block of 512 rows is one product. -/

noncomputable section
namespace Cert.Products.InDx
open Idealize.ShloMosaic Idealize.ShloMosaic.TcCoe Idealize.SL.Sem
open Cert.Kernel7Ideal Cert.Kernel7Ideal.Gen

theorem block_eq (a : FVec Ideal S512x3072 .bf16) (b : FVec Ideal S1024x3072 .bf16) (i : Fin 512) (j : Fin 1024) :
    k0_pay1 (F := Ideal) a b (ix2 i j) = ∑ x : Fin 3072, (a (ix2 i x) : EReal) * b (ix2 j x) := by
  pointwise [k0_pay1]

/-- Each window's block at a point. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

abbrev argA : FVec Ideal S8192x3072 .bf16 := m ((c.tc : Thread nD τ).loc main_arg0)
abbrev argB : FVec Ideal S1024x3072 .bf16 := m ((c.tc : Thread nD τ).loc main_arg1)

/-- The result after the run. -/
theorem result : (dats m 0 c).arrAt 2 cfg0.N = rows (argA m c) (argB m c) := by
  refine (dats m 0 c).arrAt_eq_of_covers 2 _ (by decide +kernel) fun t hf y => ?_
  have ht : t.val < 16 := Nat.lt_of_lt_of_eq t.isLt N_0
  blk_simp
  rw [after0_2]
  frame_out
  refine (congrArg _ (eta y)).trans ((block_eq _ _ _ _).trans ?_)
  unfold rows
  refine Finset.sum_congr rfl fun x _ => ?_
  congr 1
  · blk_ext [iblk, V, idx t]
  · blk_ext [iblk, V, idx t]

theorem reference (a : FVec Ideal S8192x3072 .bf16) (b : FVec Ideal S1024x3072 .bf16)
    (h : FTy.bits .bf16 < FTy.bits .f32) : Host.dotGeneral Reference7Ideal.dot_S8192x3072_S1024x3072_S8192x1024_1_1_0_0_n_n none
      (extf .f32 a h) (extf .f32 b h) = rows a b := by
  funext y
  refine (congrArg _ (eta y)).trans ?_
  unfold rows
  pointwise []

theorem algebraic : algebraic_Kernel7Ideal_Reference7Ideal (hKernel7Ideal := Kernel7Ideal.Gen.facts) (hReference7Ideal := Reference7Ideal.Gen.facts) := by
  intro m ρ m' ρ' _ hagree
  refine ⟨fun c => rows (argA m c) (argB m c), ?_, ?_⟩
  · exact (θ_run _ _ _).mono (fun r h c => ⟨(h c).1.trans (result m c), (h c).2⟩) (Kernel7Ideal.Value.run_blocks (F := Ideal) m ρ)
  · refine (θ_run _ _ _).mono (fun r h c => ⟨(h c).1.trans ?_, (h c).2⟩) (Reference7Ideal.Value.run (F := Ideal) m' ρ')
    exact (reference _ _ _).trans (congr (congrArg _ (hagree c).1) (hagree c).2)

theorem kernel_frame : quiescent_Kernel7 (hKernel7 := Kernel7.Gen.facts) := fun m ρ _ => Kernel7.Gen.frame m ρ

theorem ideal_frame : quiescent_Kernel7Ideal (hKernel7Ideal := Kernel7Ideal.Gen.facts) := fun m ρ _ => Kernel7Ideal.Gen.frame m ρ

theorem reference_frame : quiescent_Reference7Ideal (hReference7Ideal := Reference7Ideal.Gen.facts) := fun m ρ _ =>
  (θ_run Reference7Ideal.defs _ _).mono (fun r h => ⟨fun c => (h c).2, Idealize.ShloMosaic.sem_eq_zero_of_no_sems (by decide) r.2⟩)
    (Reference7Ideal.Value.run (F := Ideal) m ρ)

end Cert.Products.InDx
-- ==== Proof.Products.InDw.lean ====
module

public import proofs.«01_k».proof.Defs
public import proofs.«01_k».proof.Proof.Products
public import proofs.«01_k».proof.Proof.Gen.Kernel8.Frame
public import proofs.«01_k».proof.Proof.Gen.Kernel8Ideal.Value
public import proofs.«01_k».proof.Proof.Gen.Reference8Ideal.Run
public import Idealize.ShloMosaic.Lib.Quiescent

@[expose] public section

/-! The gradient of the weight of the projections (call `in_dw`): four tiles of the contracted axis are added up. -/

noncomputable section
namespace Cert.Products.InDw
open Idealize.ShloMosaic Idealize.ShloMosaic.TcCoe Idealize.SL.Sem Cert.Products
open Cert.Kernel8Ideal Cert.Kernel8Ideal.Gen

theorem tile (a : FVec Ideal S2048x512 .bf16) (b : FVec Ideal S2048x1024 .bf16) (i : Fin 512) (j : Fin 1024) :
    k0_pay1 (F := Ideal) a b (ix2 i j) = ∑ x : Fin 2048, (a (ix2 x i) : EReal) * b (ix2 x j) := by
  pointwise [k0_pay1]

/-- Each window's block at a point. -/
theorem idx : ∀ t : Fin cfg0.N, win0_0.index t = ![t.val % 4, t.val / 12] ∧ win0_1.index t = ![t.val % 4, t.val / 4 % 3]
    ∧ win0_2.index t = ![t.val / 12, t.val / 4 % 3] :=
  (by decide +kernel : ∀ t : Fin grid0.N, _)

variable (m : (ℓ : Loc nD τ sig) → Buf (Elt Ideal) ℓ) (c : Dev nD)

abbrev argA : FVec Ideal S8192x1024 .bf16 := m ((c.tc : Thread nD τ).loc main_arg0)
abbrev argB : FVec Ideal S8192x3072 .bf16 := m ((c.tc : Thread nD τ).loc main_arg1)

/-- The term that point `t` adds to the accumulator. -/
def term (t : Fin cfg0.N) : FVec Ideal S512x1024 .f32 := k0_pay1 (F := Ideal) (iblk m c 0 t) (iblk m c 1 t)

theorem reset (t : Fin cfg0.N) (h : t.val % 4 = 0) : (outsAt0 m c t.val t.isLt).2 = term m c t := by
  rw [outsAt0_A m c t h (by omega) (by omega)]
  frame_out
  rw [k0_pay2, shapeCast_self]
  rfl

theorem step (t : Fin cfg0.N) (h : 1 ≤ t.val % 4 ∧ t.val % 4 ≤ 2) :
    (outsAt0 m c t.val t.isLt).2 = addf (outsAt0 m c (t.val - 1) (Nat.lt_of_le_of_lt (Nat.sub_le _ _) t.isLt)).2 (term m c t) := by
  rw [outsAt0_B m c t (by omega) h (by omega)]
  frame_out
  rw [k0_pay3, shapeCast_self]
  exact congrArg (addf · _) ((Memref.isWhole_whole _).read_unread _)

theorem last (t : Fin cfg0.N) (h : t.val % 4 = 3) :
    (outsAt0 m c t.val t.isLt).1 = addf (outsAt0 m c (t.val - 1) (Nat.lt_of_le_of_lt (Nat.sub_le _ _) t.isLt)).2 (term m c t) := by
  rw [outsAt0_C m c t (by omega) (by omega) h]
  frame_out
  rw [k0_pay4]
  exact congrArg (addf · _) ((Memref.isWhole_whole _).read_unread _)

/-- A term's entries, from the arguments. -/
theorem term_eq (t : Fin cfg0.N) (i : Fin 512) (j : Fin 1024) :
    term m c t (ix2 i j) = ∑ x : Fin 2048, ent (argA m c) (argB m c) (t.val / 12 * 512 + i) (t.val / 4 % 3 * 1024 + j) (t.val % 4 * 2048 + x) := by
  have ht : t.val < 24 := Nat.lt_of_lt_of_eq t.isLt N_0
  refine (tile _ _ _ _).trans (Finset.sum_congr rfl fun x _ => ?_)
  rw [ent, dif_pos (by omega)]
  congr 1
  · blk_ext [iblk, V, idx t]
  · blk_ext [iblk, V, idx t]

/-- What the last point of a block leaves: its four terms, added in order. -/
theorem fold (t : Fin cfg0.N) (h : t.val % 4 = 3) :
    (outsAt0 m c t.val t.isLt).1 = addf (addf (addf (term m c ⟨t.val - 3, by omega⟩) (term m c ⟨t.val - 2, by omega⟩))
      (term m c ⟨t.val - 1, by omega⟩)) (term m c t) := by
  rw [last m c t h]
  refine congrArg (addf · _) ?_
  refine (step m c ⟨t.val - 1, by omega⟩ (by dsimp only; omega)).trans ?_
  refine congrArg (addf · _) ?_
  refine (step m c ⟨t.val - 2, by omega⟩ (by dsimp only; omega)).trans ?_
  refine congrArg (addf · _) ?_
  exact reset m c ⟨t.val - 3, by omega⟩ (by dsimp only; omega)

/-- The same at an entry: the sum of four quarters of the contracted axis. -/
theorem fold_eq (t : Fin cfg0.N) (h : t.val % 4 = 3) (i : Fin 512) (j : Fin 1024) (a b : ℕ) (ha : a = t.val / 12 * 512 + i) (hb : b = t.val / 4 % 3 * 1024 + j) :
    (outsAt0 m c t.val t.isLt).1 (ix2 i j) = (∑ x : Fin 2048, ent (argA m c) (argB m c) a b (0 * 2048 + x))
      + (∑ x : Fin 2048, ent (argA m c) (argB m c) a b (1 * 2048 + x)) + (∑ x : Fin 2048, ent (argA m c) (argB m c) a b (2 * 2048 + x))
      + ∑ x : Fin 2048, ent (argA m c) (argB m c) a b (3 * 2048 + x) := by
  subst ha hb
  rw [fold m c t h]
  show (show EReal from term m c ⟨t.val - 3, _⟩ (ix2 i j)) + term m c ⟨t.val - 2, _⟩ (ix2 i j) + term m c ⟨t.val - 1, _⟩ (ix2 i j) + term m c t (ix2 i j) = _
  rw [term_eq, term_eq, term_eq, term_eq]
  simp only [show (t.val - 3) % 4 = 0 by omega, show (t.val - 2) % 4 = 1 by omega, show (t.val - 1) % 4 = 2 by omega, h,
    show (t.val - 3) / 12 = t.val / 12 by omega, show (t.val - 2) / 12 = t.val / 12 by omega, show (t.val - 1) / 12 = t.val / 12 by omega,
    show (t.val - 3) / 4 = t.val / 4 by omega, show (t.val - 2) / 4 = t.val / 4 by omega, show (t.val - 1) / 4 = t.val / 4 by omega]

/-- The result after the run. -/
theorem result : (dats m 0 c).arrAt 2 cfg0.N = cols (argA m c) (argB m c) := by
  refine (dats m 0 c).arrAt_eq_of_covers 2 _ (by decide +kernel) fun t hf y => ?_
  have h3 := (flush0_2 t).mp hf
  blk_simp
  rw [after0_2, cols_four _ _ 2048 rfl]
  refine (congrArg _ (eta y)).trans (fold_eq m c t h3 _ _ _ _ ?_ ?_)
  · blk_simp [idx t]
  · blk_simp [idx t]

theorem reference (a : FVec Ideal S8192x1024 .bf16) (b : FVec Ideal S8192x3072 .bf16) :
    transpose Reference8Ideal.S1024x3072 [1, 0] (Host.dotGeneral Reference8Ideal.dot_S8192x3072_S8192x1024_S3072x1024_0_0_1_1_n_n none
      (extf .f32 b Reference8Ideal.Gen.bitsLt_bf16_f32) (extf .f32 a Reference8Ideal.Gen.bitsLt_bf16_f32)) Reference8Ideal.Gen.transposes_S3072x1024_S1024x3072_1_0 = cols a b := by
  funext y
  refine (congrArg _ (eta y)).trans ?_
  unfold cols
  pointwise []
  exact Finset.sum_congr rfl fun x _ => mul_comm _ _

theorem algebraic : algebraic_Kernel8Ideal_Reference8Ideal (hKernel8Ideal := Kernel8Ideal.Gen.facts) (hReference8Ideal := Reference8Ideal.Gen.facts) := by
  intro m ρ m' ρ' _ hagree
  refine ⟨fun c => cols (argA m c) (argB m c), ?_, ?_⟩
  · exact (θ_run _ _ _).mono (fun r h c => ⟨(h c).1.trans (result m c), (h c).2⟩) (Kernel8Ideal.Value.run_blocks (F := Ideal) m ρ)
  · refine (θ_run _ _ _).mono (fun r h c => ⟨(h c).1.trans ?_, (h c).2⟩) (Reference8Ideal.Value.run (F := Ideal) m' ρ')
    exact (reference _ _).trans (congr (congrArg _ (hagree c).1) (hagree c).2)

theorem kernel_frame : quiescent_Kernel8 (hKernel8 := Kernel8.Gen.facts) := fun m ρ _ => Kernel8.Gen.frame m ρ

theorem ideal_frame : quiescent_Kernel8Ideal (hKernel8Ideal := Kernel8Ideal.Gen.facts) := fun m ρ _ => Kernel8Ideal.Gen.frame m ρ

theorem reference_frame : quiescent_Reference8Ideal (hReference8Ideal := Reference8Ideal.Gen.facts) := fun m ρ _ =>
  (θ_run Reference8Ideal.defs _ _).mono (fun r h => ⟨fun c => (h c).2, Idealize.ShloMosaic.sem_eq_zero_of_no_sems (by decide) r.2⟩)
    (Reference8Ideal.Value.run (F := Ideal) m ρ)

end Cert.Products.InDw
-- ==== Proof.Products.OutDx.lean ====
module

public import proofs.«01_k».proof.Defs
public import proofs.«01_k».proof.Proof.Products
public import proofs.«01_k».proof.Proof.Gen.Kernel9.Frame
public import proofs.«01_k».proof.Proof.Gen.Kernel9Ideal.Value
public import proofs.«01_k».proof.Proof.Gen.Reference9Ideal.Run
public import Idealize.ShloMosaic.Lib.Quiescent

@[expose] public section

/-! The gradient of the mixers' outputs (call `out_dx`): each block of 512 rows is one product. -/

noncomputable section
namespace Cert.Products.OutDx
open Idealize.ShloMosaic Idealize.ShloMosaic.TcCoe Idealize.SL.Sem
open Cert.Kernel9Ideal Cert.Kernel9Ideal.Gen

theorem block_eq (a : FVec Ideal S512x1024 .bf16) (b : FVec Ideal S1024x1024 .bf16) (i : Fin 512) (j : Fin 1024) :
    k0_pay1 (F := Ideal) a b (ix2 i j) = ∑ x : Fin 1024, (a (ix2 i x) : EReal) * b (ix2 j x) := by
  pointwise [k0_pay1]

/-- Each window's block at a point. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

abbrev argA : FVec Ideal S8192x1024 .bf16 := m ((c.tc : Thread nD τ).loc main_arg0)
abbrev argB : FVec Ideal S1024x1024 .bf16 := m ((c.tc : Thread nD τ).loc main_arg1)

/-- The result after the run. -/
theorem result : (dats m 0 c).arrAt 2 cfg0.N = rows (argA m c) (argB m c) := by
  refine (dats m 0 c).arrAt_eq_of_covers 2 _ (by decide +kernel) fun t hf y => ?_
  have ht : t.val < 16 := Nat.lt_of_lt_of_eq t.isLt N_0
  blk_simp
  rw [after0_2]
  frame_out
  refine (congrArg _ (eta y)).trans ((block_eq _ _ _ _).trans ?_)
  unfold rows
  refine Finset.sum_congr rfl fun x _ => ?_
  congr 1
  · blk_ext [iblk, V, idx t]
  · blk_ext [iblk, V, idx t]

theorem reference (a : FVec Ideal S8192x1024 .bf16) (b : FVec Ideal S1024x1024 .bf16)
    (h : FTy.bits .bf16 < FTy.bits .f32) : Host.dotGeneral Reference9Ideal.dot_S8192x1024_S1024x1024_S8192x1024_1_1_0_0_n_n none
      (extf .f32 a h) (extf .f32 b h) = rows a b := by
  funext y
  refine (congrArg _ (eta y)).trans ?_
  unfold rows
  pointwise []

theorem algebraic : algebraic_Kernel9Ideal_Reference9Ideal (hKernel9Ideal := Kernel9Ideal.Gen.facts) (hReference9Ideal := Reference9Ideal.Gen.facts) := by
  intro m ρ m' ρ' _ hagree
  refine ⟨fun c => rows (argA m c) (argB m c), ?_, ?_⟩
  · exact (θ_run _ _ _).mono (fun r h c => ⟨(h c).1.trans (result m c), (h c).2⟩) (Kernel9Ideal.Value.run_blocks (F := Ideal) m ρ)
  · refine (θ_run _ _ _).mono (fun r h c => ⟨(h c).1.trans ?_, (h c).2⟩) (Reference9Ideal.Value.run (F := Ideal) m' ρ')
    exact (reference _ _ _).trans (congr (congrArg _ (hagree c).1) (hagree c).2)

theorem kernel_frame : quiescent_Kernel9 (hKernel9 := Kernel9.Gen.facts) := fun m ρ _ => Kernel9.Gen.frame m ρ

theorem ideal_frame : quiescent_Kernel9Ideal (hKernel9Ideal := Kernel9Ideal.Gen.facts) := fun m ρ _ => Kernel9Ideal.Gen.frame m ρ

theorem reference_frame : quiescent_Reference9Ideal (hReference9Ideal := Reference9Ideal.Gen.facts) := fun m ρ _ =>
  (θ_run Reference9Ideal.defs _ _).mono (fun r h => ⟨fun c => (h c).2, Idealize.ShloMosaic.sem_eq_zero_of_no_sems (by decide) r.2⟩)
    (Reference9Ideal.Value.run (F := Ideal) m ρ)

end Cert.Products.OutDx
-- ==== Proof.Products.OutDw.lean ====
module

public import proofs.«01_k».proof.Defs
public import proofs.«01_k».proof.Proof.Products
public import proofs.«01_k».proof.Proof.Gen.Kernel10.Frame
public import proofs.«01_k».proof.Proof.Gen.Kernel10Ideal.Value
public import proofs.«01_k».proof.Proof.Gen.Reference10Ideal.Run
public import Idealize.ShloMosaic.Lib.Quiescent

@[expose] public section

/-! The gradient of the output projection's weight (call `out_dw`): four tiles of the contracted axis are added up. -/

noncomputable section
namespace Cert.Products.OutDw
open Idealize.ShloMosaic Idealize.ShloMosaic.TcCoe Idealize.SL.Sem Cert.Products
open Cert.Kernel10Ideal Cert.Kernel10Ideal.Gen

theorem tile (a : FVec Ideal S2048x512 .bf16) (b : FVec Ideal S2048x1024 .bf16) (i : Fin 512) (j : Fin 1024) :
    k0_pay1 (F := Ideal) a b (ix2 i j) = ∑ x : Fin 2048, (a (ix2 x i) : EReal) * b (ix2 x j) := by
  pointwise [k0_pay1]

/-- Each window's block at a point. -/
theorem idx : ∀ t : Fin cfg0.N, win0_0.index t = ![t.val % 4, t.val / 4] ∧ win0_1.index t = ![t.val % 4, 0]
    ∧ win0_2.index t = ![t.val / 4, 0] :=
  (by decide +kernel : ∀ t : Fin grid0.N, _)

variable (m : (ℓ : Loc nD τ sig) → Buf (Elt Ideal) ℓ) (c : Dev nD)

abbrev argA : FVec Ideal S8192x1024 .bf16 := m ((c.tc : Thread nD τ).loc main_arg0)
abbrev argB : FVec Ideal S8192x1024 .bf16 := m ((c.tc : Thread nD τ).loc main_arg1)

/-- The term that point `t` adds to the accumulator. -/
def term (t : Fin cfg0.N) : FVec Ideal S512x1024 .f32 := k0_pay1 (F := Ideal) (iblk m c 0 t) (iblk m c 1 t)

theorem reset (t : Fin cfg0.N) (h : t.val % 4 = 0) : (outsAt0 m c t.val t.isLt).2 = term m c t := by
  rw [outsAt0_A m c t h (by omega) (by omega)]
  frame_out
  rw [k0_pay2, shapeCast_self]
  rfl

theorem step (t : Fin cfg0.N) (h : 1 ≤ t.val % 4 ∧ t.val % 4 ≤ 2) :
    (outsAt0 m c t.val t.isLt).2 = addf (outsAt0 m c (t.val - 1) (Nat.lt_of_le_of_lt (Nat.sub_le _ _) t.isLt)).2 (term m c t) := by
  rw [outsAt0_B m c t (by omega) h (by omega)]
  frame_out
  rw [k0_pay3, shapeCast_self]
  exact congrArg (addf · _) ((Memref.isWhole_whole _).read_unread _)

theorem last (t : Fin cfg0.N) (h : t.val % 4 = 3) :
    (outsAt0 m c t.val t.isLt).1 = addf (outsAt0 m c (t.val - 1) (Nat.lt_of_le_of_lt (Nat.sub_le _ _) t.isLt)).2 (term m c t) := by
  rw [outsAt0_C m c t (by omega) (by omega) h]
  frame_out
  rw [k0_pay4]
  exact congrArg (addf · _) ((Memref.isWhole_whole _).read_unread _)

/-- A term's entries, from the arguments. -/
theorem term_eq (t : Fin cfg0.N) (i : Fin 512) (j : Fin 1024) :
    term m c t (ix2 i j) = ∑ x : Fin 2048, ent (argA m c) (argB m c) (t.val / 4 * 512 + i) (0 * 1024 + j) (t.val % 4 * 2048 + x) := by
  have ht : t.val < 8 := Nat.lt_of_lt_of_eq t.isLt N_0
  refine (tile _ _ _ _).trans (Finset.sum_congr rfl fun x _ => ?_)
  rw [ent, dif_pos (by omega)]
  congr 1
  · blk_ext [iblk, V, idx t]
  · blk_ext [iblk, V, idx t]

/-- What the last point of a block leaves: its four terms, added in order. -/
theorem fold (t : Fin cfg0.N) (h : t.val % 4 = 3) :
    (outsAt0 m c t.val t.isLt).1 = addf (addf (addf (term m c ⟨t.val - 3, by omega⟩) (term m c ⟨t.val - 2, by omega⟩))
      (term m c ⟨t.val - 1, by omega⟩)) (term m c t) := by
  rw [last m c t h]
  refine congrArg (addf · _) ?_
  refine (step m c ⟨t.val - 1, by omega⟩ (by dsimp only; omega)).trans ?_
  refine congrArg (addf · _) ?_
  refine (step m c ⟨t.val - 2, by omega⟩ (by dsimp only; omega)).trans ?_
  refine congrArg (addf · _) ?_
  exact reset m c ⟨t.val - 3, by omega⟩ (by dsimp only; omega)

/-- The same at an entry: the sum of four quarters of the contracted axis. -/
theorem fold_eq (t : Fin cfg0.N) (h : t.val % 4 = 3) (i : Fin 512) (j : Fin 1024) (a b : ℕ) (ha : a = t.val / 4 * 512 + i) (hb : b = 0 * 1024 + j) :
    (outsAt0 m c t.val t.isLt).1 (ix2 i j) = (∑ x : Fin 2048, ent (argA m c) (argB m c) a b (0 * 2048 + x))
      + (∑ x : Fin 2048, ent (argA m c) (argB m c) a b (1 * 2048 + x)) + (∑ x : Fin 2048, ent (argA m c) (argB m c) a b (2 * 2048 + x))
      + ∑ x : Fin 2048, ent (argA m c) (argB m c) a b (3 * 2048 + x) := by
  subst ha hb
  rw [fold m c t h]
  show (show EReal from term m c ⟨t.val - 3, _⟩ (ix2 i j)) + term m c ⟨t.val - 2, _⟩ (ix2 i j) + term m c ⟨t.val - 1, _⟩ (ix2 i j) + term m c t (ix2 i j) = _
  rw [term_eq, term_eq, term_eq, term_eq]
  simp only [show (t.val - 3) % 4 = 0 by omega, show (t.val - 2) % 4 = 1 by omega, show (t.val - 1) % 4 = 2 by omega, h,
    show (t.val - 3) / 4 = t.val / 4 by omega, show (t.val - 2) / 4 = t.val / 4 by omega, show (t.val - 1) / 4 = t.val / 4 by omega]

/-- The result after the run. -/
theorem result : (dats m 0 c).arrAt 2 cfg0.N = cols (argA m c) (argB m c) := by
  refine (dats m 0 c).arrAt_eq_of_covers 2 _ (by decide +kernel) fun t hf y => ?_
  have h3 := (flush0_2 t).mp hf
  blk_simp
  rw [after0_2, cols_four _ _ 2048 rfl]
  refine (congrArg _ (eta y)).trans (fold_eq m c t h3 _ _ _ _ ?_ ?_)
  · blk_simp [idx t]
  · blk_simp [idx t]

theorem reference (a : FVec Ideal S8192x1024 .bf16) (b : FVec Ideal S8192x1024 .bf16) :
    transpose Reference10Ideal.S1024x1024 [1, 0] (Host.dotGeneral Reference10Ideal.dot_S8192x1024_S8192x1024_S1024x1024_0_0_1_1_n_n none
      (extf .f32 b Reference10Ideal.Gen.bitsLt_bf16_f32) (extf .f32 a Reference10Ideal.Gen.bitsLt_bf16_f32)) Reference10Ideal.Gen.transposes_S1024x1024_S1024x1024_1_0 = cols a b := by
  funext y
  refine (congrArg _ (eta y)).trans ?_
  unfold cols
  pointwise []
  exact Finset.sum_congr rfl fun x _ => mul_comm _ _

theorem algebraic : algebraic_Kernel10Ideal_Reference10Ideal (hKernel10Ideal := Kernel10Ideal.Gen.facts) (hReference10Ideal := Reference10Ideal.Gen.facts) := by
  intro m ρ m' ρ' _ hagree
  refine ⟨fun c => cols (argA m c) (argB m c), ?_, ?_⟩
  · exact (θ_run _ _ _).mono (fun r h c => ⟨(h c).1.trans (result m c), (h c).2⟩) (Kernel10Ideal.Value.run_blocks (F := Ideal) m ρ)
  · refine (θ_run _ _ _).mono (fun r h c => ⟨(h c).1.trans ?_, (h c).2⟩) (Reference10Ideal.Value.run (F := Ideal) m' ρ')
    exact (reference _ _).trans (congr (congrArg _ (hagree c).1) (hagree c).2)

theorem kernel_frame : quiescent_Kernel10 (hKernel10 := Kernel10.Gen.facts) := fun m ρ _ => Kernel10.Gen.frame m ρ

theorem ideal_frame : quiescent_Kernel10Ideal (hKernel10Ideal := Kernel10Ideal.Gen.facts) := fun m ρ _ => Kernel10Ideal.Gen.frame m ρ

theorem reference_frame : quiescent_Reference10Ideal (hReference10Ideal := Reference10Ideal.Gen.facts) := fun m ρ _ =>
  (θ_run Reference10Ideal.defs _ _).mono (fun r h => ⟨fun c => (h c).2, Idealize.ShloMosaic.sem_eq_zero_of_no_sems (by decide) r.2⟩)
    (Reference10Ideal.Value.run (F := Ideal) m ρ)

end Cert.Products.OutDw
-- ==== Proof.Products.In.lean ====
module

public import proofs.«01_k».proof.Defs
public import proofs.«01_k».proof.Proof.Products
public import proofs.«01_k».proof.Proof.Gen.Kernel11.Frame
public import proofs.«01_k».proof.Proof.Gen.Kernel11Ideal.Value
public import proofs.«01_k».proof.Proof.Gen.Reference11Ideal.Run
public import Idealize.ShloMosaic.Lib.Quiescent

@[expose] public section

/-! The projections of a layer's input (call `in`): each block is one product. -/

noncomputable section
namespace Cert.Products.In
open Idealize.ShloMosaic Idealize.ShloMosaic.TcCoe Idealize.SL.Sem
open Cert.Kernel11Ideal Cert.Kernel11Ideal.Gen

theorem block_eq (a : FVec Ideal S512x1024 .bf16) (b : FVec Ideal S1024x1536 .bf16) (i : Fin 512) (j : Fin 1536) :
    k0_pay1 (F := Ideal) a b (ix2 i j) = ∑ x : Fin 1024, (a (ix2 i x) : EReal) * b (ix2 x j) := by
  pointwise [k0_pay1]

/-- Each window's block at a point. -/
theorem idx : ∀ t : Fin cfg0.N, win0_0.index t = ![t.val / 2, 0] ∧ win0_1.index t = ![0, t.val % 2] ∧ win0_2.index t = ![t.val / 2, t.val % 2] :=
  (by decide +kernel : ∀ t : Fin grid0.N, _)

variable (m : (ℓ : Loc nD τ sig) → Buf (Elt Ideal) ℓ) (c : Dev nD)

abbrev argA : FVec Ideal S8192x1024 .bf16 := m ((c.tc : Thread nD τ).loc main_arg0)
abbrev argB : FVec Ideal S1024x3072 .bf16 := m ((c.tc : Thread nD τ).loc main_arg1)

/-- The result after the run. -/
theorem result : (dats m 0 c).arrAt 2 cfg0.N = plain (argA m c) (argB m c) := by
  refine (dats m 0 c).arrAt_eq_of_covers 2 _ (by decide +kernel) fun t hf y => ?_
  have ht : t.val < 32 := Nat.lt_of_lt_of_eq t.isLt N_0
  blk_simp
  rw [after0_2]
  frame_out
  refine (congrArg _ (eta y)).trans ((block_eq _ _ _ _).trans ?_)
  unfold plain
  refine Finset.sum_congr rfl fun x _ => ?_
  congr 1
  · blk_ext [iblk, V, idx t]
  · blk_ext [iblk, V, idx t]

theorem reference (a : FVec Ideal S8192x1024 .bf16) (b : FVec Ideal S1024x3072 .bf16)
    (h : FTy.bits .bf16 < FTy.bits .f32) : Host.dotGeneral Reference11Ideal.dot_S8192x1024_S1024x3072_S8192x3072_1_0_0_1_n_n none
      (extf .f32 a h) (extf .f32 b h) = plain a b := by
  funext y
  refine (congrArg _ (eta y)).trans ?_
  unfold plain
  pointwise []

theorem algebraic : algebraic_Kernel11Ideal_Reference11Ideal (hKernel11Ideal := Kernel11Ideal.Gen.facts) (hReference11Ideal := Reference11Ideal.Gen.facts) := by
  intro m ρ m' ρ' _ hagree
  refine ⟨fun c => plain (argA m c) (argB m c), ?_, ?_⟩
  · exact (θ_run _ _ _).mono (fun r h c => ⟨(h c).1.trans (result m c), (h c).2⟩) (Kernel11Ideal.Value.run_blocks (F := Ideal) m ρ)
  · refine (θ_run _ _ _).mono (fun r h c => ⟨(h c).1.trans ?_, (h c).2⟩) (Reference11Ideal.Value.run (F := Ideal) m' ρ')
    exact (reference _ _ _).trans (congr (congrArg _ (hagree c).1) (hagree c).2)

theorem kernel_frame : quiescent_Kernel11 (hKernel11 := Kernel11.Gen.facts) := fun m ρ _ => Kernel11.Gen.frame m ρ

theorem ideal_frame : quiescent_Kernel11Ideal (hKernel11Ideal := Kernel11Ideal.Gen.facts) := fun m ρ _ => Kernel11Ideal.Gen.frame m ρ

theorem reference_frame : quiescent_Reference11Ideal (hReference11Ideal := Reference11Ideal.Gen.facts) := fun m ρ _ =>
  (θ_run Reference11Ideal.defs _ _).mono (fun r h => ⟨fun c => (h c).2, Idealize.ShloMosaic.sem_eq_zero_of_no_sems (by decide) r.2⟩)
    (Reference11Ideal.Value.run (F := Ideal) m ρ)

end Cert.Products.In
-- ==== Proof.Products.Out.lean ====
module

public import proofs.«01_k».proof.Defs
public import proofs.«01_k».proof.Proof.Products
public import proofs.«01_k».proof.Proof.Gen.Kernel12.Frame
public import proofs.«01_k».proof.Proof.Gen.Kernel12Ideal.Value
public import proofs.«01_k».proof.Proof.Gen.Reference12Ideal.Run
public import Idealize.ShloMosaic.Lib.Quiescent

@[expose] public section

/-! The output projection (call `out`): each block is one product. -/

noncomputable section
namespace Cert.Products.Out
open Idealize.ShloMosaic Idealize.ShloMosaic.TcCoe Idealize.SL.Sem
open Cert.Kernel12Ideal Cert.Kernel12Ideal.Gen

theorem block_eq (a : FVec Ideal S512x1024 .bf16) (b : FVec Ideal S1024x1024 .bf16) (i : Fin 512) (j : Fin 1024) :
    k0_pay1 (F := Ideal) a b (ix2 i j) = ∑ x : Fin 1024, (a (ix2 i x) : EReal) * b (ix2 x j) := by
  pointwise [k0_pay1]

/-- Each window's block at a point. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

abbrev argA : FVec Ideal S8192x1024 .bf16 := m ((c.tc : Thread nD τ).loc main_arg0)
abbrev argB : FVec Ideal S1024x1024 .bf16 := m ((c.tc : Thread nD τ).loc main_arg1)

/-- The result after the run. -/
theorem result : (dats m 0 c).arrAt 2 cfg0.N = plain (argA m c) (argB m c) := by
  refine (dats m 0 c).arrAt_eq_of_covers 2 _ (by decide +kernel) fun t hf y => ?_
  have ht : t.val < 16 := Nat.lt_of_lt_of_eq t.isLt N_0
  blk_simp
  rw [after0_2]
  frame_out
  refine (congrArg _ (eta y)).trans ((block_eq _ _ _ _).trans ?_)
  unfold plain
  refine Finset.sum_congr rfl fun x _ => ?_
  congr 1
  · blk_ext [iblk, V, idx t]
  · blk_ext [iblk, V, idx t]

theorem reference (a : FVec Ideal S8192x1024 .bf16) (b : FVec Ideal S1024x1024 .bf16)
    (h : FTy.bits .bf16 < FTy.bits .f32) : Host.dotGeneral Reference12Ideal.dot_S8192x1024_S1024x1024_S8192x1024_1_0_0_1_n_n none
      (extf .f32 a h) (extf .f32 b h) = plain a b := by
  funext y
  refine (congrArg _ (eta y)).trans ?_
  unfold plain
  pointwise []

theorem algebraic : algebraic_Kernel12Ideal_Reference12Ideal (hKernel12Ideal := Kernel12Ideal.Gen.facts) (hReference12Ideal := Reference12Ideal.Gen.facts) := by
  intro m ρ m' ρ' _ hagree
  refine ⟨fun c => plain (argA m c) (argB m c), ?_, ?_⟩
  · exact (θ_run _ _ _).mono (fun r h c => ⟨(h c).1.trans (result m c), (h c).2⟩) (Kernel12Ideal.Value.run_blocks (F := Ideal) m ρ)
  · refine (θ_run _ _ _).mono (fun r h c => ⟨(h c).1.trans ?_, (h c).2⟩) (Reference12Ideal.Value.run (F := Ideal) m' ρ')
    exact (reference _ _ _).trans (congr (congrArg _ (hagree c).1) (hagree c).2)

theorem kernel_frame : quiescent_Kernel12 (hKernel12 := Kernel12.Gen.facts) := fun m ρ _ => Kernel12.Gen.frame m ρ

theorem ideal_frame : quiescent_Kernel12Ideal (hKernel12Ideal := Kernel12Ideal.Gen.facts) := fun m ρ _ => Kernel12Ideal.Gen.frame m ρ

theorem reference_frame : quiescent_Reference12Ideal (hReference12Ideal := Reference12Ideal.Gen.facts) := fun m ρ _ =>
  (θ_run Reference12Ideal.defs _ _).mono (fun r h => ⟨fun c => (h c).2, Idealize.ShloMosaic.sem_eq_zero_of_no_sems (by decide) r.2⟩)
    (Reference12Ideal.Value.run (F := Ideal) m ρ)

end Cert.Products.Out
-- ==== Proof.Products.FIn.lean ====
module

public import proofs.«01_k».proof.Defs
public import proofs.«01_k».proof.Proof.Products
public import proofs.«01_k».proof.Proof.Gen.Kernel13.Frame
public import proofs.«01_k».proof.Proof.Gen.Kernel13Ideal.Value
public import proofs.«01_k».proof.Proof.Gen.Reference13Ideal.Run
public import Idealize.ShloMosaic.Lib.Quiescent

@[expose] public section

/-! The channel mixer's first product (call `f_in`): each block is one product. -/

noncomputable section
namespace Cert.Products.FIn
open Idealize.ShloMosaic Idealize.ShloMosaic.TcCoe Idealize.SL.Sem
open Cert.Kernel13Ideal Cert.Kernel13Ideal.Gen

theorem block_eq (a : FVec Ideal S512x1024 .bf16) (b : FVec Ideal S1024x2816 .bf16) (i : Fin 512) (j : Fin 2816) :
    k0_pay1 (F := Ideal) a b (ix2 i j) = ∑ x : Fin 1024, (a (ix2 i x) : EReal) * b (ix2 x j) := by
  pointwise [k0_pay1]

/-- Each window's block at a point. -/
theorem idx : ∀ t : Fin cfg0.N, win0_0.index t = ![t.val / 2, 0] ∧ win0_1.index t = ![0, t.val % 2] ∧ win0_2.index t = ![t.val / 2, t.val % 2] :=
  (by decide +kernel : ∀ t : Fin grid0.N, _)

variable (m : (ℓ : Loc nD τ sig) → Buf (Elt Ideal) ℓ) (c : Dev nD)

abbrev argA : FVec Ideal S8192x1024 .bf16 := m ((c.tc : Thread nD τ).loc main_arg0)
abbrev argB : FVec Ideal S1024x5632 .bf16 := m ((c.tc : Thread nD τ).loc main_arg1)

/-- The result after the run. -/
theorem result : (dats m 0 c).arrAt 2 cfg0.N = plain (argA m c) (argB m c) := by
  refine (dats m 0 c).arrAt_eq_of_covers 2 _ (by decide +kernel) fun t hf y => ?_
  have ht : t.val < 32 := Nat.lt_of_lt_of_eq t.isLt N_0
  blk_simp
  rw [after0_2]
  frame_out
  refine (congrArg _ (eta y)).trans ((block_eq _ _ _ _).trans ?_)
  unfold plain
  refine Finset.sum_congr rfl fun x _ => ?_
  congr 1
  · blk_ext [iblk, V, idx t]
  · blk_ext [iblk, V, idx t]

theorem reference (a : FVec Ideal S8192x1024 .bf16) (b : FVec Ideal S1024x5632 .bf16)
    (h : FTy.bits .bf16 < FTy.bits .f32) : Host.dotGeneral Reference13Ideal.dot_S8192x1024_S1024x5632_S8192x5632_1_0_0_1_n_n none
      (extf .f32 a h) (extf .f32 b h) = plain a b := by
  funext y
  refine (congrArg _ (eta y)).trans ?_
  unfold plain
  pointwise []

theorem algebraic : algebraic_Kernel13Ideal_Reference13Ideal (hKernel13Ideal := Kernel13Ideal.Gen.facts) (hReference13Ideal := Reference13Ideal.Gen.facts) := by
  intro m ρ m' ρ' _ hagree
  refine ⟨fun c => plain (argA m c) (argB m c), ?_, ?_⟩
  · exact (θ_run _ _ _).mono (fun r h c => ⟨(h c).1.trans (result m c), (h c).2⟩) (Kernel13Ideal.Value.run_blocks (F := Ideal) m ρ)
  · refine (θ_run _ _ _).mono (fun r h c => ⟨(h c).1.trans ?_, (h c).2⟩) (Reference13Ideal.Value.run (F := Ideal) m' ρ')
    exact (reference _ _ _).trans (congr (congrArg _ (hagree c).1) (hagree c).2)

theorem kernel_frame : quiescent_Kernel13 (hKernel13 := Kernel13.Gen.facts) := fun m ρ _ => Kernel13.Gen.frame m ρ

theorem ideal_frame : quiescent_Kernel13Ideal (hKernel13Ideal := Kernel13Ideal.Gen.facts) := fun m ρ _ => Kernel13Ideal.Gen.frame m ρ

theorem reference_frame : quiescent_Reference13Ideal (hReference13Ideal := Reference13Ideal.Gen.facts) := fun m ρ _ =>
  (θ_run Reference13Ideal.defs _ _).mono (fun r h => ⟨fun c => (h c).2, Idealize.ShloMosaic.sem_eq_zero_of_no_sems (by decide) r.2⟩)
    (Reference13Ideal.Value.run (F := Ideal) m ρ)

end Cert.Products.FIn
-- ==== Proof.Products.FOut.lean ====
module

public import proofs.«01_k».proof.Defs
public import proofs.«01_k».proof.Proof.Products
public import proofs.«01_k».proof.Proof.Gen.Kernel14.Frame
public import proofs.«01_k».proof.Proof.Gen.Kernel14Ideal.Value
public import proofs.«01_k».proof.Proof.Gen.Reference14Ideal.Run
public import Idealize.ShloMosaic.Lib.Quiescent

@[expose] public section

/-! The channel mixer's second product (call `f_out`): each block is one product. -/

noncomputable section
namespace Cert.Products.FOut
open Idealize.ShloMosaic Idealize.ShloMosaic.TcCoe Idealize.SL.Sem
open Cert.Kernel14Ideal Cert.Kernel14Ideal.Gen

theorem block_eq (a : FVec Ideal S512x2816 .bf16) (b : FVec Ideal S2816x1024 .bf16) (i : Fin 512) (j : Fin 1024) :
    k0_pay1 (F := Ideal) a b (ix2 i j) = ∑ x : Fin 2816, (a (ix2 i x) : EReal) * b (ix2 x j) := by
  pointwise [k0_pay1]

/-- Each window's block at a point. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

abbrev argA : FVec Ideal S8192x2816 .bf16 := m ((c.tc : Thread nD τ).loc main_arg0)
abbrev argB : FVec Ideal S2816x1024 .bf16 := m ((c.tc : Thread nD τ).loc main_arg1)

/-- The result after the run. -/
theorem result : (dats m 0 c).arrAt 2 cfg0.N = plain (argA m c) (argB m c) := by
  refine (dats m 0 c).arrAt_eq_of_covers 2 _ (by decide +kernel) fun t hf y => ?_
  have ht : t.val < 16 := Nat.lt_of_lt_of_eq t.isLt N_0
  blk_simp
  rw [after0_2]
  frame_out
  refine (congrArg _ (eta y)).trans ((block_eq _ _ _ _).trans ?_)
  unfold plain
  refine Finset.sum_congr rfl fun x _ => ?_
  congr 1
  · blk_ext [iblk, V, idx t]
  · blk_ext [iblk, V, idx t]

theorem reference (a : FVec Ideal S8192x2816 .bf16) (b : FVec Ideal S2816x1024 .bf16)
    (h : FTy.bits .bf16 < FTy.bits .f32) : Host.dotGeneral Reference14Ideal.dot_S8192x2816_S2816x1024_S8192x1024_1_0_0_1_n_n none
      (extf .f32 a h) (extf .f32 b h) = plain a b := by
  funext y
  refine (congrArg _ (eta y)).trans ?_
  unfold plain
  pointwise []

theorem algebraic : algebraic_Kernel14Ideal_Reference14Ideal (hKernel14Ideal := Kernel14Ideal.Gen.facts) (hReference14Ideal := Reference14Ideal.Gen.facts) := by
  intro m ρ m' ρ' _ hagree
  refine ⟨fun c => plain (argA m c) (argB m c), ?_, ?_⟩
  · exact (θ_run _ _ _).mono (fun r h c => ⟨(h c).1.trans (result m c), (h c).2⟩) (Kernel14Ideal.Value.run_blocks (F := Ideal) m ρ)
  · refine (θ_run _ _ _).mono (fun r h c => ⟨(h c).1.trans ?_, (h c).2⟩) (Reference14Ideal.Value.run (F := Ideal) m' ρ')
    exact (reference _ _ _).trans (congr (congrArg _ (hagree c).1) (hagree c).2)

theorem kernel_frame : quiescent_Kernel14 (hKernel14 := Kernel14.Gen.facts) := fun m ρ _ => Kernel14.Gen.frame m ρ

theorem ideal_frame : quiescent_Kernel14Ideal (hKernel14Ideal := Kernel14Ideal.Gen.facts) := fun m ρ _ => Kernel14Ideal.Gen.frame m ρ

theorem reference_frame : quiescent_Reference14Ideal (hReference14Ideal := Reference14Ideal.Gen.facts) := fun m ρ _ =>
  (θ_run Reference14Ideal.defs _ _).mono (fun r h => ⟨fun c => (h c).2, Idealize.ShloMosaic.sem_eq_zero_of_no_sems (by decide) r.2⟩)
    (Reference14Ideal.Value.run (F := Ideal) m ρ)

end Cert.Products.FOut
-- ==== Proof.Forward.lean ====
module

public import Idealize.ShloMosaic.Lib.Pointwise
public import proofs.«01_k».proof.Proof.Heads
public import proofs.«01_k».proof.Proof.Consts

@[expose] public section

/-!
The forward pass of a softmax attention over real queries and keys and arbitrary values: one row, computed from the
unscaled scores less their largest one, with the sum of the exponentials beside the weighted sum of the values.
-/

noncomputable section
namespace Cert.Forward
open Idealize.ShloMosaic Cert.Heads

/-- The attention's output, with heads side by side; the last lane of a head is padding and zero. -/
def attn (σ : ℝ) (Q K : Mat) (v : FVec Ideal ⟨2, ![8192, 512]⟩ .bf16) : FVec Ideal ⟨2, ![8192, 512]⟩ .f32 := fun y =>
  if (y 1).val % 128 = 127 then (0 : EReal) else
    ∑ x : Fin 8192, ((pr σ (hv Q ((y 1).val / 128)) (hv K ((y 1).val / 128)) (y 0).val x : ℝ) : EReal) * (show EReal from v (ix2 x (y 1)))

/-- The logarithm of the sum of a row's exponentials, by head. -/
def logSum (σ : ℝ) (Q K : Mat) : FVec Ideal ⟨3, ![4, 8192, 1]⟩ .f32 := fun y =>
  ((Real.log (Z σ (hv Q (y 0).val) (hv K (y 0).val) (y 1).val) : ℝ) : EReal)

theorem bits_zero : Ideal.ofBits FTy.f32 0x00000000#32 = (0 : EReal) := by
  simp [Ideal.ofBits, Ideal.ieee]
theorem bits_one16 : Ideal.ofBits FTy.bf16 0x3F80#16 = (1 : EReal) := by
  simp [Ideal.ofBits, Ideal.ieee, -EReal.coe_mul]; norm_num

/-- A choice by the lane. -/
theorem select_lane {α : Type} (e : Fin 128) (a b : α) :
    Scalar.select (IntOp.cmpi .eq (BitVec.ofNat 32 e.val) 127#32) a b = if e.val = 127 then a else b := by
  have h : ∀ e : Fin 128, IntOp.cmpi .eq (BitVec.ofNat 32 e.val) 127#32 = if e.val = 127 then 1#1 else 0#1 := by decide
  rw [h]
  split <;> rfl

/-- A real factor that is not negative multiplies a sum of extended reals term by term. -/
theorem sum_mul_real {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert i s hi ih =>
    rw [Finset.sum_insert hi, Finset.sum_insert hi, ← ih]
    exact EReal.right_distrib_of_nonneg_of_ne_top (EReal.coe_nonneg.2 hc) (EReal.coe_ne_top c) _ _

section
variable {σ : ℝ} {q k : Mat} {a : ℕ} {s : Fin 8192 → EReal} (hs : ∀ j, s j = ((∑ e : Fin 128, q a e * k j e : ℝ) : EReal))
include hs

/-- The largest score is real. -/
theorem largest : ∃ M : ℝ, max (⊥ : EReal) (Finset.fold max (⊥ : EReal) s Finset.univ) = (M : EReal) := by
  rw [bot_sup_eq, show s = _ from funext hs]
  exact fold_max_real _

/-- A power of two of the score's distance from the largest is the exponential of the scaled score's. -/
theorem weight (M : ℝ) (j : Fin 8192) :
    Ideal.exp2 ((s j - (M : EReal)) * ((σ * (1 / Real.log 2) : ℝ) : EReal)) = ((Real.exp (sc σ q k a j - M * σ) : ℝ) : EReal) := by
  have h2 : Real.log 2 ≠ 0 := (Real.log_pos one_lt_two).ne'
  rw [hs, ← EReal.coe_sub, ← EReal.coe_mul, Ideal.exp2_coe]
  change (((2 : ℝ) ^ (((∑ e : Fin 128, q a e * k j e) - M) * (σ * (1 / Real.log 2))) : ℝ) : EReal) = _
  rw [Real.rpow_def_of_pos two_pos]
  congr 2
  unfold sc
  field_simp

/-- The sum of the weights. -/
theorem total (M : ℝ) :
    ∑ j, Ideal.exp2 ((s j - (M : EReal)) * ((σ * (1 / Real.log 2) : ℝ) : EReal)) * (1 : EReal) = ((ZM σ q k (M * σ) a : ℝ) : EReal) := by
  simp only [weight hs, mul_one, sum_coe]
  rfl

/-- The weighted sum of the values over the sum of the weights. -/
theorem quotient (M : ℝ) (v : Fin 8192 → EReal) :
    Ideal.div (∑ j, Ideal.exp2 ((s j - (M : EReal)) * ((σ * (1 / Real.log 2) : ℝ) : EReal)) * v j) ((ZM σ q k (M * σ) a : ℝ) : EReal)
      = ∑ j : Fin 8192, ((pr σ q k a j : ℝ) : EReal) * v j := by
  have hZ := ZM_pos σ q k (M * σ) a
  rw [Ideal.div_coe hZ.ne', sum_mul_real _ _ _ (one_div_pos.2 hZ).le]
  refine Finset.sum_congr rfl fun j _ => ?_
  rw [weight hs, mul_right_comm, ← EReal.coe_mul, mul_one_div, pr_shift]
end

/-- The index of an entry of a column. -/
theorem column {A : ℕ} (y : (⟨3, ![1, A, 1]⟩ : Shape).Idx) : y = ix3 0 (y 1) 0 := by
  have h0 : (y 0).val < 1 := (y 0).isLt
  have h2 : (y 2).val < 1 := (y 2).isLt
  funext a
  match a with
  | ⟨0, _⟩ => exact Fin.ext (Nat.lt_one_iff.1 h0)
  | ⟨1, _⟩ => rfl
  | ⟨2, _⟩ => exact Fin.ext (Nat.lt_one_iff.1 h2)

theorem columns {A B : ℕ} (y : (⟨3, ![A, B, 1]⟩ : Shape).Idx) : y = ix3 (y 0) (y 1) 0 := by
  have h2 : (y 2).val < 1 := (y 2).isLt
  funext a
  match a with
  | ⟨0, _⟩ => rfl
  | ⟨1, _⟩ => rfl
  | ⟨2, _⟩ => exact Fin.ext (Nat.lt_one_iff.1 h2)

/-- A weighted sum of values whose last lane is zero. -/
theorem padded_sum (p : Fin 8192 → ℝ) (v : Fin 8192 → EReal) (e : ℕ) :
    ∑ x, (if e = 127 then (0 : EReal) else v x) * ((p x : ℝ) : EReal) = if e = 127 then (0 : EReal) else ∑ x, ((p x : ℝ) : EReal) * v x := by
  split
  · exact Finset.sum_eq_zero fun x _ => zero_mul _
  · exact Finset.sum_congr rfl fun x _ => mul_comm _ _

/-- The scaled largest score and the logarithm of the sum of the weights. -/
theorem log_total (σ : ℝ) (q k : Mat) (M : ℝ) (a : ℕ) :
    (M : EReal) * (σ : EReal) + Ideal.log ((ZM σ q k (M * σ) a : ℝ) : EReal) = ((Real.log (Z σ q k a) : ℝ) : EReal) := by
  rw [log_real _ (ZM_pos ..), ← EReal.coe_mul, ← EReal.coe_add, log_shift]

end Cert.Forward
-- ==== Proof.Forward.Pad.lean ====
module

public import proofs.«01_k».proof.Proof.Forward
public import proofs.«01_k».proof.Proof.Gen.Reference15Ideal.Run

@[expose] public section

/-! The values of an attention whose heads are padded by one lane. -/

noncomputable section
namespace Cert.Forward
open Idealize.ShloMosaic Cert.Reference15Ideal Cert.Reference15Ideal.Gen

theorem sitofp_zero : (FloatOps.sitofp FTy.f32 0#32 : Ideal .f32) = (0 : EReal) := by
  show (((0#32 : BitVec 32).toInt : ℝ) : EReal) = 0
  simp

/-- The values by head, the last lane of each zero, as the reference's first operations make them. -/
def padT (v : FVec Ideal S8192x512 .bf16) : FVec Ideal S8192x4x128 .f32 :=
  shapeCast S8192x4x128 (shapeCast S8192x512 (select
    (broadcastInDim S8192x4x128 ![2] bcast_S128_S8192x4x128_2 (cmpi .eq (iotaInDim S128 32 0) (broadcastInDim S128 ![] bcast_S_S128 (constantI S_ 32 127#32))))
    (broadcastInDim S8192x4x128 ![] bcast_S_S8192x4x128 (sitofp (F := Ideal) .f32 (constantI S_ 32 0#32)))
    (shapeCast S8192x4x128 (extf .f32 v bitsLt_bf16_f32) shapeCasts_S8192x512_S8192x4x128)) shapeCasts_S8192x4x128_S8192x512) shapeCasts_S8192x512_S8192x4x128
theorem padT_apply (v : FVec Ideal S8192x512 .bf16) (a : Fin 8192) (h : Fin 4) (d : Fin 128) :
    padT v (ix3 a h d) = if d.val = 127 then (0 : EReal) else v (ix2 a ⟨h * 128 + d, by omega⟩) := by
  pointwise [padT]
  rw [sitofp_zero]
  exact select_lane d _ _
end Cert.Forward
-- ==== Proof.Forward.Real.lean ====
module

public import proofs.«01_k».proof.Pre_finite_scores
public import proofs.«01_k».proof.Proof.Finite

@[expose] public section

/-! What the precondition of the forward attentions says: every entry of the queries and of the keys is a real number. -/

noncomputable section
namespace Cert.Forward
open Idealize.ShloMosaic Cert.Pre_finite_scores

theorem facts : Cert.Pre_finite_scores.Facts where
  bitsLt_bf16_f32 := by decide
  bcast_S_S8192x512 := by decide
  reducesTo_S8192x512_S_d0_1 := by decide
  h_S_ := by decide

theorem of_fn [Cert.Pre_finite_scores.Facts] {a b c : FVec Ideal S8192x512 .bf16} (h : Cert.Pre_finite_scores.fn (F := Ideal) a b c = fun _ => 1#1) :
    (∀ i, a i = (((a i).toReal : ℝ) : EReal)) ∧ ∀ i, b i = (((b i).toReal : ℝ) : EReal) := by
  haveI := Finite.facts
  have h' := fun j => congrFun h j
  simp only [fn, andi, IntOp.andi_eq_one] at h'
  exact ⟨Finite.real_of_all _ (funext fun j => (h' j).1), Finite.real_of_all _ (funext fun j => (h' j).2)⟩
end Cert.Forward
-- ==== Proof.Forward.B.lean ====
module

public import proofs.«01_k».proof.Defs
public import proofs.«01_k».proof.Proof.Forward.Pad
public import proofs.«01_k».proof.Proof.Products
public import proofs.«01_k».proof.Proof.Gen.Kernel15.Frame
public import proofs.«01_k».proof.Proof.Gen.Kernel15Ideal.Value
public import proofs.«01_k».proof.Proof.Gen.Reference15Ideal.Run
public import proofs.«01_k».proof.Proof.Forward.Real
public import proofs.«01_k».proof.Proof.Value
public import Idealize.ShloMosaic.Lib.Quiescent

@[expose] public section

/-! The forward pass of the axial attention (call `l1_b_attn`): the output and the logarithms of the rows' sums. -/

noncomputable section
namespace Cert.Forward.B
open Idealize.ShloMosaic Idealize.ShloMosaic.TcCoe Idealize.SL.Sem Cert.Heads
open Cert.Kernel15Ideal Cert.Kernel15Ideal.Gen

section
variable (q : Vec Ideal S512x128 .bf16) (k v : Vec Ideal S8192x128 .bf16)

theorem pay3_apply (i : Fin 512) (j : Fin 8192) : k0_pay3 (F := Ideal) q k (ix2 i j) = ∑ x, (q (ix2 i x) : EReal) * k (ix2 j x) := by
  pointwise [k0_pay3]
/-- The largest of each row's scores. -/
def rowMax (s : FVec Ideal S512x8192 .f32) : FVec Ideal S512 .f32 :=
  multiReduction .maximumf [1] S512 s 0xFF800000#32 reduces_S512x8192_S512 (.inl rfl) rfl
theorem rowMax_apply (s : FVec Ideal S512x8192 .f32) (i : Fin 512) :
    rowMax s (ix1 i) = Finset.fold max (Ideal.ofBits FTy.f32 0xFF800000#32) (fun j => s (ix2 i j)) Finset.univ := by
  refine (Ideal.multiReduction_maximumf_single (φ := .f32) s _ _ _ _ _).trans ?_
  refine congrArg (fun f => Finset.fold max (Ideal.ofBits FTy.f32 0xFF800000#32) f Finset.univ) (funext fun j => congrArg s (funext fun b => ?_))
  match b with
  | ⟨0, _⟩ => rfl
  | ⟨1, _⟩ => rfl
/-- The column the kernel keeps of them. -/
def maxT (x : FVec Ideal S512 .f32) : FVec Ideal S512x1 .f32 :=
  maximumf (k0_pay2 (F := Ideal)) (shapeCast S512x1 x shapeCasts_S512_S512x1)
theorem maxT_apply (x : FVec Ideal S512 .f32) (i : Fin 512) : maxT x (ix2 i 0) = max (Ideal.ofBits FTy.f32 0xFF800000#32) (x (ix1 i)) := by
  pointwise [maxT, k0_pay2]
theorem pay4_eq : k0_pay4 (F := Ideal) q k = maxT (rowMax (k0_pay3 (F := Ideal) q k)) := rfl
theorem pay5_apply (i : Fin 512) (e : Fin 128) : k0_pay5 (F := Ideal) q k v (ix2 i e)
    = ∑ j : Fin 8192, Ideal.exp2 ((k0_pay3 (F := Ideal) q k (ix2 i j) - k0_pay4 (F := Ideal) q k (ix2 i 0)) * Named.named (F := Ideal) (φ := .f32) κ "c2" 0x3E38AA3B#32)
        * (if e.val = 127 then (1 : EReal) else v (ix2 j e)) := by
  pointwise [k0_pay5]
  simp only [select_lane, mul_zero, zero_add]
  rfl
theorem pay6_apply (i : Fin 512) : k0_pay6 (F := Ideal) q k v (ix2 i 0) = k0_pay5 (F := Ideal) q k v (ix2 i 127) := by
  pointwise [k0_pay6]
theorem pay7_apply (i : Fin 512) (e : Fin 128) : k0_pay7 (F := Ideal) q k v (ix2 i e)
    = if e.val = 127 then (0 : EReal) else Ideal.div (k0_pay5 (F := Ideal) q k v (ix2 i e)) (k0_pay6 (F := Ideal) q k v (ix2 i 0)) := by
  pointwise [k0_pay7]
  exact select_lane e _ _
theorem pay1_apply (x y : FVec Ideal S512x1 .f32) (i : Fin 512) : k0_pay1 (F := Ideal) x y (ix3 0 i 0)
    = (x (ix2 i 0) : EReal) * Ideal.ofBits FTy.f32 0x3E000000#32 + Ideal.log (y (ix2 i 0)) := by
  pointwise [k0_pay1]

theorem named_c2 : Named.named (F := Ideal) (φ := .f32) κ "c2" 0x3E38AA3B#32 = ((1 / 8 * (1 / Real.log 2) : ℝ) : EReal) := by
  rw [one_div, one_div]; exact IdealRules.named_const.ideal_named_scalar _ _ _ _ rfl

/-! ### A block over real queries and keys -/

variable {q k} {Q K : Mat} {r : ℕ} (hq : ∀ (i : Fin 512) (e : Fin 128), q (ix2 i e) = ((Q (r + i) e : ℝ) : EReal))
  (hk : ∀ (j : Fin 8192) (e : Fin 128), k (ix2 j e) = ((K j e : ℝ) : EReal))
include hq hk

theorem scores (i : Fin 512) (j : Fin 8192) :
    k0_pay3 (F := Ideal) q k (ix2 i j) = ((∑ e : Fin 128, Q (r + i) e * K j e : ℝ) : EReal) := by
  rw [pay3_apply]
  simp only [hq, hk, ← EReal.coe_mul, sum_coe]

theorem max_real (i : Fin 512) : ∃ M : ℝ, k0_pay4 (F := Ideal) q k (ix2 i 0) = (M : EReal) := by
  rw [pay4_eq, maxT_apply, rowMax_apply, bits_bot]
  exact largest (scores hq hk i)

theorem sum_real {i : Fin 512} {M : ℝ} (hM : k0_pay4 (F := Ideal) q k (ix2 i 0) = (M : EReal)) :
    k0_pay6 (F := Ideal) q k v (ix2 i 0) = ((ZM (1 / 8) Q K (M * (1 / 8)) (r + i) : ℝ) : EReal) := by
  rw [pay6_apply, pay5_apply, hM, named_c2]
  exact total (scores hq hk i) M

theorem out_real (i : Fin 512) (e : Fin 128) : k0_pay7 (F := Ideal) q k v (ix2 i e)
    = if e.val = 127 then (0 : EReal) else ∑ j : Fin 8192, ((pr (1 / 8) Q K (r + i) j : ℝ) : EReal) * (show EReal from v (ix2 j e)) := by
  obtain ⟨M, hM⟩ := max_real hq hk i
  rw [pay7_apply, sum_real v hq hk hM, pay5_apply, hM, named_c2]
  split
  · rfl
  · exact quotient (scores hq hk i) M _

theorem lse_real (i : Fin 512) :
    k0_pay1 (F := Ideal) (k0_pay4 (F := Ideal) q k) (k0_pay6 (F := Ideal) q k v) (ix3 0 i 0) = ((Real.log (Z (1 / 8) Q K (r + i)) : ℝ) : EReal) := by
  obtain ⟨M, hM⟩ := max_real hq hk i
  rw [pay1_apply, bits_eighth, sum_real v hq hk hM, hM]
  exact log_total _ _ _ _ _
end

/-! ### The results -/

/-- Each window's block at a point. -/
theorem idx : ∀ t : Fin cfg0.N, win0_0.index t = ![t.val % 16, t.val / 16] ∧ win0_1.index t = ![0, t.val / 16] ∧ win0_2.index t = ![0, t.val / 16]
    ∧ win0_3.index t = ![t.val % 16, t.val / 16] ∧ win0_4.index t = ![t.val / 16, t.val % 16, 0] :=
  (by decide +kernel : ∀ t : Fin grid0.N, _)

section
variable (m : (ℓ : Loc nD τ sig) → Buf (Elt Ideal) ℓ) (c : Dev nD)

abbrev argQ : FVec Ideal S8192x512 .bf16 := m ((c.tc : Thread nD τ).loc main_arg0)
abbrev argK : FVec Ideal S8192x512 .bf16 := m ((c.tc : Thread nD τ).loc main_arg1)
abbrev argV : FVec Ideal S8192x512 .bf16 := m ((c.tc : Thread nD τ).loc main_arg2)

variable {m c} {Q K : Mat} (hq : KernelIdeal.Hand.Real2 (argQ m c) Q) (hk : KernelIdeal.Hand.Real2 (argK m c) K)
include hq in
theorem blk_q (t : Fin cfg0.N) (i : Fin 512) (e : Fin 128) :
    iblk (F := Ideal) m c 0 t (ix2 i e) = ((hv Q (t.val / 16) (512 * (t.val % 16) + i) e : ℝ) : EReal) := by
  have ht : t.val < 64 := Nat.lt_of_lt_of_eq t.isLt N_0
  refine Eq.trans ?_ (hq ⟨512 * (t.val % 16) + i, by omega⟩ ⟨t.val / 16 * 128 + e, by omega⟩)
  blk_ext [iblk, V, idx t]
include hk in
theorem blk_k (t : Fin cfg0.N) (j : Fin 8192) (e : Fin 128) :
    iblk (F := Ideal) m c 1 t (ix2 j e) = ((hv K (t.val / 16) j e : ℝ) : EReal) := by
  have ht : t.val < 64 := Nat.lt_of_lt_of_eq t.isLt N_0
  refine Eq.trans ?_ (hk j ⟨t.val / 16 * 128 + e, by omega⟩)
  blk_ext [iblk, V, idx t]

include hq hk
theorem result_o : (dats m 0 c).arrAt 3 cfg0.N = attn (1 / 8) Q K (argV m c) := by
  refine (dats m 0 c).arrAt_eq_of_covers 3 _ (by decide +kernel) fun t hf y => ?_
  have ht : t.val < 64 := Nat.lt_of_lt_of_eq t.isLt N_0
  have h1 : (y 1).val < 128 := (y 1).isLt
  refine Eq.trans (b := k0_pay7 (F := Ideal) (iblk m c 0 t) (iblk m c 1 t) (iblk m c 2 t) y) ?_ ?_
  · blk_simp
    rw [after0_3]
    frame_out
  · refine (congrArg _ (Products.eta y)).trans ((out_real _ (blk_q hq t) (blk_k hk t) _ _).trans ?_)
    unfold attn
    blk_simp [idx t]
    simp only [show (t.val / 16 * 128 + (y 1).val) / 128 = t.val / 16 by omega,
      show (t.val / 16 * 128 + (y 1).val) % 128 = (y 1).val by omega, mul_comm 512]
    refine if_congr Iff.rfl rfl (Finset.sum_congr rfl fun x _ => congrArg _ ?_)
    blk_ext [iblk, V, idx t]

theorem result_l : (dats m 0 c).arrAt 4 cfg0.N = logSum (1 / 8) Q K := by
  refine (dats m 0 c).arrAt_eq_of_covers 4 _ (by decide +kernel) fun t hf y => ?_
  have ht : t.val < 64 := Nat.lt_of_lt_of_eq t.isLt N_0
  have h1 : (y 0).val < 1 := (y 0).isLt
  refine Eq.trans (b := k0_pay1 (F := Ideal) (k0_pay4 (iblk m c 0 t) (iblk m c 1 t)) (k0_pay6 (iblk m c 0 t) (iblk m c 1 t) (iblk m c 2 t)) y) ?_ ?_
  · blk_simp
    rw [after0_4]
    frame_out
  · refine (congrArg _ (column y)).trans ((lse_real _ (blk_q hq t) (blk_k hk t) (y 1)).trans ?_)
    unfold logSum
    blk_simp [idx t]
    simp only [Nat.lt_one_iff.1 h1, Nat.add_zero, mul_comm 512]
end

/-! ### The reference -/

section
open ReferenceIdeal.Hand
/-- The reference's results, in the stages of the gradient's reference. -/
def refO (q k v : FVec Ideal S8192x512 .bf16) : FVec Ideal S8192x512 .f32 := KernelIdeal.Hand.outT (padT v) (divT (rE q k) (rL q k))
def refL (q k : FVec Ideal S8192x512 .bf16) : FVec Ideal S4x8192x1 .f32 :=
  KernelIdeal.Hand.lseT (colT (mxT (rS q k))) (colT (smT (exT (rS q k) (colT (mxT (rS q k))))))

variable {q k : FVec Ideal S8192x512 .bf16} {Q K : Mat} (hq : KernelIdeal.Hand.Real2 q Q) (hk : KernelIdeal.Hand.Real2 k K)
include hq hk
theorem refO_apply (v : FVec Ideal S8192x512 .bf16) (a : Fin 8192) (b : Fin 512) : refO q k v (ix2 a b)
    = if b.val % 128 = 127 then (0 : EReal) else
      ∑ x : Fin 8192, ((pr (1 / 8) (hv Q (b / 128)) (hv K (b / 128)) a x : ℝ) : EReal) * (show EReal from v (ix2 x b)) := by
  obtain ⟨M, hM⟩ := mxT_real hq hk ⟨b / 128, by omega⟩ a
  have hM' : colT (mx2T (mxT (rS q k))) (ix3 ⟨b / 128, by omega⟩ a 0) = (M : EReal) := by
    rw [colT_apply, mx2T_apply, bits_bot, bot_sup_eq]; exact hM
  have hb : ∀ h, (⟨b.val / 128 * 128 + b.val % 128, h⟩ : Fin 512) = b := fun h => Fin.ext (by simp only; omega)
  refine (KernelIdeal.Hand.outT_apply _ _ _ _).trans ?_
  unfold rL rE rS at *
  simp only [weight_real hq hk hM', padT_apply, hb]
  exact padded_sum (fun x => pr (1 / 8) (hv Q (b / 128)) (hv K (b / 128)) a x) (fun x => v (ix2 x b)) (b % 128)

theorem refO_eq (v : FVec Ideal S8192x512 .bf16) : refO q k v = attn (1 / 8) Q K v := by
  funext y
  exact (congrArg _ (Value.ix2_eta y)).trans (refO_apply hq hk v ⟨(y 0).val, (y 0).isLt⟩ ⟨(y 1).val, (y 1).isLt⟩)

theorem refL_apply (h : Fin 4) (a : Fin 8192) : refL q k (ix3 h a 0) = ((Real.log (Z (1 / 8) (hv Q h) (hv K h) a) : ℝ) : EReal) := by
  obtain ⟨M, hM⟩ := mxT_real hq hk h a
  have hM' : colT (mxT (rS q k)) (ix3 h a 0) = (M : EReal) := (colT_apply _ _ _).trans hM
  unfold refL
  refine (KernelIdeal.Hand.lseT_apply _ _ _ _).trans ?_
  rw [hM', colT_apply]
  unfold rS at *
  rw [smT_real hq hk hM', log_real _ (ZM_pos ..), ← EReal.coe_add, log_shift]

theorem refL_eq : refL q k = logSum (1 / 8) Q K := by
  funext y
  exact (congrArg _ (columns y)).trans (refL_apply hq hk ⟨(y 0).val, (y 0).isLt⟩ ⟨(y 1).val, (y 1).isLt⟩)
end

/-! ### The claims -/

theorem algebraic [Cert.Pre_finite_scores.Facts] :
    algebraic_Kernel15Ideal_Reference15Ideal_pre_finite_scores (hKernel15Ideal := Kernel15Ideal.Gen.facts) (hReference15Ideal := Reference15Ideal.Gen.facts) := by
  intro m ρ m' ρ' hpre hagree
  have hf := fun c => of_fn (hpre c)
  refine ⟨fun c => attn (1 / 8) (Value.mat (argQ m c)) (Value.mat (argK m c)) (argV m c),
    fun c => logSum (1 / 8) (Value.mat (argQ m c)) (Value.mat (argK m c)), ?_, ?_⟩
  · exact (θ_run _ _ _).mono (fun r h c => ⟨(h c).1.trans (result_o (Value.mat_real (hf c).1) (Value.mat_real (hf c).2)),
      (h c).2.1.trans (result_l (Value.mat_real (hf c).1) (Value.mat_real (hf c).2)), (h c).2.2⟩) (Kernel15Ideal.Value.run_blocks (F := Ideal) m ρ)
  · refine (θ_run _ _ _).mono (fun r h c => ?_) (Reference15Ideal.Value.run (F := Ideal) m' ρ')
    obtain ⟨a0, a1, a2⟩ := hagree c
    obtain ⟨h1, h2, h3⟩ := h c
    refine ⟨h1.trans ?_, h2.trans ?_, h3⟩
    · refine Eq.trans (b := refO (m' ((c.tc : Thread nD τ).loc Reference15Ideal.main_arg0)) (m' ((c.tc : Thread nD τ).loc Reference15Ideal.main_arg1))
        (m' ((c.tc : Thread nD τ).loc Reference15Ideal.main_arg2))) rfl ?_
      exact (congr (congr (congrArg refO a0) a1) a2).trans (refO_eq (Value.mat_real (hf c).1) (Value.mat_real (hf c).2) _)
    · refine Eq.trans (b := refL (m' ((c.tc : Thread nD τ).loc Reference15Ideal.main_arg0)) (m' ((c.tc : Thread nD τ).loc Reference15Ideal.main_arg1))) rfl ?_
      exact (congr (congrArg refL a0) a1).trans (refL_eq (Value.mat_real (hf c).1) (Value.mat_real (hf c).2))

theorem kernel_frame : quiescent_Kernel15 (hKernel15 := Kernel15.Gen.facts) := fun m ρ _ => Kernel15.Gen.frame m ρ

theorem ideal_frame : quiescent_Kernel15Ideal (hKernel15Ideal := Kernel15Ideal.Gen.facts) := fun m ρ _ => Kernel15Ideal.Gen.frame m ρ

theorem reference_frame : quiescent_Reference15Ideal (hReference15Ideal := Reference15Ideal.Gen.facts) := fun m ρ _ =>
  (θ_run Reference15Ideal.defs _ _).mono (fun r h => ⟨fun c => (h c).2.2, Idealize.ShloMosaic.sem_eq_zero_of_no_sems (by decide) r.2⟩)
    (Reference15Ideal.Value.run (F := Ideal) m ρ)

end Cert.Forward.B
-- ==== Proof.Forward.A.lean ====
module

public import proofs.«01_k».proof.Defs
public import proofs.«01_k».proof.Proof.Forward.Pad
public import proofs.«01_k».proof.Proof.Products
public import proofs.«01_k».proof.Proof.Gen.Kernel16.Frame
public import proofs.«01_k».proof.Proof.Gen.Kernel16Ideal.Value
public import proofs.«01_k».proof.Proof.Gen.Reference16Ideal.Run
public import proofs.«01_k».proof.Proof.Forward.Real
public import proofs.«01_k».proof.Proof.Latent.Value
public import proofs.«01_k».proof.Proof.Forward.B
public import Idealize.ShloMosaic.Lib.Quiescent

@[expose] public section

/-! The forward pass of the latent attention (call `l1_a_attn`): the output and the logarithms of the rows' sums. -/

noncomputable section
namespace Cert.Forward.A
open Idealize.ShloMosaic Idealize.ShloMosaic.TcCoe Idealize.SL.Sem Cert.Heads
open Cert.Kernel16Ideal Cert.Kernel16Ideal.Gen

section
variable (q : Vec Ideal S512x128 .bf16) (k v : Vec Ideal S8192x128 .bf16)

theorem pay3_apply (i : Fin 512) (j : Fin 8192) : k0_pay3 (F := Ideal) q k (ix2 i j) = ∑ x, (q (ix2 i x) : EReal) * k (ix2 j x) := by
  pointwise [k0_pay3]
theorem pay4_eq : k0_pay4 (F := Ideal) q k = B.maxT (B.rowMax (k0_pay3 (F := Ideal) q k)) := rfl
theorem pay5_apply (i : Fin 512) (e : Fin 128) : k0_pay5 (F := Ideal) q k v (ix2 i e)
    = ∑ j : Fin 8192, Ideal.exp2 ((k0_pay3 (F := Ideal) q k (ix2 i j) - k0_pay4 (F := Ideal) q k (ix2 i 0)) * Named.named (F := Ideal) (φ := .f32) κ "c2" 0x3E16C740#32)
        * (if e.val = 127 then (1 : EReal) else v (ix2 j e)) := by
  pointwise [k0_pay5]
  simp only [select_lane, mul_zero, zero_add]
  rfl
theorem pay6_apply (i : Fin 512) : k0_pay6 (F := Ideal) q k v (ix2 i 0) = k0_pay5 (F := Ideal) q k v (ix2 i 127) := by
  pointwise [k0_pay6]
theorem pay7_apply (i : Fin 512) (e : Fin 128) : k0_pay7 (F := Ideal) q k v (ix2 i e)
    = if e.val = 127 then (0 : EReal) else Ideal.div (k0_pay5 (F := Ideal) q k v (ix2 i e)) (k0_pay6 (F := Ideal) q k v (ix2 i 0)) := by
  pointwise [k0_pay7]
  exact select_lane e _ _
theorem pay1_apply (x y : FVec Ideal S512x1 .f32) (i : Fin 512) : k0_pay1 (F := Ideal) x y (ix3 0 i 0)
    = (x (ix2 i 0) : EReal) * Ideal.ofBits FTy.f32 0x3DD105EC#32 + Ideal.log (y (ix2 i 0)) := by
  pointwise [k0_pay1]

theorem named_c2 : Named.named (F := Ideal) (φ := .f32) κ "c2" 0x3E16C740#32 = ((scA * (1 / Real.log 2) : ℝ) : EReal) := by
  rw [scA, div_eq_mul_inv, one_div]; exact IdealRules.named_const.ideal_named_scalar _ _ _ _ rfl

/-! ### A block over real queries and keys -/

variable {q k} {Q K : Mat} {r : ℕ} (hq : ∀ (i : Fin 512) (e : Fin 128), q (ix2 i e) = ((Q (r + i) e : ℝ) : EReal))
  (hk : ∀ (j : Fin 8192) (e : Fin 128), k (ix2 j e) = ((K j e : ℝ) : EReal))
include hq hk

theorem scores (i : Fin 512) (j : Fin 8192) :
    k0_pay3 (F := Ideal) q k (ix2 i j) = ((∑ e : Fin 128, Q (r + i) e * K j e : ℝ) : EReal) := by
  rw [pay3_apply]
  simp only [hq, hk, ← EReal.coe_mul, sum_coe]

theorem max_real (i : Fin 512) : ∃ M : ℝ, k0_pay4 (F := Ideal) q k (ix2 i 0) = (M : EReal) := by
  rw [pay4_eq, B.maxT_apply, B.rowMax_apply, bits_bot]
  exact largest (scores hq hk i)

theorem sum_real {i : Fin 512} {M : ℝ} (hM : k0_pay4 (F := Ideal) q k (ix2 i 0) = (M : EReal)) :
    k0_pay6 (F := Ideal) q k v (ix2 i 0) = ((ZM scA Q K (M * scA) (r + i) : ℝ) : EReal) := by
  rw [pay6_apply, pay5_apply, hM, named_c2]
  exact total (scores hq hk i) M

theorem out_real (i : Fin 512) (e : Fin 128) : k0_pay7 (F := Ideal) q k v (ix2 i e)
    = if e.val = 127 then (0 : EReal) else ∑ j : Fin 8192, ((pr scA Q K (r + i) j : ℝ) : EReal) * (show EReal from v (ix2 j e)) := by
  obtain ⟨M, hM⟩ := max_real hq hk i
  rw [pay7_apply, sum_real v hq hk hM, pay5_apply, hM, named_c2]
  split
  · rfl
  · exact quotient (scores hq hk i) M _

theorem lse_real (i : Fin 512) :
    k0_pay1 (F := Ideal) (k0_pay4 (F := Ideal) q k) (k0_pay6 (F := Ideal) q k v) (ix3 0 i 0) = ((Real.log (Z scA Q K (r + i)) : ℝ) : EReal) := by
  obtain ⟨M, hM⟩ := max_real hq hk i
  rw [pay1_apply, bits_scA, sum_real v hq hk hM, hM]
  exact log_total _ _ _ _ _
end

/-! ### The results -/

/-- Each window's block at a point. -/
theorem idx : ∀ t : Fin cfg0.N, win0_0.index t = ![t.val % 16, t.val / 16] ∧ win0_1.index t = ![0, t.val / 16] ∧ win0_2.index t = ![0, t.val / 16]
    ∧ win0_3.index t = ![t.val % 16, t.val / 16] ∧ win0_4.index t = ![t.val / 16, t.val % 16, 0] :=
  (by decide +kernel : ∀ t : Fin grid0.N, _)

section
variable (m : (ℓ : Loc nD τ sig) → Buf (Elt Ideal) ℓ) (c : Dev nD)

abbrev argQ : FVec Ideal S8192x512 .bf16 := m ((c.tc : Thread nD τ).loc main_arg0)
abbrev argK : FVec Ideal S8192x512 .bf16 := m ((c.tc : Thread nD τ).loc main_arg1)
abbrev argV : FVec Ideal S8192x512 .bf16 := m ((c.tc : Thread nD τ).loc main_arg2)

variable {m c} {Q K : Mat} (hq : KernelIdeal.Hand.Real2 (argQ m c) Q) (hk : KernelIdeal.Hand.Real2 (argK m c) K)
include hq in
theorem blk_q (t : Fin cfg0.N) (i : Fin 512) (e : Fin 128) :
    iblk (F := Ideal) m c 0 t (ix2 i e) = ((hv Q (t.val / 16) (512 * (t.val % 16) + i) e : ℝ) : EReal) := by
  have ht : t.val < 64 := Nat.lt_of_lt_of_eq t.isLt N_0
  refine Eq.trans ?_ (hq ⟨512 * (t.val % 16) + i, by omega⟩ ⟨t.val / 16 * 128 + e, by omega⟩)
  blk_ext [iblk, V, idx t]
include hk in
theorem blk_k (t : Fin cfg0.N) (j : Fin 8192) (e : Fin 128) :
    iblk (F := Ideal) m c 1 t (ix2 j e) = ((hv K (t.val / 16) j e : ℝ) : EReal) := by
  have ht : t.val < 64 := Nat.lt_of_lt_of_eq t.isLt N_0
  refine Eq.trans ?_ (hk j ⟨t.val / 16 * 128 + e, by omega⟩)
  blk_ext [iblk, V, idx t]

include hq hk
theorem result_o : (dats m 0 c).arrAt 3 cfg0.N = attn scA Q K (argV m c) := by
  refine (dats m 0 c).arrAt_eq_of_covers 3 _ (by decide +kernel) fun t hf y => ?_
  have ht : t.val < 64 := Nat.lt_of_lt_of_eq t.isLt N_0
  have h1 : (y 1).val < 128 := (y 1).isLt
  refine Eq.trans (b := k0_pay7 (F := Ideal) (iblk m c 0 t) (iblk m c 1 t) (iblk m c 2 t) y) ?_ ?_
  · blk_simp
    rw [after0_3]
    frame_out
  · refine (congrArg _ (Products.eta y)).trans ((out_real _ (blk_q hq t) (blk_k hk t) _ _).trans ?_)
    unfold attn
    blk_simp [idx t]
    simp only [show (t.val / 16 * 128 + (y 1).val) / 128 = t.val / 16 by omega,
      show (t.val / 16 * 128 + (y 1).val) % 128 = (y 1).val by omega, mul_comm 512]
    refine if_congr Iff.rfl rfl (Finset.sum_congr rfl fun x _ => congrArg _ ?_)
    blk_ext [iblk, V, idx t]

theorem result_l : (dats m 0 c).arrAt 4 cfg0.N = logSum scA Q K := by
  refine (dats m 0 c).arrAt_eq_of_covers 4 _ (by decide +kernel) fun t hf y => ?_
  have ht : t.val < 64 := Nat.lt_of_lt_of_eq t.isLt N_0
  have h1 : (y 0).val < 1 := (y 0).isLt
  refine Eq.trans (b := k0_pay1 (F := Ideal) (k0_pay4 (iblk m c 0 t) (iblk m c 1 t)) (k0_pay6 (iblk m c 0 t) (iblk m c 1 t) (iblk m c 2 t)) y) ?_ ?_
  · blk_simp
    rw [after0_4]
    frame_out
  · refine (congrArg _ (column y)).trans ((lse_real _ (blk_q hq t) (blk_k hk t) (y 1)).trans ?_)
    unfold logSum
    blk_simp [idx t]
    simp only [Nat.lt_one_iff.1 h1, Nat.add_zero, mul_comm 512]
end

/-! ### The reference -/

section
open Reference2Ideal.Hand
/-- The reference's results, in the stages of the gradient's reference. -/
def refO (q k v : FVec Ideal S8192x512 .bf16) : FVec Ideal S8192x512 .f32 := KernelIdeal.Hand.outT (padT v) (divT (rE q k) (rL q k))
def refL (q k : FVec Ideal S8192x512 .bf16) : FVec Ideal S4x8192x1 .f32 :=
  KernelIdeal.Hand.lseT (colT (mxT (rS q k))) (colT (smT (exT (rS q k) (colT (mxT (rS q k))))))

variable {q k : FVec Ideal S8192x512 .bf16} {Q K : Mat} (hq : KernelIdeal.Hand.Real2 q Q) (hk : KernelIdeal.Hand.Real2 k K)
include hq hk
theorem refO_apply (v : FVec Ideal S8192x512 .bf16) (a : Fin 8192) (b : Fin 512) : refO q k v (ix2 a b)
    = if b.val % 128 = 127 then (0 : EReal) else
      ∑ x : Fin 8192, ((pr scA (hv Q (b / 128)) (hv K (b / 128)) a x : ℝ) : EReal) * (show EReal from v (ix2 x b)) := by
  obtain ⟨M, hM⟩ := mxT_real hq hk ⟨b / 128, by omega⟩ a
  have hM' : colT (mx2T (mxT (rS q k))) (ix3 ⟨b / 128, by omega⟩ a 0) = (M : EReal) := by
    rw [colT_apply, mx2T_apply, bits_bot, bot_sup_eq]; exact hM
  have hb : ∀ h, (⟨b.val / 128 * 128 + b.val % 128, h⟩ : Fin 512) = b := fun h => Fin.ext (by simp only; omega)
  refine (KernelIdeal.Hand.outT_apply _ _ _ _).trans ?_
  unfold rL rE rS at *
  simp only [weight_real hq hk hM', padT_apply, hb]
  exact padded_sum (fun x => pr scA (hv Q (b / 128)) (hv K (b / 128)) a x) (fun x => v (ix2 x b)) (b % 128)

theorem refO_eq (v : FVec Ideal S8192x512 .bf16) : refO q k v = attn scA Q K v := by
  funext y
  exact (congrArg _ (Value.ix2_eta y)).trans (refO_apply hq hk v ⟨(y 0).val, (y 0).isLt⟩ ⟨(y 1).val, (y 1).isLt⟩)

theorem refL_apply (h : Fin 4) (a : Fin 8192) : refL q k (ix3 h a 0) = ((Real.log (Z scA (hv Q h) (hv K h) a) : ℝ) : EReal) := by
  obtain ⟨M, hM⟩ := mxT_real hq hk h a
  have hM' : colT (mxT (rS q k)) (ix3 h a 0) = (M : EReal) := (colT_apply _ _ _).trans hM
  unfold refL
  refine (KernelIdeal.Hand.lseT_apply _ _ _ _).trans ?_
  rw [hM', colT_apply]
  unfold rS at *
  rw [smT_real hq hk hM', log_real _ (ZM_pos ..), ← EReal.coe_add, log_shift]

theorem refL_eq : refL q k = logSum scA Q K := by
  funext y
  exact (congrArg _ (columns y)).trans (refL_apply hq hk ⟨(y 0).val, (y 0).isLt⟩ ⟨(y 1).val, (y 1).isLt⟩)
end

/-! ### The claims -/

theorem algebraic [Cert.Pre_finite_scores.Facts] :
    algebraic_Kernel16Ideal_Reference16Ideal_pre_finite_scores (hKernel16Ideal := Kernel16Ideal.Gen.facts) (hReference16Ideal := Reference16Ideal.Gen.facts) := by
  intro m ρ m' ρ' hpre hagree
  have hf := fun c => of_fn (hpre c)
  refine ⟨fun c => attn scA (Value.mat (argQ m c)) (Value.mat (argK m c)) (argV m c),
    fun c => logSum scA (Value.mat (argQ m c)) (Value.mat (argK m c)), ?_, ?_⟩
  · exact (θ_run _ _ _).mono (fun r h c => ⟨(h c).1.trans (result_o (Value.mat_real (hf c).1) (Value.mat_real (hf c).2)),
      (h c).2.1.trans (result_l (Value.mat_real (hf c).1) (Value.mat_real (hf c).2)), (h c).2.2⟩) (Kernel16Ideal.Value.run_blocks (F := Ideal) m ρ)
  · refine (θ_run _ _ _).mono (fun r h c => ?_) (Reference16Ideal.Value.run (F := Ideal) m' ρ')
    obtain ⟨a0, a1, a2⟩ := hagree c
    obtain ⟨h1, h2, h3⟩ := h c
    refine ⟨h1.trans ?_, h2.trans ?_, h3⟩
    · refine Eq.trans (b := refO (m' ((c.tc : Thread nD τ).loc Reference16Ideal.main_arg0)) (m' ((c.tc : Thread nD τ).loc Reference16Ideal.main_arg1))
        (m' ((c.tc : Thread nD τ).loc Reference16Ideal.main_arg2))) rfl ?_
      exact (congr (congr (congrArg refO a0) a1) a2).trans (refO_eq (Value.mat_real (hf c).1) (Value.mat_real (hf c).2) _)
    · refine Eq.trans (b := refL (m' ((c.tc : Thread nD τ).loc Reference16Ideal.main_arg0)) (m' ((c.tc : Thread nD τ).loc Reference16Ideal.main_arg1))) rfl ?_
      exact (congr (congrArg refL a0) a1).trans (refL_eq (Value.mat_real (hf c).1) (Value.mat_real (hf c).2))

theorem kernel_frame : quiescent_Kernel16 (hKernel16 := Kernel16.Gen.facts) := fun m ρ _ => Kernel16.Gen.frame m ρ

theorem ideal_frame : quiescent_Kernel16Ideal (hKernel16Ideal := Kernel16Ideal.Gen.facts) := fun m ρ _ => Kernel16Ideal.Gen.frame m ρ

theorem reference_frame : quiescent_Reference16Ideal (hReference16Ideal := Reference16Ideal.Gen.facts) := fun m ρ _ =>
  (θ_run Reference16Ideal.defs _ _).mono (fun r h => ⟨fun c => (h c).2.2, Idealize.ShloMosaic.sem_eq_zero_of_no_sems (by decide) r.2⟩)
    (Reference16Ideal.Value.run (F := Ideal) m ρ)

end Cert.Forward.A
-- ==== Proof.Update.lean ====
module

public import Idealize.ShloMosaic.Lib.Pipeline.ValueKit.Point
public import Idealize.ShloMosaic.Lib.Pointwise

@[expose] public section

/-! One step of AdamW on an entry of a weight, and a weight's gradient as the sum over the eight examples, for each layer. -/

noncomputable section
namespace Cert.Update
open Idealize.ShloMosaic

/-- The new first moment. -/
def moment (g m : EReal) : EReal := Ideal.ofBits FTy.f32 0x3F666666#32 * m + Ideal.ofBits FTy.f32 0x3DCCCCCD#32 * g

/-- The new second moment. -/
def spread (g v : EReal) : EReal := Ideal.ofBits FTy.f32 0x3F7FBE77#32 * v + Ideal.ofBits FTy.f32 0x3A83126F#32 * (g * g)

/-- The step: the corrected first moment over the root of the corrected second, with the weight's decay. -/
def delta (g w m v : EReal) : EReal :=
  Ideal.ofBits FTy.f32 0xBA83126F#32 * (Ideal.div (Ideal.div (moment g m) (Ideal.ofBits FTy.f32 0x3F26BD02#32))
    (Ideal.sqrt (Ideal.div (spread g v) (Ideal.ofBits FTy.f32 0x3C231ACC#32)) + Ideal.ofBits FTy.f32 0x322BCC77#32)
    + Ideal.ofBits FTy.f32 0x3C23D70A#32 * w)

variable {R C : ℕ}

abbrev Slots (R C : ℕ) : Shape := ⟨3, ![8, R, C]⟩
abbrev Layers (R C : ℕ) : Shape := ⟨3, ![2, R, C]⟩

/-- The gradient of layer `l`: `a` holds the first layer's for each example, `b` the second's. -/
def gradAt (a b : FVec Ideal (Slots R C) .bf16) (l : ℕ) (i : Fin R) (j : Fin C) : EReal :=
  if l = 1 then ∑ s : Fin 8, (b (ix3 s i j) : EReal) else ∑ s : Fin 8, (a (ix3 s i j) : EReal)

def grad (a b : FVec Ideal (Slots R C) .bf16) : FVec Ideal (Layers R C) .f32 := fun y => gradAt a b (y 0).val (y 1) (y 2)

def moments (a b : FVec Ideal (Slots R C) .bf16) (m : FVec Ideal (Layers R C) .f32) : FVec Ideal (Layers R C) .f32 :=
  fun y => moment (grad a b y) (m y)

def spreads (a b : FVec Ideal (Slots R C) .bf16) (v : FVec Ideal (Layers R C) .f32) : FVec Ideal (Layers R C) .f32 :=
  fun y => spread (grad a b y) (v y)

def deltas (a b : FVec Ideal (Slots R C) .bf16) (w m v : FVec Ideal (Layers R C) .f32) : FVec Ideal (Layers R C) .f32 :=
  fun y => delta (grad a b y) (w y) (m y) (v y)

/-- An entry of one layer's block. -/
theorem entry (y : (⟨3, ![1, R, C]⟩ : Shape).Idx) : y = ix3 0 (y 1) (y 2) := by
  have h0 : (y 0).val < 1 := (y 0).isLt
  funext a
  match a with
  | ⟨0, _⟩ => exact Fin.ext (Nat.lt_one_iff.1 h0)
  | ⟨1, _⟩ => rfl
  | ⟨2, _⟩ => rfl

theorem entry_layers (y : (Layers R C).Idx) : y = ix3 (y 0) (y 1) (y 2) := by
  funext a
  match a with
  | ⟨0, _⟩ => rfl
  | ⟨1, _⟩ => rfl
  | ⟨2, _⟩ => rfl

/-- Whether a layer is the second one, as the kernel's comparison of numbers. -/
theorem select_layer {α : Type} {l : ℕ} (h : l < 2) (x y : α) : Scalar.select (Scalar.cmpi .eq (BitVec.ofNat 32 l) 1#32) x y = if l = 1 then x else y := by
  interval_cases l <;> rfl

end Cert.Update
-- ==== Proof.Update.WIn.lean ====
module

public import proofs.«01_k».proof.Defs
public import proofs.«01_k».proof.Proof.Update
public import proofs.«01_k».proof.Proof.Gen.Kernel17.Frame
public import proofs.«01_k».proof.Proof.Gen.Kernel17Ideal.Value
public import proofs.«01_k».proof.Proof.Gen.Reference17Ideal.Run
public import Idealize.ShloMosaic.Lib.Quiescent

@[expose] public section

/-! The optimiser's step on the weight of the projections (call `adamw_w_in`): blocks of 256 rows of one layer. -/

noncomputable section
namespace Cert.Update.WIn
open Idealize.ShloMosaic Idealize.ShloMosaic.TcCoe Idealize.SL.Sem
open Cert.Kernel17Ideal Cert.Kernel17Ideal.Gen

theorem pay6_apply (i : grid0.Coords) (h : (i 0).val < 2) (x0 x1 : Vec Ideal S8x256x335 .bf16) (x2 x3 x4 : Vec Ideal S1x256x335 .f32) (a : Fin 256) (b : Fin 335) :
    k0_pay6 (F := Ideal) i x0 x1 x2 x3 x4 (ix3 0 a b) = gradAt x0 x1 (i 0).val a b := by
  pointwise [k0_pay6, k0_pay1, k0_pay2]
  rw [select_layer h]
  unfold gradAt
  rw [Fin.sum_univ_eight, Fin.sum_univ_eight]

theorem pay3_apply (g m : FVec Ideal S1x256x335 .f32) (y) : k0_pay3 (F := Ideal) g m y = moment (g y) (m y) := by
  rfl
theorem pay4_apply (g v : FVec Ideal S1x256x335 .f32) (y) : k0_pay4 (F := Ideal) g v y = spread (g y) (v y) := by
  rfl
theorem pay5_apply (g m v w : FVec Ideal S1x256x335 .f32) (y) : k0_pay5 (F := Ideal) g m v w y = delta (g y) (w y) (m y) (v y) := by
  rfl

/-- Each window's block at a point. -/
theorem idx : ∀ t : Fin cfg0.N, win0_0.index t = ![0, if t.val / 4 = 0 then t.val % 4 else 0, 0] ∧ win0_1.index t = ![0, if t.val / 4 = 1 then t.val % 4 else 0, 0]
    ∧ win0_2.index t = ![t.val / 4, t.val % 4, 0] ∧ win0_3.index t = ![t.val / 4, t.val % 4, 0] ∧ win0_4.index t = ![t.val / 4, t.val % 4, 0]
    ∧ win0_5.index t = ![t.val / 4, t.val % 4, 0] ∧ win0_6.index t = ![t.val / 4, t.val % 4, 0] ∧ win0_7.index t = ![t.val / 4, t.val % 4, 0]
    ∧ win0_8.index t = ![t.val / 4, t.val % 4, 0] :=
  (by decide +kernel : ∀ t : Fin grid0.N, _)

/-- The layer of a point. -/
theorem layer : ∀ t : Fin cfg0.N, (grid0.coords t 0).val = t.val / 4 := (by decide +kernel : ∀ t : Fin grid0.N, _)

variable (m : (ℓ : Loc nD τ sig) → Buf (Elt Ideal) ℓ) (c : Dev nD)

abbrev argA : FVec Ideal S8x1024x335 .bf16 := m ((c.tc : Thread nD τ).loc main_arg0)
abbrev argB : FVec Ideal S8x1024x335 .bf16 := m ((c.tc : Thread nD τ).loc main_arg1)
abbrev argW : FVec Ideal S2x1024x335 .f32 := m ((c.tc : Thread nD τ).loc main_arg2)
abbrev argM : FVec Ideal S2x1024x335 .f32 := m ((c.tc : Thread nD τ).loc main_arg3)
abbrev argV : FVec Ideal S2x1024x335 .f32 := m ((c.tc : Thread nD τ).loc main_arg4)

/-- A point's gradients are its rows of its layer's. -/
theorem grad_block (t : Fin cfg0.N) (y : S1x256x335.Idx) (z : S2x1024x335.Idx) (h0 : (z 0).val = t.val / 4) (h1 : (z 1).val = t.val % 4 * 256 + (y 1).val)
    (h2 : (z 2).val = (y 2).val) :
    k0_pay6 (F := Ideal) (grid0.coords t) (iblk m c 0 t) (iblk m c 1 t) (iblk m c 2 t) (iblk m c 3 t) (iblk m c 4 t) y = grad (argA m c) (argB m c) z := by
  have ht : t.val < 8 := Nat.lt_of_lt_of_eq t.isLt N_0
  refine (congrArg _ (entry y)).trans ((pay6_apply _ (by rw [layer]; omega) _ _ _ _ _ _ _).trans ?_)
  unfold grad gradAt
  rw [layer, h0]
  split
  next h =>
    refine Finset.sum_congr rfl fun s _ => ?_
    blk_ext [iblk, V, idx t, h, h1, h2]
    exact congrArg (· * 256 + (y 1).val) (if_pos trivial)
  next h =>
    refine Finset.sum_congr rfl fun s _ => ?_
    have h' : t.val / 4 = 0 := by omega
    blk_ext [iblk, V, idx t, h', h1, h2]
    exact congrArg (· * 256 + (y 1).val) (if_pos trivial)

theorem result_g : (dats m 0 c).arrAt 5 cfg0.N = grad (argA m c) (argB m c) := by
  refine (dats m 0 c).arrAt_eq_of_covers 5 _ (by decide +kernel) fun t hf y => ?_
  have ht : t.val < 8 := Nat.lt_of_lt_of_eq t.isLt N_0
  blk_simp
  rw [after0_5]
  frame_out
  refine grad_block m c t y _ ?_ ?_ ?_ <;> blk_simp [idx t]

theorem result_d : (dats m 0 c).arrAt 6 cfg0.N = deltas (argA m c) (argB m c) (argW m c) (argM m c) (argV m c) := by
  refine (dats m 0 c).arrAt_eq_of_covers 6 _ (by decide +kernel) fun t hf y => ?_
  have ht : t.val < 8 := Nat.lt_of_lt_of_eq t.isLt N_0
  blk_simp
  rw [after0_6]
  frame_out
  refine (pay5_apply _ _ _ _ _).trans ?_
  unfold deltas
  congr 1
  refine grad_block m c t y _ ?_ ?_ ?_ <;> blk_simp [idx t]

theorem result_m : (dats m 0 c).arrAt 7 cfg0.N = moments (argA m c) (argB m c) (argM m c) := by
  refine (dats m 0 c).arrAt_eq_of_covers 7 _ (by decide +kernel) fun t hf y => ?_
  have ht : t.val < 8 := Nat.lt_of_lt_of_eq t.isLt N_0
  blk_simp
  rw [after0_7]
  frame_out
  refine (pay3_apply _ _ _).trans ?_
  unfold moments
  congr 1
  refine grad_block m c t y _ ?_ ?_ ?_ <;> blk_simp [idx t]

theorem result_v : (dats m 0 c).arrAt 8 cfg0.N = spreads (argA m c) (argB m c) (argV m c) := by
  refine (dats m 0 c).arrAt_eq_of_covers 8 _ (by decide +kernel) fun t hf y => ?_
  have ht : t.val < 8 := Nat.lt_of_lt_of_eq t.isLt N_0
  blk_simp
  rw [after0_8]
  frame_out
  refine (pay4_apply _ _ _).trans ?_
  unfold spreads
  congr 1
  refine grad_block m c t y _ ?_ ?_ ?_ <;> blk_simp [idx t]

/-! ### The reference -/

/-- One layer's gradient in the reference: the sum over the examples. -/
def refS (a : FVec Ideal S8x1024x335 .bf16) : FVec Ideal Reference17Ideal.S1x1024x335 .f32 :=
  broadcastInDim Reference17Ideal.S1x1024x335 ![1, 2] Reference17Ideal.Gen.bcast_S1024x335_S1x1024x335_1_2
    (Host.reduceAdd (extf .f32 a Reference17Ideal.Gen.bitsLt_bf16_f32) (constant Reference17Ideal.S_ .f32 0x00000000#32)
      Reference17Ideal.Gen.reducesTo_S8x1024x335_S1024x335_d0 Reference17Ideal.Gen.h_S_)

theorem refS_apply (a : FVec Ideal S8x1024x335 .bf16) (i : Fin 1024) (j : Fin 335) : refS a (ix3 0 i j) = ∑ s : Fin 8, (a (ix3 s i j) : EReal) := by
  pointwise [refS]

/-- The stack of the two layers' gradients. -/
def refG (a b : FVec Ideal S8x1024x335 .bf16) : FVec Ideal S2x1024x335 .f32 :=
  concatenate S2x1024x335 0 [⟨Reference17Ideal.S1x1024x335, refS a⟩, ⟨Reference17Ideal.S1x1024x335, refS b⟩]
    Reference17Ideal.Gen.concatenates_S1x1024x335_S1x1024x335_S2x1024x335_d0

theorem refG_apply (a b : FVec Ideal S8x1024x335 .bf16) (l : Fin 2) (i : Fin 1024) (j : Fin 335) : refG a b (ix3 l i j) = gradAt a b l i j := by
  unfold gradAt
  rw [← refS_apply, ← refS_apply]
  match l with
  | ⟨0, _⟩ => pointwise [refG]
  | ⟨1, _⟩ => pointwise [refG]

theorem refG_eq (a b : FVec Ideal S8x1024x335 .bf16) : refG a b = grad a b := by
  funext y
  exact (congrArg _ (entry_layers y)).trans (refG_apply a b (y 0) (y 1) (y 2))

theorem algebraic : algebraic_Kernel17Ideal_Reference17Ideal (hKernel17Ideal := Kernel17Ideal.Gen.facts) (hReference17Ideal := Reference17Ideal.Gen.facts) := by
  intro m ρ m' ρ' _ hagree
  refine ⟨fun c => grad (argA m c) (argB m c), fun c => deltas (argA m c) (argB m c) (argW m c) (argM m c) (argV m c),
    fun c => moments (argA m c) (argB m c) (argM m c), fun c => spreads (argA m c) (argB m c) (argV m c), ?_, ?_⟩
  · exact (θ_run _ _ _).mono (fun r h c => ⟨(h c).1.trans (result_g m c), (h c).2.1.trans (result_d m c), (h c).2.2.1.trans (result_m m c),
      (h c).2.2.2.1.trans (result_v m c), (h c).2.2.2.2⟩) (Kernel17Ideal.Value.run_blocks (F := Ideal) m ρ)
  · refine (θ_run _ _ _).mono (fun r h c => ?_) (Reference17Ideal.Value.run (F := Ideal) m' ρ')
    obtain ⟨a0, a1, a2, a3, a4⟩ := hagree c
    obtain ⟨h1, h2, h3, h4, h5⟩ := h c
    have hg := (congr (congrArg refG a0) a1).trans (refG_eq (argA m c) (argB m c))
    refine ⟨h1.trans (Eq.trans (b := refG _ _) rfl hg), h2.trans (funext fun y => ?_), h3.trans (funext fun y => ?_), h4.trans (funext fun y => ?_), h5⟩
    · refine Eq.trans (b := delta (refG _ _ y) _ _ _) rfl ?_
      exact congr (congr (congr (congrArg delta (congrFun hg y)) (congrFun a2 y)) (congrFun a3 y)) (congrFun a4 y)
    · refine Eq.trans (b := moment (refG _ _ y) _) rfl ?_
      exact congr (congrArg moment (congrFun hg y)) (congrFun a3 y)
    · refine Eq.trans (b := spread (refG _ _ y) _) rfl ?_
      exact congr (congrArg spread (congrFun hg y)) (congrFun a4 y)

theorem kernel_frame : quiescent_Kernel17 (hKernel17 := Kernel17.Gen.facts) := fun m ρ _ => Kernel17.Gen.frame m ρ

theorem ideal_frame : quiescent_Kernel17Ideal (hKernel17Ideal := Kernel17Ideal.Gen.facts) := fun m ρ _ => Kernel17Ideal.Gen.frame m ρ

theorem reference_frame : quiescent_Reference17Ideal (hReference17Ideal := Reference17Ideal.Gen.facts) := fun m ρ _ =>
  (θ_run Reference17Ideal.defs _ _).mono (fun r h => ⟨fun c => (h c).2.2.2.2, Idealize.ShloMosaic.sem_eq_zero_of_no_sems (by decide) r.2⟩)
    (Reference17Ideal.Value.run (F := Ideal) m ρ)

end Cert.Update.WIn
-- ==== Proof.Update.AWUq.lean ====
module

public import proofs.«01_k».proof.Defs
public import proofs.«01_k».proof.Proof.Update
public import proofs.«01_k».proof.Proof.Gen.Kernel18.Frame
public import proofs.«01_k».proof.Proof.Gen.Kernel18Ideal.Value
public import proofs.«01_k».proof.Proof.Gen.Reference18Ideal.Run
public import Idealize.ShloMosaic.Lib.Quiescent

@[expose] public section

/-! The optimiser's step on the weight of the latent queries (call `adamw_a_w_uq`): a layer is one block. -/

noncomputable section
namespace Cert.Update.AWUq
open Idealize.ShloMosaic Idealize.ShloMosaic.TcCoe Idealize.SL.Sem
open Cert.Kernel18Ideal Cert.Kernel18Ideal.Gen

theorem pay6_apply (i : grid0.Coords) (h : (i 0).val < 2) (x0 x1 : Vec Ideal S8x192x48 .bf16) (x2 x3 x4 : Vec Ideal S1x192x48 .f32) (a : Fin 192) (b : Fin 48) :
    k0_pay6 (F := Ideal) i x0 x1 x2 x3 x4 (ix3 0 a b) = gradAt x0 x1 (i 0).val a b := by
  pointwise [k0_pay6, k0_pay1, k0_pay2]
  rw [select_layer h]
  unfold gradAt
  rw [Fin.sum_univ_eight, Fin.sum_univ_eight]

theorem pay3_apply (g m : FVec Ideal S1x192x48 .f32) (y) : k0_pay3 (F := Ideal) g m y = moment (g y) (m y) := by
  rfl
theorem pay4_apply (g v : FVec Ideal S1x192x48 .f32) (y) : k0_pay4 (F := Ideal) g v y = spread (g y) (v y) := by
  rfl
theorem pay5_apply (g m v w : FVec Ideal S1x192x48 .f32) (y) : k0_pay5 (F := Ideal) g m v w y = delta (g y) (w y) (m y) (v y) := by
  rfl

/-- Each window's block at a point. -/
theorem idx : ∀ t : Fin cfg0.N, win0_0.index t = ![0, 0, 0] ∧ win0_1.index t = ![0, 0, 0] ∧ win0_2.index t = ![t.val, 0, 0] ∧ win0_3.index t = ![t.val, 0, 0]
    ∧ win0_4.index t = ![t.val, 0, 0] ∧ win0_5.index t = ![t.val, 0, 0] ∧ win0_6.index t = ![t.val, 0, 0] ∧ win0_7.index t = ![t.val, 0, 0]
    ∧ win0_8.index t = ![t.val, 0, 0] :=
  (by decide +kernel : ∀ t : Fin grid0.N, _)

/-- The layer of a point. -/
theorem layer : ∀ t : Fin cfg0.N, (grid0.coords t 0).val = t.val := (by decide +kernel : ∀ t : Fin grid0.N, _)

variable (m : (ℓ : Loc nD τ sig) → Buf (Elt Ideal) ℓ) (c : Dev nD)

abbrev argA : FVec Ideal S8x192x48 .bf16 := m ((c.tc : Thread nD τ).loc main_arg0)
abbrev argB : FVec Ideal S8x192x48 .bf16 := m ((c.tc : Thread nD τ).loc main_arg1)
abbrev argW : FVec Ideal S2x192x48 .f32 := m ((c.tc : Thread nD τ).loc main_arg2)
abbrev argM : FVec Ideal S2x192x48 .f32 := m ((c.tc : Thread nD τ).loc main_arg3)
abbrev argV : FVec Ideal S2x192x48 .f32 := m ((c.tc : Thread nD τ).loc main_arg4)

/-- A point's gradients are its layer's. -/
theorem grad_block (t : Fin cfg0.N) (y : S1x192x48.Idx) (z : S2x192x48.Idx) (h0 : (z 0).val = t.val) (h1 : (z 1).val = (y 1).val) (h2 : (z 2).val = (y 2).val) :
    k0_pay6 (F := Ideal) (grid0.coords t) (iblk m c 0 t) (iblk m c 1 t) (iblk m c 2 t) (iblk m c 3 t) (iblk m c 4 t) y = grad (argA m c) (argB m c) z := by
  have ht : t.val < 2 := Nat.lt_of_lt_of_eq t.isLt N_0
  refine (congrArg _ (entry y)).trans ((pay6_apply _ (by rw [layer]; omega) _ _ _ _ _ _ _).trans ?_)
  unfold grad gradAt
  rw [layer, h0]
  refine if_congr Iff.rfl (Finset.sum_congr rfl fun s _ => ?_) (Finset.sum_congr rfl fun s _ => ?_)
  · blk_ext [iblk, V, idx t, h1, h2]
  · blk_ext [iblk, V, idx t, h1, h2]

theorem result_g : (dats m 0 c).arrAt 5 cfg0.N = grad (argA m c) (argB m c) := by
  refine (dats m 0 c).arrAt_eq_of_covers 5 _ (by decide +kernel) fun t hf y => ?_
  have ht : t.val < 2 := Nat.lt_of_lt_of_eq t.isLt N_0
  blk_simp
  rw [after0_5]
  frame_out
  refine grad_block m c t y _ ?_ ?_ ?_ <;> blk_simp [idx t]

theorem result_d : (dats m 0 c).arrAt 6 cfg0.N = deltas (argA m c) (argB m c) (argW m c) (argM m c) (argV m c) := by
  refine (dats m 0 c).arrAt_eq_of_covers 6 _ (by decide +kernel) fun t hf y => ?_
  have ht : t.val < 2 := Nat.lt_of_lt_of_eq t.isLt N_0
  blk_simp
  rw [after0_6]
  frame_out
  refine (pay5_apply _ _ _ _ _).trans ?_
  unfold deltas
  congr 1
  refine grad_block m c t y _ ?_ ?_ ?_ <;> blk_simp [idx t]

theorem result_m : (dats m 0 c).arrAt 7 cfg0.N = moments (argA m c) (argB m c) (argM m c) := by
  refine (dats m 0 c).arrAt_eq_of_covers 7 _ (by decide +kernel) fun t hf y => ?_
  have ht : t.val < 2 := Nat.lt_of_lt_of_eq t.isLt N_0
  blk_simp
  rw [after0_7]
  frame_out
  refine (pay3_apply _ _ _).trans ?_
  unfold moments
  congr 1
  refine grad_block m c t y _ ?_ ?_ ?_ <;> blk_simp [idx t]

theorem result_v : (dats m 0 c).arrAt 8 cfg0.N = spreads (argA m c) (argB m c) (argV m c) := by
  refine (dats m 0 c).arrAt_eq_of_covers 8 _ (by decide +kernel) fun t hf y => ?_
  have ht : t.val < 2 := Nat.lt_of_lt_of_eq t.isLt N_0
  blk_simp
  rw [after0_8]
  frame_out
  refine (pay4_apply _ _ _).trans ?_
  unfold spreads
  congr 1
  refine grad_block m c t y _ ?_ ?_ ?_ <;> blk_simp [idx t]

/-! ### The reference -/

/-- One layer's gradient in the reference: the sum over the examples. -/
def refS (a : FVec Ideal S8x192x48 .bf16) : FVec Ideal Reference18Ideal.S1x192x48 .f32 :=
  broadcastInDim Reference18Ideal.S1x192x48 ![1, 2] Reference18Ideal.Gen.bcast_S192x48_S1x192x48_1_2
    (Host.reduceAdd (extf .f32 a Reference18Ideal.Gen.bitsLt_bf16_f32) (constant Reference18Ideal.S_ .f32 0x00000000#32)
      Reference18Ideal.Gen.reducesTo_S8x192x48_S192x48_d0 Reference18Ideal.Gen.h_S_)

theorem refS_apply (a : FVec Ideal S8x192x48 .bf16) (i : Fin 192) (j : Fin 48) : refS a (ix3 0 i j) = ∑ s : Fin 8, (a (ix3 s i j) : EReal) := by
  pointwise [refS]

/-- The stack of the two layers' gradients. -/
def refG (a b : FVec Ideal S8x192x48 .bf16) : FVec Ideal S2x192x48 .f32 :=
  concatenate S2x192x48 0 [⟨Reference18Ideal.S1x192x48, refS a⟩, ⟨Reference18Ideal.S1x192x48, refS b⟩]
    Reference18Ideal.Gen.concatenates_S1x192x48_S1x192x48_S2x192x48_d0

theorem refG_apply (a b : FVec Ideal S8x192x48 .bf16) (l : Fin 2) (i : Fin 192) (j : Fin 48) : refG a b (ix3 l i j) = gradAt a b l i j := by
  unfold gradAt
  rw [← refS_apply, ← refS_apply]
  match l with
  | ⟨0, _⟩ => pointwise [refG]
  | ⟨1, _⟩ => pointwise [refG]

theorem refG_eq (a b : FVec Ideal S8x192x48 .bf16) : refG a b = grad a b := by
  funext y
  exact (congrArg _ (entry_layers y)).trans (refG_apply a b (y 0) (y 1) (y 2))

theorem algebraic : algebraic_Kernel18Ideal_Reference18Ideal (hKernel18Ideal := Kernel18Ideal.Gen.facts) (hReference18Ideal := Reference18Ideal.Gen.facts) := by
  intro m ρ m' ρ' _ hagree
  refine ⟨fun c => grad (argA m c) (argB m c), fun c => deltas (argA m c) (argB m c) (argW m c) (argM m c) (argV m c),
    fun c => moments (argA m c) (argB m c) (argM m c), fun c => spreads (argA m c) (argB m c) (argV m c), ?_, ?_⟩
  · exact (θ_run _ _ _).mono (fun r h c => ⟨(h c).1.trans (result_g m c), (h c).2.1.trans (result_d m c), (h c).2.2.1.trans (result_m m c),
      (h c).2.2.2.1.trans (result_v m c), (h c).2.2.2.2⟩) (Kernel18Ideal.Value.run_blocks (F := Ideal) m ρ)
  · refine (θ_run _ _ _).mono (fun r h c => ?_) (Reference18Ideal.Value.run (F := Ideal) m' ρ')
    obtain ⟨a0, a1, a2, a3, a4⟩ := hagree c
    obtain ⟨h1, h2, h3, h4, h5⟩ := h c
    have hg := (congr (congrArg refG a0) a1).trans (refG_eq (argA m c) (argB m c))
    refine ⟨h1.trans (Eq.trans (b := refG _ _) rfl hg), h2.trans (funext fun y => ?_), h3.trans (funext fun y => ?_), h4.trans (funext fun y => ?_), h5⟩
    · refine Eq.trans (b := delta (refG _ _ y) _ _ _) rfl ?_
      exact congr (congr (congr (congrArg delta (congrFun hg y)) (congrFun a2 y)) (congrFun a3 y)) (congrFun a4 y)
    · refine Eq.trans (b := moment (refG _ _ y) _) rfl ?_
      exact congr (congrArg moment (congrFun hg y)) (congrFun a3 y)
    · refine Eq.trans (b := spread (refG _ _ y) _) rfl ?_
      exact congr (congrArg spread (congrFun hg y)) (congrFun a4 y)

theorem kernel_frame : quiescent_Kernel18 (hKernel18 := Kernel18.Gen.facts) := fun m ρ _ => Kernel18.Gen.frame m ρ

theorem ideal_frame : quiescent_Kernel18Ideal (hKernel18Ideal := Kernel18Ideal.Gen.facts) := fun m ρ _ => Kernel18Ideal.Gen.frame m ρ

theorem reference_frame : quiescent_Reference18Ideal (hReference18Ideal := Reference18Ideal.Gen.facts) := fun m ρ _ =>
  (θ_run Reference18Ideal.defs _ _).mono (fun r h => ⟨fun c => (h c).2.2.2.2, Idealize.ShloMosaic.sem_eq_zero_of_no_sems (by decide) r.2⟩)
    (Reference18Ideal.Value.run (F := Ideal) m ρ)

end Cert.Update.AWUq
-- ==== Proof.Update.AWUkv.lean ====
module

public import proofs.«01_k».proof.Defs
public import proofs.«01_k».proof.Proof.Update
public import proofs.«01_k».proof.Proof.Gen.Kernel19.Frame
public import proofs.«01_k».proof.Proof.Gen.Kernel19Ideal.Value
public import proofs.«01_k».proof.Proof.Gen.Reference19Ideal.Run
public import Idealize.ShloMosaic.Lib.Quiescent

@[expose] public section

/-! The optimiser's step on the weight of the latent keys and values (call `adamw_a_w_ukv`): a layer is one block. -/

noncomputable section
namespace Cert.Update.AWUkv
open Idealize.ShloMosaic Idealize.ShloMosaic.TcCoe Idealize.SL.Sem
open Cert.Kernel19Ideal Cert.Kernel19Ideal.Gen

theorem pay6_apply (i : grid0.Coords) (h : (i 0).val < 2) (x0 x1 : Vec Ideal S8x128x64 .bf16) (x2 x3 x4 : Vec Ideal S1x128x64 .f32) (a : Fin 128) (b : Fin 64) :
    k0_pay6 (F := Ideal) i x0 x1 x2 x3 x4 (ix3 0 a b) = gradAt x0 x1 (i 0).val a b := by
  pointwise [k0_pay6, k0_pay1, k0_pay2]
  rw [select_layer h]
  unfold gradAt
  rw [Fin.sum_univ_eight, Fin.sum_univ_eight]

theorem pay3_apply (g m : FVec Ideal S1x128x64 .f32) (y) : k0_pay3 (F := Ideal) g m y = moment (g y) (m y) := by
  rfl
theorem pay4_apply (g v : FVec Ideal S1x128x64 .f32) (y) : k0_pay4 (F := Ideal) g v y = spread (g y) (v y) := by
  rfl
theorem pay5_apply (g m v w : FVec Ideal S1x128x64 .f32) (y) : k0_pay5 (F := Ideal) g m v w y = delta (g y) (w y) (m y) (v y) := by
  rfl

/-- Each window's block at a point. -/
theorem idx : ∀ t : Fin cfg0.N, win0_0.index t = ![0, 0, 0] ∧ win0_1.index t = ![0, 0, 0] ∧ win0_2.index t = ![t.val, 0, 0] ∧ win0_3.index t = ![t.val, 0, 0]
    ∧ win0_4.index t = ![t.val, 0, 0] ∧ win0_5.index t = ![t.val, 0, 0] ∧ win0_6.index t = ![t.val, 0, 0] ∧ win0_7.index t = ![t.val, 0, 0]
    ∧ win0_8.index t = ![t.val, 0, 0] :=
  (by decide +kernel : ∀ t : Fin grid0.N, _)

/-- The layer of a point. -/
theorem layer : ∀ t : Fin cfg0.N, (grid0.coords t 0).val = t.val := (by decide +kernel : ∀ t : Fin grid0.N, _)

variable (m : (ℓ : Loc nD τ sig) → Buf (Elt Ideal) ℓ) (c : Dev nD)

abbrev argA : FVec Ideal S8x128x64 .bf16 := m ((c.tc : Thread nD τ).loc main_arg0)
abbrev argB : FVec Ideal S8x128x64 .bf16 := m ((c.tc : Thread nD τ).loc main_arg1)
abbrev argW : FVec Ideal S2x128x64 .f32 := m ((c.tc : Thread nD τ).loc main_arg2)
abbrev argM : FVec Ideal S2x128x64 .f32 := m ((c.tc : Thread nD τ).loc main_arg3)
abbrev argV : FVec Ideal S2x128x64 .f32 := m ((c.tc : Thread nD τ).loc main_arg4)

/-- A point's gradients are its layer's. -/
theorem grad_block (t : Fin cfg0.N) (y : S1x128x64.Idx) (z : S2x128x64.Idx) (h0 : (z 0).val = t.val) (h1 : (z 1).val = (y 1).val) (h2 : (z 2).val = (y 2).val) :
    k0_pay6 (F := Ideal) (grid0.coords t) (iblk m c 0 t) (iblk m c 1 t) (iblk m c 2 t) (iblk m c 3 t) (iblk m c 4 t) y = grad (argA m c) (argB m c) z := by
  have ht : t.val < 2 := Nat.lt_of_lt_of_eq t.isLt N_0
  refine (congrArg _ (entry y)).trans ((pay6_apply _ (by rw [layer]; omega) _ _ _ _ _ _ _).trans ?_)
  unfold grad gradAt
  rw [layer, h0]
  refine if_congr Iff.rfl (Finset.sum_congr rfl fun s _ => ?_) (Finset.sum_congr rfl fun s _ => ?_)
  · blk_ext [iblk, V, idx t, h1, h2]
  · blk_ext [iblk, V, idx t, h1, h2]

theorem result_g : (dats m 0 c).arrAt 5 cfg0.N = grad (argA m c) (argB m c) := by
  refine (dats m 0 c).arrAt_eq_of_covers 5 _ (by decide +kernel) fun t hf y => ?_
  have ht : t.val < 2 := Nat.lt_of_lt_of_eq t.isLt N_0
  blk_simp
  rw [after0_5]
  frame_out
  refine grad_block m c t y _ ?_ ?_ ?_ <;> blk_simp [idx t]

theorem result_d : (dats m 0 c).arrAt 6 cfg0.N = deltas (argA m c) (argB m c) (argW m c) (argM m c) (argV m c) := by
  refine (dats m 0 c).arrAt_eq_of_covers 6 _ (by decide +kernel) fun t hf y => ?_
  have ht : t.val < 2 := Nat.lt_of_lt_of_eq t.isLt N_0
  blk_simp
  rw [after0_6]
  frame_out
  refine (pay5_apply _ _ _ _ _).trans ?_
  unfold deltas
  congr 1
  refine grad_block m c t y _ ?_ ?_ ?_ <;> blk_simp [idx t]

theorem result_m : (dats m 0 c).arrAt 7 cfg0.N = moments (argA m c) (argB m c) (argM m c) := by
  refine (dats m 0 c).arrAt_eq_of_covers 7 _ (by decide +kernel) fun t hf y => ?_
  have ht : t.val < 2 := Nat.lt_of_lt_of_eq t.isLt N_0
  blk_simp
  rw [after0_7]
  frame_out
  refine (pay3_apply _ _ _).trans ?_
  unfold moments
  congr 1
  refine grad_block m c t y _ ?_ ?_ ?_ <;> blk_simp [idx t]

theorem result_v : (dats m 0 c).arrAt 8 cfg0.N = spreads (argA m c) (argB m c) (argV m c) := by
  refine (dats m 0 c).arrAt_eq_of_covers 8 _ (by decide +kernel) fun t hf y => ?_
  have ht : t.val < 2 := Nat.lt_of_lt_of_eq t.isLt N_0
  blk_simp
  rw [after0_8]
  frame_out
  refine (pay4_apply _ _ _).trans ?_
  unfold spreads
  congr 1
  refine grad_block m c t y _ ?_ ?_ ?_ <;> blk_simp [idx t]

/-! ### The reference -/

/-- One layer's gradient in the reference: the sum over the examples. -/
def refS (a : FVec Ideal S8x128x64 .bf16) : FVec Ideal Reference19Ideal.S1x128x64 .f32 :=
  broadcastInDim Reference19Ideal.S1x128x64 ![1, 2] Reference19Ideal.Gen.bcast_S128x64_S1x128x64_1_2
    (Host.reduceAdd (extf .f32 a Reference19Ideal.Gen.bitsLt_bf16_f32) (constant Reference19Ideal.S_ .f32 0x00000000#32)
      Reference19Ideal.Gen.reducesTo_S8x128x64_S128x64_d0 Reference19Ideal.Gen.h_S_)

theorem refS_apply (a : FVec Ideal S8x128x64 .bf16) (i : Fin 128) (j : Fin 64) : refS a (ix3 0 i j) = ∑ s : Fin 8, (a (ix3 s i j) : EReal) := by
  pointwise [refS]

/-- The stack of the two layers' gradients. -/
def refG (a b : FVec Ideal S8x128x64 .bf16) : FVec Ideal S2x128x64 .f32 :=
  concatenate S2x128x64 0 [⟨Reference19Ideal.S1x128x64, refS a⟩, ⟨Reference19Ideal.S1x128x64, refS b⟩]
    Reference19Ideal.Gen.concatenates_S1x128x64_S1x128x64_S2x128x64_d0

theorem refG_apply (a b : FVec Ideal S8x128x64 .bf16) (l : Fin 2) (i : Fin 128) (j : Fin 64) : refG a b (ix3 l i j) = gradAt a b l i j := by
  unfold gradAt
  rw [← refS_apply, ← refS_apply]
  match l with
  | ⟨0, _⟩ => pointwise [refG]
  | ⟨1, _⟩ => pointwise [refG]

theorem refG_eq (a b : FVec Ideal S8x128x64 .bf16) : refG a b = grad a b := by
  funext y
  exact (congrArg _ (entry_layers y)).trans (refG_apply a b (y 0) (y 1) (y 2))

theorem algebraic : algebraic_Kernel19Ideal_Reference19Ideal (hKernel19Ideal := Kernel19Ideal.Gen.facts) (hReference19Ideal := Reference19Ideal.Gen.facts) := by
  intro m ρ m' ρ' _ hagree
  refine ⟨fun c => grad (argA m c) (argB m c), fun c => deltas (argA m c) (argB m c) (argW m c) (argM m c) (argV m c),
    fun c => moments (argA m c) (argB m c) (argM m c), fun c => spreads (argA m c) (argB m c) (argV m c), ?_, ?_⟩
  · exact (θ_run _ _ _).mono (fun r h c => ⟨(h c).1.trans (result_g m c), (h c).2.1.trans (result_d m c), (h c).2.2.1.trans (result_m m c),
      (h c).2.2.2.1.trans (result_v m c), (h c).2.2.2.2⟩) (Kernel19Ideal.Value.run_blocks (F := Ideal) m ρ)
  · refine (θ_run _ _ _).mono (fun r h c => ?_) (Reference19Ideal.Value.run (F := Ideal) m' ρ')
    obtain ⟨a0, a1, a2, a3, a4⟩ := hagree c
    obtain ⟨h1, h2, h3, h4, h5⟩ := h c
    have hg := (congr (congrArg refG a0) a1).trans (refG_eq (argA m c) (argB m c))
    refine ⟨h1.trans (Eq.trans (b := refG _ _) rfl hg), h2.trans (funext fun y => ?_), h3.trans (funext fun y => ?_), h4.trans (funext fun y => ?_), h5⟩
    · refine Eq.trans (b := delta (refG _ _ y) _ _ _) rfl ?_
      exact congr (congr (congr (congrArg delta (congrFun hg y)) (congrFun a2 y)) (congrFun a3 y)) (congrFun a4 y)
    · refine Eq.trans (b := moment (refG _ _ y) _) rfl ?_
      exact congr (congrArg moment (congrFun hg y)) (congrFun a3 y)
    · refine Eq.trans (b := spread (refG _ _ y) _) rfl ?_
      exact congr (congrArg spread (congrFun hg y)) (congrFun a4 y)

theorem kernel_frame : quiescent_Kernel19 (hKernel19 := Kernel19.Gen.facts) := fun m ρ _ => Kernel19.Gen.frame m ρ

theorem ideal_frame : quiescent_Kernel19Ideal (hKernel19Ideal := Kernel19Ideal.Gen.facts) := fun m ρ _ => Kernel19Ideal.Gen.frame m ρ

theorem reference_frame : quiescent_Reference19Ideal (hReference19Ideal := Reference19Ideal.Gen.facts) := fun m ρ _ =>
  (θ_run Reference19Ideal.defs _ _).mono (fun r h => ⟨fun c => (h c).2.2.2.2, Idealize.ShloMosaic.sem_eq_zero_of_no_sems (by decide) r.2⟩)
    (Reference19Ideal.Value.run (F := Ideal) m ρ)

end Cert.Update.AWUkv
-- ==== Proof.Update.WOut.lean ====
module

public import proofs.«01_k».proof.Defs
public import proofs.«01_k».proof.Proof.Update
public import proofs.«01_k».proof.Proof.Gen.Kernel20.Frame
public import proofs.«01_k».proof.Proof.Gen.Kernel20Ideal.Value
public import proofs.«01_k».proof.Proof.Gen.Reference20Ideal.Run
public import Idealize.ShloMosaic.Lib.Quiescent

@[expose] public section

/-! The optimiser's step on the output projection (call `adamw_w_out`): a layer is one block. -/

noncomputable section
namespace Cert.Update.WOut
open Idealize.ShloMosaic Idealize.ShloMosaic.TcCoe Idealize.SL.Sem
open Cert.Kernel20Ideal Cert.Kernel20Ideal.Gen

theorem pay6_apply (i : grid0.Coords) (h : (i 0).val < 2) (x0 x1 : Vec Ideal S8x128x1024 .bf16) (x2 x3 x4 : Vec Ideal S1x128x1024 .f32) (a : Fin 128) (b : Fin 1024) :
    k0_pay6 (F := Ideal) i x0 x1 x2 x3 x4 (ix3 0 a b) = gradAt x0 x1 (i 0).val a b := by
  pointwise [k0_pay6, k0_pay1, k0_pay2]
  rw [select_layer h]
  unfold gradAt
  rw [Fin.sum_univ_eight, Fin.sum_univ_eight]

theorem pay3_apply (g m : FVec Ideal S1x128x1024 .f32) (y) : k0_pay3 (F := Ideal) g m y = moment (g y) (m y) := by
  rfl
theorem pay4_apply (g v : FVec Ideal S1x128x1024 .f32) (y) : k0_pay4 (F := Ideal) g v y = spread (g y) (v y) := by
  rfl
theorem pay5_apply (g m v w : FVec Ideal S1x128x1024 .f32) (y) : k0_pay5 (F := Ideal) g m v w y = delta (g y) (w y) (m y) (v y) := by
  rfl

/-- Each window's block at a point. -/
theorem idx : ∀ t : Fin cfg0.N, win0_0.index t = ![0, 0, 0] ∧ win0_1.index t = ![0, 0, 0] ∧ win0_2.index t = ![t.val, 0, 0] ∧ win0_3.index t = ![t.val, 0, 0]
    ∧ win0_4.index t = ![t.val, 0, 0] ∧ win0_5.index t = ![t.val, 0, 0] ∧ win0_6.index t = ![t.val, 0, 0] ∧ win0_7.index t = ![t.val, 0, 0]
    ∧ win0_8.index t = ![t.val, 0, 0] :=
  (by decide +kernel : ∀ t : Fin grid0.N, _)

/-- The layer of a point. -/
theorem layer : ∀ t : Fin cfg0.N, (grid0.coords t 0).val = t.val := (by decide +kernel : ∀ t : Fin grid0.N, _)

variable (m : (ℓ : Loc nD τ sig) → Buf (Elt Ideal) ℓ) (c : Dev nD)

abbrev argA : FVec Ideal S8x128x1024 .bf16 := m ((c.tc : Thread nD τ).loc main_arg0)
abbrev argB : FVec Ideal S8x128x1024 .bf16 := m ((c.tc : Thread nD τ).loc main_arg1)
abbrev argW : FVec Ideal S2x128x1024 .f32 := m ((c.tc : Thread nD τ).loc main_arg2)
abbrev argM : FVec Ideal S2x128x1024 .f32 := m ((c.tc : Thread nD τ).loc main_arg3)
abbrev argV : FVec Ideal S2x128x1024 .f32 := m ((c.tc : Thread nD τ).loc main_arg4)

/-- A point's gradients are its layer's. -/
theorem grad_block (t : Fin cfg0.N) (y : S1x128x1024.Idx) (z : S2x128x1024.Idx) (h0 : (z 0).val = t.val) (h1 : (z 1).val = (y 1).val) (h2 : (z 2).val = (y 2).val) :
    k0_pay6 (F := Ideal) (grid0.coords t) (iblk m c 0 t) (iblk m c 1 t) (iblk m c 2 t) (iblk m c 3 t) (iblk m c 4 t) y = grad (argA m c) (argB m c) z := by
  have ht : t.val < 2 := Nat.lt_of_lt_of_eq t.isLt N_0
  refine (congrArg _ (entry y)).trans ((pay6_apply _ (by rw [layer]; omega) _ _ _ _ _ _ _).trans ?_)
  unfold grad gradAt
  rw [layer, h0]
  refine if_congr Iff.rfl (Finset.sum_congr rfl fun s _ => ?_) (Finset.sum_congr rfl fun s _ => ?_)
  · blk_ext [iblk, V, idx t, h1, h2]
  · blk_ext [iblk, V, idx t, h1, h2]

theorem result_g : (dats m 0 c).arrAt 5 cfg0.N = grad (argA m c) (argB m c) := by
  refine (dats m 0 c).arrAt_eq_of_covers 5 _ (by decide +kernel) fun t hf y => ?_
  have ht : t.val < 2 := Nat.lt_of_lt_of_eq t.isLt N_0
  blk_simp
  rw [after0_5]
  frame_out
  refine grad_block m c t y _ ?_ ?_ ?_ <;> blk_simp [idx t]

theorem result_d : (dats m 0 c).arrAt 6 cfg0.N = deltas (argA m c) (argB m c) (argW m c) (argM m c) (argV m c) := by
  refine (dats m 0 c).arrAt_eq_of_covers 6 _ (by decide +kernel) fun t hf y => ?_
  have ht : t.val < 2 := Nat.lt_of_lt_of_eq t.isLt N_0
  blk_simp
  rw [after0_6]
  frame_out
  refine (pay5_apply _ _ _ _ _).trans ?_
  unfold deltas
  congr 1
  refine grad_block m c t y _ ?_ ?_ ?_ <;> blk_simp [idx t]

theorem result_m : (dats m 0 c).arrAt 7 cfg0.N = moments (argA m c) (argB m c) (argM m c) := by
  refine (dats m 0 c).arrAt_eq_of_covers 7 _ (by decide +kernel) fun t hf y => ?_
  have ht : t.val < 2 := Nat.lt_of_lt_of_eq t.isLt N_0
  blk_simp
  rw [after0_7]
  frame_out
  refine (pay3_apply _ _ _).trans ?_
  unfold moments
  congr 1
  refine grad_block m c t y _ ?_ ?_ ?_ <;> blk_simp [idx t]

theorem result_v : (dats m 0 c).arrAt 8 cfg0.N = spreads (argA m c) (argB m c) (argV m c) := by
  refine (dats m 0 c).arrAt_eq_of_covers 8 _ (by decide +kernel) fun t hf y => ?_
  have ht : t.val < 2 := Nat.lt_of_lt_of_eq t.isLt N_0
  blk_simp
  rw [after0_8]
  frame_out
  refine (pay4_apply _ _ _).trans ?_
  unfold spreads
  congr 1
  refine grad_block m c t y _ ?_ ?_ ?_ <;> blk_simp [idx t]

/-! ### The reference -/

/-- One layer's gradient in the reference: the sum over the examples. -/
def refS (a : FVec Ideal S8x128x1024 .bf16) : FVec Ideal Reference20Ideal.S1x128x1024 .f32 :=
  broadcastInDim Reference20Ideal.S1x128x1024 ![1, 2] Reference20Ideal.Gen.bcast_S128x1024_S1x128x1024_1_2
    (Host.reduceAdd (extf .f32 a Reference20Ideal.Gen.bitsLt_bf16_f32) (constant Reference20Ideal.S_ .f32 0x00000000#32)
      Reference20Ideal.Gen.reducesTo_S8x128x1024_S128x1024_d0 Reference20Ideal.Gen.h_S_)

theorem refS_apply (a : FVec Ideal S8x128x1024 .bf16) (i : Fin 128) (j : Fin 1024) : refS a (ix3 0 i j) = ∑ s : Fin 8, (a (ix3 s i j) : EReal) := by
  pointwise [refS]

/-- The stack of the two layers' gradients. -/
def refG (a b : FVec Ideal S8x128x1024 .bf16) : FVec Ideal S2x128x1024 .f32 :=
  concatenate S2x128x1024 0 [⟨Reference20Ideal.S1x128x1024, refS a⟩, ⟨Reference20Ideal.S1x128x1024, refS b⟩]
    Reference20Ideal.Gen.concatenates_S1x128x1024_S1x128x1024_S2x128x1024_d0

theorem refG_apply (a b : FVec Ideal S8x128x1024 .bf16) (l : Fin 2) (i : Fin 128) (j : Fin 1024) : refG a b (ix3 l i j) = gradAt a b l i j := by
  unfold gradAt
  rw [← refS_apply, ← refS_apply]
  match l with
  | ⟨0, _⟩ => pointwise [refG]
  | ⟨1, _⟩ => pointwise [refG]

theorem refG_eq (a b : FVec Ideal S8x128x1024 .bf16) : refG a b = grad a b := by
  funext y
  exact (congrArg _ (entry_layers y)).trans (refG_apply a b (y 0) (y 1) (y 2))

theorem algebraic : algebraic_Kernel20Ideal_Reference20Ideal (hKernel20Ideal := Kernel20Ideal.Gen.facts) (hReference20Ideal := Reference20Ideal.Gen.facts) := by
  intro m ρ m' ρ' _ hagree
  refine ⟨fun c => grad (argA m c) (argB m c), fun c => deltas (argA m c) (argB m c) (argW m c) (argM m c) (argV m c),
    fun c => moments (argA m c) (argB m c) (argM m c), fun c => spreads (argA m c) (argB m c) (argV m c), ?_, ?_⟩
  · exact (θ_run _ _ _).mono (fun r h c => ⟨(h c).1.trans (result_g m c), (h c).2.1.trans (result_d m c), (h c).2.2.1.trans (result_m m c),
      (h c).2.2.2.1.trans (result_v m c), (h c).2.2.2.2⟩) (Kernel20Ideal.Value.run_blocks (F := Ideal) m ρ)
  · refine (θ_run _ _ _).mono (fun r h c => ?_) (Reference20Ideal.Value.run (F := Ideal) m' ρ')
    obtain ⟨a0, a1, a2, a3, a4⟩ := hagree c
    obtain ⟨h1, h2, h3, h4, h5⟩ := h c
    have hg := (congr (congrArg refG a0) a1).trans (refG_eq (argA m c) (argB m c))
    refine ⟨h1.trans (Eq.trans (b := refG _ _) rfl hg), h2.trans (funext fun y => ?_), h3.trans (funext fun y => ?_), h4.trans (funext fun y => ?_), h5⟩
    · refine Eq.trans (b := delta (refG _ _ y) _ _ _) rfl ?_
      exact congr (congr (congr (congrArg delta (congrFun hg y)) (congrFun a2 y)) (congrFun a3 y)) (congrFun a4 y)
    · refine Eq.trans (b := moment (refG _ _ y) _) rfl ?_
      exact congr (congrArg moment (congrFun hg y)) (congrFun a3 y)
    · refine Eq.trans (b := spread (refG _ _ y) _) rfl ?_
      exact congr (congrArg spread (congrFun hg y)) (congrFun a4 y)

theorem kernel_frame : quiescent_Kernel20 (hKernel20 := Kernel20.Gen.facts) := fun m ρ _ => Kernel20.Gen.frame m ρ

theorem ideal_frame : quiescent_Kernel20Ideal (hKernel20Ideal := Kernel20Ideal.Gen.facts) := fun m ρ _ => Kernel20Ideal.Gen.frame m ρ

theorem reference_frame : quiescent_Reference20Ideal (hReference20Ideal := Reference20Ideal.Gen.facts) := fun m ρ _ =>
  (θ_run Reference20Ideal.defs _ _).mono (fun r h => ⟨fun c => (h c).2.2.2.2, Idealize.ShloMosaic.sem_eq_zero_of_no_sems (by decide) r.2⟩)
    (Reference20Ideal.Value.run (F := Ideal) m ρ)

end Cert.Update.WOut
-- ==== Proof.Update.FWIn.lean ====
module

public import proofs.«01_k».proof.Defs
public import proofs.«01_k».proof.Proof.Update
public import proofs.«01_k».proof.Proof.Gen.Kernel21.Frame
public import proofs.«01_k».proof.Proof.Gen.Kernel21Ideal.Value
public import proofs.«01_k».proof.Proof.Gen.Reference21Ideal.Run
public import Idealize.ShloMosaic.Lib.Quiescent

@[expose] public section

/-! The optimiser's step on the channel mixer's first weight (call `adamw_f_w_in`): blocks of 256 rows of one layer. -/

noncomputable section
namespace Cert.Update.FWIn
open Idealize.ShloMosaic Idealize.ShloMosaic.TcCoe Idealize.SL.Sem
open Cert.Kernel21Ideal Cert.Kernel21Ideal.Gen

theorem pay6_apply (i : grid0.Coords) (h : (i 0).val < 2) (x0 x1 : Vec Ideal S8x256x704 .bf16) (x2 x3 x4 : Vec Ideal S1x256x704 .f32) (a : Fin 256) (b : Fin 704) :
    k0_pay6 (F := Ideal) i x0 x1 x2 x3 x4 (ix3 0 a b) = gradAt x0 x1 (i 0).val a b := by
  pointwise [k0_pay6, k0_pay1, k0_pay2]
  rw [select_layer h]
  unfold gradAt
  rw [Fin.sum_univ_eight, Fin.sum_univ_eight]

theorem pay3_apply (g m : FVec Ideal S1x256x704 .f32) (y) : k0_pay3 (F := Ideal) g m y = moment (g y) (m y) := by
  rfl
theorem pay4_apply (g v : FVec Ideal S1x256x704 .f32) (y) : k0_pay4 (F := Ideal) g v y = spread (g y) (v y) := by
  rfl
theorem pay5_apply (g m v w : FVec Ideal S1x256x704 .f32) (y) : k0_pay5 (F := Ideal) g m v w y = delta (g y) (w y) (m y) (v y) := by
  rfl

/-- Each window's block at a point. -/
theorem idx : ∀ t : Fin cfg0.N, win0_0.index t = ![0, if t.val / 4 = 0 then t.val % 4 else 0, 0] ∧ win0_1.index t = ![0, if t.val / 4 = 1 then t.val % 4 else 0, 0]
    ∧ win0_2.index t = ![t.val / 4, t.val % 4, 0] ∧ win0_3.index t = ![t.val / 4, t.val % 4, 0] ∧ win0_4.index t = ![t.val / 4, t.val % 4, 0]
    ∧ win0_5.index t = ![t.val / 4, t.val % 4, 0] ∧ win0_6.index t = ![t.val / 4, t.val % 4, 0] ∧ win0_7.index t = ![t.val / 4, t.val % 4, 0]
    ∧ win0_8.index t = ![t.val / 4, t.val % 4, 0] :=
  (by decide +kernel : ∀ t : Fin grid0.N, _)

/-- The layer of a point. -/
theorem layer : ∀ t : Fin cfg0.N, (grid0.coords t 0).val = t.val / 4 := (by decide +kernel : ∀ t : Fin grid0.N, _)

variable (m : (ℓ : Loc nD τ sig) → Buf (Elt Ideal) ℓ) (c : Dev nD)

abbrev argA : FVec Ideal S8x1024x704 .bf16 := m ((c.tc : Thread nD τ).loc main_arg0)
abbrev argB : FVec Ideal S8x1024x704 .bf16 := m ((c.tc : Thread nD τ).loc main_arg1)
abbrev argW : FVec Ideal S2x1024x704 .f32 := m ((c.tc : Thread nD τ).loc main_arg2)
abbrev argM : FVec Ideal S2x1024x704 .f32 := m ((c.tc : Thread nD τ).loc main_arg3)
abbrev argV : FVec Ideal S2x1024x704 .f32 := m ((c.tc : Thread nD τ).loc main_arg4)

/-- A point's gradients are its rows of its layer's. -/
theorem grad_block (t : Fin cfg0.N) (y : S1x256x704.Idx) (z : S2x1024x704.Idx) (h0 : (z 0).val = t.val / 4) (h1 : (z 1).val = t.val % 4 * 256 + (y 1).val)
    (h2 : (z 2).val = (y 2).val) :
    k0_pay6 (F := Ideal) (grid0.coords t) (iblk m c 0 t) (iblk m c 1 t) (iblk m c 2 t) (iblk m c 3 t) (iblk m c 4 t) y = grad (argA m c) (argB m c) z := by
  have ht : t.val < 8 := Nat.lt_of_lt_of_eq t.isLt N_0
  refine (congrArg _ (entry y)).trans ((pay6_apply _ (by rw [layer]; omega) _ _ _ _ _ _ _).trans ?_)
  unfold grad gradAt
  rw [layer, h0]
  split
  next h =>
    refine Finset.sum_congr rfl fun s _ => ?_
    blk_ext [iblk, V, idx t, h, h1, h2]
    exact congrArg (· * 256 + (y 1).val) (if_pos trivial)
  next h =>
    refine Finset.sum_congr rfl fun s _ => ?_
    have h' : t.val / 4 = 0 := by omega
    blk_ext [iblk, V, idx t, h', h1, h2]
    exact congrArg (· * 256 + (y 1).val) (if_pos trivial)

theorem result_g : (dats m 0 c).arrAt 5 cfg0.N = grad (argA m c) (argB m c) := by
  refine (dats m 0 c).arrAt_eq_of_covers 5 _ (by decide +kernel) fun t hf y => ?_
  have ht : t.val < 8 := Nat.lt_of_lt_of_eq t.isLt N_0
  blk_simp
  rw [after0_5]
  frame_out
  refine grad_block m c t y _ ?_ ?_ ?_ <;> blk_simp [idx t]

theorem result_d : (dats m 0 c).arrAt 6 cfg0.N = deltas (argA m c) (argB m c) (argW m c) (argM m c) (argV m c) := by
  refine (dats m 0 c).arrAt_eq_of_covers 6 _ (by decide +kernel) fun t hf y => ?_
  have ht : t.val < 8 := Nat.lt_of_lt_of_eq t.isLt N_0
  blk_simp
  rw [after0_6]
  frame_out
  refine (pay5_apply _ _ _ _ _).trans ?_
  unfold deltas
  congr 1
  refine grad_block m c t y _ ?_ ?_ ?_ <;> blk_simp [idx t]

theorem result_m : (dats m 0 c).arrAt 7 cfg0.N = moments (argA m c) (argB m c) (argM m c) := by
  refine (dats m 0 c).arrAt_eq_of_covers 7 _ (by decide +kernel) fun t hf y => ?_
  have ht : t.val < 8 := Nat.lt_of_lt_of_eq t.isLt N_0
  blk_simp
  rw [after0_7]
  frame_out
  refine (pay3_apply _ _ _).trans ?_
  unfold moments
  congr 1
  refine grad_block m c t y _ ?_ ?_ ?_ <;> blk_simp [idx t]

theorem result_v : (dats m 0 c).arrAt 8 cfg0.N = spreads (argA m c) (argB m c) (argV m c) := by
  refine (dats m 0 c).arrAt_eq_of_covers 8 _ (by decide +kernel) fun t hf y => ?_
  have ht : t.val < 8 := Nat.lt_of_lt_of_eq t.isLt N_0
  blk_simp
  rw [after0_8]
  frame_out
  refine (pay4_apply _ _ _).trans ?_
  unfold spreads
  congr 1
  refine grad_block m c t y _ ?_ ?_ ?_ <;> blk_simp [idx t]

/-! ### The reference -/

/-- One layer's gradient in the reference: the sum over the examples. -/
def refS (a : FVec Ideal S8x1024x704 .bf16) : FVec Ideal Reference21Ideal.S1x1024x704 .f32 :=
  broadcastInDim Reference21Ideal.S1x1024x704 ![1, 2] Reference21Ideal.Gen.bcast_S1024x704_S1x1024x704_1_2
    (Host.reduceAdd (extf .f32 a Reference21Ideal.Gen.bitsLt_bf16_f32) (constant Reference21Ideal.S_ .f32 0x00000000#32)
      Reference21Ideal.Gen.reducesTo_S8x1024x704_S1024x704_d0 Reference21Ideal.Gen.h_S_)

theorem refS_apply (a : FVec Ideal S8x1024x704 .bf16) (i : Fin 1024) (j : Fin 704) : refS a (ix3 0 i j) = ∑ s : Fin 8, (a (ix3 s i j) : EReal) := by
  pointwise [refS]

/-- The stack of the two layers' gradients. -/
def refG (a b : FVec Ideal S8x1024x704 .bf16) : FVec Ideal S2x1024x704 .f32 :=
  concatenate S2x1024x704 0 [⟨Reference21Ideal.S1x1024x704, refS a⟩, ⟨Reference21Ideal.S1x1024x704, refS b⟩]
    Reference21Ideal.Gen.concatenates_S1x1024x704_S1x1024x704_S2x1024x704_d0

theorem refG_apply (a b : FVec Ideal S8x1024x704 .bf16) (l : Fin 2) (i : Fin 1024) (j : Fin 704) : refG a b (ix3 l i j) = gradAt a b l i j := by
  unfold gradAt
  rw [← refS_apply, ← refS_apply]
  match l with
  | ⟨0, _⟩ => pointwise [refG]
  | ⟨1, _⟩ => pointwise [refG]

theorem refG_eq (a b : FVec Ideal S8x1024x704 .bf16) : refG a b = grad a b := by
  funext y
  exact (congrArg _ (entry_layers y)).trans (refG_apply a b (y 0) (y 1) (y 2))

theorem algebraic : algebraic_Kernel21Ideal_Reference21Ideal (hKernel21Ideal := Kernel21Ideal.Gen.facts) (hReference21Ideal := Reference21Ideal.Gen.facts) := by
  intro m ρ m' ρ' _ hagree
  refine ⟨fun c => grad (argA m c) (argB m c), fun c => deltas (argA m c) (argB m c) (argW m c) (argM m c) (argV m c),
    fun c => moments (argA m c) (argB m c) (argM m c), fun c => spreads (argA m c) (argB m c) (argV m c), ?_, ?_⟩
  · exact (θ_run _ _ _).mono (fun r h c => ⟨(h c).1.trans (result_g m c), (h c).2.1.trans (result_d m c), (h c).2.2.1.trans (result_m m c),
      (h c).2.2.2.1.trans (result_v m c), (h c).2.2.2.2⟩) (Kernel21Ideal.Value.run_blocks (F := Ideal) m ρ)
  · refine (θ_run _ _ _).mono (fun r h c => ?_) (Reference21Ideal.Value.run (F := Ideal) m' ρ')
    obtain ⟨a0, a1, a2, a3, a4⟩ := hagree c
    obtain ⟨h1, h2, h3, h4, h5⟩ := h c
    have hg := (congr (congrArg refG a0) a1).trans (refG_eq (argA m c) (argB m c))
    refine ⟨h1.trans (Eq.trans (b := refG _ _) rfl hg), h2.trans (funext fun y => ?_), h3.trans (funext fun y => ?_), h4.trans (funext fun y => ?_), h5⟩
    · refine Eq.trans (b := delta (refG _ _ y) _ _ _) rfl ?_
      exact congr (congr (congr (congrArg delta (congrFun hg y)) (congrFun a2 y)) (congrFun a3 y)) (congrFun a4 y)
    · refine Eq.trans (b := moment (refG _ _ y) _) rfl ?_
      exact congr (congrArg moment (congrFun hg y)) (congrFun a3 y)
    · refine Eq.trans (b := spread (refG _ _ y) _) rfl ?_
      exact congr (congrArg spread (congrFun hg y)) (congrFun a4 y)

theorem kernel_frame : quiescent_Kernel21 (hKernel21 := Kernel21.Gen.facts) := fun m ρ _ => Kernel21.Gen.frame m ρ

theorem ideal_frame : quiescent_Kernel21Ideal (hKernel21Ideal := Kernel21Ideal.Gen.facts) := fun m ρ _ => Kernel21Ideal.Gen.frame m ρ

theorem reference_frame : quiescent_Reference21Ideal (hReference21Ideal := Reference21Ideal.Gen.facts) := fun m ρ _ =>
  (θ_run Reference21Ideal.defs _ _).mono (fun r h => ⟨fun c => (h c).2.2.2.2, Idealize.ShloMosaic.sem_eq_zero_of_no_sems (by decide) r.2⟩)
    (Reference21Ideal.Value.run (F := Ideal) m ρ)

end Cert.Update.FWIn
-- ==== Proof.Update.FWOut.lean ====
module

public import proofs.«01_k».proof.Defs
public import proofs.«01_k».proof.Proof.Update
public import proofs.«01_k».proof.Proof.Gen.Kernel22.Frame
public import proofs.«01_k».proof.Proof.Gen.Kernel22Ideal.Value
public import proofs.«01_k».proof.Proof.Gen.Reference22Ideal.Run
public import Idealize.ShloMosaic.Lib.Quiescent

@[expose] public section

/-! The optimiser's step on the channel mixer's second weight (call `adamw_f_w_out`): a layer is one block. -/

noncomputable section
namespace Cert.Update.FWOut
open Idealize.ShloMosaic Idealize.ShloMosaic.TcCoe Idealize.SL.Sem
open Cert.Kernel22Ideal Cert.Kernel22Ideal.Gen

theorem pay6_apply (i : grid0.Coords) (h : (i 0).val < 2) (x0 x1 : Vec Ideal S8x352x1024 .bf16) (x2 x3 x4 : Vec Ideal S1x352x1024 .f32) (a : Fin 352) (b : Fin 1024) :
    k0_pay6 (F := Ideal) i x0 x1 x2 x3 x4 (ix3 0 a b) = gradAt x0 x1 (i 0).val a b := by
  pointwise [k0_pay6, k0_pay1, k0_pay2]
  rw [select_layer h]
  unfold gradAt
  rw [Fin.sum_univ_eight, Fin.sum_univ_eight]

theorem pay3_apply (g m : FVec Ideal S1x352x1024 .f32) (y) : k0_pay3 (F := Ideal) g m y = moment (g y) (m y) := by
  rfl
theorem pay4_apply (g v : FVec Ideal S1x352x1024 .f32) (y) : k0_pay4 (F := Ideal) g v y = spread (g y) (v y) := by
  rfl
theorem pay5_apply (g m v w : FVec Ideal S1x352x1024 .f32) (y) : k0_pay5 (F := Ideal) g m v w y = delta (g y) (w y) (m y) (v y) := by
  rfl

/-- Each window's block at a point. -/
theorem idx : ∀ t : Fin cfg0.N, win0_0.index t = ![0, 0, 0] ∧ win0_1.index t = ![0, 0, 0] ∧ win0_2.index t = ![t.val, 0, 0] ∧ win0_3.index t = ![t.val, 0, 0]
    ∧ win0_4.index t = ![t.val, 0, 0] ∧ win0_5.index t = ![t.val, 0, 0] ∧ win0_6.index t = ![t.val, 0, 0] ∧ win0_7.index t = ![t.val, 0, 0]
    ∧ win0_8.index t = ![t.val, 0, 0] :=
  (by decide +kernel : ∀ t : Fin grid0.N, _)

/-- The layer of a point. -/
theorem layer : ∀ t : Fin cfg0.N, (grid0.coords t 0).val = t.val := (by decide +kernel : ∀ t : Fin grid0.N, _)

variable (m : (ℓ : Loc nD τ sig) → Buf (Elt Ideal) ℓ) (c : Dev nD)

abbrev argA : FVec Ideal S8x352x1024 .bf16 := m ((c.tc : Thread nD τ).loc main_arg0)
abbrev argB : FVec Ideal S8x352x1024 .bf16 := m ((c.tc : Thread nD τ).loc main_arg1)
abbrev argW : FVec Ideal S2x352x1024 .f32 := m ((c.tc : Thread nD τ).loc main_arg2)
abbrev argM : FVec Ideal S2x352x1024 .f32 := m ((c.tc : Thread nD τ).loc main_arg3)
abbrev argV : FVec Ideal S2x352x1024 .f32 := m ((c.tc : Thread nD τ).loc main_arg4)

/-- A point's gradients are its layer's. -/
theorem grad_block (t : Fin cfg0.N) (y : S1x352x1024.Idx) (z : S2x352x1024.Idx) (h0 : (z 0).val = t.val) (h1 : (z 1).val = (y 1).val) (h2 : (z 2).val = (y 2).val) :
    k0_pay6 (F := Ideal) (grid0.coords t) (iblk m c 0 t) (iblk m c 1 t) (iblk m c 2 t) (iblk m c 3 t) (iblk m c 4 t) y = grad (argA m c) (argB m c) z := by
  have ht : t.val < 2 := Nat.lt_of_lt_of_eq t.isLt N_0
  refine (congrArg _ (entry y)).trans ((pay6_apply _ (by rw [layer]; omega) _ _ _ _ _ _ _).trans ?_)
  unfold grad gradAt
  rw [layer, h0]
  refine if_congr Iff.rfl (Finset.sum_congr rfl fun s _ => ?_) (Finset.sum_congr rfl fun s _ => ?_)
  · blk_ext [iblk, V, idx t, h1, h2]
  · blk_ext [iblk, V, idx t, h1, h2]

theorem result_g : (dats m 0 c).arrAt 5 cfg0.N = grad (argA m c) (argB m c) := by
  refine (dats m 0 c).arrAt_eq_of_covers 5 _ (by decide +kernel) fun t hf y => ?_
  have ht : t.val < 2 := Nat.lt_of_lt_of_eq t.isLt N_0
  blk_simp
  rw [after0_5]
  frame_out
  refine grad_block m c t y _ ?_ ?_ ?_ <;> blk_simp [idx t]

theorem result_d : (dats m 0 c).arrAt 6 cfg0.N = deltas (argA m c) (argB m c) (argW m c) (argM m c) (argV m c) := by
  refine (dats m 0 c).arrAt_eq_of_covers 6 _ (by decide +kernel) fun t hf y => ?_
  have ht : t.val < 2 := Nat.lt_of_lt_of_eq t.isLt N_0
  blk_simp
  rw [after0_6]
  frame_out
  refine (pay5_apply _ _ _ _ _).trans ?_
  unfold deltas
  congr 1
  refine grad_block m c t y _ ?_ ?_ ?_ <;> blk_simp [idx t]

theorem result_m : (dats m 0 c).arrAt 7 cfg0.N = moments (argA m c) (argB m c) (argM m c) := by
  refine (dats m 0 c).arrAt_eq_of_covers 7 _ (by decide +kernel) fun t hf y => ?_
  have ht : t.val < 2 := Nat.lt_of_lt_of_eq t.isLt N_0
  blk_simp
  rw [after0_7]
  frame_out
  refine (pay3_apply _ _ _).trans ?_
  unfold moments
  congr 1
  refine grad_block m c t y _ ?_ ?_ ?_ <;> blk_simp [idx t]

theorem result_v : (dats m 0 c).arrAt 8 cfg0.N = spreads (argA m c) (argB m c) (argV m c) := by
  refine (dats m 0 c).arrAt_eq_of_covers 8 _ (by decide +kernel) fun t hf y => ?_
  have ht : t.val < 2 := Nat.lt_of_lt_of_eq t.isLt N_0
  blk_simp
  rw [after0_8]
  frame_out
  refine (pay4_apply _ _ _).trans ?_
  unfold spreads
  congr 1
  refine grad_block m c t y _ ?_ ?_ ?_ <;> blk_simp [idx t]

/-! ### The reference -/

/-- One layer's gradient in the reference: the sum over the examples. -/
def refS (a : FVec Ideal S8x352x1024 .bf16) : FVec Ideal Reference22Ideal.S1x352x1024 .f32 :=
  broadcastInDim Reference22Ideal.S1x352x1024 ![1, 2] Reference22Ideal.Gen.bcast_S352x1024_S1x352x1024_1_2
    (Host.reduceAdd (extf .f32 a Reference22Ideal.Gen.bitsLt_bf16_f32) (constant Reference22Ideal.S_ .f32 0x00000000#32)
      Reference22Ideal.Gen.reducesTo_S8x352x1024_S352x1024_d0 Reference22Ideal.Gen.h_S_)

theorem refS_apply (a : FVec Ideal S8x352x1024 .bf16) (i : Fin 352) (j : Fin 1024) : refS a (ix3 0 i j) = ∑ s : Fin 8, (a (ix3 s i j) : EReal) := by
  pointwise [refS]

/-- The stack of the two layers' gradients. -/
def refG (a b : FVec Ideal S8x352x1024 .bf16) : FVec Ideal S2x352x1024 .f32 :=
  concatenate S2x352x1024 0 [⟨Reference22Ideal.S1x352x1024, refS a⟩, ⟨Reference22Ideal.S1x352x1024, refS b⟩]
    Reference22Ideal.Gen.concatenates_S1x352x1024_S1x352x1024_S2x352x1024_d0

theorem refG_apply (a b : FVec Ideal S8x352x1024 .bf16) (l : Fin 2) (i : Fin 352) (j : Fin 1024) : refG a b (ix3 l i j) = gradAt a b l i j := by
  unfold gradAt
  rw [← refS_apply, ← refS_apply]
  match l with
  | ⟨0, _⟩ => pointwise [refG]
  | ⟨1, _⟩ => pointwise [refG]

theorem refG_eq (a b : FVec Ideal S8x352x1024 .bf16) : refG a b = grad a b := by
  funext y
  exact (congrArg _ (entry_layers y)).trans (refG_apply a b (y 0) (y 1) (y 2))

theorem algebraic : algebraic_Kernel22Ideal_Reference22Ideal (hKernel22Ideal := Kernel22Ideal.Gen.facts) (hReference22Ideal := Reference22Ideal.Gen.facts) := by
  intro m ρ m' ρ' _ hagree
  refine ⟨fun c => grad (argA m c) (argB m c), fun c => deltas (argA m c) (argB m c) (argW m c) (argM m c) (argV m c),
    fun c => moments (argA m c) (argB m c) (argM m c), fun c => spreads (argA m c) (argB m c) (argV m c), ?_, ?_⟩
  · exact (θ_run _ _ _).mono (fun r h c => ⟨(h c).1.trans (result_g m c), (h c).2.1.trans (result_d m c), (h c).2.2.1.trans (result_m m c),
      (h c).2.2.2.1.trans (result_v m c), (h c).2.2.2.2⟩) (Kernel22Ideal.Value.run_blocks (F := Ideal) m ρ)
  · refine (θ_run _ _ _).mono (fun r h c => ?_) (Reference22Ideal.Value.run (F := Ideal) m' ρ')
    obtain ⟨a0, a1, a2, a3, a4⟩ := hagree c
    obtain ⟨h1, h2, h3, h4, h5⟩ := h c
    have hg := (congr (congrArg refG a0) a1).trans (refG_eq (argA m c) (argB m c))
    refine ⟨h1.trans (Eq.trans (b := refG _ _) rfl hg), h2.trans (funext fun y => ?_), h3.trans (funext fun y => ?_), h4.trans (funext fun y => ?_), h5⟩
    · refine Eq.trans (b := delta (refG _ _ y) _ _ _) rfl ?_
      exact congr (congr (congr (congrArg delta (congrFun hg y)) (congrFun a2 y)) (congrFun a3 y)) (congrFun a4 y)
    · refine Eq.trans (b := moment (refG _ _ y) _) rfl ?_
      exact congr (congrArg moment (congrFun hg y)) (congrFun a3 y)
    · refine Eq.trans (b := spread (refG _ _ y) _) rfl ?_
      exact congr (congrArg spread (congrFun hg y)) (congrFun a4 y)

theorem kernel_frame : quiescent_Kernel22 (hKernel22 := Kernel22.Gen.facts) := fun m ρ _ => Kernel22.Gen.frame m ρ

theorem ideal_frame : quiescent_Kernel22Ideal (hKernel22Ideal := Kernel22Ideal.Gen.facts) := fun m ρ _ => Kernel22Ideal.Gen.frame m ρ

theorem reference_frame : quiescent_Reference22Ideal (hReference22Ideal := Reference22Ideal.Gen.facts) := fun m ρ _ =>
  (θ_run Reference22Ideal.defs _ _).mono (fun r h => ⟨fun c => (h c).2.2.2.2, Idealize.ShloMosaic.sem_eq_zero_of_no_sems (by decide) r.2⟩)
    (Reference22Ideal.Value.run (F := Ideal) m ρ)

end Cert.Update.FWOut
-- ==== Proof.Update.Small.lean ====
module

public import proofs.«01_k».proof.Defs
public import proofs.«01_k».proof.Proof.Update
public import proofs.«01_k».proof.Proof.Gen.Kernel23.Frame
public import proofs.«01_k».proof.Proof.Gen.Kernel23Ideal.Value
public import proofs.«01_k».proof.Proof.Gen.Reference23Ideal.Run
public import Idealize.ShloMosaic.Lib.Quiescent

@[expose] public section

/-! The optimiser's step on the small weights, packed in one array (call `adamw_small`): one block. -/

noncomputable section
namespace Cert.Update.Small
open Idealize.ShloMosaic Idealize.ShloMosaic.TcCoe Idealize.SL.Sem
open Cert.Kernel23Ideal Cert.Kernel23Ideal.Gen

theorem pay1_apply (g : FVec Ideal S1x32x1024 .f32) (a : Fin 32) (b : Fin 1024) : k0_pay1 (F := Ideal) g (ix3 0 a b) = g (ix3 0 a b) := by
  pointwise [k0_pay1]
theorem pay1_eq (g : FVec Ideal S1x32x1024 .f32) : k0_pay1 (F := Ideal) g = g := by
  funext y
  exact (congrArg _ (entry y)).trans ((pay1_apply g _ _).trans (congrArg _ (entry y).symm))
theorem pay2_apply (g m : FVec Ideal S1x32x1024 .f32) (y) : k0_pay2 (F := Ideal) g m y = moment (g y) (m y) := by
  refine Eq.trans (b := moment (k0_pay1 (F := Ideal) g y) (m y)) rfl ?_
  rw [pay1_eq]
theorem pay3_apply (g v : FVec Ideal S1x32x1024 .f32) (y) : k0_pay3 (F := Ideal) g v y = spread (g y) (v y) := by
  refine Eq.trans (b := spread (k0_pay1 (F := Ideal) g y) (v y)) rfl ?_
  rw [pay1_eq]
theorem pay4_apply (g m v w : FVec Ideal S1x32x1024 .f32) (y) : k0_pay4 (F := Ideal) g m v w y = delta (g y) (w y) (m y) (v y) := by
  refine Eq.trans (b := delta (k0_pay1 (F := Ideal) g y) (w y) (m y) (v y)) rfl ?_
  rw [pay1_eq]

/-- Each window's block at the point. -/
theorem idx : ∀ t : Fin cfg0.N, win0_0.index t = ![0, 0, 0] ∧ win0_1.index t = ![0, 0, 0] ∧ win0_2.index t = ![0, 0, 0] ∧ win0_3.index t = ![0, 0, 0]
    ∧ win0_4.index t = ![0, 0, 0] ∧ win0_5.index t = ![0, 0, 0] ∧ win0_6.index t = ![0, 0, 0] ∧ win0_7.index t = ![0, 0, 0] :=
  (by decide +kernel : ∀ t : Fin grid0.N, _)

variable (m : (ℓ : Loc nD τ sig) → Buf (Elt Ideal) ℓ) (c : Dev nD)

abbrev argG : FVec Ideal S1x32x1024 .f32 := m ((c.tc : Thread nD τ).loc main_arg0)
abbrev argW : FVec Ideal S1x32x1024 .f32 := m ((c.tc : Thread nD τ).loc main_arg1)
abbrev argM : FVec Ideal S1x32x1024 .f32 := m ((c.tc : Thread nD τ).loc main_arg2)
abbrev argV : FVec Ideal S1x32x1024 .f32 := m ((c.tc : Thread nD τ).loc main_arg3)

theorem result_g : (dats m 0 c).arrAt 4 cfg0.N = argG m c := by
  refine (dats m 0 c).arrAt_eq_of_covers 4 _ (by decide +kernel) fun t hf y => ?_
  blk_simp
  rw [after0_4]
  frame_out
  refine (congrFun (pay1_eq _) y).trans ?_
  blk_ext [iblk, V, idx t]

theorem result_d : (dats m 0 c).arrAt 5 cfg0.N = fun y => delta (argG m c y) (argW m c y) (argM m c y) (argV m c y) := by
  refine (dats m 0 c).arrAt_eq_of_covers 5 _ (by decide +kernel) fun t hf y => ?_
  blk_simp
  rw [after0_5]
  frame_out
  refine (pay4_apply _ _ _ _ y).trans ?_
  congr 1 <;> blk_ext [iblk, V, idx t]

theorem result_m : (dats m 0 c).arrAt 6 cfg0.N = fun y => moment (argG m c y) (argM m c y) := by
  refine (dats m 0 c).arrAt_eq_of_covers 6 _ (by decide +kernel) fun t hf y => ?_
  blk_simp
  rw [after0_6]
  frame_out
  refine (pay2_apply _ _ y).trans ?_
  congr 1 <;> blk_ext [iblk, V, idx t]

theorem result_v : (dats m 0 c).arrAt 7 cfg0.N = fun y => spread (argG m c y) (argV m c y) := by
  refine (dats m 0 c).arrAt_eq_of_covers 7 _ (by decide +kernel) fun t hf y => ?_
  blk_simp
  rw [after0_7]
  frame_out
  refine (pay3_apply _ _ y).trans ?_
  congr 1 <;> blk_ext [iblk, V, idx t]

/-! ### The reference -/

/-- The reference's sum over the one packed gradient. -/
def refG (g : FVec Ideal S1x32x1024 .f32) : FVec Ideal S1x32x1024 .f32 :=
  broadcastInDim Reference23Ideal.S1x32x1024 ![1, 2] Reference23Ideal.Gen.bcast_S32x1024_S1x32x1024_1_2
    (Host.reduceAdd g (constant Reference23Ideal.S_ .f32 0x00000000#32) Reference23Ideal.Gen.reducesTo_S1x32x1024_S32x1024_d0 Reference23Ideal.Gen.h_S_)

theorem refG_apply (g : FVec Ideal S1x32x1024 .f32) (i : Fin 32) (j : Fin 1024) : refG g (ix3 0 i j) = g (ix3 0 i j) := by
  pointwise [refG]
  exact Fin.sum_univ_one _

theorem refG_eq (g : FVec Ideal S1x32x1024 .f32) : refG g = g := by
  funext y
  exact (congrArg _ (entry y)).trans ((refG_apply g _ _).trans (congrArg _ (entry y).symm))

theorem algebraic : algebraic_Kernel23Ideal_Reference23Ideal (hKernel23Ideal := Kernel23Ideal.Gen.facts) (hReference23Ideal := Reference23Ideal.Gen.facts) := by
  intro m ρ m' ρ' _ hagree
  refine ⟨fun c => argG m c, fun c y => delta (argG m c y) (argW m c y) (argM m c y) (argV m c y),
    fun c y => moment (argG m c y) (argM m c y), fun c y => spread (argG m c y) (argV m c y), ?_, ?_⟩
  · exact (θ_run _ _ _).mono (fun r h c => ⟨(h c).1.trans (result_g m c), (h c).2.1.trans (result_d m c), (h c).2.2.1.trans (result_m m c),
      (h c).2.2.2.1.trans (result_v m c), (h c).2.2.2.2⟩) (Kernel23Ideal.Value.run_blocks (F := Ideal) m ρ)
  · refine (θ_run _ _ _).mono (fun r h c => ?_) (Reference23Ideal.Value.run (F := Ideal) m' ρ')
    obtain ⟨a0, a1, a2, a3⟩ := hagree c
    obtain ⟨h1, h2, h3, h4, h5⟩ := h c
    have hg := (congrArg refG a0).trans (refG_eq (argG m c))
    refine ⟨h1.trans (Eq.trans (b := refG _) rfl hg), h2.trans (funext fun y => ?_), h3.trans (funext fun y => ?_), h4.trans (funext fun y => ?_), h5⟩
    · refine Eq.trans (b := delta (refG _ y) _ _ _) rfl ?_
      exact congr (congr (congr (congrArg delta (congrFun hg y)) (congrFun a1 y)) (congrFun a2 y)) (congrFun a3 y)
    · refine Eq.trans (b := moment (refG _ y) _) rfl ?_
      exact congr (congrArg moment (congrFun hg y)) (congrFun a2 y)
    · refine Eq.trans (b := spread (refG _ y) _) rfl ?_
      exact congr (congrArg spread (congrFun hg y)) (congrFun a3 y)

theorem kernel_frame : quiescent_Kernel23 (hKernel23 := Kernel23.Gen.facts) := fun m ρ _ => Kernel23.Gen.frame m ρ

theorem ideal_frame : quiescent_Kernel23Ideal (hKernel23Ideal := Kernel23Ideal.Gen.facts) := fun m ρ _ => Kernel23Ideal.Gen.frame m ρ

theorem reference_frame : quiescent_Reference23Ideal (hReference23Ideal := Reference23Ideal.Gen.facts) := fun m ρ _ =>
  (θ_run Reference23Ideal.defs _ _).mono (fun r h => ⟨fun c => (h c).2.2.2.2, Idealize.ShloMosaic.sem_eq_zero_of_no_sems (by decide) r.2⟩)
    (Reference23Ideal.Value.run (F := Ideal) m ρ)

end Cert.Update.Small
-- ==== Proof.Update.Slots.lean ====
module

public import proofs.«01_k».proof.Defs
public import proofs.«01_k».proof.Proof.Products
public import proofs.«01_k».proof.Proof.Gen.Kernel24.Frame
public import proofs.«01_k».proof.Proof.Gen.Kernel24Ideal.Value
public import proofs.«01_k».proof.Proof.Gen.Reference24Ideal.Run
public import Idealize.ShloMosaic.Lib.Quiescent

@[expose] public section

/-! The sum of the small weights' gradients over the devices (call `sum_small_grads`): one block. -/

noncomputable section
namespace Cert.Update.Slots
open Idealize.ShloMosaic Idealize.ShloMosaic.TcCoe Idealize.SL.Sem
open Cert.Kernel24Ideal Cert.Kernel24Ideal.Gen

/-- The eight terms in the order in which the kernel adds them. -/
def eight (g : FVec Ideal S8x64x1024 .f32) : FVec Ideal S64x1024 .f32 := fun y => ∑ s : Fin 8, (g (ix3 s (y 0) (y 1)) : EReal)

theorem out_apply (g : Vec Ideal S8x64x1024 .f32) (i : Fin 64) (j : Fin 1024) :
    k0_pay1 (F := Ideal) (View.ld g r0_0) (View.ld g r0_1) (View.ld g r0_2) (View.ld g r0_3) (View.ld g r0_4) (View.ld g r0_5) (View.ld g r0_6)
      (View.ld g r0_7) (ix2 i j) = ∑ s : Fin 8, (g (ix3 s i j) : EReal) := by
  pointwise [k0_pay1]
  rw [Fin.sum_univ_eight]

/-- Each window's block at the point. -/
theorem idx : ∀ t : Fin cfg0.N, win0_0.index t = ![0, 0, 0] ∧ win0_1.index t = ![0, 0] :=
  (by decide +kernel : ∀ t : Fin grid0.N, _)

variable (m : (ℓ : Loc nD τ sig) → Buf (Elt Ideal) ℓ) (c : Dev nD)

abbrev argG : FVec Ideal S8x64x1024 .f32 := m ((c.tc : Thread nD τ).loc main_arg0)

theorem result : (dats m 0 c).arrAt 1 cfg0.N = eight (argG m c) := by
  refine (dats m 0 c).arrAt_eq_of_covers 1 _ (by decide +kernel) fun t hf y => ?_
  blk_simp
  rw [after0_1]
  frame_out
  refine (congrArg _ (Products.eta y)).trans ((out_apply _ _ _).trans ?_)
  unfold eight
  refine Finset.sum_congr rfl fun s _ => ?_
  blk_ext [iblk, V, idx t]

theorem reference (g : FVec Ideal S8x64x1024 .f32) : Host.reduceAdd g (constant Reference24Ideal.S_ .f32 0x00000000#32)
    Reference24Ideal.Gen.reducesTo_S8x64x1024_S64x1024_d0 Reference24Ideal.Gen.h_S_ = eight g := by
  funext y
  refine (congrArg _ (Products.eta y)).trans ?_
  unfold eight
  pointwise []

theorem algebraic : algebraic_Kernel24Ideal_Reference24Ideal (hKernel24Ideal := Kernel24Ideal.Gen.facts) (hReference24Ideal := Reference24Ideal.Gen.facts) := by
  intro m ρ m' ρ' _ hagree
  refine ⟨fun c => eight (argG m c), ?_, ?_⟩
  · exact (θ_run _ _ _).mono (fun r h c => ⟨(h c).1.trans (result m c), (h c).2⟩) (Kernel24Ideal.Value.run_blocks (F := Ideal) m ρ)
  · refine (θ_run _ _ _).mono (fun r h c => ⟨(h c).1.trans ?_, (h c).2⟩) (Reference24Ideal.Value.run (F := Ideal) m' ρ')
    exact (reference _).trans (congrArg eight (hagree c))

theorem kernel_frame : quiescent_Kernel24 (hKernel24 := Kernel24.Gen.facts) := fun m ρ _ => Kernel24.Gen.frame m ρ

theorem ideal_frame : quiescent_Kernel24Ideal (hKernel24Ideal := Kernel24Ideal.Gen.facts) := fun m ρ _ => Kernel24Ideal.Gen.frame m ρ

theorem reference_frame : quiescent_Reference24Ideal (hReference24Ideal := Reference24Ideal.Gen.facts) := fun m ρ _ =>
  (θ_run Reference24Ideal.defs _ _).mono (fun r h => ⟨fun c => (h c).2, Idealize.ShloMosaic.sem_eq_zero_of_no_sems (by decide) r.2⟩)
    (Reference24Ideal.Value.run (F := Ideal) m ρ)

end Cert.Update.Slots
-- ==== Proof.Update.Rows.lean ====
module

public import proofs.«01_k».proof.Proof.Products
public import Idealize.ShloMosaic.Lib.IdealHost

@[expose] public section

/-! Sums over the 8192 positions, taken 512 at a time, and the mean over the 1024 features of a row. -/

noncomputable section
namespace Cert.Update.Rows
open Idealize.ShloMosaic

theorem bits_n : Ideal.ofBits FTy.f32 0x44800000#32 = ((1024 : ℝ) : EReal) := by
  simp [Ideal.ofBits, Ideal.ieee, -EReal.coe_mul]; norm_num

theorem bits_inv : Ideal.ofBits FTy.f32 0x3A800000#32 = ((1 / 1024 : ℝ) : EReal) := by
  simp [Ideal.ofBits, Ideal.ieee, -EReal.coe_mul]; norm_num

theorem bits_half : Ideal.ofBits FTy.f32 0x3F000000#32 = ((1 / 2 : ℝ) : EReal) := by
  simp [Ideal.ofBits, Ideal.ieee, -EReal.coe_mul]; norm_num

theorem bits_two : Ideal.ofBits FTy.f32 0x40000000#32 = ((2 : ℝ) : EReal) := by
  simp [Ideal.ofBits, Ideal.ieee, -EReal.coe_mul]; norm_num

/-- Dividing by the number of features is multiplying by its inverse. -/
theorem div_n (x : EReal) : Ideal.div x (Ideal.ofBits FTy.f32 0x44800000#32) = x * Ideal.ofBits FTy.f32 0x3A800000#32 := by
  rw [bits_n, bits_inv, Ideal.div_coe (by norm_num)]

/-- A value of a row, by the row's number; zero past the last row. -/
def at' {R : ℕ} (f : Fin R → EReal) (n : ℕ) : EReal := if h : n < R then f ⟨n, h⟩ else 0

theorem sum_at {R : ℕ} (f : Fin R → EReal) : ∑ n ∈ Finset.range R, at' f n = ∑ n, f n := by
  rw [Finset.sum_range]
  exact Finset.sum_congr rfl fun n _ => dif_pos n.isLt

/-- One more block of 512 rows. -/
theorem sum_step (f : ℕ → EReal) (t : ℕ) : ∑ n ∈ Finset.range ((t + 1) * 512), f n = (∑ n ∈ Finset.range (t * 512), f n) + ∑ i : Fin 512, f (t * 512 + i) := by
  rw [Nat.succ_mul, Finset.sum_range_add, Finset.sum_range (fun x => f (t * 512 + x))]

/-- Half of a sum is the sum of the halves, at the infinities too. -/
theorem half_add (a b : EReal) : Ideal.ofBits FTy.f32 0x3F000000#32 * (a + b) = Ideal.ofBits FTy.f32 0x3F000000#32 * a + Ideal.ofBits FTy.f32 0x3F000000#32 * b := by
  rw [bits_half]
  exact EReal.left_distrib_of_nonneg_of_ne_top (by exact_mod_cast (by norm_num : (0 : ℝ) ≤ 1 / 2)) (EReal.coe_ne_top _) a b

end Cert.Update.Rows
-- ==== Proof.Update.Norm.lean ====
module

public import proofs.«01_k».proof.Defs
public import proofs.«01_k».proof.Proof.Consts
public import proofs.«01_k».proof.Proof.Update.Rows
public import proofs.«01_k».proof.Proof.Gen.Kernel25.Frame
public import proofs.«01_k».proof.Proof.Gen.Kernel25Ideal.Value
public import proofs.«01_k».proof.Proof.Gen.Reference25Ideal.Run
public import Idealize.ShloMosaic.Lib.Quiescent

@[expose] public section

/-! The gradient of a normalised residual (call `l0_pre_b`): the residual's, block by block, and the gain's, added up over blocks of 512 positions. -/

noncomputable section
namespace Cert.Update.Norm
open Idealize.ShloMosaic Idealize.ShloMosaic.TcCoe Idealize.SL.Sem Cert.Products
open Cert.Kernel25Ideal Cert.Kernel25Ideal.Gen
open Cert.Update.Rows

/-- A row's mean square, with the small constant. -/
def square {A : ℕ} (x : M A 1024 .f32) (n : Fin A) : EReal :=
  (∑ k : Fin 1024, (x (ix2 n k) : EReal) * x (ix2 n k)) * Ideal.ofBits FTy.f32 0x3A800000#32 + Ideal.ofBits FTy.f32 0x358637BD#32

/-- What the gradient of a row's mean square puts on each of its entries. -/
def back {A : ℕ} (x : M A 1024 .f32) (g : M 1 1024 .f32) (h : M A 1024 .f32) (n : Fin A) : EReal :=
  (∑ k : Fin 1024, (x (ix2 n k) : EReal) * (h (ix2 n k) * g (ix2 0 k)))
    * (Ideal.ofBits FTy.f32 0xBF000000#32 * Ideal.div (Ideal.rsqrt (square x n)) (square x n)) * Ideal.ofBits FTy.f32 0x3A800000#32

/-- The residual's gradient at an entry. -/
def resid {A : ℕ} (x : M A 1024 .f32) (g : M 1 1024 .f32) (d h : M A 1024 .f32) (n : Fin A) (j : Fin 1024) : EReal :=
  (d (ix2 n j) : EReal) + (h (ix2 n j) : EReal) * g (ix2 0 j) * Ideal.rsqrt (square x n) + (x (ix2 n j) : EReal) * back x g h n + back x g h n * x (ix2 n j)

/-- What a row adds to the gain's gradient. -/
def gain {A : ℕ} (x h : M A 1024 .f32) (j : Fin 1024) (n : Fin A) : EReal := (x (ix2 n j) : EReal) * Ideal.rsqrt (square x n) * h (ix2 n j)

theorem pay2_apply (x : FVec Ideal S512x1024 .f32) (i : Fin 512) (u : Fin 1) : k0_pay2 (F := Ideal) x (ix2 i u) = square x i := by
  unfold square
  pointwise [k0_pay2]

theorem pay3_apply (x : FVec Ideal S512x1024 .f32) (i : Fin 512) (u : Fin 1) : k0_pay3 (F := Ideal) x (ix2 i u) = Ideal.rsqrt (square x i) := by
  refine Eq.trans (b := Ideal.rsqrt (k0_pay2 (F := Ideal) x (ix2 i u))) rfl ?_
  rw [pay2_apply]

theorem pay4_apply (x h : FVec Ideal S512x1024 .f32) (u : Fin 1) (j : Fin 1024) : k0_pay4 (F := Ideal) x h (ix2 u j) = ∑ n : Fin 512, gain x h j n := by
  unfold gain
  simp only [← pay3_apply x _ 0]
  pointwise [k0_pay4]

theorem pay5_apply (x : FVec Ideal S512x1024 .f32) (g : FVec Ideal S1x1024 .f32) (d h : FVec Ideal S512x1024 .f32) (i : Fin 512) (j : Fin 1024) :
    k0_pay5 (F := Ideal) x g d h (ix2 i j) = resid x g d h i j := by
  unfold resid back
  pointwise [k0_pay5]
  simp only [Fin.sum_univ_one, pay3_apply, pay2_apply]

/-- Each window's block at a point. -/
theorem idx : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![0, 0] :=
  (by decide +kernel : ∀ t : Fin grid0.N, _)

variable (m : (ℓ : Loc nD τ sig) → Buf (Elt Ideal) ℓ) (c : Dev nD)

abbrev argX : FVec Ideal S8192x1024 .f32 := m ((c.tc : Thread nD τ).loc main_arg0)
abbrev argG : FVec Ideal S1x1024 .f32 := m ((c.tc : Thread nD τ).loc main_arg1)
abbrev argD : FVec Ideal S8192x1024 .f32 := m ((c.tc : Thread nD τ).loc main_arg2)
abbrev argH : FVec Ideal S8192x1024 .f32 := m ((c.tc : Thread nD τ).loc main_arg3)

/-- The residual's gradient. -/
def resids (x : FVec Ideal S8192x1024 .f32) (g : FVec Ideal S1x1024 .f32) (d h : FVec Ideal S8192x1024 .f32) : FVec Ideal S8192x1024 .f32 :=
  fun y => resid x g d h (y 0) (y 1)

/-- The gain's gradient. -/
def gains (x h : FVec Ideal S8192x1024 .f32) : FVec Ideal S1x1024 .f32 := fun y => ∑ n, gain x h (y 1) n

/-- A point's rows are the arguments' rows. -/
theorem block0 (t : Fin cfg0.N) (n : Fin 512) (r : Fin 8192) (hr : r.val = t.val * 512 + n) (k : Fin 1024) : iblk m c 0 t (ix2 n k) = argX m c (ix2 r k) := by
  blk_ext [iblk, V, idx t, hr]

theorem block1 (t : Fin cfg0.N) (k : Fin 1024) : iblk m c 1 t (ix2 0 k) = argG m c (ix2 0 k) := by
  blk_ext [iblk, V, idx t]

theorem block2 (t : Fin cfg0.N) (n : Fin 512) (r : Fin 8192) (hr : r.val = t.val * 512 + n) (k : Fin 1024) : iblk m c 2 t (ix2 n k) = argD m c (ix2 r k) := by
  blk_ext [iblk, V, idx t, hr]

theorem block3 (t : Fin cfg0.N) (n : Fin 512) (r : Fin 8192) (hr : r.val = t.val * 512 + n) (k : Fin 1024) : iblk m c 3 t (ix2 n k) = argH m c (ix2 r k) := by
  blk_ext [iblk, V, idx t, hr]

theorem square_block (t : Fin cfg0.N) (n : Fin 512) (r : Fin 8192) (hr : r.val = t.val * 512 + n) : square (A := 512) (iblk m c 0 t) n = square (argX m c) r := by
  unfold square
  simp only [block0 m c t n r hr]

theorem resid_block (t : Fin cfg0.N) (n : Fin 512) (r : Fin 8192) (hr : r.val = t.val * 512 + n) (j : Fin 1024) :
    resid (A := 512) (iblk m c 0 t) (iblk m c 1 t) (iblk m c 2 t) (iblk m c 3 t) n j = resid (argX m c) (argG m c) (argD m c) (argH m c) r j := by
  unfold resid back
  simp only [square_block m c t n r hr, block0 m c t n r hr, block1 m c t, block2 m c t n r hr, block3 m c t n r hr]

theorem gain_block (t : Fin cfg0.N) (n : Fin 512) (r : Fin 8192) (hr : r.val = t.val * 512 + n) (j : Fin 1024) :
    gain (A := 512) (iblk m c 0 t) (iblk m c 3 t) j n = gain (argX m c) (argH m c) j r := by
  unfold gain
  simp only [square_block m c t n r hr, block0 m c t n r hr, block3 m c t n r hr]

/-- What a point adds to the gain's gradient. -/
theorem part (t : Fin cfg0.N) (u : Fin 1) (j : Fin 1024) : k0_pay4 (F := Ideal) (iblk m c 0 t) (iblk m c 3 t) (ix2 u j)
    = ∑ n : Fin 512, at' (gain (argX m c) (argH m c) j) (t.val * 512 + n) := by
  have ht : t.val < 16 := Nat.lt_of_lt_of_eq t.isLt N_0
  rw [pay4_apply]
  refine Finset.sum_congr rfl fun n _ => ?_
  rw [at', dif_pos (by omega)]
  exact gain_block m c t n ⟨t.val * 512 + n.val, by omega⟩ rfl j

theorem reset (t : Fin cfg0.N) (h : t.val = 0) : (outsAt0 m c t.val t.isLt).2 = k0_pay4 (F := Ideal) (iblk m c 0 t) (iblk m c 3 t) := by
  rw [outsAt0_A m c t (by omega) (by omega)]
  frame_out

theorem step (t : Fin cfg0.N) (h : 1 ≤ t.val) :
    (outsAt0 m c t.val t.isLt).2 = addf (outsAt0 m c (t.val - 1) (Nat.lt_of_le_of_lt (Nat.sub_le _ _) t.isLt)).2 (k0_pay4 (F := Ideal) (iblk m c 0 t) (iblk m c 3 t)) := by
  have ht : t.val < 16 := Nat.lt_of_lt_of_eq t.isLt N_0
  rw [outsAt0_B m c t (by omega) h]
  frame_out
  rw [k0_pay1, shapeCast_self]

theorem fold (u : Fin 1) (j : Fin 1024) (n : ℕ) (h : n < cfg0.N) : (outsAt0 m c n h).2 (ix2 u j)
    = ∑ r ∈ Finset.range ((n + 1) * 512), at' (gain (argX m c) (argH m c) j) r := by
  induction n with
  | zero =>
    refine (congrFun (reset m c ⟨0, h⟩ rfl) (ix2 u j)).trans ((part m c ⟨0, h⟩ u j).trans ?_)
    rw [sum_step, Nat.zero_mul, Finset.range_zero, Finset.sum_empty, zero_add]
  | succ n ih =>
    refine (congrFun (step m c ⟨n + 1, h⟩ (Nat.le_add_left _ _)) (ix2 u j)).trans ?_
    rw [sum_step]
    exact congr (congrArg (fun a b : EReal => a + b) (ih (Nat.lt_of_succ_lt h))) (part m c ⟨n + 1, h⟩ u j)

theorem result_g : (dats m 0 c).arrAt 5 cfg0.N = gains (argX m c) (argH m c) := by
  refine (dats m 0 c).arrAt_eq_of_covers 5 _ (by decide +kernel) fun t hf y => ?_
  have ht : t.val < 16 := Nat.lt_of_lt_of_eq t.isLt N_0
  have h3 := (flush0_5 t).mp hf
  have h15 : t.val = 15 := by omega
  blk_simp
  rw [after0_5]
  refine (congrArg _ (eta y)).trans ((fold m c _ _ _ _).trans ?_)
  rw [h15]
  refine (sum_at _).trans ?_
  unfold gains
  refine congrArg (fun j => ∑ n, gain (argX m c) (argH m c) j n) (Fin.ext ?_)
  blk_simp [idx t]

theorem result_d : (dats m 0 c).arrAt 4 cfg0.N = resids (argX m c) (argG m c) (argD m c) (argH m c) := by
  refine (dats m 0 c).arrAt_eq_of_covers 4 _ (by decide +kernel) fun t hf y => ?_
  have ht : t.val < 16 := Nat.lt_of_lt_of_eq t.isLt N_0
  blk_simp
  rw [after0_4]
  have e : (outsAt0 m c t.val t.isLt).1 = k0_pay5 (F := Ideal) (iblk m c 0 t) (iblk m c 1 t) (iblk m c 2 t) (iblk m c 3 t) := by
    rcases Nat.eq_zero_or_pos t.val with h | h
    · rw [outsAt0_A m c t (by omega) (by omega)]
      frame_out
    · rw [outsAt0_B m c t (by omega) h]
      frame_out
  rw [e]
  refine (congrArg _ (eta y)).trans ((pay5_apply _ _ _ _ _ _).trans ?_)
  refine (resid_block m c t _ ((((cfg0.win 4).blk t).view.emb y) 0) ?_ _).trans ?_
  · blk_simp [idx t]
  · unfold resids
    refine congrArg (fun j => resid (argX m c) (argG m c) (argD m c) (argH m c) _ j) (Fin.ext ?_)
    blk_simp [idx t]

/-! ### The reference -/

/-- The reference's mean square of every row, with the small constant. -/
def refM (x : FVec Ideal S8192x1024 .f32) : FVec Ideal Reference25Ideal.S8192x1 .f32 :=
  addf (Host.divf (broadcastInDim Reference25Ideal.S8192x1 ![0] Reference25Ideal.Gen.bcast_S8192_S8192x1_0 (Host.reduceAdd (mulf x x)
    (constant Reference25Ideal.S_ .f32 0x00000000#32) Reference25Ideal.Gen.reducesTo_S8192x1024_S8192_d1 Reference25Ideal.Gen.h_S_)) (broadcastInDim Reference25Ideal.S8192x1 ![] Reference25Ideal.Gen.bcast_S_S8192x1
    (constant Reference25Ideal.S_ .f32 0x44800000#32)))
    (broadcastInDim Reference25Ideal.S8192x1 ![] Reference25Ideal.Gen.bcast_S_S8192x1
    (constant Reference25Ideal.S_ .f32 0x358637BD#32))

theorem refM_apply (x : FVec Ideal S8192x1024 .f32) (n : Fin 8192) (u : Fin 1) : refM x (ix2 n u) = square x n := by
  unfold square
  rw [← div_n]
  pointwise [refM]

/-- What the reference's gradient of every row's mean square puts on its entries. -/
def refB (x : FVec Ideal S8192x1024 .f32) (g : FVec Ideal S1x1024 .f32) (h : FVec Ideal S8192x1024 .f32) : FVec Ideal S8192x1024 .f32 :=
  broadcastInDim Reference25Ideal.S8192x1024 ![0] Reference25Ideal.Gen.bcast_S8192_S8192x1024_0 (Host.reduceAdd (Host.divf (mulf (shapeCast _ (Host.reduceAdd (mulf x (mulf h
    (broadcastInDim Reference25Ideal.S8192x1024 ![0, 1] Reference25Ideal.Gen.bcast_S1x1024_S8192x1024_0_1 g)))
    (constant Reference25Ideal.S_ .f32 0x00000000#32) Reference25Ideal.Gen.reducesTo_S8192x1024_S8192_d1 Reference25Ideal.Gen.h_S_) Reference25Ideal.Gen.shapeCasts_S8192_S8192x1) (mulf (broadcastInDim Reference25Ideal.S8192x1 ![] Reference25Ideal.Gen.bcast_S_S8192x1
    (constant Reference25Ideal.S_ .f32 0xBF000000#32)) (Host.divf (Host.rsqrt (refM x)) (refM x)))) (broadcastInDim Reference25Ideal.S8192x1 ![] Reference25Ideal.Gen.bcast_S_S8192x1
    (constant Reference25Ideal.S_ .f32 0x44800000#32)))
    (constant Reference25Ideal.S_ .f32 0x00000000#32) Reference25Ideal.Gen.reducesTo_S8192x1_S8192_d1 Reference25Ideal.Gen.h_S_)

theorem refB_apply (x : FVec Ideal S8192x1024 .f32) (g : FVec Ideal S1x1024 .f32) (h : FVec Ideal S8192x1024 .f32) (n : Fin 8192) (j : Fin 1024) :
    refB x g h (ix2 n j) = back x g h n := by
  unfold back
  rw [← div_n]
  simp only [← refM_apply x _ 0]
  pointwise [refB]
  simp only [Fin.sum_univ_one]

/-- The reference's gradient of the residual. -/
def refD (x : FVec Ideal S8192x1024 .f32) (g : FVec Ideal S1x1024 .f32) (d h : FVec Ideal S8192x1024 .f32) : FVec Ideal S8192x1024 .f32 :=
  addf (addf (addf d (mulf (mulf h
    (broadcastInDim Reference25Ideal.S8192x1024 ![0, 1] Reference25Ideal.Gen.bcast_S1x1024_S8192x1024_0_1 g))
    (broadcastInDim Reference25Ideal.S8192x1024 ![0, 1] Reference25Ideal.Gen.bcast_S8192x1_S8192x1024_0_1 (Host.rsqrt (refM x))))) (mulf x (refB x g h))) (mulf (refB x g h) x)

theorem refD_apply (x : FVec Ideal S8192x1024 .f32) (g : FVec Ideal S1x1024 .f32) (d h : FVec Ideal S8192x1024 .f32) (n : Fin 8192) (j : Fin 1024) :
    refD x g d h (ix2 n j) = resid x g d h n j := by
  unfold resid
  simp only [← refM_apply x _ 0, ← refB_apply x g h n j]
  pointwise [refD]

theorem refD_eq (x : FVec Ideal S8192x1024 .f32) (g : FVec Ideal S1x1024 .f32) (d h : FVec Ideal S8192x1024 .f32) : refD x g d h = resids x g d h := by
  funext y
  exact (congrArg _ (eta y)).trans (refD_apply x g d h _ _)

/-- The reference's gradient of the gain. -/
def refG (x h : FVec Ideal S8192x1024 .f32) : FVec Ideal S1x1024 .f32 :=
  shapeCast _ (Host.reduceAdd (mulf (mulf x
    (broadcastInDim Reference25Ideal.S8192x1024 ![0, 1] Reference25Ideal.Gen.bcast_S8192x1_S8192x1024_0_1 (Host.rsqrt (refM x)))) h)
    (constant Reference25Ideal.S_ .f32 0x00000000#32) Reference25Ideal.Gen.reducesTo_S8192x1024_S1024_d0 Reference25Ideal.Gen.h_S_) Reference25Ideal.Gen.shapeCasts_S1024_S1x1024

theorem refG_apply (x h : FVec Ideal S8192x1024 .f32) (u : Fin 1) (j : Fin 1024) : refG x h (ix2 u j) = ∑ n, gain x h j n := by
  unfold gain
  simp only [← refM_apply x _ 0]
  pointwise [refG]

theorem refG_eq (x h : FVec Ideal S8192x1024 .f32) : refG x h = gains x h := by
  funext y
  exact (congrArg _ (eta y)).trans (refG_apply x h _ _)

theorem algebraic : algebraic_Kernel25Ideal_Reference25Ideal (hKernel25Ideal := Kernel25Ideal.Gen.facts) (hReference25Ideal := Reference25Ideal.Gen.facts) := by
  intro m ρ m' ρ' _ hagree
  refine ⟨fun c => resids (argX m c) (argG m c) (argD m c) (argH m c), fun c => gains (argX m c) (argH m c), ?_, ?_⟩
  · exact (θ_run _ _ _).mono (fun r h c => ⟨(h c).1.trans (result_d m c), (h c).2.1.trans (result_g m c), (h c).2.2⟩) (Kernel25Ideal.Value.run_blocks (F := Ideal) m ρ)
  · refine (θ_run _ _ _).mono (fun r h c => ?_) (Reference25Ideal.Value.run (F := Ideal) m' ρ')
    obtain ⟨a0, a1, a2, a3⟩ := hagree c
    refine ⟨(h c).1.trans ?_, (h c).2.1.trans ?_, (h c).2.2⟩
    · exact (refD_eq _ _ _ _).trans (congr (congr (congr (congrArg resids a0) a1) a2) a3)
    · exact (refG_eq _ _).trans (congr (congrArg gains a0) a3)

theorem kernel_frame : quiescent_Kernel25 (hKernel25 := Kernel25.Gen.facts) := fun m ρ _ => Kernel25.Gen.frame m ρ

theorem ideal_frame : quiescent_Kernel25Ideal (hKernel25Ideal := Kernel25Ideal.Gen.facts) := fun m ρ _ => Kernel25Ideal.Gen.frame m ρ

theorem reference_frame : quiescent_Reference25Ideal (hReference25Ideal := Reference25Ideal.Gen.facts) := fun m ρ _ =>
  (θ_run Reference25Ideal.defs _ _).mono (fun r h => ⟨fun c => (h c).2.2, Idealize.ShloMosaic.sem_eq_zero_of_no_sems (by decide) r.2⟩)
    (Reference25Ideal.Value.run (F := Ideal) m ρ)

end Cert.Update.Norm
-- ==== Proof.Update.Loss.lean ====
module

public import proofs.«01_k».proof.Defs
public import proofs.«01_k».proof.Proof.Consts
public import proofs.«01_k».proof.Proof.Update.Rows
public import proofs.«01_k».proof.Proof.Gen.Kernel26.Frame
public import proofs.«01_k».proof.Proof.Gen.Kernel26Ideal.Value
public import proofs.«01_k».proof.Proof.Gen.Reference26Ideal.Run
public import Idealize.ShloMosaic.Lib.Quiescent

@[expose] public section

/-! The loss of one example and its gradient (call `loss`): the loss added up over blocks of 512 positions. -/

noncomputable section
namespace Cert.Update.Loss
open Idealize.ShloMosaic Idealize.ShloMosaic.TcCoe Idealize.SL.Sem Cert.Products
open Cert.Kernel26Ideal Cert.Kernel26Ideal.Gen
open Cert.Update.Rows

/-- The mean of a position's squared errors. -/
def row {A : ℕ} (y t : M A 1024 .f32) (n : Fin A) : EReal :=
  (∑ k : Fin 1024, ((y (ix2 n k) : EReal) - t (ix2 n k)) * ((y (ix2 n k) : EReal) - t (ix2 n k))) * Ideal.ofBits FTy.f32 0x3A800000#32

theorem pay3_apply (y t : FVec Ideal S512x1024 .f32) (i : Fin 1) (j : Fin 1) :
    k0_pay3 (F := Ideal) y t (ix2 i j) = Ideal.ofBits FTy.f32 0x3F000000#32 * ∑ n : Fin 512, row y t n := by
  unfold row
  pointwise [k0_pay3, k0_pay1]

/-- Each window's block at a point. -/
theorem idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

variable (m : (ℓ : Loc nD τ sig) → Buf (Elt Ideal) ℓ) (c : Dev nD)

abbrev argY : FVec Ideal S8192x1024 .f32 := m ((c.tc : Thread nD τ).loc main_arg0)
abbrev argT : FVec Ideal S8192x1024 .f32 := m ((c.tc : Thread nD τ).loc main_arg1)

/-- The half of the sum of the rows' means. -/
def total (y t : FVec Ideal S8192x1024 .f32) : FVec Ideal S1x1 .f32 := fun _ => Ideal.ofBits FTy.f32 0x3F000000#32 * ∑ n, row y t n

/-- The error over the number of features. -/
def slope (y t : FVec Ideal S8192x1024 .f32) : FVec Ideal S8192x1024 .f32 := fun z => ((y z : EReal) - t z) * Ideal.ofBits FTy.f32 0x3A800000#32

/-- What a point adds. -/
theorem part (t : Fin cfg0.N) (i : Fin 1) (j : Fin 1) : k0_pay3 (F := Ideal) (iblk m c 0 t) (iblk m c 1 t) (ix2 i j)
    = Ideal.ofBits FTy.f32 0x3F000000#32 * ∑ n : Fin 512, at' (row (argY m c) (argT m c)) (t.val * 512 + n) := by
  have ht : t.val < 16 := Nat.lt_of_lt_of_eq t.isLt N_0
  rw [pay3_apply]
  refine congrArg _ (Finset.sum_congr rfl fun n _ => ?_)
  rw [at', dif_pos (by omega)]
  unfold row
  refine congrArg (· * _) (Finset.sum_congr rfl fun k _ => ?_)
  have e0 : iblk m c 0 t (ix2 n k) = argY m c (ix2 ⟨t.val * 512 + n.val, by omega⟩ k) := by blk_ext [iblk, V, idx t]
  have e1 : iblk m c 1 t (ix2 n k) = argT m c (ix2 ⟨t.val * 512 + n.val, by omega⟩ k) := by blk_ext [iblk, V, idx t]
  rw [e0, e1]

theorem reset (t : Fin cfg0.N) (h : t.val = 0) : (outsAt0 m c t.val t.isLt).1 = k0_pay3 (F := Ideal) (iblk m c 0 t) (iblk m c 1 t) := by
  rw [outsAt0_A m c t (by omega) (by omega)]
  frame_out

theorem step (t : Fin cfg0.N) (h : 1 ≤ t.val) :
    (outsAt0 m c t.val t.isLt).1 = addf (outsAt0 m c (t.val - 1) (Nat.lt_of_le_of_lt (Nat.sub_le _ _) t.isLt)).1 (k0_pay3 (F := Ideal) (iblk m c 0 t) (iblk m c 1 t)) := by
  have ht : t.val < 16 := Nat.lt_of_lt_of_eq t.isLt N_0
  rw [outsAt0_B m c t (by omega) h]
  frame_out
  rw [k0_pay4, shapeCast_self]

theorem fold (i : Fin 1) (j : Fin 1) (n : ℕ) (h : n < cfg0.N) : (outsAt0 m c n h).1 (ix2 i j)
    = Ideal.ofBits FTy.f32 0x3F000000#32 * ∑ r ∈ Finset.range ((n + 1) * 512), at' (row (argY m c) (argT m c)) r := by
  induction n with
  | zero =>
    refine (congrFun (reset m c ⟨0, h⟩ rfl) (ix2 i j)).trans ((part m c ⟨0, h⟩ i j).trans ?_)
    rw [sum_step, Nat.zero_mul, Finset.range_zero, Finset.sum_empty, zero_add]
  | succ n ih =>
    refine (congrFun (step m c ⟨n + 1, h⟩ (Nat.le_add_left _ _)) (ix2 i j)).trans ?_
    rw [sum_step, half_add]
    exact congr (congrArg (fun a b : EReal => a + b) (ih (Nat.lt_of_succ_lt h))) (part m c ⟨n + 1, h⟩ i j)

theorem result_l : (dats m 0 c).arrAt 2 cfg0.N = total (argY m c) (argT m c) := by
  refine (dats m 0 c).arrAt_eq_of_covers 2 _ (by decide +kernel) fun t hf y => ?_
  have ht : t.val < 16 := Nat.lt_of_lt_of_eq t.isLt N_0
  have h3 := (flush0_2 t).mp hf
  have h15 : t.val = 15 := by omega
  blk_simp
  rw [after0_2]
  refine (congrArg _ (eta y)).trans ((fold m c _ _ _ _).trans ?_)
  rw [h15]
  exact congrArg _ (sum_at _)

theorem result_d : (dats m 0 c).arrAt 3 cfg0.N = slope (argY m c) (argT m c) := by
  refine (dats m 0 c).arrAt_eq_of_covers 3 _ (by decide +kernel) fun t hf y => ?_
  have ht : t.val < 16 := Nat.lt_of_lt_of_eq t.isLt N_0
  blk_simp
  rw [after0_3]
  have e : (outsAt0 m c t.val t.isLt).2 = k0_pay2 (F := Ideal) (iblk m c 0 t) (iblk m c 1 t) := by
    rcases Nat.eq_zero_or_pos t.val with h | h
    · rw [outsAt0_A m c t (by omega) (by omega)]
      frame_out
    · rw [outsAt0_B m c t (by omega) h]
      frame_out
  rw [e]
  refine Eq.trans (b := ((show EReal from iblk m c 0 t y) - (show EReal from iblk m c 1 t y)) * Ideal.ofBits FTy.f32 0x3A800000#32) rfl ?_
  unfold slope
  have e0 : iblk m c 0 t y = argY m c (((cfg0.win 3).blk t).view.emb y) := by blk_ext [iblk, V, idx t]
  have e1 : iblk m c 1 t y = argT m c (((cfg0.win 3).blk t).view.emb y) := by blk_ext [iblk, V, idx t]
  rw [e0, e1]

/-! ### The reference -/

/-- The reference's loss. -/
def refL (y t : FVec Ideal S8192x1024 .f32) : FVec Ideal S1x1 .f32 :=
  shapeCast _ (mulf (constant Reference26Ideal.S_ .f32 0x3F000000#32) (Host.reduceAdd (Host.divf (Host.reduceAdd (mulf (subf y t) (subf y t))
    (constant Reference26Ideal.S_ .f32 0x00000000#32) Reference26Ideal.Gen.reducesTo_S8192x1024_S8192_d1 Reference26Ideal.Gen.h_S_)
    (broadcastInDim Reference26Ideal.S8192 ![] Reference26Ideal.Gen.bcast_S_S8192 (constant Reference26Ideal.S_ .f32 0x44800000#32)))
    (constant Reference26Ideal.S_ .f32 0x00000000#32) Reference26Ideal.Gen.reducesTo_S8192_S_d0 Reference26Ideal.Gen.h_S_)) Reference26Ideal.Gen.shapeCasts_S_S1x1

theorem refL_apply (y t : FVec Ideal S8192x1024 .f32) (i : Fin 1) (j : Fin 1) : refL y t (ix2 i j)
    = Ideal.ofBits FTy.f32 0x3F000000#32 * ∑ n : Fin 8192, Ideal.div (∑ k : Fin 1024, ((y (ix2 n k) : EReal) - t (ix2 n k)) * ((y (ix2 n k) : EReal) - t (ix2 n k)))
      (Ideal.ofBits FTy.f32 0x44800000#32) := by
  pointwise [refL]

theorem refL_eq (y t : FVec Ideal S8192x1024 .f32) : refL y t = total y t := by
  funext z
  refine (congrArg _ (eta z)).trans ((refL_apply y t _ _).trans ?_)
  exact congrArg _ (Finset.sum_congr rfl fun n _ => div_n _)

/-- The reference's gradient. -/
def refD (y t : FVec Ideal S8192x1024 .f32) : FVec Ideal S8192x1024 .f32 :=
  mulf (broadcastInDim Reference26Ideal.S8192x1024 ![0] Reference26Ideal.Gen.bcast_S8192_S8192x1024_0 (Host.divf
      (broadcastInDim Reference26Ideal.S8192 ![] Reference26Ideal.Gen.bcast_S_S8192 (mulf (constant Reference26Ideal.S_ .f32 0x3F000000#32) (constant Reference26Ideal.S_ .f32 0x3F800000#32)))
      (broadcastInDim Reference26Ideal.S8192 ![] Reference26Ideal.Gen.bcast_S_S8192 (constant Reference26Ideal.S_ .f32 0x44800000#32))))
    (mulf (broadcastInDim Reference26Ideal.S8192x1024 ![] Reference26Ideal.Gen.bcast_S_S8192x1024 (constant Reference26Ideal.S_ .f32 0x40000000#32)) (subf y t))

theorem refD_apply (y t : FVec Ideal S8192x1024 .f32) (i : Fin 8192) (j : Fin 1024) : refD y t (ix2 i j)
    = Ideal.div (Ideal.ofBits FTy.f32 0x3F000000#32 * Ideal.ofBits FTy.f32 0x3F800000#32) (Ideal.ofBits FTy.f32 0x44800000#32)
      * (Ideal.ofBits FTy.f32 0x40000000#32 * ((y (ix2 i j) : EReal) - t (ix2 i j))) := by
  pointwise [refD]

theorem refD_eq (y t : FVec Ideal S8192x1024 .f32) : refD y t = slope y t := by
  funext z
  refine (congrArg _ (eta z)).trans ((refD_apply y t _ _).trans ?_)
  refine Eq.trans ?_ (congrArg (slope y t) (eta z).symm)
  unfold slope
  rw [div_n, Heads.bits_one, bits_half, bits_two, bits_inv, ← mul_assoc, mul_comm]
  refine congrArg _ ?_
  rw [← EReal.coe_mul, ← EReal.coe_mul, ← EReal.coe_mul]
  norm_num

theorem algebraic : algebraic_Kernel26Ideal_Reference26Ideal (hKernel26Ideal := Kernel26Ideal.Gen.facts) (hReference26Ideal := Reference26Ideal.Gen.facts) := by
  intro m ρ m' ρ' _ hagree
  refine ⟨fun c => total (argY m c) (argT m c), fun c => slope (argY m c) (argT m c), ?_, ?_⟩
  · exact (θ_run _ _ _).mono (fun r h c => ⟨(h c).1.trans (result_l m c), (h c).2.1.trans (result_d m c), (h c).2.2⟩) (Kernel26Ideal.Value.run_blocks (F := Ideal) m ρ)
  · refine (θ_run _ _ _).mono (fun r h c => ⟨(h c).1.trans ?_, (h c).2.1.trans ?_, (h c).2.2⟩) (Reference26Ideal.Value.run (F := Ideal) m' ρ')
    · exact (refL_eq _ _).trans (congr (congrArg total (hagree c).1) (hagree c).2)
    · exact (refD_eq _ _).trans (congr (congrArg slope (hagree c).1) (hagree c).2)

theorem kernel_frame : quiescent_Kernel26 (hKernel26 := Kernel26.Gen.facts) := fun m ρ _ => Kernel26.Gen.frame m ρ

theorem ideal_frame : quiescent_Kernel26Ideal (hKernel26Ideal := Kernel26Ideal.Gen.facts) := fun m ρ _ => Kernel26Ideal.Gen.frame m ρ

theorem reference_frame : quiescent_Reference26Ideal (hReference26Ideal := Reference26Ideal.Gen.facts) := fun m ρ _ =>
  (θ_run Reference26Ideal.defs _ _).mono (fun r h => ⟨fun c => (h c).2.2, Idealize.ShloMosaic.sem_eq_zero_of_no_sems (by decide) r.2⟩)
    (Reference26Ideal.Value.run (F := Ideal) m ρ)

end Cert.Update.Loss
-- ==== Proof.lean ====
module

public import proofs.«01_k».proof.Defs
public import proofs.«01_k».proof.Proof.Value
public import proofs.«01_k».proof.Proof.Printed.Body
public import proofs.«01_k».proof.Proof.Latent.Value
public import proofs.«01_k».proof.Proof.Latent.Printed.Body
public import proofs.«01_k».proof.Proof.Products.FInDx
public import proofs.«01_k».proof.Proof.Products.FInDw
public import proofs.«01_k».proof.Proof.Products.FOutDx
public import proofs.«01_k».proof.Proof.Products.FOutDw
public import proofs.«01_k».proof.Proof.Products.InDx
public import proofs.«01_k».proof.Proof.Products.InDw
public import proofs.«01_k».proof.Proof.Products.OutDx
public import proofs.«01_k».proof.Proof.Products.OutDw
public import proofs.«01_k».proof.Proof.Products.In
public import proofs.«01_k».proof.Proof.Products.Out
public import proofs.«01_k».proof.Proof.Products.FIn
public import proofs.«01_k».proof.Proof.Products.FOut
public import proofs.«01_k».proof.Proof.Forward.A
public import proofs.«01_k».proof.Proof.Forward.B
public import proofs.«01_k».proof.Proof.Update.WIn
public import proofs.«01_k».proof.Proof.Update.AWUq
public import proofs.«01_k».proof.Proof.Update.AWUkv
public import proofs.«01_k».proof.Proof.Update.WOut
public import proofs.«01_k».proof.Proof.Update.FWIn
public import proofs.«01_k».proof.Proof.Update.FWOut
public import proofs.«01_k».proof.Proof.Update.Small
public import proofs.«01_k».proof.Proof.Update.Slots
public import proofs.«01_k».proof.Proof.Update.Norm
public import proofs.«01_k».proof.Proof.Update.Loss

@[expose] public section

noncomputable section

namespace Cert.Proof

open Idealize.ShloMosaic Idealize.SL.Sem

/-- For each call the frames, the named constants where it has any, and the equality of the results. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Finite.facts, Cert.Forward.facts,
    fun m g _ => Cert.Kernel.Hand.frame m g, fun m g _ => Cert.KernelIdeal.Hand.frame m g, fun m g _ => Cert.KernelIdeal.Hand.frame m g,
    Cert.Value.reference_frame, fun m g _ => Cert.Value.reference_frame m g trivial,
    fun m g _ => Cert.Kernel2.Hand.frame m g, fun m g _ => Cert.Kernel2Ideal.Hand.frame m g, fun m g _ => Cert.Kernel2Ideal.Hand.frame m g,
    Cert.Latent.reference_frame, fun m g _ => Cert.Latent.reference_frame m g trivial,
    Cert.Products.FInDx.kernel_frame, Cert.Products.FInDx.ideal_frame, Cert.Products.FInDx.reference_frame,
    Cert.Products.FInDw.kernel_frame, Cert.Products.FInDw.ideal_frame, Cert.Products.FInDw.reference_frame,
    Cert.Products.FOutDx.kernel_frame, Cert.Products.FOutDx.ideal_frame, Cert.Products.FOutDx.reference_frame,
    Cert.Products.FOutDw.kernel_frame, Cert.Products.FOutDw.ideal_frame, Cert.Products.FOutDw.reference_frame,
    Cert.Products.InDx.kernel_frame, Cert.Products.InDx.ideal_frame, Cert.Products.InDx.reference_frame,
    Cert.Products.InDw.kernel_frame, Cert.Products.InDw.ideal_frame, Cert.Products.InDw.reference_frame,
    Cert.Products.OutDx.kernel_frame, Cert.Products.OutDx.ideal_frame, Cert.Products.OutDx.reference_frame,
    Cert.Products.OutDw.kernel_frame, Cert.Products.OutDw.ideal_frame, Cert.Products.OutDw.reference_frame,
    Cert.Products.In.kernel_frame, Cert.Products.In.ideal_frame, Cert.Products.In.reference_frame,
    Cert.Products.Out.kernel_frame, Cert.Products.Out.ideal_frame, Cert.Products.Out.reference_frame,
    Cert.Products.FIn.kernel_frame, Cert.Products.FIn.ideal_frame, Cert.Products.FIn.reference_frame,
    Cert.Products.FOut.kernel_frame, Cert.Products.FOut.ideal_frame, Cert.Products.FOut.reference_frame,
    Cert.Forward.B.kernel_frame, Cert.Forward.B.ideal_frame, fun m g _ => Cert.Forward.B.ideal_frame m g trivial,
    Cert.Forward.B.reference_frame, fun m g _ => Cert.Forward.B.reference_frame m g trivial,
    Cert.Forward.A.kernel_frame, Cert.Forward.A.ideal_frame, fun m g _ => Cert.Forward.A.ideal_frame m g trivial,
    Cert.Forward.A.reference_frame, fun m g _ => Cert.Forward.A.reference_frame m g trivial,
    Cert.Update.WIn.kernel_frame, Cert.Update.WIn.ideal_frame, Cert.Update.WIn.reference_frame,
    Cert.Update.AWUq.kernel_frame, Cert.Update.AWUq.ideal_frame, Cert.Update.AWUq.reference_frame,
    Cert.Update.AWUkv.kernel_frame, Cert.Update.AWUkv.ideal_frame, Cert.Update.AWUkv.reference_frame,
    Cert.Update.WOut.kernel_frame, Cert.Update.WOut.ideal_frame, Cert.Update.WOut.reference_frame,
    Cert.Update.FWIn.kernel_frame, Cert.Update.FWIn.ideal_frame, Cert.Update.FWIn.reference_frame,
    Cert.Update.FWOut.kernel_frame, Cert.Update.FWOut.ideal_frame, Cert.Update.FWOut.reference_frame,
    Cert.Update.Small.kernel_frame, Cert.Update.Small.ideal_frame, Cert.Update.Small.reference_frame,
    Cert.Update.Slots.kernel_frame, Cert.Update.Slots.ideal_frame, Cert.Update.Slots.reference_frame,
    Cert.Update.Norm.kernel_frame, Cert.Update.Norm.ideal_frame, Cert.Update.Norm.reference_frame,
    Cert.Update.Loss.kernel_frame, Cert.Update.Loss.ideal_frame, Cert.Update.Loss.reference_frame,
    ⟨IdealRules.named_const.statement _ _ _ _ _ rfl, IdealRules.named_const.statement _ _ _ _ _ rfl⟩,
    @Cert.Value.algebraic Cert.Finite.facts,
    ⟨IdealRules.named_const.statement _ _ _ _ _ rfl, IdealRules.named_const.statement _ _ _ _ _ rfl⟩,
    @Cert.Latent.algebraic Cert.Finite.facts,
    trivial, Cert.Products.FInDx.algebraic,
    trivial, Cert.Products.FInDw.algebraic,
    trivial, Cert.Products.FOutDx.algebraic,
    trivial, Cert.Products.FOutDw.algebraic,
    trivial, Cert.Products.InDx.algebraic,
    trivial, Cert.Products.InDw.algebraic,
    trivial, Cert.Products.OutDx.algebraic,
    trivial, Cert.Products.OutDw.algebraic,
    trivial, Cert.Products.In.algebraic,
    trivial, Cert.Products.Out.algebraic,
    trivial, Cert.Products.FIn.algebraic,
    trivial, Cert.Products.FOut.algebraic,
    IdealRules.named_const.statement _ _ _ _ _ rfl,
    @Cert.Forward.B.algebraic Cert.Forward.facts,
    IdealRules.named_const.statement _ _ _ _ _ rfl,
    @Cert.Forward.A.algebraic Cert.Forward.facts,
    trivial, Cert.Update.WIn.algebraic,
    trivial, Cert.Update.AWUq.algebraic,
    trivial, Cert.Update.AWUkv.algebraic,
    trivial, Cert.Update.WOut.algebraic,
    trivial, Cert.Update.FWIn.algebraic,
    trivial, Cert.Update.FWOut.algebraic,
    trivial, Cert.Update.Small.algebraic,
    trivial, Cert.Update.Slots.algebraic,
    trivial, Cert.Update.Norm.algebraic,
    trivial, Cert.Update.Loss.algebraic⟩

end Cert.Proof

end
